-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_factors [hPre_finite_factors : Cert.Pre_finite_factors.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_factors.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_factors.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_factors.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_factors [hPre_finite_factors : Cert.Pre_finite_factors.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_factors.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_factors.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_factors.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_factors [hKernel2Ideal : Cert.Kernel2Ideal.Facts] [hPre_finite_factors : Cert.Pre_finite_factors.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_factors m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_factors [hReference2Ideal : Cert.Reference2Ideal.Facts] [hPre_finite_factors : Cert.Pre_finite_factors.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_factors m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_factors [hKernel2Ideal : Cert.Kernel2Ideal.Facts] [hReference2Ideal : Cert.Reference2Ideal.Facts] [hPre_finite_factors : Cert.Pre_finite_factors.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_factors m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_v25) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_v10) = v1 c
          ∧ r.2.mem ((c.tc : Thread Cert.Reference10Ideal.nD Cert.Reference10Ideal.τ).loc Cert.Reference10Ideal.main_v29) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_v27) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite_inputs : Cert.Pre_finite_inputs.Facts) (hPre_finite_factors : Cert.Pre_finite_factors.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_factors (hKernel2Ideal := hKernel2Ideal) (hPre_finite_factors := hPre_finite_factors)
    ∧ quiescent_Reference2Ideal (hReference2Ideal := hReference2Ideal)
    ∧ quiescent_Reference2Ideal_pre_finite_factors (hReference2Ideal := hReference2Ideal) (hPre_finite_factors := hPre_finite_factors)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_factors (hKernel2Ideal := hKernel2Ideal) (hReference2Ideal := hReference2Ideal) (hPre_finite_factors := hPre_finite_factors)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite_factors.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .bf16 := Host.absf main_arg3
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  (main_v2, main_v5, main_v8)
-- ==== Pre_finite_inputs.lean ====
abbrev S8192x1280 : Shape := ⟨2, ![8192, 1280]⟩
abbrev S8192x1024 : Shape := ⟨2, ![8192, 1024]⟩
abbrev S16x128x256 : Shape := ⟨3, ![16, 128, 256]⟩
abbrev S16 : Shape := ⟨1, ![16]⟩
abbrev S_ : Shape := ⟨0, ![]⟩

class Facts : Prop where
  bcast_S_S8192x1280 : S_.BroadcastsInDim S8192x1280 (![] : Fin 0 → Fin S8192x1280.rank)
  bcast_S_S8192x1024 : S_.BroadcastsInDim S8192x1024 (![] : Fin 0 → Fin S8192x1024.rank)
  bcast_S_S16x128x256 : S_.BroadcastsInDim S16x128x256 (![] : Fin 0 → Fin S16x128x256.rank)
  bcast_S_S16 : S_.BroadcastsInDim S16 (![] : Fin 0 → Fin S16.rank)

variable [Facts]

def fn {F : FTy → Type} [FloatOps F] (main_arg0 : FVec F S8192x1280 .bf16) (main_arg1 : FVec F S8192x1024 .bf16) (main_arg2 : FVec F S16x128x256 .f32) (main_arg3 : FVec F S16 .f32) : IVec S8192x1280 1 × IVec S8192x1024 1 × IVec S16x128x256 1 × IVec S16 1 :=
  let main_v0 : FVec F S8192x1280 .bf16 := Host.absf main_arg0
  let main_cst : FVec F S_ .bf16 := constant S_ .bf16 0x7F80#16
  let main_v1 : FVec F S8192x1280 .bf16 := broadcastInDim S8192x1280 ![] bcast_S_S8192x1280 main_cst
  let main_v2 : IVec S8192x1280 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S16x128x256 .f32 := Host.absf main_arg2
  let main_cst_1 : FVec F S_ .f32 := constant S_ .f32 0x7F800000#32
  let main_v7 : FVec F S16x128x256 .f32 := broadcastInDim S16x128x256 ![] bcast_S_S16x128x256 main_cst_1
  let main_v8 : IVec S16x128x256 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S8192x1280 : Shape := ⟨2, ![8192, 1280]⟩
abbrev S8192x1024 : Shape := ⟨2, ![8192, 1024]⟩
abbrev S16x128x256 : Shape := ⟨3, ![16, 128, 256]⟩
abbrev S16 : Shape := ⟨1, ![16]⟩
abbrev S8192x128 : Shape := ⟨2, ![8192, 128]⟩
abbrev S1x1280 : Shape := ⟨2, ![1, 1280]⟩
abbrev S1x128 : Shape := ⟨2, ![1, 128]⟩
abbrev S128x1024 : Shape := ⟨2, ![128, 1024]⟩
abbrev S128x128 : Shape := ⟨2, ![128, 128]⟩
abbrev S256x128 : Shape := ⟨2, ![256, 128]⟩
abbrev S1024x256 : Shape := ⟨2, ![1024, 256]⟩
abbrev S128x256 : Shape := ⟨2, ![128, 256]⟩
abbrev S256x64 : Shape := ⟨2, ![256, 64]⟩
abbrev S128x64 : Shape := ⟨2, ![128, 64]⟩
abbrev S1024x64 : Shape := ⟨2, ![1024, 64]⟩
abbrev S1x128x256 : Shape := ⟨3, ![1, 128, 256]⟩
abbrev S1 : Shape := ⟨1, ![1]⟩
abbrev S128 : Shape := ⟨1, ![128]⟩
abbrev S128x1 : Shape := ⟨2, ![128, 1]⟩
abbrev S1x1 : Shape := ⟨2, ![1, 1]⟩
abbrev S1x64 : Shape := ⟨2, ![1, 64]⟩
abbrev S64 : Shape := ⟨1, ![64]⟩

abbrev nBuf : Space → Nat
  | .hbm => 10
  | .vmem => 30
  | .smem => 1
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S16x128x256, .f32⟩
  | .hbm, ⟨3, _⟩ => ⟨S16, .f32⟩
  | .hbm, ⟨4, _⟩ => ⟨S8192x1024, .bf16⟩
  | .hbm, ⟨5, _⟩ => ⟨S8192x128, .bf16⟩
  | .hbm, ⟨6, _⟩ => ⟨S8192x128, .bf16⟩
  | .hbm, ⟨7, _⟩ => ⟨S1x1280, .f32⟩
  | .hbm, ⟨8, _⟩ => ⟨S16x128x256, .f32⟩
  | .hbm, ⟨9, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .vmem, ⟨12, _⟩ => ⟨S16x128x256, .f32⟩
  | .local _ .vmem, ⟨13, _⟩ => ⟨S128x1024, .bf16⟩
  | .local _ .vmem, ⟨14, _⟩ => ⟨S128x1024, .bf16⟩
  | .local _ .vmem, ⟨15, _⟩ => ⟨S128x128, .bf16⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S1x1280, .f32⟩
  | .local _ .vmem, ⟨20, _⟩ => ⟨S16x128x256, .f32⟩
  | .local _ .vmem, ⟨21, _⟩ => ⟨S1x128, .f32⟩
  | .local _ .vmem, ⟨22, _⟩ => ⟨S128x128, .f32⟩
  | .local _ .vmem, ⟨23, _⟩ => ⟨S128x128, .f32⟩
  | .local _ .vmem, ⟨24, _⟩ => ⟨S256x128, .f32⟩
  | .local _ .vmem, ⟨25, _⟩ => ⟨S256x128, .f32⟩
  | .local _ .vmem, ⟨26, _⟩ => ⟨S1024x256, .f32⟩
  | .local _ .vmem, ⟨27, _⟩ => ⟨S1024x256, .f32⟩
  | .local _ .vmem, ⟨28, _⟩ => ⟨S1024x256, .bf16⟩
  | .local _ .vmem, ⟨29, _⟩ => ⟨S1024x256, .bf16⟩
  | .local _ .smem, ⟨0, _⟩ => ⟨S16, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c0_i32_640 : BitVec 32 := 0#32
  let v1247 : BitVec 1 := Scalar.cmpi .sgt arg0 c0_i32_640
  let v1248 : BitVec 32 := Scalar.extui v1247
  let c0_i32_641 : BitVec 32 := 0#32
  let v1249 : BitVec 1 := Scalar.cmpi .ne v1248 c0_i32_641
  v1249

def k0_cond4 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  ![v0.toNat, c8_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c9_i32 : BitVec 32 := 9#32
  let c0_i32 : BitVec 32 := 0#32
  ![v0.toNat, c9_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x1280 : Shape := ⟨2, ![8192, 1280]⟩
abbrev S8192x1024 : Shape := ⟨2, ![8192, 1024]⟩
abbrev S16x128x256 : Shape := ⟨3, ![16, 128, 256]⟩
abbrev S16 : Shape := ⟨1, ![16]⟩
abbrev S8192x128 : Shape := ⟨2, ![8192, 128]⟩
abbrev S64x128x2x8x64 : Shape := ⟨5, ![64, 128, 2, 8, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S2x8x128x256 : Shape := ⟨4, ![2, 8, 128, 256]⟩
abbrev S1x2x8x128x256 : Shape := ⟨5, ![1, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x8 : Shape := ⟨2, ![2, 8]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x64x8x128 : Shape := ⟨5, ![64, 2, 64, 8, 128]⟩
abbrev S64x2x64x256 : Shape := ⟨4, ![64, 2, 64, 256]⟩
abbrev S64x2x128x8x64 : Shape := ⟨5, ![64, 2, 128, 8, 64]⟩
abbrev S64x2x256x64 : Shape := ⟨4, ![64, 2, 256, 64]⟩
abbrev S1280 : Shape := ⟨1, ![1280]⟩
abbrev S1x1280 : Shape := ⟨2, ![1, 1280]⟩
abbrev S1x16 : Shape := ⟨2, ![1, 16]⟩
abbrev S1x128 : Shape := ⟨2, ![1, 128]⟩

abbrev nBuf : Space → Nat
  | .hbm => 204
  | .vmem => 0
  | .smem => 0
  | _ => 0

abbrev hbmTy0_0 (i : Nat) : BufTy := match i % 128 with
  | 0 => ⟨S8192x1280, .bf16⟩
  | 1 => ⟨S8192x1024, .bf16⟩
  | 2 => ⟨S16x128x256, .f32⟩
  | 3 => ⟨S16, .f32⟩
  | 4 => ⟨S8192x1280, .f32⟩
  | 5 => ⟨S8192x1024, .f32⟩
  | 6 => ⟨S8192x128, .f32⟩
  | 7 => ⟨S8192x128, .f32⟩
  | 8 => ⟨S64x128x2x8x64, .f32⟩
  | 9 => ⟨S64x128x2x64, .f32⟩
  | 10 => ⟨S1x128x2x64, .f32⟩
  | 11 => ⟨S_, .f32⟩
  | 12 => ⟨S1x128x2x64, .f32⟩
  | 13 => ⟨S63x128x2x64, .f32⟩
  | 14 => ⟨S64x128x2x64, .f32⟩
  | 15 => ⟨S_, .f32⟩
  | 16 => ⟨S1x128x2x64, .f32⟩
  | 17 => ⟨S64x256x2x64, .f32⟩
  | 18 => ⟨S64x128x2x64, .f32⟩
  | 19 => ⟨S1x128x2x64, .f32⟩
  | 20 => ⟨S_, .f32⟩
  | 21 => ⟨S1x128x2x64, .f32⟩
  | 22 => ⟨S63x128x2x64, .f32⟩
  | 23 => ⟨S64x128x2x64, .f32⟩
  | 24 => ⟨S_, .f32⟩
  | 25 => ⟨S1x128x2x64, .f32⟩
  | 26 => ⟨S64x256x2x64, .f32⟩
  | 27 => ⟨S64x2x256x128x8, .f32⟩
  | 28 => ⟨S64x2x8x128x256, .f32⟩
  | 29 => ⟨S_, .f32⟩
  | 30 => ⟨S64x2x8x128x256, .f32⟩
  | 31 => ⟨S64x2x8x128x256, .f32⟩
  | 32 => ⟨S2x8x128x256, .f32⟩
  | 33 => ⟨S1x2x8x128x256, .f32⟩
  | 34 => ⟨S64x2x8x128x256, .f32⟩
  | 35 => ⟨S64x2x8x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i1⟩
  | 52 => ⟨S128x256, .i1⟩
  | 53 => ⟨S64, .i32⟩
  | 54 => ⟨S64x1x1, .i32⟩
  | 55 => ⟨S_, .i32⟩
  | 56 => ⟨S64x1x1, .i32⟩
  | 57 => ⟨S64x1x1, .i32⟩
  | 58 => ⟨S_, .i32⟩
  | 59 => ⟨S64x1x1, .i32⟩
  | 60 => ⟨S64x1x1, .i32⟩
  | 61 => ⟨S1x1x256, .i32⟩
  | 62 => ⟨S64x1x256, .i32⟩
  | 63 => ⟨S64x1x256, .i32⟩
  | 64 => ⟨S64x1x256, .i32⟩
  | 65 => ⟨S1x128x256, .i1⟩
  | 66 => ⟨S_, .i32⟩
  | 67 => ⟨S64x1x256, .i32⟩
  | 68 => ⟨S64x1x256, .i1⟩
  | 69 => ⟨S64x128x256, .i1⟩
  | 70 => ⟨S64x128x256, .i1⟩
  | 71 => ⟨S64x128x256, .i1⟩
  | 72 => ⟨S64x1x1x128x256, .i1⟩
  | 73 => ⟨S_, .f32⟩
  | 74 => ⟨S_, .f32⟩
  | 75 => ⟨S64x2x8x128x256, .i1⟩
  | 76 => ⟨S64x2x8x128x256, .f32⟩
  | 77 => ⟨S64x2x8x128x256, .f32⟩
  | 78 => ⟨S_, .f32⟩
  | 79 => ⟨S64x2x8x128x256, .f32⟩
  | 80 => ⟨S2x8, .f32⟩
  | 81 => ⟨S1x2x8x1x1, .f32⟩
  | 82 => ⟨S64x2x8x128x1, .f32⟩
  | 83 => ⟨S64x2x8x128x257, .f32⟩
  | 84 => ⟨S_, .f32⟩
  | 85 => ⟨S64x2x8x128, .f32⟩
  | 86 => ⟨S64x2x8x128x1, .f32⟩
  | 87 => ⟨S64x2x8x128x257, .f32⟩
  | 88 => ⟨S64x2x8x128x257, .i1⟩
  | 89 => ⟨S64x2x8x128x257, .f32⟩
  | 90 => ⟨S_, .f32⟩
  | 91 => ⟨S64x2x8x128, .f32⟩
  | 92 => ⟨S_, .f32⟩
  | 93 => ⟨S64x2x8x128, .f32⟩
  | 94 => ⟨S64x2x8x128, .f32⟩
  | 95 => ⟨S_, .f32⟩
  | 96 => ⟨S64x2x8x128, .f32⟩
  | 97 => ⟨S64x2x8x128, .i1⟩
  | 98 => ⟨S_, .f32⟩
  | 99 => ⟨S64x2x8x128, .f32⟩
  | 100 => ⟨S64x2x8x128, .i1⟩
  | 101 => ⟨S_, .f32⟩
  | 102 => ⟨S64x2x8x128, .f32⟩
  | 103 => ⟨S_, .f32⟩
  | 104 => ⟨S64x2x8x128, .f32⟩
  | 105 => ⟨S_, .f32⟩
  | 106 => ⟨S64x2x8x128, .f32⟩
  | 107 => ⟨S64x2x8x128, .f32⟩
  | 108 => ⟨S64x2x8x128, .f32⟩
  | 109 => ⟨S64x2x8x128x1, .f32⟩
  | 110 => ⟨S64x2x8x128x257, .f32⟩
  | 111 => ⟨S64x2x8x128x257, .f32⟩
  | 112 => ⟨S64x2x8x128x257, .f32⟩
  | 113 => ⟨S_, .f32⟩
  | 114 => ⟨S64x2x8x128, .f32⟩
  | 115 => ⟨S64x2x8x128x1, .f32⟩
  | 116 => ⟨S64x2x8x128x257, .f32⟩
  | 117 => ⟨S64x2x8x128x257, .f32⟩
  | 118 => ⟨S64x2x8x128x1, .f32⟩
  | 119 => ⟨S_, .f32⟩
  | 120 => ⟨S64x2x8x128x1, .f32⟩
  | 121 => ⟨S64x2x8x128x1, .f32⟩
  | 122 => ⟨S64x2x8x128x256, .f32⟩
  | 123 => ⟨S64x2x64x8x128, .f32⟩
  | 124 => ⟨S64x128x2x8x64, .f32⟩
  | 125 => ⟨S8192x1024, .f32⟩
  | 126 => ⟨S8192x1024, .f32⟩
  | 127 => ⟨S64x128x2x8x64, .f32⟩
  | _ => ⟨S8192x1280, .bf16⟩

abbrev hbmTy0_1 (i : Nat) : BufTy := match i % 128 with
  | 0 => ⟨S64x2x64x8x128, .f32⟩
  | 1 => ⟨S64x2x8x128x256, .f32⟩
  | 2 => ⟨S64x2x64x256, .f32⟩
  | 3 => ⟨S64x256x2x64, .f32⟩
  | 4 => ⟨S_, .f32⟩
  | 5 => ⟨S64x2x8x128x257, .f32⟩
  | 6 => ⟨S64x2x8x128x257, .f32⟩
  | 7 => ⟨S64x2x8x128x257, .f32⟩
  | 8 => ⟨S64x2x8x128x257, .f32⟩
  | 9 => ⟨S_, .f32⟩
  | 10 => ⟨S64x2x8x128, .f32⟩
  | 11 => ⟨S64x2x8x128x1, .f32⟩
  | 12 => ⟨S64x2x8x128x1, .f32⟩
  | 13 => ⟨S64x2x8x128x257, .f32⟩
  | 14 => ⟨S64x2x8x128x257, .f32⟩
  | 15 => ⟨S_, .f32⟩
  | 16 => ⟨S64x2x8x128, .f32⟩
  | 17 => ⟨S64x2x8x128x257, .f32⟩
  | 18 => ⟨S64x2x8x128x257, .f32⟩
  | 19 => ⟨S64x2x8x128x257, .f32⟩
  | 20 => ⟨S64x2x8x128x256, .f32⟩
  | 21 => ⟨S64x2x8x128x1, .f32⟩
  | 22 => ⟨S_, .f32⟩
  | 23 => ⟨S2x8, .f32⟩
  | 24 => ⟨S1x2x8x1x1, .f32⟩
  | 25 => ⟨S_, .f32⟩
  | 26 => ⟨S2x8, .f32⟩
  | 27 => ⟨S16, .f32⟩
  | 28 => ⟨S_, .f32⟩
  | 29 => ⟨S64x2x8x128x256, .f32⟩
  | 30 => ⟨S64x2x8x128x256, .f32⟩
  | 31 => ⟨S_, .f32⟩
  | 32 => ⟨S2x8x128x256, .f32⟩
  | 33 => ⟨S1x2x8x128x256, .f32⟩
  | 34 => ⟨S_, .f32⟩
  | 35 => ⟨S2x8x128x256, .f32⟩
  | 36 => ⟨S16x128x256, .f32⟩
  | 37 => ⟨S_, .f32⟩
  | 38 => ⟨S64x2x8x128x256, .f32⟩
  | 39 => ⟨S64x2x8x128x256, .f32⟩
  | 40 => ⟨S64x2x256x128x8, .f32⟩
  | 41 => ⟨S64x2x128x8x64, .f32⟩
  | 42 => ⟨S64x128x2x8x64, .f32⟩
  | 43 => ⟨S64x2x256x64, .f32⟩
  | 44 => ⟨S64x256x2x64, .f32⟩
  | 45 => ⟨S64x128x2x64, .f32⟩
  | 46 => ⟨S64x128x2x64, .f32⟩
  | 47 => ⟨S1x128x2x64, .f32⟩
  | 48 => ⟨S63x128x2x64, .f32⟩
  | 49 => ⟨S_, .f32⟩
  | 50 => ⟨S64x128x2x64, .f32⟩
  | 51 => ⟨S64x128x2x64, .f32⟩
  | 52 => ⟨S8192x128, .f32⟩
  | 53 => ⟨S64x128x2x64, .f32⟩
  | 54 => ⟨S64x128x2x64, .f32⟩
  | 55 => ⟨S1x128x2x64, .f32⟩
  | 56 => ⟨S63x128x2x64, .f32⟩
  | 57 => ⟨S_, .f32⟩
  | 58 => ⟨S64x128x2x64, .f32⟩
  | 59 => ⟨S64x128x2x64, .f32⟩
  | 60 => ⟨S8192x128, .f32⟩
  | 61 => ⟨S8192x1024, .f32⟩
  | 62 => ⟨S8192x1280, .f32⟩
  | 63 => ⟨S8192x1024, .f32⟩
  | 64 => ⟨S8192x128, .f32⟩
  | 65 => ⟨S8192x128, .f32⟩
  | 66 => ⟨S8192x1024, .bf16⟩
  | 67 => ⟨S8192x128, .bf16⟩
  | 68 => ⟨S8192x128, .bf16⟩
  | 69 => ⟨S_, .f32⟩
  | 70 => ⟨S1280, .f32⟩
  | 71 => ⟨S1x1280, .f32⟩
  | 72 => ⟨S1x16, .f32⟩
  | 73 => ⟨S_, .i32⟩
  | 74 => ⟨S_, .f32⟩
  | 75 => ⟨S1x128, .f32⟩
  | _ => ⟨S8192x1280, .bf16⟩

abbrev hbmTy (i : Nat) : BufTy := match i / 128 with
  | 0 => hbmTy0_0 i
  | 1 => hbmTy0_1 i
  | _ => ⟨S8192x1280, .bf16⟩

abbrev bufTy : (tb : Table) → Fin (tcTables nBuf tb) → BufTy
  | .hbm, ⟨i, _⟩ => hbmTy i
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c_4 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_call0_v0 : Ref sig .tc := ⟨.hbm, 74, rfl⟩
abbrev main_v58_1 : Ref sig .tc := ⟨.hbm, 75, rfl⟩
abbrev main_call0_v2 : Ref sig .tc := ⟨.hbm, 76, rfl⟩
abbrev main_v58_0 : Ref sig .tc := ⟨.hbm, 77, rfl⟩
abbrev main_call0_cst : Ref sig .tc := ⟨.hbm, 78, rfl⟩
abbrev main_v58_2 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_20 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_21 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_22 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_23 : Ref sig .tc := ⟨.hbm, 150, rfl⟩
abbrev main_v116 : Ref sig .tc := ⟨.hbm, 151, rfl⟩
abbrev main_v117 : Ref sig .tc := ⟨.hbm, 152, rfl⟩
abbrev main_cst_24 : Ref sig .tc := ⟨.hbm, 153, rfl⟩
abbrev main_v118 : Ref sig .tc := ⟨.hbm, 154, rfl⟩
abbrev main_v119 : Ref sig .tc := ⟨.hbm, 155, rfl⟩
abbrev main_call1_cst : Ref sig .tc := ⟨.hbm, 156, rfl⟩
abbrev main_call1_v0 : Ref sig .tc := ⟨.hbm, 157, rfl⟩
abbrev main_v120 : Ref sig .tc := ⟨.hbm, 158, rfl⟩
abbrev main_cst_25 : Ref sig .tc := ⟨.hbm, 159, rfl⟩
abbrev main_v121 : Ref sig .tc := ⟨.hbm, 160, rfl⟩
abbrev main_v122 : Ref sig .tc := ⟨.hbm, 161, rfl⟩
abbrev main_cst_26 : Ref sig .tc := ⟨.hbm, 162, rfl⟩
abbrev main_v123 : Ref sig .tc := ⟨.hbm, 163, rfl⟩
abbrev main_v124 : Ref sig .tc := ⟨.hbm, 164, rfl⟩
abbrev main_cst_27 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_28 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_29 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_30 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_c_31 : Ref sig .tc := ⟨.hbm, 201, rfl⟩
abbrev main_call2_v0 : Ref sig .tc := ⟨.hbm, 202, rfl⟩
abbrev main_v157 : Ref sig .tc := ⟨.hbm, 203, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2816 : Shape := ⟨2, ![8192, 2816]⟩
abbrev S2816x1024 : Shape := ⟨2, ![2816, 1024]⟩
abbrev S_ : Shape := ⟨0, ![]⟩
abbrev S8192x1024 : Shape := ⟨2, ![8192, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S_, .f32⟩
  | .hbm, ⟨5, _⟩ => ⟨S8192x1024, .f32⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1536 : Shape := ⟨2, ![8192, 1536]⟩
abbrev S8192x1024 : Shape := ⟨2, ![8192, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .bf16⟩
  | .hbm, ⟨12, _⟩ => ⟨S8192x2816, .bf16⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== Reference10Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== Reference11Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1280x1024 : Shape := ⟨2, ![1280, 1024]⟩
abbrev S1x1280 : Shape := ⟨2, ![1, 1280]⟩
abbrev S8192x1280 : Shape := ⟨2, ![8192, 1280]⟩
abbrev S512x1024 : Shape := ⟨2, ![512, 1024]⟩
abbrev S512x1280 : Shape := ⟨2, ![512, 1280]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S1x1280, .f32⟩
  | .hbm, ⟨3, _⟩ => ⟨S8192x1280, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1x1280, .f32⟩
  | .local _ .vmem, ⟨4, _⟩ => ⟨S512x1280, .bf16⟩
  | .local _ .vmem, ⟨5, _⟩ => ⟨S512x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S8192x1024 : Shape := ⟨2, ![8192, 1024]⟩
abbrev S1280x1024 : Shape := ⟨2, ![1280, 1024]⟩
abbrev S1x1280 : Shape := ⟨2, ![1, 1280]⟩
abbrev S1024x1280 : Shape := ⟨2, ![1024, 1280]⟩
abbrev S8192x1280 : Shape := ⟨2, ![8192, 1280]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .bf16⟩
  | .hbm, ⟨2, _⟩ => ⟨S1x1280, .f32⟩
  | .hbm, ⟨3, _⟩ => ⟨S8192x1024, .f32⟩
  | .hbm, ⟨4, _⟩ => ⟨S1280x1024, .f32⟩
  | .hbm, ⟨5, _⟩ => ⟨S1024x1280, .f32⟩
  | .hbm, ⟨6, _⟩ => ⟨S8192x1280, .f32⟩
  | .hbm, ⟨7, _⟩ => ⟨S8192x1280, .f32⟩
  | .hbm, ⟨8, _⟩ => ⟨S8192x1280, .f32⟩
  | .hbm, ⟨9, _⟩ => ⟨S8192x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel16.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x128, .f32⟩
  | .hbm, ⟨5, _⟩ => ⟨S8192x1024, .f32⟩
  | .hbm, ⟨6, _⟩ => ⟨S8192x1024, .f32⟩
  | .hbm, ⟨7, _⟩ => ⟨S1024x128, .f32⟩
  | .hbm, ⟨8, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S128x1024 : Shape := ⟨2, ![128, 1024]⟩
abbrev S8192x128 : Shape := ⟨2, ![8192, 128]⟩
abbrev S512x1024 : Shape := ⟨2, ![512, 1024]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S512x128, .f32⟩
  | .local _ .vmem, ⟨4, _⟩ => ⟨S512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S128x1024, .f32⟩
  | .local _ .vmem, ⟨0, _⟩ => ⟨S1024x128, .f32⟩
  | .local _ .vmem, ⟨1, _⟩ => ⟨S1024x128, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S8192x1024, .f32⟩
  | .hbm, ⟨6, _⟩ => ⟨S1024x128, .f32⟩
  | .hbm, ⟨7, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8x1024 : Shape := ⟨2, ![8, 1024]⟩
abbrev S2x8x768 : Shape := ⟨3, ![2, 8, 768]⟩
abbrev S2x1024x768 : Shape := ⟨3, ![2, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8x1024 : Shape := ⟨2, ![8, 1024]⟩
abbrev S2x8x768 : Shape := ⟨3, ![2, 8, 768]⟩
abbrev S_ : Shape := ⟨0, ![]⟩
abbrev S2x1024x768 : Shape := ⟨3, ![2, 1024, 768]⟩
abbrev S8x2x768 : Shape := ⟨3, ![8, 2, 768]⟩
abbrev S2x768x1024 : Shape := ⟨3, ![2, 768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S_, .f32⟩
  | .hbm, ⟨3, _⟩ => ⟨S2x1024x768, .f32⟩
  | .hbm, ⟨4, _⟩ => ⟨S8x2x768, .f32⟩
  | .hbm, ⟨5, _⟩ => ⟨S2x8x768, .f32⟩
  | .hbm, ⟨6, _⟩ => ⟨S8x2x768, .f32⟩
  | .hbm, ⟨7, _⟩ => ⟨S2x768x1024, .f32⟩
  | .hbm, ⟨8, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S1x2048x768 : Shape := ⟨3, ![1, 2048, 768]⟩
abbrev S2048x768 : Shape := ⟨2, ![2048, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1x2048x768 : Shape := ⟨3, ![1, 2048, 768]⟩
abbrev S2048x768 : Shape := ⟨2, ![2048, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S_, .f32⟩
  | .hbm, ⟨6, _⟩ => ⟨S2048x768, .f32⟩
  | .hbm, ⟨7, _⟩ => ⟨S2048x768, .f32⟩
  | .hbm, ⟨8, _⟩ => ⟨S_, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S_, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S_, .f32⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.BitsFrame.lean ====
/- The kernel as it is compiled: every execution ends, leaves its arguments as they were and every counter at zero.
   What the kernel writes is not named here: each result window, and each scratch buffer, holds anything between two points. -/
module

public import proofs.«01_k».proof.Proof.BitsC

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

theorem t_lt (t : Fin cfg0.N) : t.val < 65 := lt_of_lt_of_eq t.isLt (show cfg0.N = 65 from N_0)
theorem first_iff : ∀ t : Fin cfg0.N, k0_cond1 (grid0.coords t) = 1#1 ↔ t.val = 0 := by decide +kernel
theorem works_iff : ∀ t : Fin cfg0.N, k0_cond2 (grid0.coords t) = 1#1 ↔ t.val < 64 := by decide +kernel
theorem emits_iff : ∀ t : Fin cfg0.N, k0_cond3 (grid0.coords t) = 1#1 ↔ 1 ≤ t.val := by decide +kernel
theorem last_iff : ∀ t : Fin cfg0.N, k0_cond4 (grid0.coords t) = 1#1 ↔ t.val = 64 := by decide +kernel

/-! ## The buffers -/

abbrev mw0 (t : Fin cfg0.N) : Memref sig .tc .vmem S128x1024 .bf16 := win0_0.stage (cfg0.slots t 0)
abbrev hw0 (t : Fin cfg0.N) : (mw0 t).IsWhole := hstage0_0 ((cfg0.slots t 0).cast nbuf0_0)
abbrev mw1 (t : Fin cfg0.N) : Memref sig .tc .vmem S128x128 .bf16 := win0_1.stage (cfg0.slots t 1)
abbrev hw1 (t : Fin cfg0.N) : (mw1 t).IsWhole := hstage0_1 ((cfg0.slots t 1).cast nbuf0_1)
abbrev mw2 (t : Fin cfg0.N) : Memref sig .tc .vmem S128x128 .bf16 := win0_2.stage (cfg0.slots t 2)
abbrev hw2 (t : Fin cfg0.N) : (mw2 t).IsWhole := hstage0_2 ((cfg0.slots t 2).cast nbuf0_2)
abbrev mw3 (t : Fin cfg0.N) : Memref sig .tc .vmem S128x128 .bf16 := win0_3.stage (cfg0.slots t 3)
abbrev hw3 (t : Fin cfg0.N) : (mw3 t).IsWhole := hstage0_3 ((cfg0.slots t 3).cast nbuf0_3)
abbrev mw4 (t : Fin cfg0.N) : Memref sig .tc .vmem S128x128 .bf16 := win0_4.stage (cfg0.slots t 4)
abbrev hw4 (t : Fin cfg0.N) : (mw4 t).IsWhole := hstage0_4 ((cfg0.slots t 4).cast nbuf0_4)
abbrev mw5 (t : Fin cfg0.N) : Memref sig .tc .vmem S128x1024 .bf16 := win0_5.stage (cfg0.slots t 5)
abbrev hw5 (t : Fin cfg0.N) : (mw5 t).IsWhole := hstage0_5 ((cfg0.slots t 5).cast nbuf0_5)
abbrev mw6 (t : Fin cfg0.N) : Memref sig .tc .vmem S16x128x256 .f32 := win0_6.stage (cfg0.slots t 6)
abbrev hw6 (t : Fin cfg0.N) : (mw6 t).IsWhole := hstage0_6 ((cfg0.slots t 6).cast nbuf0_6)
abbrev mw7 (t : Fin cfg0.N) : Memref sig .tc .smem S16 .f32 := win0_7.stage (cfg0.slots t 7)
abbrev hw7 (t : Fin cfg0.N) : (mw7 t).IsWhole := hstage0_7 ((cfg0.slots t 7).cast nbuf0_7)
abbrev mw8 (t : Fin cfg0.N) : Memref sig .tc .vmem S128x1024 .bf16 := win0_8.stage (cfg0.slots t 8)
abbrev hw8 (t : Fin cfg0.N) : (mw8 t).IsWhole := hstage0_8 ((cfg0.slots t 8).cast nbuf0_8)
abbrev mw9 (t : Fin cfg0.N) : Memref sig .tc .vmem S128x128 .bf16 := win0_9.stage (cfg0.slots t 9)
abbrev hw9 (t : Fin cfg0.N) : (mw9 t).IsWhole := hstage0_9 ((cfg0.slots t 9).cast nbuf0_9)
abbrev mw10 (t : Fin cfg0.N) : Memref sig .tc .vmem S128x128 .bf16 := win0_10.stage (cfg0.slots t 10)
abbrev hw10 (t : Fin cfg0.N) : (mw10 t).IsWhole := hstage0_10 ((cfg0.slots t 10).cast nbuf0_10)
abbrev mw11 (t : Fin cfg0.N) : Memref sig .tc .vmem S1x1280 .f32 := win0_11.stage (cfg0.slots t 11)
abbrev hw11 (t : Fin cfg0.N) : (mw11 t).IsWhole := hstage0_11 ((cfg0.slots t 11).cast nbuf0_11)
abbrev mw12 (t : Fin cfg0.N) : Memref sig .tc .vmem S16x128x256 .f32 := win0_12.stage (cfg0.slots t 12)
abbrev hw12 (t : Fin cfg0.N) : (mw12 t).IsWhole := hstage0_12 ((cfg0.slots t 12).cast nbuf0_12)
abbrev mw13 (t : Fin cfg0.N) : Memref sig .tc .vmem S1x128 .f32 := win0_13.stage (cfg0.slots t 13)
abbrev hw13 (t : Fin cfg0.N) : (mw13 t).IsWhole := hstage0_13 ((cfg0.slots t 13).cast nbuf0_13)
abbrev sc0 : Memref sig .tc .vmem S128x128 .f32 := Memref.whole cc0_scratch0
abbrev sc1 : Memref sig .tc .vmem S128x128 .f32 := Memref.whole cc0_scratch1
abbrev sc2 : Memref sig .tc .vmem S256x128 .f32 := Memref.whole cc0_scratch2
abbrev sc3 : Memref sig .tc .vmem S256x128 .f32 := Memref.whole cc0_scratch3
abbrev sc4 : Memref sig .tc .vmem S1024x256 .f32 := Memref.whole cc0_scratch4
abbrev sc5 : Memref sig .tc .vmem S1024x256 .f32 := Memref.whole cc0_scratch5
abbrev sc6 : Memref sig .tc .vmem S1024x256 .bf16 := Memref.whole cc0_scratch6
abbrev sc7 : Memref sig .tc .vmem S1024x256 .bf16 := Memref.whole cc0_scratch7

/-- What the region starts from: every scratch buffer at anything. -/
theorem start_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

variable (m : (ℓ : Loc nD τ sig) → Buf (Elt F) ℓ)

/-! ## The proof data -/

/-- The six result windows are forgotten: nothing here reads what the kernel leaves in them. -/
def forgets : Fin 14 → Bool := fun w => decide (8 ≤ w.val)

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem live_0 (c : Dev nD) (t : Fin cfg0.N) (h : cfg0.idle 0 (grid0.coords t) = false) : (dats m 0 c).leavesExact 0 t = owns (c : Thread nD τ) (mw0 t) fullShare (X0_0 m c t) := by
  unfold Dat.leavesExact; rw [h, after_0]
theorem live_1 (c : Dev nD) (t : Fin cfg0.N) (h : cfg0.idle 1 (grid0.coords t) = false) : (dats m 0 c).leavesExact 1 t = owns (c : Thread nD τ) (mw1 t) fullShare (iblk m c 1 t) := by
  unfold Dat.leavesExact; rw [h, after_1]
theorem live_2 (c : Dev nD) (t : Fin cfg0.N) (h : cfg0.idle 2 (grid0.coords t) = false) : (dats m 0 c).leavesExact 2 t = owns (c : Thread nD τ) (mw2 t) fullShare (iblk m c 2 t) := by
  unfold Dat.leavesExact; rw [h, after_2]
theorem live_3 (c : Dev nD) (t : Fin cfg0.N) (h : cfg0.idle 3 (grid0.coords t) = false) : (dats m 0 c).leavesExact 3 t = owns (c : Thread nD τ) (mw3 t) fullShare (iblk m c 3 t) := by
  unfold Dat.leavesExact; rw [h, after_3]
theorem live_4 (c : Dev nD) (t : Fin cfg0.N) (h : cfg0.idle 4 (grid0.coords t) = false) : (dats m 0 c).leavesExact 4 t = owns (c : Thread nD τ) (mw4 t) fullShare (iblk m c 4 t) := by
  unfold Dat.leavesExact; rw [h, after_4]
theorem live_5 (c : Dev nD) (t : Fin cfg0.N) (h : cfg0.idle 5 (grid0.coords t) = false) : (dats m 0 c).leavesExact 5 t = owns (c : Thread nD τ) (mw5 t) fullShare (iblk m c 5 t) := by
  unfold Dat.leavesExact; rw [h, after_5]
theorem live_6 (c : Dev nD) (t : Fin cfg0.N) (h : cfg0.idle 6 (grid0.coords t) = false) : (dats m 0 c).leavesExact 6 t = owns (c : Thread nD τ) (mw6 t) fullShare (iblk m c 6 t) := by
  unfold Dat.leavesExact; rw [h, after_6]
theorem live_7 (c : Dev nD) (t : Fin cfg0.N) (h : cfg0.idle 7 (grid0.coords t) = false) : (dats m 0 c).leavesExact 7 t = owns (c : Thread nD τ) (mw7 t) fullShare (iblk m c 7 t) := by
  unfold Dat.leavesExact; rw [h, after_7]

/-! ## The body -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d))
    ∗ (∃ d, owns (c : Thread nD τ) (mw8 t) fullShare d)
    ∗ (∃ d, owns (c : Thread nD τ) (mw9 t) fullShare d)
    ∗ (∃ d, owns (c : Thread nD τ) (mw10 t) fullShare d)
    ∗ (∃ d, owns (c : Thread nD τ) (mw11 t) fullShare d)
    ∗ (∃ d, owns (c : Thread nD τ) (mw12 t) fullShare d)
    ∗ (∃ d, owns (c : Thread nD τ) (mw13 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (mw8 t) fullShare d)
    ∗ (∃ d, owns (c : Thread nD τ) (mw9 t) fullShare d)
    ∗ (∃ d, owns (c : Thread nD τ) (mw10 t) fullShare d)
    ∗ (∃ d, owns (c : Thread nD τ) (mw11 t) fullShare d)
    ∗ (∃ d, owns (c : Thread nD τ) (mw12 t) fullShare d)
    ∗ (∃ d, owns (c : Thread nD τ) (mw13 t) fullShare d))

set_option maxHeartbeats 1600000 in
theorem bodyA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, start_eq]
  rw [live_0 m c t rfl, live_1 m c t rfl, live_2 m c t rfl, live_3 m c t rfl, live_4 m c t rfl, live_5 m c t rfl, live_6 m c t rfl, live_7 m c t rfl]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13⟩
  iapply ((runA (F := F) c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (X0_0 m c t) (iblk m c 1 t) (iblk m c 2 t) (iblk m c 3 t) (iblk m c 4 t) (iblk m c 5 t) (iblk m c 6 t) (iblk m c 7 t) ((first_iff t).mpr h0) ((works_iff t).mpr (by omega)) (fun h => absurd ((emits_iff t).mp h) (by omega)) (fun h => absurd ((last_iff t).mp h) (by omega))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%e8, H8⟩, ⟨%e11, H11⟩, ⟨%e12, H12⟩, ⟨%e13, H13⟩, ⟨%f0, HS0⟩, ⟨%f1, HS1⟩, ⟨%f2, HS2⟩, ⟨%f3, HS3⟩, ⟨%f4, HS4⟩, ⟨%f5, HS5⟩, ⟨%f6, HS6⟩, ⟨%f7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      iexists _; unfold owns; iexists _; isplitr
      swap; · iexact HS7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; unfold owns; iexists _; isplitr
    swap; · iexact H8
    ipureintro; rfl
  isplitl [H9]
  · iexact H9
  isplitl [H10]
  · iexact H10
  isplitl [H11]
  · iexists _; unfold owns; iexists _; isplitr
    swap; · iexact H11
    ipureintro; rfl
  isplitl [H12]
  · iexists _; unfold owns; iexists _; isplitr
    swap; · iexact H12
    ipureintro; rfl
  iexists _; unfold owns; iexists _; isplitr
  swap; · iexact H13
  ipureintro; rfl

set_option maxHeartbeats 1600000 in
theorem bodyB (c : Dev nD) (t : Fin cfg0.N) (h1 : 1 ≤ t.val) (h2 : t.val < 64) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, start_eq]
  rw [live_0 m c t rfl, live_1 m c t rfl, live_2 m c t rfl, live_3 m c t rfl, live_4 m c t rfl, live_5 m c t rfl, live_6 m c t rfl, live_7 m c t rfl]
  iintro ⟨⟨⟨⟨%p0, HS0⟩, ⟨%p1, HS1⟩, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, ⟨%d11, H11⟩, ⟨%d12, H12⟩, ⟨%d13, H13⟩⟩
  iapply ((runB (F := F) c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (X0_0 m c t) (iblk m c 1 t) (iblk m c 2 t) (iblk m c 3 t) (iblk m c 4 t) (iblk m c 5 t) (iblk m c 6 t) (iblk m c 7 t) d11 d12 d13 p0 p1 (fun h => absurd ((first_iff t).mp h) (by omega)) ((works_iff t).mpr h2) ((emits_iff t).mpr h1) (fun h => absurd ((last_iff t).mp h) (by omega))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%e8, H8⟩, ⟨%e9, H9⟩, ⟨%e10, H10⟩, ⟨%e11, H11⟩, ⟨%e12, H12⟩, ⟨%e13, H13⟩, ⟨%f0, HS0⟩, ⟨%f1, HS1⟩, ⟨%f2, HS2⟩, ⟨%f3, HS3⟩, ⟨%f4, HS4⟩, ⟨%f5, HS5⟩, ⟨%f6, HS6⟩, ⟨%f7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      iexists _; unfold owns; iexists _; isplitr
      swap; · iexact HS7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; unfold owns; iexists _; isplitr
    swap; · iexact H8
    ipureintro; rfl
  isplitl [H9]
  · iexists _; unfold owns; iexists _; isplitr
    swap; · iexact H9
    ipureintro; rfl
  isplitl [H10]
  · iexists _; unfold owns; iexists _; isplitr
    swap; · iexact H10
    ipureintro; rfl
  isplitl [H11]
  · iexists _; unfold owns; iexists _; isplitr
    swap; · iexact H11
    ipureintro; rfl
  isplitl [H12]
  · iexists _; unfold owns; iexists _; isplitr
    swap; · iexact H12
    ipureintro; rfl
  iexists _; unfold owns; iexists _; isplitr
  swap; · iexact H13
  ipureintro; rfl

set_option maxHeartbeats 1600000 in
theorem bodyC (c : Dev nD) (t : Fin cfg0.N) (h0 : t.val = 64) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, start_eq]
  rw [live_0 m c t rfl, live_1 m c t rfl, live_2 m c t rfl, live_3 m c t rfl, live_4 m c t rfl, live_5 m c t rfl, live_6 m c t rfl, live_7 m c t rfl]
  iintro ⟨⟨⟨⟨%p0, HS0⟩, ⟨%p1, HS1⟩, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, ⟨%d11, H11⟩, H12, H13⟩
  iapply ((runC (F := F) c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) d11 p0 p1 (fun h => absurd ((first_iff t).mp h) (by omega)) (fun h => absurd ((works_iff t).mp h) (by omega)) ((last_iff t).mpr h0)).2 Set.univ _)
  isplitl [H9]; · iexact H9
  isplitl [H10]; · iexact H10
  isplitl [H11]; · iexact H11
  isplitl [HS0]; · iexact HS0
  isplitl [HS1]; · iexact HS1
  iintro ⟨⟨%e9, H9⟩, ⟨%e10, H10⟩, H11, HS0, HS1⟩
  isplitl [HS0 HS1 HS2 HS3 HS4 HS5 HS6 HS7 Hg]
  · isplitl [HS0 HS1 HS2 HS3 HS4 HS5 HS6 HS7]
    · isplitl [HS0]
      · iexists _; iexact HS0
      isplitl [HS1]
      · iexists _; iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexact H8
  isplitl [H9]
  · iexists _; unfold owns; iexists _; isplitr
    swap; · iexact H9
    ipureintro; rfl
  isplitl [H10]
  · iexists _; unfold owns; iexists _; isplitr
    swap; · iexact H10
    ipureintro; rfl
  isplitl [H11]
  · iexists _; unfold owns; iexists _; isplitr
    swap; · iexact H11
    ipureintro; rfl
  isplitl [H12]
  · iexact H12
  iexact H13

theorem body_row (t : Fin cfg0.N) : defs₀ (F := F) .tc cfg0.body (cfg0.bodyArgs t (cfg0.slots t)) = bodyAt0 t := by
  unfold defs₀; rw [Defs.onTc_tc]

theorem body_all (c : Dev nD) (t : Fin cfg0.N) :
    bodyPre m c t ⊢ wp frame (wpE (defs₀ (F := F)) Variants.none c none) Set.univ (bodyAt0 t) (fun _ => bodyPost m c t) := by
  have h := t_lt t
  rcases Nat.eq_zero_or_pos t.val with h0 | h1
  · exact bodyA m c t h0
  · rcases Nat.lt_or_ge t.val 64 with h2 | h2
    · exact bodyB m c t h1 h2
    · exact bodyC m c t (by omega)

theorem obligation (c : Dev nD) : BodyObligation (dats m 0 c) (defs₀ (F := F)) Variants.none () Set.univ forgets := fun t => by
  rw [bigSep_W0, bigSep_W0, body_row]
  exact triple_restated (body_all m c t) rfl .rfl fun _ => .rfl

/-! ## The run -/

variable (ρ : Dev nD → PrngReg)

set_option backward.isDefEq.respectTransparency.types false in
/-- Every execution ends, with the arguments as they were and every counter at zero. -/
theorem run_all : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl)
    (howed := fun _ _ => rfl) (V := V m) (hmain := hmain m Variants.none) (hA := A_eq m) (hΦ := fun _ _ => rfl)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
      ⟨(h.1.arr_in c 4 rfl).trans ((A_eq m c 4).trans (V_main_arg0 m c)), (h.1.arr_in c 5 rfl).trans ((A_eq m c 5).trans (V_main_arg1 m c)),
        (h.1.arr_in c 6 rfl).trans ((A_eq m c 6).trans (V_main_arg2 m c)), (h.1.arr_in c 7 rfl).trans ((A_eq m c 7).trans (V_main_arg3 m c))⟩, h.2⟩)
    (run_all m ρ)

end Cert.Kernel.Attn

end
-- ==== Proof.RunA.lean ====
/- The body of the backward kernel run whole at a point of case A: the first point, which clears the running sums. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (q : Vec F S128x1024 .bf16) (k : Vec F S128x128 .bf16) (v : Vec F S128x128 .bf16) (kp : Vec F S128x128 .bf16) (vp : Vec F S128x128 .bf16) (g : Vec F S128x1024 .bf16) (bias : Vec F S16x128x256 .f32) (sinks : Vec F S16 .f32)

/-- The stores of the body at a point of case A: for each buffer it stores into, the pieces it writes, last first. -/
structure PiecesA (F : FTy → Type) where
  dq : List (View.Piece (Elt F) S128x1024 .bf16)
  bsum : List (View.Piece (Elt F) S1x1280 .f32)
  dbias : List (View.Piece (Elt F) S16x128x256 .f32)
  dsink : List (View.Piece (Elt F) S1x128 .f32)
  pk : List (View.Piece (Elt F) S128x128 .f32)
  pv : List (View.Piece (Elt F) S128x128 .f32)
  bk : List (View.Piece (Elt F) S256x128 .f32)
  bv : List (View.Piece (Elt F) S256x128 .f32)
  lg : List (View.Piece (Elt F) S1024x256 .f32)
  dp : List (View.Piece (Elt F) S1024x256 .f32)
  pr : List (View.Piece (Elt F) S1024x256 .bf16)
  dl : List (View.Piece (Elt F) S1024x256 .bf16)

set_option maxHeartbeats 2276000 in
/-- The body at a point of case A (the first point, which clears the running sums), on whole buffers: from the inputs and the carried buffers at the
    named contents and the others at anything it runs to a state holding what it only reads unchanged and every
    buffer it stores into with its pieces written; a buffer it does not touch is not mentioned. The pieces are found by
    running the body. -/
def runA (hc1 : k0_cond1 i = 1#1) (hc2 : k0_cond2 i = 1#1) (hc3 : ¬k0_cond3 i = 1#1) (hc4 : ¬k0_cond4 i = 1#1) : { L : PiecesA F // ∀ (E : Set ℕ) (K : PUnit → sProp 𝕄),
    iprop(owns (c : Thread nD τ) arg1 fullShare q ∗ owns (c : Thread nD τ) arg2 fullShare k ∗ owns (c : Thread nD τ) arg3 fullShare v ∗ owns (c : Thread nD τ) arg4 fullShare kp ∗ owns (c : Thread nD τ) arg5 fullShare vp ∗ owns (c : Thread nD τ) arg6 fullShare g ∗ owns (c : Thread nD τ) arg7 fullShare bias ∗ owns (c : Thread nD τ) arg8 fullShare sinks ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg1 fullShare q ∗ owns (c : Thread nD τ) arg2 fullShare k ∗ owns (c : Thread nD τ) arg3 fullShare v ∗ owns (c : Thread nD τ) arg4 fullShare kp ∗ owns (c : Thread nD τ) arg5 fullShare vp ∗ owns (c : Thread nD τ) arg6 fullShare g ∗ owns (c : Thread nD τ) arg7 fullShare bias ∗ owns (c : Thread nD τ) arg8 fullShare sinks ∗ (∃ f, arg9.view.loc (c : Thread nD τ) ↦[arg9.view.set]{fullShare} arg9.view.writes (Elt F) f L.dq) ∗ (∃ f, arg12.view.loc (c : Thread nD τ) ↦[arg12.view.set]{fullShare} arg12.view.writes (Elt F) f L.bsum) ∗ (∃ f, arg13.view.loc (c : Thread nD τ) ↦[arg13.view.set]{fullShare} arg13.view.writes (Elt F) f L.dbias) ∗ (∃ f, arg14.view.loc (c : Thread nD τ) ↦[arg14.view.set]{fullShare} arg14.view.writes (Elt F) f L.dsink) ∗ (∃ f, arg15.view.loc (c : Thread nD τ) ↦[arg15.view.set]{fullShare} arg15.view.writes (Elt F) f L.pk) ∗ (∃ f, arg16.view.loc (c : Thread nD τ) ↦[arg16.view.set]{fullShare} arg16.view.writes (Elt F) f L.pv) ∗ (∃ f, arg17.view.loc (c : Thread nD τ) ↦[arg17.view.set]{fullShare} arg17.view.writes (Elt F) f L.bk) ∗ (∃ f, arg18.view.loc (c : Thread nD τ) ↦[arg18.view.set]{fullShare} arg18.view.writes (Elt F) f L.bv) ∗ (∃ f, arg19.view.loc (c : Thread nD τ) ↦[arg19.view.set]{fullShare} arg19.view.writes (Elt F) f L.lg) ∗ (∃ f, arg20.view.loc (c : Thread nD τ) ↦[arg20.view.set]{fullShare} arg20.view.writes (Elt F) f L.dp) ∗ (∃ f, arg21.view.loc (c : Thread nD τ) ↦[arg21.view.set]{fullShare} arg21.view.writes (Elt F) f L.pr) ∗ (∃ f, arg22.view.loc (c : Thread nD τ) ↦[arg22.view.set]{fullShare} arg22.view.writes (Elt F) f L.dl)) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨⟨?_, ?_, ?_, ?_, ?_, ?_, ?_, ?_, ?_, ?_, ?_, ?_⟩, fun E K => ?run⟩
  case run =>
    dsimp only
    simp only [cc0_attn_bwd_eq_skeleton]; unfold cc0_attn_bwd_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.KernelIdeal.Attn

end
-- ==== Proof.Spec.lean ====
/- The gradient of one block of the attention as a formula over extended reals: one block of 128 queries, its band of 256
   keys and values, 16 heads on two key heads. -/
module

public import Idealize.ShloMosaic.Lib.Pointwise

@[expose] public section

noncomputable section

namespace Cert.Attn

open Idealize.ShloMosaic

/-- The factor of the logits, `1/8`. -/
abbrev c8 : EReal := Ideal.ofBits .f32 0x3E000000#32

/-- Column `d` of head `h`. -/
def hc (h : Fin 16) (d : Fin 64) : Fin 1024 := ⟨64 * h.val + d.val, by omega⟩

/-- Column `d` of the key head that head `h` reads. -/
def kc (h : Fin 16) (d : Fin 64) : Fin 128 := ⟨64 * (h.val / 8) + d.val, by omega⟩

/-- Head `j` of the group of key head `a`. -/
def hd (a : Fin 2) (j : Fin 8) : Fin 16 := ⟨8 * a.val + j.val, by omega⟩

/-- Column `d` of key head `a`. -/
def gc (a : Fin 2) (d : Fin 64) : Fin 128 := ⟨64 * a.val + d.val, by omega⟩

/-- What one block reads: its queries and the output's cotangents, its band of keys and values, the bias, the sinks, and
    which keys each query sees (the bit 1). -/
@[ext] structure Blk where
  q : Fin 128 → Fin 1024 → EReal
  g : Fin 128 → Fin 1024 → EReal
  kb : Fin 256 → Fin 128 → EReal
  vb : Fin 256 → Fin 128 → EReal
  bias : Fin 16 → Fin 128 → Fin 256 → EReal
  sk : Fin 16 → EReal
  on : Fin 128 → Fin 256 → BitVec 1

namespace Blk

variable (B : Blk)

/-- The products of queries and keys. -/
def lg (h : Fin 16) (r : Fin 128) (s : Fin 256) : EReal := ∑ d : Fin 64, B.q r (hc h d) * B.kb s (kc h d)

/-- The masked logits. -/
def x (h : Fin 16) (r : Fin 128) (s : Fin 256) : EReal := if B.on r s = 1#1 then B.lg h r s * c8 + B.bias h r s else ⊥

def mx (h : Fin 16) (r : Fin 128) : EReal := max (Finset.univ.fold max ⊥ (fun s => B.x h r s)) (B.sk h)

def e (h : Fin 16) (r : Fin 128) (s : Fin 256) : EReal := Ideal.exp (B.x h r s - B.mx h r)

def es (h : Fin 16) (r : Fin 128) : EReal := Ideal.exp (B.sk h - B.mx h r)

def inv (h : Fin 16) (r : Fin 128) : EReal := Ideal.div 1 ((∑ s, B.e h r s) + B.es h r)

/-- The probabilities. -/
def p (h : Fin 16) (r : Fin 128) (s : Fin 256) : EReal := B.e h r s * B.inv h r

def ps (h : Fin 16) (r : Fin 128) : EReal := B.es h r * B.inv h r

/-- The cotangents of the probabilities. -/
def dp (h : Fin 16) (r : Fin 128) (s : Fin 256) : EReal := ∑ d : Fin 64, B.g r (hc h d) * B.vb s (kc h d)

def delta (h : Fin 16) (r : Fin 128) : EReal := ∑ s, B.p h r s * B.dp h r s

/-- The gradient of the logits. -/
def dl (h : Fin 16) (r : Fin 128) (s : Fin 256) : EReal := B.p h r s * (B.dp h r s - B.delta h r)

/-- The gradient of the queries. -/
def dq (h : Fin 16) (r : Fin 128) (d : Fin 64) : EReal := (∑ s, B.dl h r s * B.kb s (kc h d)) * c8

/-- The gradient of the band's keys. -/
def dk (a : Fin 2) (s : Fin 256) (d : Fin 64) : EReal := (∑ j : Fin 8, ∑ r, B.dl (hd a j) r s * B.q r (hc (hd a j) d)) * c8

/-- The gradient of the band's values. -/
def dv (a : Fin 2) (s : Fin 256) (d : Fin 64) : EReal := ∑ j : Fin 8, ∑ r, B.p (hd a j) r s * B.g r (hc (hd a j) d)

/-- The block's share of a sink's gradient. -/
def dsk (h : Fin 16) : EReal := 0 - ∑ r, B.ps h r * B.delta h r

/-- The queries' gradient by column. -/
def dqc (r : Fin 128) (c : Fin 1024) : EReal := B.dq ⟨c.val / 64, by omega⟩ r ⟨c.val % 64, by omega⟩

/-- The band's gradients by column. -/
def dkc (s : Fin 256) (c : Fin 128) : EReal := B.dk ⟨c.val / 64, by omega⟩ s ⟨c.val % 64, by omega⟩
def dvc (s : Fin 256) (c : Fin 128) : EReal := B.dv ⟨c.val / 64, by omega⟩ s ⟨c.val % 64, by omega⟩

/-- The sinks' gradient by lane: zero past the heads. -/
def dsl (l : Fin 128) : EReal := if h : l.val < 16 then B.dsk ⟨l.val, h⟩ else 0

end Blk

end Cert.Attn

end
-- ==== Proof.Heads.lean ====
/- One attention head of the backward body, as operations on whole blocks: the masked logits, the softmax with its sink,
   and the derivative of the logits. -/
module

public import proofs.«01_k».proof.Proof.Gen.KernelIdeal.Frame
public import Idealize.ShloMosaic.Lib.Pointwise
public import proofs.«01_k».proof.Proof.Spec

@[expose] public section

noncomputable section

namespace Cert.KernelIdeal.Attn

open Idealize.ShloMosaic
open Cert.KernelIdeal.Gen

/-! ## The operations -/

section Ops

variable {F : FTy → Type} [FloatOps F] [Named F]
variable (M : IVec S128x256 1) (x : Vec F S128x256 .f32) (b : Vec F S1x128x256 .f32) (sk : Elt F .f32) (d : Vec F S128x256 .f32)

/-- The mask of a block: the key within the window of the query, and not before the sequence's first. -/
def hMask (n : BitVec 32) : IVec S128x256 1 :=
  andi (andi (cmpi .sge (subi (addi (andi (iota .tc S128x256 32 [0] iota_S128x256_d0_w32) (broadcast S128x256 127#32)) (broadcast S128x256 128#32)) (iota .tc S128x256 32 [1] iota_S128x256_d1_w32)) (broadcast S128x256 0#32))
      (cmpi .slt (subi (addi (andi (iota .tc S128x256 32 [0] iota_S128x256_d0_w32) (broadcast S128x256 127#32)) (broadcast S128x256 128#32)) (iota .tc S128x256 32 [1] iota_S128x256_d1_w32)) (broadcast S128x256 128#32)))
    (ori (cmpi .sge (iota .tc S128x256 32 [1] iota_S128x256_d1_w32) (broadcast S128x256 128#32)) (broadcast S128x256 (Scalar.cmpi .sgt n 0#32)))

/-- The masked logits: the products scaled, the bias added, the masked ones at the mask's value. -/
def hLogit : FVec F S128x256 .f32 :=
  select M (addf (mulf x (broadcast S128x256 (Scalar.ofBits .f32 0x3E000000#32))) (shapeCast S128x256 b shapeCasts_S1x128x256_S128x256))
    (broadcast S128x256 (Named.named κ "mask" 0xF149F2CA#32))

/-- The greatest logit of each query, the sink among them. -/
def hMax : FVec F S128x1 .f32 :=
  maximumf (shapeCast S128x1 (multiReduction .maximumf [1] S128 (hLogit M x b) 0xFF800000#32 reduces_S128x256_S128 (.inl rfl) rfl) shapeCasts_S128_S128x1)
    (broadcast S128x1 sk)

def hExp : FVec F S128x256 .f32 :=
  exp (subf (hLogit M x b) (broadcastTo S128x256 (hMax M x b sk) broadcasts_S128x1_S128x256))

def hSinkExp : FVec F S128x1 .f32 := exp (subf (broadcast S128x1 sk) (hMax M x b sk))

def hInv : FVec F S128x1 .f32 :=
  divf (broadcast S128x1 (Scalar.ofBits .f32 0x3F800000#32))
    (addf (shapeCast S128x1 (multiReduction .add [1] S128 (hExp M x b sk) 0x00000000#32 reduces_S128x256_S128 (.inl rfl) rfl) shapeCasts_S128_S128x1) (hSinkExp M x b sk))

/-- The attention's probabilities. -/
def hP : FVec F S128x256 .f32 := mulf (hExp M x b sk) (broadcastTo S128x256 (hInv M x b sk) broadcasts_S128x1_S128x256)

/-- The sink's probability. -/
def hPs : FVec F S128x1 .f32 := mulf (hSinkExp M x b sk) (hInv M x b sk)

def hDelta : FVec F S128x1 .f32 :=
  shapeCast S128x1 (multiReduction .add [1] S128 (mulf (hP M x b sk) d) 0x00000000#32 reduces_S128x256_S128 (.inl rfl) rfl) shapeCasts_S128_S128x1

/-- The derivative of the logits. -/
def hDl : FVec F S128x256 .f32 := mulf (hP M x b sk) (subf d (broadcastTo S128x256 (hDelta M x b sk d) broadcasts_S128x1_S128x256))

/-- The bias's gradient with the head's share added. -/
def hDbias (o : Vec F S1x128x256 .f32) : FVec F S1x128x256 .f32 :=
  shapeCast S1x128x256 (addf (shapeCast S128x256 o shapeCasts_S1x128x256_S128x256) (hDl M x b sk d)) shapeCasts_S128x256_S1x128x256

def hPb : FVec F S128x256 .bf16 := shapeCast S128x256 (truncf .bf16 (hP M x b sk) bitsLt_bf16_f32) shapeCasts_S128x256_S128x256

def hDlb : FVec F S128x256 .bf16 := shapeCast S128x256 (truncf .bf16 (hDl M x b sk d) bitsLt_bf16_f32) shapeCasts_S128x256_S128x256

/-- The head's share of the sinks' gradient, at the head's lane. -/
def hSink (h : BitVec 32) : FVec F S1x128 .f32 :=
  select (cmpi .eq (iota .tc S1x128 32 [1] iota_S1x128_d1_w32) (broadcast S1x128 h))
    (broadcastTo S1x128 (shapeCast S1x1 (subf (broadcast S1x1 (Scalar.ofBits .f32 0x00000000#32))
      (shapeCast S1x1 (multiReduction .add [0] S1 (mulf (hPs M x b sk) (hDelta M x b sk d)) 0x00000000#32 reduces_S128x1_S1 (.inl rfl) rfl) shapeCasts_S1_S1x1)) shapeCasts_S1x1_S1x1) broadcasts_S1x1_S1x128)
    (broadcast S1x128 (Scalar.ofBits .f32 0x00000000#32))

end Ops

/-! ## The operations at an index, over extended reals -/

open Cert.Attn

variable {M : IVec S128x256 1} {x : Vec Ideal S128x256 .f32} {b : Vec Ideal S1x128x256 .f32} {sk : Elt Ideal .f32} {d : Vec Ideal S128x256 .f32}

/-- The operands of head `h` are those of the block `B`. -/
structure Soft (B : Blk) (h : Fin 16) (M : IVec S128x256 1) (x : Vec Ideal S128x256 .f32) (b : Vec Ideal S1x128x256 .f32) (sk : Elt Ideal .f32) : Prop where
  on : ∀ r s, M (ix2 r s) = B.on r s
  lg : ∀ r s, x (ix2 r s) = B.lg h r s
  bias : ∀ r s, b (ix3 0 r s) = B.bias h r s
  sink : sk = B.sk h

namespace Soft

variable {B : Blk} {h : Fin 16} (H : Soft B h M x b sk)
include H

theorem logit (r : Fin 128) (s : Fin 256) : hLogit (F := Ideal) M x b (ix2 r s) = B.x h r s := by
  pointwise [hLogit]
  rw [H.on, H.lg, H.bias]
  unfold Blk.x
  rfl

theorem mx (r : Fin 128) : hMax (F := Ideal) M x b sk (ix2 r 0) = B.mx h r := by
  pointwise [hMax]
  unfold Blk.mx
  rw [H.sink]
  simp only [H.logit]
  rfl

theorem e (r : Fin 128) (s : Fin 256) : hExp (F := Ideal) M x b sk (ix2 r s) = B.e h r s := by
  pointwise [hExp]
  rw [H.logit, H.mx]; rfl

theorem es (r : Fin 128) : hSinkExp (F := Ideal) M x b sk (ix2 r 0) = B.es h r := by
  pointwise [hSinkExp]
  rw [H.mx, H.sink]; rfl

theorem inv (r : Fin 128) : hInv (F := Ideal) M x b sk (ix2 r 0) = B.inv h r := by
  pointwise [hInv]
  simp only [H.e, H.es]; rfl

theorem p (r : Fin 128) (s : Fin 256) : hP (F := Ideal) M x b sk (ix2 r s) = B.p h r s := by
  pointwise [hP]
  rw [H.e, H.inv]; rfl

theorem ps (r : Fin 128) : hPs (F := Ideal) M x b sk (ix2 r 0) = B.ps h r := by
  pointwise [hPs]
  rw [H.es, H.inv]; rfl

theorem pb (r : Fin 128) (s : Fin 256) : hPb (F := Ideal) M x b sk (ix2 r s) = B.p h r s := by
  pointwise [hPb]
  exact H.p r s

variable (hd : ∀ r s, d (ix2 r s) = B.dp h r s)
include hd

theorem delta (r : Fin 128) : hDelta (F := Ideal) M x b sk d (ix2 r 0) = B.delta h r := by
  pointwise [hDelta]
  simp only [H.p, hd]; rfl

theorem dl (r : Fin 128) (s : Fin 256) : hDl (F := Ideal) M x b sk d (ix2 r s) = B.dl h r s := by
  pointwise [hDl]
  rw [H.p, hd, H.delta hd]; rfl

theorem dlb (r : Fin 128) (s : Fin 256) : hDlb (F := Ideal) M x b sk d (ix2 r s) = B.dl h r s := by
  pointwise [hDlb]
  exact H.dl hd r s

theorem dbias (o : Vec Ideal S1x128x256 .f32) (r : Fin 128) (s : Fin 256) :
    hDbias (F := Ideal) M x b sk d o (ix3 0 r s) = o (ix3 0 r s) + B.dl h r s := by
  pointwise [hDbias]
  rw [H.dl hd]

theorem dsink (l : Fin 128) : hSink (F := Ideal) M x b sk d (BitVec.ofNat 32 h.val) (ix2 0 l) = if l.val = h.val then B.dsk h else 0 := by
  pointwise [hSink]
  simp only [H.ps, H.delta hd]
  have hl := l.isLt
  have hh := h.isLt
  by_cases hq : l.val = h.val
  · have e : IntOp.cmpi CmpIPredicate.eq (BitVec.ofNat 32 l.val) (BitVec.ofNat 32 h.val) = 1#1 := by rw [hq]; simp [IntOp.cmpi]
    rw [if_pos hq, e]; rfl
  · have hne : (BitVec.ofNat 32 l.val == BitVec.ofNat 32 h.val) = false := by
      rw [beq_eq_false_iff_ne]
      intro h'
      have := congrArg BitVec.toNat h'
      simp only [BitVec.toNat_ofNat] at this
      omega
    have e : IntOp.cmpi CmpIPredicate.eq (BitVec.ofNat 32 l.val) (BitVec.ofNat 32 h.val) = 0#1 := by simp [IntOp.cmpi, hne]
    rw [if_neg hq, e]; rfl

end Soft

end Cert.KernelIdeal.Attn

end
-- ==== Proof.Block.lean ====
/- What the backward body reads and multiplies, at an index: the heads' columns, the stacks of eight heads, the band, the
   products over a group's stack. -/
module

public import proofs.«01_k».proof.Proof.Heads
public import Idealize.ShloMosaic.Lib.Pipeline.ReadBack

@[expose] public section

noncomputable section

namespace Cert.KernelIdeal.Attn

open Idealize.ShloMosaic Idealize.ShloMosaic.TcCoe
open Cert.KernelIdeal.Gen Cert.Attn

/-- Row `r` of the stack's block `j`. -/
def rw8 (j : Fin 8) (r : Fin 128) : Fin 1024 := ⟨j.val * 128 + r.val, by omega⟩

/-- Eight blocks of rows, one below the other. -/
def vStack (x0 x1 x2 x3 x4 x5 x6 x7 : Vec Ideal S128x64 .bf16) : FVec Ideal S1024x64 .bf16 :=
  concatenate S1024x64 0 [⟨S128x64, x0⟩, ⟨S128x64, x1⟩, ⟨S128x64, x2⟩, ⟨S128x64, x3⟩, ⟨S128x64, x4⟩, ⟨S128x64, x5⟩, ⟨S128x64, x6⟩, ⟨S128x64, x7⟩]
    concatenates_S128x64_S128x64_S128x64_S128x64_S128x64_S128x64_S128x64_S128x64_S1024x64_d0

theorem vStack_apply {x0 x1 x2 x3 x4 x5 x6 x7 : Vec Ideal S128x64 .bf16} (f : Fin 8 → Fin 128 → Fin 64 → EReal)
    (h0 : ∀ r d, x0 (ix2 r d) = f 0 r d) (h1 : ∀ r d, x1 (ix2 r d) = f 1 r d) (h2 : ∀ r d, x2 (ix2 r d) = f 2 r d)
    (h3 : ∀ r d, x3 (ix2 r d) = f 3 r d) (h4 : ∀ r d, x4 (ix2 r d) = f 4 r d) (h5 : ∀ r d, x5 (ix2 r d) = f 5 r d)
    (h6 : ∀ r d, x6 (ix2 r d) = f 6 r d) (h7 : ∀ r d, x7 (ix2 r d) = f 7 r d) (j : Fin 8) (r : Fin 128) (d : Fin 64) :
    vStack x0 x1 x2 x3 x4 x5 x6 x7 (ix2 (rw8 j r) d) = f j r d := by
  pointwise [vStack]
  simp only [h0, h1, h2, h3, h4, h5, h6, h7]
  have hr := r.isLt
  have key : ∀ (k : Fin 8) (n : ℕ) (hn : n < 128), n = r.val → f k ⟨n, hn⟩ d = f k r d :=
    fun k n hn e => congrArg (fun r => f k r d) (Fin.ext e)
  obtain ⟨j, hj⟩ := j
  interval_cases j
  · refine (dif_pos (show 0 * 128 + r.val < 128 by omega)).trans ?_
    exact key 0 _ _ (show 0 * 128 + r.val = r.val by omega)
  · refine (dif_neg (show ¬ 1 * 128 + r.val < 128 by omega)).trans ?_
    refine (dif_pos (show 1 * 128 + r.val - 128 < 128 by omega)).trans ?_
    exact key 1 _ _ (show 1 * 128 + r.val - 128 = r.val by omega)
  · refine (dif_neg (show ¬ 2 * 128 + r.val < 128 by omega)).trans ?_
    refine (dif_neg (show ¬ 2 * 128 + r.val - 128 < 128 by omega)).trans ?_
    refine (dif_pos (show 2 * 128 + r.val - 128 - 128 < 128 by omega)).trans ?_
    exact key 2 _ _ (show 2 * 128 + r.val - 128 - 128 = r.val by omega)
  · refine (dif_neg (show ¬ 3 * 128 + r.val < 128 by omega)).trans ?_
    refine (dif_neg (show ¬ 3 * 128 + r.val - 128 < 128 by omega)).trans ?_
    refine (dif_neg (show ¬ 3 * 128 + r.val - 128 - 128 < 128 by omega)).trans ?_
    refine (dif_pos (show 3 * 128 + r.val - 128 - 128 - 128 < 128 by omega)).trans ?_
    exact key 3 _ _ (show 3 * 128 + r.val - 128 - 128 - 128 = r.val by omega)
  · refine (dif_neg (show ¬ 4 * 128 + r.val < 128 by omega)).trans ?_
    refine (dif_neg (show ¬ 4 * 128 + r.val - 128 < 128 by omega)).trans ?_
    refine (dif_neg (show ¬ 4 * 128 + r.val - 128 - 128 < 128 by omega)).trans ?_
    refine (dif_neg (show ¬ 4 * 128 + r.val - 128 - 128 - 128 < 128 by omega)).trans ?_
    refine (dif_pos (show 4 * 128 + r.val - 128 - 128 - 128 - 128 < 128 by omega)).trans ?_
    exact key 4 _ _ (show 4 * 128 + r.val - 128 - 128 - 128 - 128 = r.val by omega)
  · refine (dif_neg (show ¬ 5 * 128 + r.val < 128 by omega)).trans ?_
    refine (dif_neg (show ¬ 5 * 128 + r.val - 128 < 128 by omega)).trans ?_
    refine (dif_neg (show ¬ 5 * 128 + r.val - 128 - 128 < 128 by omega)).trans ?_
    refine (dif_neg (show ¬ 5 * 128 + r.val - 128 - 128 - 128 < 128 by omega)).trans ?_
    refine (dif_neg (show ¬ 5 * 128 + r.val - 128 - 128 - 128 - 128 < 128 by omega)).trans ?_
    refine (dif_pos (show 5 * 128 + r.val - 128 - 128 - 128 - 128 - 128 < 128 by omega)).trans ?_
    exact key 5 _ _ (show 5 * 128 + r.val - 128 - 128 - 128 - 128 - 128 = r.val by omega)
  · refine (dif_neg (show ¬ 6 * 128 + r.val < 128 by omega)).trans ?_
    refine (dif_neg (show ¬ 6 * 128 + r.val - 128 < 128 by omega)).trans ?_
    refine (dif_neg (show ¬ 6 * 128 + r.val - 128 - 128 < 128 by omega)).trans ?_
    refine (dif_neg (show ¬ 6 * 128 + r.val - 128 - 128 - 128 < 128 by omega)).trans ?_
    refine (dif_neg (show ¬ 6 * 128 + r.val - 128 - 128 - 128 - 128 < 128 by omega)).trans ?_
    refine (dif_neg (show ¬ 6 * 128 + r.val - 128 - 128 - 128 - 128 - 128 < 128 by omega)).trans ?_
    refine (dif_pos (show 6 * 128 + r.val - 128 - 128 - 128 - 128 - 128 - 128 < 128 by omega)).trans ?_
    exact key 6 _ _ (show 6 * 128 + r.val - 128 - 128 - 128 - 128 - 128 - 128 = r.val by omega)
  · refine (dif_neg (show ¬ 7 * 128 + r.val < 128 by omega)).trans ?_
    refine (dif_neg (show ¬ 7 * 128 + r.val - 128 < 128 by omega)).trans ?_
    refine (dif_neg (show ¬ 7 * 128 + r.val - 128 - 128 < 128 by omega)).trans ?_
    refine (dif_neg (show ¬ 7 * 128 + r.val - 128 - 128 - 128 < 128 by omega)).trans ?_
    refine (dif_neg (show ¬ 7 * 128 + r.val - 128 - 128 - 128 - 128 < 128 by omega)).trans ?_
    refine (dif_neg (show ¬ 7 * 128 + r.val - 128 - 128 - 128 - 128 - 128 < 128 by omega)).trans ?_
    refine (dif_neg (show ¬ 7 * 128 + r.val - 128 - 128 - 128 - 128 - 128 - 128 < 128 by omega)).trans ?_
    exact key 7 _ _ (show 7 * 128 + r.val - 128 - 128 - 128 - 128 - 128 - 128 - 128 = r.val by omega)

/-- The band: the block before, then the block. -/
def vBand (a b : Vec Ideal S128x128 .bf16) : FVec Ideal S256x128 .bf16 :=
  concatenate S256x128 0 [⟨S128x128, a⟩, ⟨S128x128, b⟩] concatenates_S128x128_S128x128_S256x128_d0

/-- The band of one key head. -/
def vHalf0 (a b : Vec Ideal S128x128 .bf16) : FVec Ideal S256x64 .bf16 := extractStridedSlice S256x64 ![0, 0] (vBand a b) slices_S256x128_o0_0_S256x64
def vHalf1 (a b : Vec Ideal S128x128 .bf16) : FVec Ideal S256x64 .bf16 := extractStridedSlice S256x64 ![0, 64] (vBand a b) slices_S256x128_o0_64_S256x64

/-- The block that the vectors of one grid point make. -/
def blkV (n : BitVec 32) (q : Vec Ideal S128x1024 .bf16) (k v kp vp : Vec Ideal S128x128 .bf16) (g : Vec Ideal S128x1024 .bf16)
    (bias : Vec Ideal S16x128x256 .f32) (sinks : Vec Ideal S16 .f32) : Blk where
  q r c := q (ix2 r c)
  g r c := g (ix2 r c)
  kb s c := vBand kp k (ix2 s c)
  vb s c := vBand vp v (ix2 s c)
  bias h r s := bias (ix3 h r s)
  sk h := sinks (ix1 h)
  on r s := hMask n (ix2 r s)

theorem vHalf0_apply (a b : Vec Ideal S128x128 .bf16) (s : Fin 256) (d : Fin 64) : vHalf0 a b (ix2 s d) = vBand a b (ix2 s (gc 0 d)) := by
  pointwise [vHalf0]
  exact congrArg (fun c => vBand a b (ix2 s c)) (Fin.ext (by simp [gc]))

theorem vHalf1_apply (a b : Vec Ideal S128x128 .bf16) (s : Fin 256) (d : Fin 64) : vHalf1 a b (ix2 s d) = vBand a b (ix2 s (gc 1 d)) := by
  pointwise [vHalf1]
  exact congrArg (fun c => vBand a b (ix2 s c)) (Fin.ext (by simp [gc]))

/-! ## Reads of a point's blocks -/

theorem read_col {W : Memref sig .tc .vmem S128x1024 .bf16} (hW : W.IsWhole) (q : Vec Ideal S128x1024 .bf16) (h : Fin 16) (inb) (r : Fin 128) (d : Fin 64) :
    View.readAt (Elt Ideal) W.view (Rect.unit (s := S128x1024) ![0, 64 * h.val] S128x64.size inb).toLoadRect (hW.unread q) (ix2 r d) = q (ix2 r (hc h d)) := by
  rw [View.readAt_eq_ld, hW.read_unread]
  pointwise []
  rfl

theorem read_bias {W : Memref sig .tc .vmem S16x128x256 .f32} (hW : W.IsWhole) (q : Vec Ideal S16x128x256 .f32) (h : Fin 16) (inb) (r : Fin 128) (s : Fin 256) :
    View.readAt (Elt Ideal) W.view (Rect.unit (s := S16x128x256) ![h.val, 0, 0] S1x128x256.size inb).toLoadRect (hW.unread q) (ix3 0 r s) = q (ix3 h r s) := by
  rw [View.readAt_eq_ld, hW.read_unread]
  pointwise []

theorem read_sink {W : Memref sig .tc .smem S16 .f32} (hW : W.IsWhole) (q : Vec Ideal S16 .f32) (h : Fin 16) (inb) :
    View.readAt (Elt Ideal) W.view (Rect.unit (s := S16) ![h.val] S1.size inb).toLoadRect (hW.unread q) (ix1 0) = q (ix1 h) := by
  rw [View.readAt_eq_ld, hW.read_unread]
  pointwise []

/-- A row block of a buffer last written whole. -/
theorem read_row (W : Memref sig .tc .vmem S1024x256 .f32) (w : Vec Ideal S1024x256 .f32) (L : List (View.Piece (Elt Ideal) S1024x256 .f32)) (j : Fin 8) (i0 inb) (r : Fin 128) (s : Fin 256) :
    W.view.readCov (⟨Rect.unit ![0, 0] S1024x256.size i0, w⟩ :: L) (Rect.unit (s := S1024x256) ![j.val * 128, 0] S128x256.size inb).toLoadRect (ix2 r s) = w (ix2 (rw8 j r) s) := by
  rw [View.readCov_eq_canon']
  beta_reduce
  rw [View.canon_cons_unit_zero (by funext a; fin_cases a <;> rfl)]
  pointwise []
  rfl

/-! ## The products over a group's stack -/

section Products

variable (X : FVec Ideal S1024x64 .bf16) (Y : FVec Ideal S256x64 .bf16) (D : FVec Ideal S1024x256 .bf16)

def mNT : FVec Ideal S1024x256 .f32 := matmul dot_S1024x64_S256x64_S1024x256_1_1_0_0_n_n none X Y (constant S1024x256 .f32 0x00000000#32)
def mNN : FVec Ideal S1024x64 .f32 := matmul dot_S1024x256_S256x64_S1024x64_1_0_0_1_n_n none D Y (constant S1024x64 .f32 0x00000000#32)
def mTN : FVec Ideal S256x64 .f32 := matmul dot_S1024x256_S1024x64_S256x64_0_0_1_1_n_n none D X (constant S256x64 .f32 0x00000000#32)

theorem mNT_apply (m : Fin 1024) (s : Fin 256) : mNT X Y (ix2 m s) = ∑ d : Fin 64, X (ix2 m d) * Y (ix2 s d) := by
  pointwise [mNT]

theorem mNN_apply (m : Fin 1024) (d : Fin 64) : mNN Y D (ix2 m d) = ∑ s : Fin 256, D (ix2 m s) * Y (ix2 s d) := by
  pointwise [mNN]

theorem mTN_apply (s : Fin 256) (d : Fin 64) : mTN X D (ix2 s d) = ∑ j : Fin 8, ∑ r : Fin 128, D (ix2 (rw8 j r) s) * X (ix2 (rw8 j r) d) := by
  pointwise [mTN]
  exact Fin.sum_univ_tiles 8 128 rfl _

end Products

end Cert.KernelIdeal.Attn

end
-- ==== Proof.Canon.lean ====
/- What a buffer holds after writes that fill it band by band: columns from the left, rows from the top, planes from the
   first. -/
module

public import proofs.«01_k».proof.Proof.Block

@[expose] public section

noncomputable section

namespace Cert.KernelIdeal.Attn

open Idealize.ShloMosaic Idealize.ShloMosaic.TcCoe

variable {e : EltTy}

/-- After the writes `L` the columns before `b` hold `G` and the others `Z`; the writes reach the columns before `b`, and
    all of them under `W`. -/
structure Cols {M N : ℕ} (L : List (View.Piece (Elt Ideal) (⟨2, ![M, N]⟩ : Shape) e)) (b : ℕ) (G Z : Fin M → Fin N → Elt Ideal e) (W : Prop) : Prop where
  lt : ∀ r c, c.val < b → View.canon L (ix2 r c) = G r c
  ge : ∀ r c, b ≤ c.val → View.canon L (ix2 r c) = Z r c
  cov : ∀ r c, (c.val < b ∨ W) → ∃ p ∈ L, (ix2 r c : (⟨2, ![M, N]⟩ : Shape).Idx) ∈ p.1.set

theorem Cols.nil {M N : ℕ} (L : List (View.Piece (Elt Ideal) (⟨2, ![M, N]⟩ : Shape) e)) (G : Fin M → Fin N → Elt Ideal e) :
    Cols L 0 G (fun r c => View.canon L (ix2 r c)) False :=
  ⟨fun _ _ h => absurd h (Nat.not_lt_zero _), fun _ _ _ => rfl, fun _ _ h => absurd (h.resolve_right id) (Nat.not_lt_zero _)⟩

/-- A last write of the whole buffer. -/
theorem Cols.base {M N : ℕ} {L : List (View.Piece (Elt Ideal) (⟨2, ![M, N]⟩ : Shape) e)} {G : Fin M → Fin N → Elt Ideal e} (b : ℕ)
    {inb : ∀ a, ![0, 0] a + (![M, N] : Fin 2 → ℕ) a ≤ (⟨2, ![M, N]⟩ : Shape).size a} {w : (⟨2, ![M, N]⟩ : Shape).Idx → Elt Ideal e}
    (hG : ∀ r c, c.val < b → w (ix2 r c) = G r c) :
    Cols ((⟨Rect.unit ![0, 0] ![M, N] inb, w⟩ : View.Piece (Elt Ideal) (⟨2, ![M, N]⟩ : Shape) e) :: L) b G (fun r c => w (ix2 r c)) True := by
  have key : View.canon ((⟨Rect.unit ![0, 0] ![M, N] inb, w⟩ : View.Piece (Elt Ideal) (⟨2, ![M, N]⟩ : Shape) e) :: L) = w :=
    View.canon_cons_unit_zero (by funext a; fin_cases a <;> rfl) inb w L
  refine ⟨fun r c hc => (congrFun key _).trans (hG r c hc), fun r c _ => congrFun key _, fun r c _ => ⟨_, List.mem_cons_self, ?_⟩⟩
  have h := (Rect.unit (s := (⟨2, ![M, N]⟩ : Shape)) ![0, 0] ![M, N] inb).idx_mem (ix2 r c)
  have e1 : (Rect.unit (s := (⟨2, ![M, N]⟩ : Shape)) ![0, 0] ![M, N] inb).idx (ix2 r c) = ix2 r c := by
    funext a
    fin_cases a <;> apply Fin.ext <;> simp
  rwa [e1] at h

theorem Cols.step {M N n b : ℕ} {L : List (View.Piece (Elt Ideal) (⟨2, ![M, N]⟩ : Shape) e)} {G Z : Fin M → Fin N → Elt Ideal e} {W : Prop}
    (H : Cols L b G Z W) {inb : ∀ a, ![0, b] a + (![M, n] : Fin 2 → ℕ) a ≤ (⟨2, ![M, N]⟩ : Shape).size a}
    {w : (⟨2, ![M, n]⟩ : Shape).Idx → Elt Ideal e} (hb : b + n ≤ N) (hw : ∀ r (d : Fin n), w (ix2 r d) = G r ⟨b + d.val, by omega⟩) :
    Cols ((⟨Rect.unit ![0, b] ![M, n] inb, w⟩ : View.Piece (Elt Ideal) (⟨2, ![M, N]⟩ : Shape) e) :: L) (b + n) G Z W := by
  have key : ∀ (r : Fin M) (d : Fin n), (Rect.unit (s := (⟨2, ![M, N]⟩ : Shape)) ![0, b] ![M, n] inb).emb (ix2 r d) = ix2 r (⟨b + d.val, by omega⟩ : Fin N) := by
    intro r d
    funext a
    fin_cases a <;> apply Fin.ext <;> simp
  have miss : ∀ (r : Fin M) (c : Fin N), (c.val < b ∨ b + n ≤ c.val) → (ix2 r c : (⟨2, ![M, N]⟩ : Shape).Idx) ∉ (Rect.unit (s := (⟨2, ![M, N]⟩ : Shape)) ![0, b] ![M, n] inb).set := by
    intro r c hc hm
    obtain ⟨x, hx⟩ := (Rect.unit (s := (⟨2, ![M, N]⟩ : Shape)) ![0, b] ![M, n] inb).exists_idx_of_mem hm
    have hx1 := congrArg (fun i : (⟨2, ![M, N]⟩ : Shape).Idx => (i 1).val) hx
    have hlt : (x 1).val < n := (x 1).isLt
    have h2 : b + (x 1).val = c.val := by simpa using hx1
    omega
  constructor
  · intro r c hc
    by_cases h : c.val < b
    · exact (View.canon_cons_of_not_mem (Val := Elt Ideal) (⟨Rect.unit ![0, b] ![M, n] inb, w⟩ : View.Piece (Elt Ideal) (⟨2, ![M, N]⟩ : Shape) e) L (miss r c (.inl h))).trans (H.lt r c h)
    · have e1 : c = (⟨b + (⟨c.val - b, by omega⟩ : Fin n).val, by simp only; omega⟩ : Fin N) := Fin.ext (by simp only; omega)
      have e2 := View.canon_cons_emb (Val := Elt Ideal) (Rect.unit (s := (⟨2, ![M, N]⟩ : Shape)) ![0, b] ![M, n] inb) w L (ix2 r (⟨c.val - b, by omega⟩ : Fin n))
      rw [key] at e2
      rw [e1]
      exact e2.trans (hw r _)
  · intro r c hc
    exact (View.canon_cons_of_not_mem (Val := Elt Ideal) (⟨Rect.unit ![0, b] ![M, n] inb, w⟩ : View.Piece (Elt Ideal) (⟨2, ![M, N]⟩ : Shape) e) L (miss r c (.inr hc))).trans (H.ge r c (by omega))
  · intro r c hc
    by_cases h : c.val < b ∨ W
    · obtain ⟨p, hp, hm⟩ := H.cov r c h
      exact ⟨p, List.mem_cons_of_mem _ hp, hm⟩
    · have hc' : c.val < b + n := hc.resolve_right fun hW => h (.inr hW)
      have hb' : b ≤ c.val := Nat.le_of_not_lt fun hW => h (.inl hW)
      refine ⟨_, List.mem_cons_self, ?_⟩
      have e1 : c = (⟨b + (⟨c.val - b, by omega⟩ : Fin n).val, by simp only; omega⟩ : Fin N) := Fin.ext (by simp only; omega)
      have e2 := (Rect.unit (s := (⟨2, ![M, N]⟩ : Shape)) ![0, b] ![M, n] inb).idx_mem (ix2 r (⟨c.val - b, by omega⟩ : Fin n))
      rw [e1, ← key]
      exact e2

/-- A table as a vector. -/
def tab2 {M N : ℕ} (f : Fin M → Fin N → Elt Ideal e) : (⟨2, ![M, N]⟩ : Shape).Idx → Elt Ideal e := fun y => f (y 0) (y 1)

theorem Cols.read {M N b : ℕ} {L : List (View.Piece (Elt Ideal) (⟨2, ![M, N]⟩ : Shape) e)} {G Z T : Fin M → Fin N → Elt Ideal e} {W : Prop}
    (H : Cols L b G Z W) {sp : Space} (v : View sig .tc sp (⟨2, ![M, N]⟩ : Shape) e) (f : v.ty.Contents (Elt Ideal)) (hW : N ≤ b ∨ W)
    (h1 : ∀ r c, c.val < b → G r c = T r c) (h2 : ∀ r c, b ≤ c.val → Z r c = T r c) : v.read (Elt Ideal) (v.writes (Elt Ideal) f L) = tab2 T := by
  rw [View.read_writes_eq_canon v f L fun y => ?_]
  · funext y
    rw [eq_ix2 y]
    by_cases h : (y 1).val < b
    · exact (H.lt (y 0) (y 1) h).trans (h1 _ _ h)
    · exact (H.ge (y 0) (y 1) (Nat.le_of_not_lt h)).trans (h2 _ _ (Nat.le_of_not_lt h))
  · rw [eq_ix2 y]
    exact H.cov (y 0) (y 1) (hW.imp (fun h => (y 1).isLt.trans_le h) id)

/-- What writes over known contents leave: the known contents count as a first write. -/
theorem read_writes_over {S : Shape} {sp : Space} (v : View sig .tc sp S e) (f : v.ty.Contents (Elt Ideal)) {off : Fin S.rank → ℕ} (h0 : off = fun _ => 0)
    (inb : ∀ a, off a + S.size a ≤ S.size a) (L : List (View.Piece (Elt Ideal) S e)) :
    v.read (Elt Ideal) (v.writes (Elt Ideal) f L) = View.canon (L ++ [⟨Rect.unit off S.size inb, v.read (Elt Ideal) f⟩]) := by
  induction L with
  | nil => exact (View.canon_cons_unit_zero h0 inb _ []).symm
  | cons p L ih =>
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy]
      exact congrFun ih y

/-- After the writes `L` the rows before `b` hold `G`. -/
def Rows {M N : ℕ} (L : List (View.Piece (Elt Ideal) (⟨2, ![M, N]⟩ : Shape) e)) (b : ℕ) (G : Fin M → Fin N → Elt Ideal e) : Prop :=
  ∀ r c, r.val < b → View.canon L (ix2 r c) = G r c

theorem Rows.nil {M N : ℕ} (L : List (View.Piece (Elt Ideal) (⟨2, ![M, N]⟩ : Shape) e)) (G : Fin M → Fin N → Elt Ideal e) : Rows L 0 G :=
  fun _ _ h => absurd h (Nat.not_lt_zero _)

theorem Rows.step {M N n b : ℕ} {L : List (View.Piece (Elt Ideal) (⟨2, ![M, N]⟩ : Shape) e)} {G : Fin M → Fin N → Elt Ideal e}
    (H : Rows L b G) {inb : ∀ a, ![b, 0] a + (![n, N] : Fin 2 → ℕ) a ≤ (⟨2, ![M, N]⟩ : Shape).size a}
    {w : (⟨2, ![n, N]⟩ : Shape).Idx → Elt Ideal e} (hb : b + n ≤ M) (hw : ∀ (d : Fin n) c, w (ix2 d c) = G ⟨b + d.val, by omega⟩ c) :
    Rows ((⟨Rect.unit ![b, 0] ![n, N] inb, w⟩ : View.Piece (Elt Ideal) (⟨2, ![M, N]⟩ : Shape) e) :: L) (b + n) G := by
  have key : ∀ (d : Fin n) (c : Fin N), (Rect.unit (s := (⟨2, ![M, N]⟩ : Shape)) ![b, 0] ![n, N] inb).emb (ix2 d c) = ix2 (⟨b + d.val, by omega⟩ : Fin M) c := by
    intro r d
    funext a
    fin_cases a <;> apply Fin.ext <;> simp
  have miss : ∀ (r : Fin M) (c : Fin N), r.val < b → (ix2 r c : (⟨2, ![M, N]⟩ : Shape).Idx) ∉ (Rect.unit (s := (⟨2, ![M, N]⟩ : Shape)) ![b, 0] ![n, N] inb).set := by
    intro r c hc hm
    obtain ⟨x, hx⟩ := (Rect.unit (s := (⟨2, ![M, N]⟩ : Shape)) ![b, 0] ![n, N] inb).exists_idx_of_mem hm
    have hx1 := congrArg (fun i : (⟨2, ![M, N]⟩ : Shape).Idx => (i 0).val) hx
    have h2 : b + (x 0).val = r.val := by simpa using hx1
    omega
  intro r c hc
  by_cases h : r.val < b
  · exact (View.canon_cons_of_not_mem (Val := Elt Ideal) (⟨Rect.unit ![b, 0] ![n, N] inb, w⟩ : View.Piece (Elt Ideal) (⟨2, ![M, N]⟩ : Shape) e) L (miss r c h)).trans (H r c h)
  · have e1 : r = (⟨b + (⟨r.val - b, by omega⟩ : Fin n).val, by simp only; omega⟩ : Fin M) := Fin.ext (by simp only; omega)
    have e2 := View.canon_cons_emb (Val := Elt Ideal) (Rect.unit (s := (⟨2, ![M, N]⟩ : Shape)) ![b, 0] ![n, N] inb) w L (ix2 (⟨r.val - b, by omega⟩ : Fin n) c)
    rw [key] at e2
    rw [e1]
    exact e2.trans (hw _ c)

/-- After the writes `L` the planes before `b` hold `G` and the others `Z`; the writes reach the planes before `b`, and all
    of them under `W`. -/
structure Planes {P M N : ℕ} (L : List (View.Piece (Elt Ideal) (⟨3, ![P, M, N]⟩ : Shape) e)) (b : ℕ) (G Z : Fin P → Fin M → Fin N → Elt Ideal e) (W : Prop) : Prop where
  lt : ∀ h r c, h.val < b → View.canon L (ix3 h r c) = G h r c
  ge : ∀ h r c, b ≤ h.val → View.canon L (ix3 h r c) = Z h r c
  cov : ∀ h r c, (h.val < b ∨ W) → ∃ p ∈ L, (ix3 h r c : (⟨3, ![P, M, N]⟩ : Shape).Idx) ∈ p.1.set

theorem Planes.nil {P M N : ℕ} (L : List (View.Piece (Elt Ideal) (⟨3, ![P, M, N]⟩ : Shape) e)) (G : Fin P → Fin M → Fin N → Elt Ideal e) :
    Planes L 0 G (fun h r c => View.canon L (ix3 h r c)) False :=
  ⟨fun _ _ _ h => absurd h (Nat.not_lt_zero _), fun _ _ _ _ => rfl, fun _ _ _ h => absurd (h.resolve_right id) (Nat.not_lt_zero _)⟩

theorem Planes.base {P M N : ℕ} {L : List (View.Piece (Elt Ideal) (⟨3, ![P, M, N]⟩ : Shape) e)} {G : Fin P → Fin M → Fin N → Elt Ideal e}
    {inb : ∀ a, ![0, 0, 0] a + (![P, M, N] : Fin 3 → ℕ) a ≤ (⟨3, ![P, M, N]⟩ : Shape).size a} {w : (⟨3, ![P, M, N]⟩ : Shape).Idx → Elt Ideal e} :
    Planes ((⟨Rect.unit ![0, 0, 0] ![P, M, N] inb, w⟩ : View.Piece (Elt Ideal) (⟨3, ![P, M, N]⟩ : Shape) e) :: L) 0 G (fun p r c => w (ix3 p r c)) True := by
  have key : View.canon ((⟨Rect.unit ![0, 0, 0] ![P, M, N] inb, w⟩ : View.Piece (Elt Ideal) (⟨3, ![P, M, N]⟩ : Shape) e) :: L) = w :=
    View.canon_cons_unit_zero (by funext a; fin_cases a <;> rfl) inb w L
  refine ⟨fun _ _ _ h => absurd h (Nat.not_lt_zero _), fun p r c _ => congrFun key _, fun p r c _ => ⟨_, List.mem_cons_self, ?_⟩⟩
  have h := (Rect.unit (s := (⟨3, ![P, M, N]⟩ : Shape)) ![0, 0, 0] ![P, M, N] inb).idx_mem (ix3 p r c)
  have e1 : (Rect.unit (s := (⟨3, ![P, M, N]⟩ : Shape)) ![0, 0, 0] ![P, M, N] inb).idx (ix3 p r c) = ix3 p r c := by
    funext a
    fin_cases a <;> apply Fin.ext <;> simp
  rwa [e1] at h

theorem Planes.step {P M N b : ℕ} {L : List (View.Piece (Elt Ideal) (⟨3, ![P, M, N]⟩ : Shape) e)} {G Z : Fin P → Fin M → Fin N → Elt Ideal e} {W : Prop}
    (H : Planes L b G Z W) {inb : ∀ a, ![b, 0, 0] a + (![1, M, N] : Fin 3 → ℕ) a ≤ (⟨3, ![P, M, N]⟩ : Shape).size a}
    {w : (⟨3, ![1, M, N]⟩ : Shape).Idx → Elt Ideal e} (hb : b < P) (hw : ∀ r c, w (ix3 0 r c) = G ⟨b, hb⟩ r c) :
    Planes ((⟨Rect.unit ![b, 0, 0] ![1, M, N] inb, w⟩ : View.Piece (Elt Ideal) (⟨3, ![P, M, N]⟩ : Shape) e) :: L) (b + 1) G Z W := by
  have key : ∀ (r : Fin M) (c : Fin N), (Rect.unit (s := (⟨3, ![P, M, N]⟩ : Shape)) ![b, 0, 0] ![1, M, N] inb).emb (ix3 0 r c) = ix3 (⟨b, hb⟩ : Fin P) r c := by
    intro r d
    funext a
    fin_cases a <;> apply Fin.ext <;> simp
  have miss : ∀ (p : Fin P) (r : Fin M) (c : Fin N), (p.val < b ∨ b + 1 ≤ p.val) → (ix3 p r c : (⟨3, ![P, M, N]⟩ : Shape).Idx) ∉ (Rect.unit (s := (⟨3, ![P, M, N]⟩ : Shape)) ![b, 0, 0] ![1, M, N] inb).set := by
    intro p r c hc hm
    obtain ⟨x, hx⟩ := (Rect.unit (s := (⟨3, ![P, M, N]⟩ : Shape)) ![b, 0, 0] ![1, M, N] inb).exists_idx_of_mem hm
    have hx1 := congrArg (fun i : (⟨3, ![P, M, N]⟩ : Shape).Idx => (i 0).val) hx
    have hlt : (x 0).val < 1 := (x 0).isLt
    have h2 : b + (x 0).val = p.val := by simpa using hx1
    omega
  constructor
  · intro p r c hc
    by_cases h : p.val < b
    · exact (View.canon_cons_of_not_mem (Val := Elt Ideal) (⟨Rect.unit ![b, 0, 0] ![1, M, N] inb, w⟩ : View.Piece (Elt Ideal) (⟨3, ![P, M, N]⟩ : Shape) e) L (miss p r c (.inl h))).trans (H.lt p r c h)
    · have e1 : p = (⟨b, hb⟩ : Fin P) := Fin.ext (by simp only; omega)
      have e2 := View.canon_cons_emb (Val := Elt Ideal) (Rect.unit (s := (⟨3, ![P, M, N]⟩ : Shape)) ![b, 0, 0] ![1, M, N] inb) w L (ix3 0 r c)
      rw [key] at e2
      rw [e1]
      exact e2.trans (hw r c)
  · intro p r c hc
    exact (View.canon_cons_of_not_mem (Val := Elt Ideal) (⟨Rect.unit ![b, 0, 0] ![1, M, N] inb, w⟩ : View.Piece (Elt Ideal) (⟨3, ![P, M, N]⟩ : Shape) e) L (miss p r c (.inr hc))).trans (H.ge p r c (by omega))
  · intro p r c hc
    by_cases h : p.val < b ∨ W
    · obtain ⟨q, hq, hm⟩ := H.cov p r c h
      exact ⟨q, List.mem_cons_of_mem _ hq, hm⟩
    · have hc' : p.val < b + 1 := hc.resolve_right fun hW => h (.inr hW)
      have hb' : b ≤ p.val := Nat.le_of_not_lt fun hW => h (.inl hW)
      refine ⟨_, List.mem_cons_self, ?_⟩
      have e1 : p = (⟨b, hb⟩ : Fin P) := Fin.ext (by simp only; omega)
      have e2 := (Rect.unit (s := (⟨3, ![P, M, N]⟩ : Shape)) ![b, 0, 0] ![1, M, N] inb).idx_mem (ix3 0 r c)
      rw [e1, ← key]
      exact e2

/-- A table as a vector. -/
def tab3 {P M N : ℕ} (f : Fin P → Fin M → Fin N → Elt Ideal e) : (⟨3, ![P, M, N]⟩ : Shape).Idx → Elt Ideal e := fun y => f (y 0) (y 1) (y 2)

theorem Planes.read {P M N b : ℕ} {L : List (View.Piece (Elt Ideal) (⟨3, ![P, M, N]⟩ : Shape) e)} {G Z : Fin P → Fin M → Fin N → Elt Ideal e} {W : Prop}
    (H : Planes L b G Z W) {sp : Space} (v : View sig .tc sp (⟨3, ![P, M, N]⟩ : Shape) e) (f : v.ty.Contents (Elt Ideal)) (hb : P ≤ b) :
    v.read (Elt Ideal) (v.writes (Elt Ideal) f L) = tab3 G := by
  rw [View.read_writes_eq_canon v f L fun y => ?_]
  · funext y
    rw [eq_ix3 y]
    exact H.lt (y 0) (y 1) (y 2) ((y 0).isLt.trans_le hb)
  · rw [eq_ix3 y]
    exact H.cov (y 0) (y 1) (y 2) (.inl ((y 0).isLt.trans_le hb))

/-- A load of a block from what the writes leave. -/
theorem read2 {sp : Space} {M N m n : ℕ} (W : Memref sig .tc sp (⟨2, ![M, N]⟩ : Shape) e) (L : List (View.Piece (Elt Ideal) (⟨2, ![M, N]⟩ : Shape) e)) (a b : ℕ)
    (inb : ∀ k, ![a, b] k + (![m, n] : Fin 2 → ℕ) k ≤ (⟨2, ![M, N]⟩ : Shape).size k) (r : Fin m) (c : Fin n) (h1 : a + r.val < M) (h2 : b + c.val < N) :
    W.view.readCov L (Rect.unit (s := (⟨2, ![M, N]⟩ : Shape)) ![a, b] ![m, n] inb).toLoadRect (ix2 r c) = View.canon L (ix2 ⟨a + r.val, h1⟩ ⟨b + c.val, h2⟩) := by
  rw [View.readCov_eq_canon']
  refine congrArg (View.canon L) ?_
  funext k
  fin_cases k <;> apply Fin.ext <;> simp

theorem read3 {sp : Space} {P M N : ℕ} (W : Memref sig .tc sp (⟨3, ![P, M, N]⟩ : Shape) e) (L : List (View.Piece (Elt Ideal) (⟨3, ![P, M, N]⟩ : Shape) e)) (a : ℕ)
    (inb : ∀ k, ![a, 0, 0] k + (![1, M, N] : Fin 3 → ℕ) k ≤ (⟨3, ![P, M, N]⟩ : Shape).size k) (h1 : a < P) (r : Fin M) (c : Fin N) :
    W.view.readCov L (Rect.unit (s := (⟨3, ![P, M, N]⟩ : Shape)) ![a, 0, 0] ![1, M, N] inb).toLoadRect (ix3 0 r c) = View.canon L (ix3 ⟨a, h1⟩ r c) := by
  rw [View.readCov_eq_canon']
  refine congrArg (View.canon L) ?_
  funext k
  fin_cases k <;> apply Fin.ext <;> simp

end Cert.KernelIdeal.Attn

end
-- ==== Proof.Group.lean ====
/- The operands of the two groups of heads, as the backward body reads them from its buffers, and the values of a group's
   products at an index. -/
module

public import proofs.«01_k».proof.Proof.Canon

@[expose] public section

noncomputable section

namespace Cert.KernelIdeal.Attn

open Idealize.ShloMosaic Idealize.ShloMosaic.TcCoe
open Cert.KernelIdeal.Gen Cert.Attn

theorem kc_hd (a : Fin 2) (j : Fin 8) (d : Fin 64) : kc (hd a j) d = gc a d := by
  apply Fin.ext
  have := j.isLt
  simp only [kc, hd, gc]
  omega

/-! ## The stacks and the band, read -/

theorem read_sink' {W : Memref sig .tc .smem S16 .f32} (hW : W.IsWhole) (q : Vec Ideal S16 .f32) (h : Fin 16) (inb) (y : S1.Idx) :
    View.readAt (Elt Ideal) W.view (Rect.unit (s := S16) ![h.val] S1.size inb).toLoadRect (hW.unread q) y = q (ix1 h) := by
  have e : y = ix1 0 := by
    funext a
    fin_cases a
    exact Fin.ext (by have : (y 0).val < 1 := (y 0).isLt; show (y 0).val = 0; omega)
  rw [e]
  exact read_sink hW q h inb

/-- The stack of the heads of group 0, from the buffer of a block's columns. -/
def stk0 {W : Memref sig .tc .vmem S128x1024 .bf16} (hW : W.IsWhole) (q : Vec Ideal S128x1024 .bf16) : FVec Ideal S1024x64 .bf16 :=
  vStack (View.readAt (Elt Ideal) W.view (Rect.unit (s := S128x1024) ![0, 0] S128x64.size (by decide)).toLoadRect (hW.unread q))
    (View.readAt (Elt Ideal) W.view (Rect.unit (s := S128x1024) ![0, 64] S128x64.size (by decide)).toLoadRect (hW.unread q))
    (View.readAt (Elt Ideal) W.view (Rect.unit (s := S128x1024) ![0, 128] S128x64.size (by decide)).toLoadRect (hW.unread q))
    (View.readAt (Elt Ideal) W.view (Rect.unit (s := S128x1024) ![0, 192] S128x64.size (by decide)).toLoadRect (hW.unread q))
    (View.readAt (Elt Ideal) W.view (Rect.unit (s := S128x1024) ![0, 256] S128x64.size (by decide)).toLoadRect (hW.unread q))
    (View.readAt (Elt Ideal) W.view (Rect.unit (s := S128x1024) ![0, 320] S128x64.size (by decide)).toLoadRect (hW.unread q))
    (View.readAt (Elt Ideal) W.view (Rect.unit (s := S128x1024) ![0, 384] S128x64.size (by decide)).toLoadRect (hW.unread q))
    (View.readAt (Elt Ideal) W.view (Rect.unit (s := S128x1024) ![0, 448] S128x64.size (by decide)).toLoadRect (hW.unread q))

theorem stk0_apply {W : Memref sig .tc .vmem S128x1024 .bf16} (hW : W.IsWhole) (q : Vec Ideal S128x1024 .bf16) (j : Fin 8) (r : Fin 128) (d : Fin 64) :
    stk0 hW q (ix2 (rw8 j r) d) = q (ix2 r (hc (hd 0 j) d)) :=
  vStack_apply (fun j r d => q (ix2 r (hc (hd 0 j) d)))
    (read_col hW q 0 _) (read_col hW q 1 _) (read_col hW q 2 _) (read_col hW q 3 _) (read_col hW q 4 _) (read_col hW q 5 _) (read_col hW q 6 _) (read_col hW q 7 _) j r d

/-- The stack of the heads of group 1, from the buffer of a block's columns. -/
def stk1 {W : Memref sig .tc .vmem S128x1024 .bf16} (hW : W.IsWhole) (q : Vec Ideal S128x1024 .bf16) : FVec Ideal S1024x64 .bf16 :=
  vStack (View.readAt (Elt Ideal) W.view (Rect.unit (s := S128x1024) ![0, 512] S128x64.size (by decide)).toLoadRect (hW.unread q))
    (View.readAt (Elt Ideal) W.view (Rect.unit (s := S128x1024) ![0, 576] S128x64.size (by decide)).toLoadRect (hW.unread q))
    (View.readAt (Elt Ideal) W.view (Rect.unit (s := S128x1024) ![0, 640] S128x64.size (by decide)).toLoadRect (hW.unread q))
    (View.readAt (Elt Ideal) W.view (Rect.unit (s := S128x1024) ![0, 704] S128x64.size (by decide)).toLoadRect (hW.unread q))
    (View.readAt (Elt Ideal) W.view (Rect.unit (s := S128x1024) ![0, 768] S128x64.size (by decide)).toLoadRect (hW.unread q))
    (View.readAt (Elt Ideal) W.view (Rect.unit (s := S128x1024) ![0, 832] S128x64.size (by decide)).toLoadRect (hW.unread q))
    (View.readAt (Elt Ideal) W.view (Rect.unit (s := S128x1024) ![0, 896] S128x64.size (by decide)).toLoadRect (hW.unread q))
    (View.readAt (Elt Ideal) W.view (Rect.unit (s := S128x1024) ![0, 960] S128x64.size (by decide)).toLoadRect (hW.unread q))

theorem stk1_apply {W : Memref sig .tc .vmem S128x1024 .bf16} (hW : W.IsWhole) (q : Vec Ideal S128x1024 .bf16) (j : Fin 8) (r : Fin 128) (d : Fin 64) :
    stk1 hW q (ix2 (rw8 j r) d) = q (ix2 r (hc (hd 1 j) d)) :=
  vStack_apply (fun j r d => q (ix2 r (hc (hd 1 j) d)))
    (read_col hW q 8 _) (read_col hW q 9 _) (read_col hW q 10 _) (read_col hW q 11 _) (read_col hW q 12 _) (read_col hW q 13 _) (read_col hW q 14 _) (read_col hW q 15 _) j r d

/-- The band, from the buffers of the block before and of the block. -/
def bnd {W W' : Memref sig .tc .vmem S128x128 .bf16} (hW : W.IsWhole) (hW' : W'.IsWhole) (k kp : Vec Ideal S128x128 .bf16) : FVec Ideal S256x128 .bf16 :=
  vBand (View.readAt (Elt Ideal) W'.view (Rect.unit (s := S128x128) ![0, 0] S128x128.size (by decide)).toLoadRect (hW'.unread kp))
    (View.readAt (Elt Ideal) W.view (Rect.unit (s := S128x128) ![0, 0] S128x128.size (by decide)).toLoadRect (hW.unread k))

theorem read_whole {e : EltTy} {W : Memref sig .tc .vmem S128x128 e} (hW : W.IsWhole) (k : Vec Ideal S128x128 e) (inb) :
    View.readAt (Elt Ideal) W.view (Rect.unit (s := S128x128) ![0, 0] S128x128.size inb).toLoadRect (hW.unread k) = k := by
  rw [View.readAt_eq_ld, hW.read_unread]
  funext y
  exact congrArg k (by funext a; fin_cases a <;> apply Fin.ext <;> simp)

theorem bnd_eq {W W' : Memref sig .tc .vmem S128x128 .bf16} (hW : W.IsWhole) (hW' : W'.IsWhole) (k kp : Vec Ideal S128x128 .bf16) : bnd hW hW' k kp = vBand kp k := by
  unfold bnd
  rw [read_whole, read_whole]

def bh0 {W W' : Memref sig .tc .vmem S128x128 .bf16} (hW : W.IsWhole) (hW' : W'.IsWhole) (k kp : Vec Ideal S128x128 .bf16) : FVec Ideal S256x64 .bf16 :=
  extractStridedSlice S256x64 ![0, 0] (bnd hW hW' k kp) slices_S256x128_o0_0_S256x64

theorem bh0_apply {W W' : Memref sig .tc .vmem S128x128 .bf16} (hW : W.IsWhole) (hW' : W'.IsWhole) (k kp : Vec Ideal S128x128 .bf16) (s : Fin 256) (d : Fin 64) :
    bh0 hW hW' k kp (ix2 s d) = vBand kp k (ix2 s (gc 0 d)) := by
  unfold bh0
  rw [bnd_eq]
  exact vHalf0_apply kp k s d

def bh1 {W W' : Memref sig .tc .vmem S128x128 .bf16} (hW : W.IsWhole) (hW' : W'.IsWhole) (k kp : Vec Ideal S128x128 .bf16) : FVec Ideal S256x64 .bf16 :=
  extractStridedSlice S256x64 ![0, 64] (bnd hW hW' k kp) slices_S256x128_o0_64_S256x64

theorem bh1_apply {W W' : Memref sig .tc .vmem S128x128 .bf16} (hW : W.IsWhole) (hW' : W'.IsWhole) (k kp : Vec Ideal S128x128 .bf16) (s : Fin 256) (d : Fin 64) :
    bh1 hW hW' k kp (ix2 s d) = vBand kp k (ix2 s (gc 1 d)) := by
  unfold bh1
  rw [bnd_eq]
  exact vHalf1_apply kp k s d

/-! ## A group's values -/

section Values

variable {arg1 : Memref sig .tc .vmem S128x1024 .bf16} (harg1 : arg1.IsWhole)
variable {arg2 : Memref sig .tc .vmem S128x128 .bf16} (harg2 : arg2.IsWhole)
variable {arg3 : Memref sig .tc .vmem S128x128 .bf16} (harg3 : arg3.IsWhole)
variable {arg4 : Memref sig .tc .vmem S128x128 .bf16} (harg4 : arg4.IsWhole)
variable {arg5 : Memref sig .tc .vmem S128x128 .bf16} (harg5 : arg5.IsWhole)
variable {arg6 : Memref sig .tc .vmem S128x1024 .bf16} (harg6 : arg6.IsWhole)
variable {arg7 : Memref sig .tc .vmem S16x128x256 .f32} (harg7 : arg7.IsWhole)
variable {arg8 : Memref sig .tc .smem S16 .f32} (harg8 : arg8.IsWhole)
variable (arg19 : Memref sig .tc .vmem S1024x256 .f32) (arg20 : Memref sig .tc .vmem S1024x256 .f32)
variable (n : BitVec 32) (q : Vec Ideal S128x1024 .bf16) (k v kp vp : Vec Ideal S128x128 .bf16) (g : Vec Ideal S128x1024 .bf16)
variable (bias : Vec Ideal S16x128x256 .f32) (sinks : Vec Ideal S16 .f32)

/-- The products of queries and keys of group 0, as stored. -/
def lgs0 : FVec Ideal S1024x256 .f32 := shapeCast S1024x256 (mNT (stk0 harg1 q) (bh0 harg2 harg4 k kp)) shapeCasts_S1024x256_S1024x256

theorem lgs0_apply (j : Fin 8) (r : Fin 128) (s : Fin 256) : lgs0 harg1 harg2 harg4 q k kp (ix2 (rw8 j r) s) = Blk.lg (blkV n q k v kp vp g bias sinks) (hd 0 j) r s := by
  pointwise [lgs0]
  rw [mNT_apply]
  unfold Blk.lg
  simp only [stk0_apply, bh0_apply, kc_hd]
  rfl

def dps0 : FVec Ideal S1024x256 .f32 := shapeCast S1024x256 (mNT (stk0 harg6 g) (bh0 harg3 harg5 v vp)) shapeCasts_S1024x256_S1024x256

theorem dps0_apply (j : Fin 8) (r : Fin 128) (s : Fin 256) : dps0 harg3 harg5 harg6 v vp g (ix2 (rw8 j r) s) = Blk.dp (blkV n q k v kp vp g bias sinks) (hd 0 j) r s := by
  pointwise [dps0]
  rw [mNT_apply]
  unfold Blk.dp
  simp only [stk0_apply, bh0_apply, kc_hd]
  rfl

/-- The operands of the head `j` of group 0. -/
theorem soft0 (j : Fin 8) (h : Fin 16) (hh : hd 0 j = h) (L : List (View.Piece (Elt Ideal) S1024x256 .f32)) (i0 inb i7 i8) (y : S1.Idx) :
    Soft (blkV n q k v kp vp g bias sinks) h (hMask n)
      (arg19.view.readCov (⟨Rect.unit ![0, 0] S1024x256.size i0, lgs0 harg1 harg2 harg4 q k kp⟩ :: L) (Rect.unit (s := S1024x256) ![j.val * 128, 0] S128x256.size inb).toLoadRect)
      (View.readAt (Elt Ideal) arg7.view (Rect.unit (s := S16x128x256) ![h.val, 0, 0] S1x128x256.size i7).toLoadRect (harg7.unread bias))
      (View.readAt (Elt Ideal) arg8.view (Rect.unit (s := S16) ![h.val] S1.size i8).toLoadRect (harg8.unread sinks) y) where
  on _ _ := rfl
  lg r s := (read_row arg19 _ L j i0 inb r s).trans (hh ▸ lgs0_apply harg1 harg2 harg4 n q k v kp vp g bias sinks j r s)
  bias r s := read_bias harg7 bias h i7 r s
  sink := read_sink' harg8 sinks h i8 y

theorem dpr0 (j : Fin 8) (h : Fin 16) (hh : hd 0 j = h) (L : List (View.Piece (Elt Ideal) S1024x256 .f32)) (i0 inb) (r : Fin 128) (s : Fin 256) :
    arg20.view.readCov (⟨Rect.unit ![0, 0] S1024x256.size i0, dps0 harg3 harg5 harg6 v vp g⟩ :: L) (Rect.unit (s := S1024x256) ![j.val * 128, 0] S128x256.size inb).toLoadRect (ix2 r s)
      = Blk.dp (blkV n q k v kp vp g bias sinks) h r s :=
  (read_row arg20 _ L j i0 inb r s).trans (hh ▸ dps0_apply harg3 harg5 harg6 n q k v kp vp g bias sinks j r s)

/-- The band's value gradient, from stacked probabilities. -/
theorem bandV0 {P : FVec Ideal S1024x256 .bf16} (hP : ∀ j r s, P (ix2 (rw8 j r) s) = Blk.p (blkV n q k v kp vp g bias sinks) (hd 0 j) r s) (s : Fin 256) (d : Fin 64) :
    shapeCast S256x64 (mTN (stk0 harg6 g) P) shapeCasts_S256x64_S256x64 (ix2 s d) = Blk.dv (blkV n q k v kp vp g bias sinks) 0 s d := by
  pointwise []
  rw [mTN_apply]
  unfold Blk.dv
  simp only [stk0_apply, hP]
  rfl

/-- The band's key gradient, from stacked derivatives of the logits. -/
theorem bandK0 {D : FVec Ideal S1024x256 .bf16} (hD : ∀ j r s, D (ix2 (rw8 j r) s) = Blk.dl (blkV n q k v kp vp g bias sinks) (hd 0 j) r s) (s : Fin 256) (d : Fin 64) :
    shapeCast S256x64 (mulf (mTN (stk0 harg1 q) D) (broadcast S256x64 (Scalar.ofBits .f32 0x3E000000#32))) shapeCasts_S256x64_S256x64 (ix2 s d) = Blk.dk (blkV n q k v kp vp g bias sinks) 0 s d := by
  pointwise []
  rw [mTN_apply]
  unfold Blk.dk
  simp only [stk0_apply, hD]
  rfl

/-- The queries' gradient, stacked. -/
theorem grpQ0 {D : FVec Ideal S1024x256 .bf16} (hD : ∀ j r s, D (ix2 (rw8 j r) s) = Blk.dl (blkV n q k v kp vp g bias sinks) (hd 0 j) r s) (j : Fin 8) (r : Fin 128) (d : Fin 64) :
    mulf (mNN (bh0 harg2 harg4 k kp) D) (broadcast S1024x64 (Scalar.ofBits .f32 0x3E000000#32)) (ix2 (rw8 j r) d) = Blk.dq (blkV n q k v kp vp g bias sinks) (hd 0 j) r d := by
  pointwise []
  rw [mNN_apply]
  unfold Blk.dq
  simp only [bh0_apply, hD, kc_hd]
  rfl

/-- The products of queries and keys of group 1, as stored. -/
def lgs1 : FVec Ideal S1024x256 .f32 := shapeCast S1024x256 (mNT (stk1 harg1 q) (bh1 harg2 harg4 k kp)) shapeCasts_S1024x256_S1024x256

theorem lgs1_apply (j : Fin 8) (r : Fin 128) (s : Fin 256) : lgs1 harg1 harg2 harg4 q k kp (ix2 (rw8 j r) s) = Blk.lg (blkV n q k v kp vp g bias sinks) (hd 1 j) r s := by
  pointwise [lgs1]
  rw [mNT_apply]
  unfold Blk.lg
  simp only [stk1_apply, bh1_apply, kc_hd]
  rfl

def dps1 : FVec Ideal S1024x256 .f32 := shapeCast S1024x256 (mNT (stk1 harg6 g) (bh1 harg3 harg5 v vp)) shapeCasts_S1024x256_S1024x256

theorem dps1_apply (j : Fin 8) (r : Fin 128) (s : Fin 256) : dps1 harg3 harg5 harg6 v vp g (ix2 (rw8 j r) s) = Blk.dp (blkV n q k v kp vp g bias sinks) (hd 1 j) r s := by
  pointwise [dps1]
  rw [mNT_apply]
  unfold Blk.dp
  simp only [stk1_apply, bh1_apply, kc_hd]
  rfl

/-- The operands of the head `j` of group 1. -/
theorem soft1 (j : Fin 8) (h : Fin 16) (hh : hd 1 j = h) (L : List (View.Piece (Elt Ideal) S1024x256 .f32)) (i0 inb i7 i8) (y : S1.Idx) :
    Soft (blkV n q k v kp vp g bias sinks) h (hMask n)
      (arg19.view.readCov (⟨Rect.unit ![0, 0] S1024x256.size i0, lgs1 harg1 harg2 harg4 q k kp⟩ :: L) (Rect.unit (s := S1024x256) ![j.val * 128, 0] S128x256.size inb).toLoadRect)
      (View.readAt (Elt Ideal) arg7.view (Rect.unit (s := S16x128x256) ![h.val, 0, 0] S1x128x256.size i7).toLoadRect (harg7.unread bias))
      (View.readAt (Elt Ideal) arg8.view (Rect.unit (s := S16) ![h.val] S1.size i8).toLoadRect (harg8.unread sinks) y) where
  on _ _ := rfl
  lg r s := (read_row arg19 _ L j i0 inb r s).trans (hh ▸ lgs1_apply harg1 harg2 harg4 n q k v kp vp g bias sinks j r s)
  bias r s := read_bias harg7 bias h i7 r s
  sink := read_sink' harg8 sinks h i8 y

theorem dpr1 (j : Fin 8) (h : Fin 16) (hh : hd 1 j = h) (L : List (View.Piece (Elt Ideal) S1024x256 .f32)) (i0 inb) (r : Fin 128) (s : Fin 256) :
    arg20.view.readCov (⟨Rect.unit ![0, 0] S1024x256.size i0, dps1 harg3 harg5 harg6 v vp g⟩ :: L) (Rect.unit (s := S1024x256) ![j.val * 128, 0] S128x256.size inb).toLoadRect (ix2 r s)
      = Blk.dp (blkV n q k v kp vp g bias sinks) h r s :=
  (read_row arg20 _ L j i0 inb r s).trans (hh ▸ dps1_apply harg3 harg5 harg6 n q k v kp vp g bias sinks j r s)

/-- The band's value gradient, from stacked probabilities. -/
theorem bandV1 {P : FVec Ideal S1024x256 .bf16} (hP : ∀ j r s, P (ix2 (rw8 j r) s) = Blk.p (blkV n q k v kp vp g bias sinks) (hd 1 j) r s) (s : Fin 256) (d : Fin 64) :
    shapeCast S256x64 (mTN (stk1 harg6 g) P) shapeCasts_S256x64_S256x64 (ix2 s d) = Blk.dv (blkV n q k v kp vp g bias sinks) 1 s d := by
  pointwise []
  rw [mTN_apply]
  unfold Blk.dv
  simp only [stk1_apply, hP]
  rfl

/-- The band's key gradient, from stacked derivatives of the logits. -/
theorem bandK1 {D : FVec Ideal S1024x256 .bf16} (hD : ∀ j r s, D (ix2 (rw8 j r) s) = Blk.dl (blkV n q k v kp vp g bias sinks) (hd 1 j) r s) (s : Fin 256) (d : Fin 64) :
    shapeCast S256x64 (mulf (mTN (stk1 harg1 q) D) (broadcast S256x64 (Scalar.ofBits .f32 0x3E000000#32))) shapeCasts_S256x64_S256x64 (ix2 s d) = Blk.dk (blkV n q k v kp vp g bias sinks) 1 s d := by
  pointwise []
  rw [mTN_apply]
  unfold Blk.dk
  simp only [stk1_apply, hD]
  rfl

/-- The queries' gradient, stacked. -/
theorem grpQ1 {D : FVec Ideal S1024x256 .bf16} (hD : ∀ j r s, D (ix2 (rw8 j r) s) = Blk.dl (blkV n q k v kp vp g bias sinks) (hd 1 j) r s) (j : Fin 8) (r : Fin 128) (d : Fin 64) :
    mulf (mNN (bh1 harg2 harg4 k kp) D) (broadcast S1024x64 (Scalar.ofBits .f32 0x3E000000#32)) (ix2 (rw8 j r) d) = Blk.dq (blkV n q k v kp vp g bias sinks) (hd 1 j) r d := by
  pointwise []
  rw [mNN_apply]
  unfold Blk.dq
  simp only [bh1_apply, hD, kc_hd]
  rfl

end Values

/-! ## The rows of a stack, stored and read -/

section Stack

theorem fcast {α : Sort*} (f : Fin 8 → Fin 128 → Fin 256 → α) (j : Fin 8) (d : Fin 128) (m : Fin 1024) (c : Fin 256) (hm : m.val = 128 * j.val + d.val) :
    f j d c = f ⟨m.val / 128, by omega⟩ ⟨m.val % 128, by omega⟩ c := by
  have e1 : (⟨m.val / 128, by omega⟩ : Fin 8) = j := Fin.ext (by simp only; omega)
  have e2 : (⟨m.val % 128, by omega⟩ : Fin 128) = d := Fin.ext (by simp only; omega)
  rw [e1, e2]

variable {e : EltTy} (W : Memref sig .tc .vmem S1024x256 e)

/-- A buffer of eight row blocks read whole. -/
theorem read_rows8 {L : List (View.Piece (Elt Ideal) S1024x256 e)} (f : Fin 8 → Fin 128 → Fin 256 → Elt Ideal e)
    {w0 w1 w2 w3 w4 w5 w6 w7 : Vec Ideal S128x256 e} {i0 i1 i2 i3 i4 i5 i6 i7 i}
    (h0 : ∀ r s, w0 (ix2 r s) = f 0 r s) (h1 : ∀ r s, w1 (ix2 r s) = f 1 r s) (h2 : ∀ r s, w2 (ix2 r s) = f 2 r s) (h3 : ∀ r s, w3 (ix2 r s) = f 3 r s) (h4 : ∀ r s, w4 (ix2 r s) = f 4 r s) (h5 : ∀ r s, w5 (ix2 r s) = f 5 r s) (h6 : ∀ r s, w6 (ix2 r s) = f 6 r s) (h7 : ∀ r s, w7 (ix2 r s) = f 7 r s) (j : Fin 8) (r : Fin 128) (s : Fin 256) :
    W.view.readCov (⟨Rect.unit ![896, 0] S128x256.size i7, w7⟩ :: ⟨Rect.unit ![768, 0] S128x256.size i6, w6⟩ :: ⟨Rect.unit ![640, 0] S128x256.size i5, w5⟩ :: ⟨Rect.unit ![512, 0] S128x256.size i4, w4⟩ :: ⟨Rect.unit ![384, 0] S128x256.size i3, w3⟩ :: ⟨Rect.unit ![256, 0] S128x256.size i2, w2⟩ :: ⟨Rect.unit ![128, 0] S128x256.size i1, w1⟩ :: ⟨Rect.unit ![0, 0] S128x256.size i0, w0⟩ :: L)
      (Rect.unit (s := S1024x256) ![0, 0] S1024x256.size i).toLoadRect (ix2 (rw8 j r) s) = f j r s := by
  have G0 := Rows.nil (M := 1024) (N := 256) L (fun m s => f ⟨m.val / 128, by omega⟩ ⟨m.val % 128, by omega⟩ s)
  have G1 := G0.step (n := 128) (inb := i0) (w := w0) (by decide) (fun d c => (h0 d c).trans (fcast f 0 d _ c (by simp)))
  have G2 := G1.step (n := 128) (inb := i1) (w := w1) (by decide) (fun d c => (h1 d c).trans (fcast f 1 d _ c (by simp)))
  have G3 := G2.step (n := 128) (inb := i2) (w := w2) (by decide) (fun d c => (h2 d c).trans (fcast f 2 d _ c (by simp)))
  have G4 := G3.step (n := 128) (inb := i3) (w := w3) (by decide) (fun d c => (h3 d c).trans (fcast f 3 d _ c (by simp)))
  have G5 := G4.step (n := 128) (inb := i4) (w := w4) (by decide) (fun d c => (h4 d c).trans (fcast f 4 d _ c (by simp)))
  have G6 := G5.step (n := 128) (inb := i5) (w := w5) (by decide) (fun d c => (h5 d c).trans (fcast f 5 d _ c (by simp)))
  have G7 := G6.step (n := 128) (inb := i6) (w := w6) (by decide) (fun d c => (h6 d c).trans (fcast f 6 d _ c (by simp)))
  have G8 := G7.step (n := 128) (inb := i7) (w := w7) (by decide) (fun d c => (h7 d c).trans (fcast f 7 d _ c (by simp)))
  refine (read2 (M := 1024) (N := 256) (m := 1024) (n := 256) W _ 0 0 i (rw8 j r) s (by have := (rw8 j r).isLt; omega) (by omega)).trans ?_
  refine (G8 _ _ (by have := (rw8 j r).isLt; simp only; omega)).trans ?_
  have e3 : (⟨0 + s.val, by omega⟩ : Fin 256) = s := Fin.ext (by simp only; omega)
  refine (congrArg (f _ _) e3).trans ?_
  exact (fcast f j r ⟨0 + (rw8 j r).val, by have := (rw8 j r).isLt; omega⟩ s (by simp only [rw8]; omega)).symm

end Stack

end Cert.KernelIdeal.Attn

end
-- ==== Proof.StackA.lean ====
/- What the body stores at a point of case A, at an index: the stacks of the two groups of heads and their products. -/
module

public import proofs.«01_k».proof.Proof.RunA
public import proofs.«01_k».proof.Proof.Group

@[expose] public section

set_option maxRecDepth 100000
set_option maxHeartbeats 1000000

noncomputable section

namespace Cert.KernelIdeal.Attn.A

open Idealize.ShloMosaic Idealize.ShloMosaic.TcCoe
open Cert.KernelIdeal.Gen Cert.Attn Cert.KernelIdeal.Attn

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (q : Vec Ideal S128x1024 .bf16) (k : Vec Ideal S128x128 .bf16) (v : Vec Ideal S128x128 .bf16) (kp : Vec Ideal S128x128 .bf16) (vp : Vec Ideal S128x128 .bf16) (g : Vec Ideal S128x1024 .bf16) (bias : Vec Ideal S16x128x256 .f32) (sinks : Vec Ideal S16 .f32)

/-- The stacked probabilities of group 0, read back. -/
theorem pr0 (j : Fin 8) (r : Fin 128) (s : Fin 256) : (runA.sl.v543 (F := Ideal) c i arg1 harg1 arg2 harg2 arg4 harg4 arg7 harg7 arg8 harg8 arg19 arg21 q k kp bias sinks) (ix2 (rw8 j r) s) = Blk.p (blkV (BitVec.ofNat 32 (i 0).val) q k v kp vp g bias sinks) (hd 0 j) r s := by
  refine read_rows8 arg21 (L := []) (fun j r s => Blk.p (blkV (BitVec.ofNat 32 (i 0).val) q k v kp vp g bias sinks) (hd 0 j) r s) ?_ ?_ ?_ ?_ ?_ ?_ ?_ ?_ j r s
  · exact (soft0 harg1 harg2 harg4 harg7 harg8 arg19 (BitVec.ofNat 32 (i 0).val) q k v kp vp g bias sinks 0 0 rfl [] (by decide) (by decide) (by decide) (by decide) (Shape.Idx.first (by decide))).pb
  · exact (soft0 harg1 harg2 harg4 harg7 harg8 arg19 (BitVec.ofNat 32 (i 0).val) q k v kp vp g bias sinks 1 1 rfl [] (by decide) (by decide) (by decide) (by decide) (Shape.Idx.first (by decide))).pb
  · exact (soft0 harg1 harg2 harg4 harg7 harg8 arg19 (BitVec.ofNat 32 (i 0).val) q k v kp vp g bias sinks 2 2 rfl [] (by decide) (by decide) (by decide) (by decide) (Shape.Idx.first (by decide))).pb
  · exact (soft0 harg1 harg2 harg4 harg7 harg8 arg19 (BitVec.ofNat 32 (i 0).val) q k v kp vp g bias sinks 3 3 rfl [] (by decide) (by decide) (by decide) (by decide) (Shape.Idx.first (by decide))).pb
  · exact (soft0 harg1 harg2 harg4 harg7 harg8 arg19 (BitVec.ofNat 32 (i 0).val) q k v kp vp g bias sinks 4 4 rfl [] (by decide) (by decide) (by decide) (by decide) (Shape.Idx.first (by decide))).pb
  · exact (soft0 harg1 harg2 harg4 harg7 harg8 arg19 (BitVec.ofNat 32 (i 0).val) q k v kp vp g bias sinks 5 5 rfl [] (by decide) (by decide) (by decide) (by decide) (Shape.Idx.first (by decide))).pb
  · exact (soft0 harg1 harg2 harg4 harg7 harg8 arg19 (BitVec.ofNat 32 (i 0).val) q k v kp vp g bias sinks 6 6 rfl [] (by decide) (by decide) (by decide) (by decide) (Shape.Idx.first (by decide))).pb
  · exact (soft0 harg1 harg2 harg4 harg7 harg8 arg19 (BitVec.ofNat 32 (i 0).val) q k v kp vp g bias sinks 7 7 rfl [] (by decide) (by decide) (by decide) (by decide) (Shape.Idx.first (by decide))).pb

/-- The stacked derivatives of the logits of group 0, read back. -/
theorem dl0 (j : Fin 8) (r : Fin 128) (s : Fin 256) : (runA.sl.v548 (F := Ideal) c i arg1 harg1 arg2 harg2 arg3 harg3 arg4 harg4 arg5 harg5 arg6 harg6 arg7 harg7 arg8 harg8 arg19 arg20 arg22 q k v kp vp g bias sinks) (ix2 (rw8 j r) s) = Blk.dl (blkV (BitVec.ofNat 32 (i 0).val) q k v kp vp g bias sinks) (hd 0 j) r s := by
  refine read_rows8 arg22 (L := []) (fun j r s => Blk.dl (blkV (BitVec.ofNat 32 (i 0).val) q k v kp vp g bias sinks) (hd 0 j) r s) ?_ ?_ ?_ ?_ ?_ ?_ ?_ ?_ j r s
  · exact (soft0 harg1 harg2 harg4 harg7 harg8 arg19 (BitVec.ofNat 32 (i 0).val) q k v kp vp g bias sinks 0 0 rfl [] (by decide) (by decide) (by decide) (by decide) (Shape.Idx.first (by decide))).dlb (dpr0 harg3 harg5 harg6 arg20 (BitVec.ofNat 32 (i 0).val) q k v kp vp g bias sinks 0 0 rfl [] (by decide) (by decide))
  · exact (soft0 harg1 harg2 harg4 harg7 harg8 arg19 (BitVec.ofNat 32 (i 0).val) q k v kp vp g bias sinks 1 1 rfl [] (by decide) (by decide) (by decide) (by decide) (Shape.Idx.first (by decide))).dlb (dpr0 harg3 harg5 harg6 arg20 (BitVec.ofNat 32 (i 0).val) q k v kp vp g bias sinks 1 1 rfl [] (by decide) (by decide))
  · exact (soft0 harg1 harg2 harg4 harg7 harg8 arg19 (BitVec.ofNat 32 (i 0).val) q k v kp vp g bias sinks 2 2 rfl [] (by decide) (by decide) (by decide) (by decide) (Shape.Idx.first (by decide))).dlb (dpr0 harg3 harg5 harg6 arg20 (BitVec.ofNat 32 (i 0).val) q k v kp vp g bias sinks 2 2 rfl [] (by decide) (by decide))
  · exact (soft0 harg1 harg2 harg4 harg7 harg8 arg19 (BitVec.ofNat 32 (i 0).val) q k v kp vp g bias sinks 3 3 rfl [] (by decide) (by decide) (by decide) (by decide) (Shape.Idx.first (by decide))).dlb (dpr0 harg3 harg5 harg6 arg20 (BitVec.ofNat 32 (i 0).val) q k v kp vp g bias sinks 3 3 rfl [] (by decide) (by decide))
  · exact (soft0 harg1 harg2 harg4 harg7 harg8 arg19 (BitVec.ofNat 32 (i 0).val) q k v kp vp g bias sinks 4 4 rfl [] (by decide) (by decide) (by decide) (by decide) (Shape.Idx.first (by decide))).dlb (dpr0 harg3 harg5 harg6 arg20 (BitVec.ofNat 32 (i 0).val) q k v kp vp g bias sinks 4 4 rfl [] (by decide) (by decide))
  · exact (soft0 harg1 harg2 harg4 harg7 harg8 arg19 (BitVec.ofNat 32 (i 0).val) q k v kp vp g bias sinks 5 5 rfl [] (by decide) (by decide) (by decide) (by decide) (Shape.Idx.first (by decide))).dlb (dpr0 harg3 harg5 harg6 arg20 (BitVec.ofNat 32 (i 0).val) q k v kp vp g bias sinks 5 5 rfl [] (by decide) (by decide))
  · exact (soft0 harg1 harg2 harg4 harg7 harg8 arg19 (BitVec.ofNat 32 (i 0).val) q k v kp vp g bias sinks 6 6 rfl [] (by decide) (by decide) (by decide) (by decide) (Shape.Idx.first (by decide))).dlb (dpr0 harg3 harg5 harg6 arg20 (BitVec.ofNat 32 (i 0).val) q k v kp vp g bias sinks 6 6 rfl [] (by decide) (by decide))
  · exact (soft0 harg1 harg2 harg4 harg7 harg8 arg19 (BitVec.ofNat 32 (i 0).val) q k v kp vp g bias sinks 7 7 rfl [] (by decide) (by decide) (by decide) (by decide) (Shape.Idx.first (by decide))).dlb (dpr0 harg3 harg5 harg6 arg20 (BitVec.ofNat 32 (i 0).val) q k v kp vp g bias sinks 7 7 rfl [] (by decide) (by decide))

/-- The stacked probabilities of group 1, read back. -/
theorem pr1 (j : Fin 8) (r : Fin 128) (s : Fin 256) : (runA.sl.v1147 (F := Ideal) c i arg1 harg1 arg2 harg2 arg4 harg4 arg7 harg7 arg8 harg8 arg19 arg21 q k kp bias sinks) (ix2 (rw8 j r) s) = Blk.p (blkV (BitVec.ofNat 32 (i 0).val) q k v kp vp g bias sinks) (hd 1 j) r s := by
  refine read_rows8 arg21 (L := (runA.sl.H21_8 (F := Ideal) c i arg1 harg1 arg2 harg2 arg4 harg4 arg7 harg7 arg8 harg8 arg19 q k kp bias sinks)) (fun j r s => Blk.p (blkV (BitVec.ofNat 32 (i 0).val) q k v kp vp g bias sinks) (hd 1 j) r s) ?_ ?_ ?_ ?_ ?_ ?_ ?_ ?_ j r s
  · exact (soft1 harg1 harg2 harg4 harg7 harg8 arg19 (BitVec.ofNat 32 (i 0).val) q k v kp vp g bias sinks 0 8 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 1 9 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 2 10 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 3 11 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 4 12 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 5 13 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 6 14 rfl (runA.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 7 15 rfl (runA.sl.H19_1 (F := Ideal) c arg1 harg1 arg2 harg2 arg4 harg4 q k kp) (by decide) (by decide) (by decide) (by decide) (Shape.Idx.first (by decide))).pb

/-- The stacked derivatives of the logits of group 1, read back. -/
theorem dl1 (j : Fin 8) (r : Fin 128) (s : Fin 256) : (runA.sl.v1152 (F := Ideal) c i arg1 harg1 arg2 harg2 arg3 harg3 arg4 harg4 arg5 harg5 arg6 harg6 arg7 harg7 arg8 harg8 arg19 arg20 arg22 q k v kp vp g bias sinks) (ix2 (rw8 j r) s) = Blk.dl (blkV (BitVec.ofNat 32 (i 0).val) q k v kp vp g bias sinks) (hd 1 j) r s := by
  refine read_rows8 arg22 (L := (runA.sl.H22_8 (F := Ideal) c i arg1 harg1 arg2 harg2 arg3 harg3 arg4 harg4 arg5 harg5 arg6 harg6 arg7 harg7 arg8 harg8 arg19 arg20 q k v kp vp g bias sinks)) (fun j r s => Blk.dl (blkV (BitVec.ofNat 32 (i 0).val) q k v kp vp g bias sinks) (hd 1 j) r s) ?_ ?_ ?_ ?_ ?_ ?_ ?_ ?_ j r s
  · exact (soft1 harg1 harg2 harg4 harg7 harg8 arg19 (BitVec.ofNat 32 (i 0).val) q k v kp vp g bias sinks 0 8 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 0 8 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 1 9 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 1 9 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 2 10 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 2 10 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 3 11 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 3 11 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 4 12 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 4 12 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 5 13 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 5 13 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 6 14 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 6 14 rfl (runA.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 7 15 rfl (runA.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 7 15 rfl (runA.sl.H20_1 (F := Ideal) c arg3 harg3 arg5 harg5 arg6 harg6 v vp g) (by decide) (by decide))

theorem bk0 (s : Fin 256) (d : Fin 64) : (runA.sl.v558 (F := Ideal) c i arg1 harg1 arg2 harg2 arg3 harg3 arg4 harg4 arg5 harg5 arg6 harg6 arg7 harg7 arg8 harg8 arg19 arg20 arg22 q k v kp vp g bias sinks) (ix2 s d) = Blk.dk (blkV (BitVec.ofNat 32 (i 0).val) q k v kp vp g bias sinks) 0 s d :=
  bandK0 harg1 (BitVec.ofNat 32 (i 0).val) q k v kp vp g bias sinks (dl0 c i arg1 harg1 arg2 harg2 arg3 harg3 arg4 harg4 arg5 harg5 arg6 harg6 arg7 harg7 arg8 harg8 arg19 arg20 arg22 q k v kp vp g bias sinks) s d

theorem bv0 (s : Fin 256) (d : Fin 64) : (runA.sl.v547 (F := Ideal) c i arg1 harg1 arg2 harg2 arg4 harg4 arg6 harg6 arg7 harg7 arg8 harg8 arg19 arg21 q k kp g bias sinks) (ix2 s d) = Blk.dv (blkV (BitVec.ofNat 32 (i 0).val) q k v kp vp g bias sinks) 0 s d :=
  bandV0 harg6 (BitVec.ofNat 32 (i 0).val) q k v kp vp g bias sinks (pr0 c i arg1 harg1 arg2 harg2 arg4 harg4 arg7 harg7 arg8 harg8 arg19 arg21 q k v kp vp g bias sinks) s d

theorem sq0 (j : Fin 8) (r : Fin 128) (d : Fin 64) : (runA.sl.v551 (F := Ideal) c i arg1 harg1 arg2 harg2 arg3 harg3 arg4 harg4 arg5 harg5 arg6 harg6 arg7 harg7 arg8 harg8 arg19 arg20 arg22 q k v kp vp g bias sinks) (ix2 (rw8 j r) d) = Blk.dq (blkV (BitVec.ofNat 32 (i 0).val) q k v kp vp g bias sinks) (hd 0 j) r d :=
  grpQ0 harg2 harg4 (BitVec.ofNat 32 (i 0).val) q k v kp vp g bias sinks (dl0 c i arg1 harg1 arg2 harg2 arg3 harg3 arg4 harg4 arg5 harg5 arg6 harg6 arg7 harg7 arg8 harg8 arg19 arg20 arg22 q k v kp vp g bias sinks) j r d

theorem bk1 (s : Fin 256) (d : Fin 64) : (runA.sl.v1162 (F := Ideal) c i arg1 harg1 arg2 harg2 arg3 harg3 arg4 harg4 arg5 harg5 arg6 harg6 arg7 harg7 arg8 harg8 arg19 arg20 arg22 q k v kp vp g bias sinks) (ix2 s d) = Blk.dk (blkV (BitVec.ofNat 32 (i 0).val) q k v kp vp g bias sinks) 1 s d :=
  bandK1 harg1 (BitVec.ofNat 32 (i 0).val) q k v kp vp g bias sinks (dl1 c i arg1 harg1 arg2 harg2 arg3 harg3 arg4 harg4 arg5 harg5 arg6 harg6 arg7 harg7 arg8 harg8 arg19 arg20 arg22 q k v kp vp g bias sinks) s d

theorem bv1 (s : Fin 256) (d : Fin 64) : (runA.sl.v1151 (F := Ideal) c i arg1 harg1 arg2 harg2 arg4 harg4 arg6 harg6 arg7 harg7 arg8 harg8 arg19 arg21 q k kp g bias sinks) (ix2 s d) = Blk.dv (blkV (BitVec.ofNat 32 (i 0).val) q k v kp vp g bias sinks) 1 s d :=
  bandV1 harg6 (BitVec.ofNat 32 (i 0).val) q k v kp vp g bias sinks (pr1 c i arg1 harg1 arg2 harg2 arg4 harg4 arg7 harg7 arg8 harg8 arg19 arg21 q k v kp vp g bias sinks) s d

theorem sq1 (j : Fin 8) (r : Fin 128) (d : Fin 64) : (runA.sl.v1155 (F := Ideal) c i arg1 harg1 arg2 harg2 arg3 harg3 arg4 harg4 arg5 harg5 arg6 harg6 arg7 harg7 arg8 harg8 arg19 arg20 arg22 q k v kp vp g bias sinks) (ix2 (rw8 j r) d) = Blk.dq (blkV (BitVec.ofNat 32 (i 0).val) q k v kp vp g bias sinks) (hd 1 j) r d :=
  grpQ1 harg2 harg4 (BitVec.ofNat 32 (i 0).val) q k v kp vp g bias sinks (dl1 c i arg1 harg1 arg2 harg2 arg3 harg3 arg4 harg4 arg5 harg5 arg6 harg6 arg7 harg7 arg8 harg8 arg19 arg20 arg22 q k v kp vp g bias sinks) j r d

end Cert.KernelIdeal.Attn.A

end
-- ==== Proof.Out.lean ====
/- The stores of the body, at an index: the slices of the queries' gradient, the column sums, the running sums over heads. -/
module

public import proofs.«01_k».proof.Proof.Group
public import proofs.«01_k».proof.Proof.Gen.KernelIdeal.Skeleton

@[expose] public section

noncomputable section

namespace Cert.KernelIdeal.Attn

open Idealize.ShloMosaic Idealize.ShloMosaic.TcCoe
open Cert.KernelIdeal.Gen Cert.Attn

/-- Rows `j·128 …` of a stack. -/
theorem slc_apply (X : FVec Ideal S1024x64 .f32) (o : ℕ) (j : Fin 8) (ho : j.val * 128 = o) (h) (r : Fin 128) (d : Fin 64) :
    extractStridedSlice S128x64 ![o, 0] X h (ix2 r d) = X (ix2 (rw8 j r) d) := by
  subst ho
  pointwise []
  rfl

theorem slcb_apply (X : FVec Ideal S1024x64 .f32) (o : ℕ) (j : Fin 8) (ho : j.val * 128 = o) (h h') (r : Fin 128) (d : Fin 64) :
    (truncf .bf16 (extractStridedSlice S128x64 ![o, 0] X h) h' : FVec Ideal S128x64 .bf16) (ix2 r d) = X (ix2 (rw8 j r) d) :=
  slc_apply X o j ho h r d

theorem csum64_apply (X : FVec Ideal S128x64 .f32) (old : Vec Ideal S1x64 .f32) (h1 h2 h3 h4 h5) (d : Fin 64) :
    (addf (shapeCast S1x64 old h1) (shapeCast S1x64 (multiReduction (F := Ideal) .add [0] S64 X 0x00000000#32 h2 h3 h4) h5) : FVec Ideal S1x64 .f32) (ix2 0 d)
      = old (ix2 0 d) + ∑ r : Fin 128, X (ix2 r d) := by
  pointwise []

theorem csum128_apply (X : FVec Ideal S128x128 .f32) (old : Vec Ideal S1x128 .f32) (h1 h2 h3 h4 h5) (d : Fin 128) :
    (addf (shapeCast S1x128 old h1) (shapeCast S1x128 (multiReduction (F := Ideal) .add [0] S128 X 0x00000000#32 h2 h3 h4) h5) : FVec Ideal S1x128 .f32) (ix2 0 d)
      = old (ix2 0 d) + ∑ r : Fin 128, X (ix2 r d) := by
  pointwise []

end Cert.KernelIdeal.Attn

namespace Cert.Attn

/-- The rows of a band that the block before owns, and those the block owns. -/
def lo (r : Fin 128) : Fin 256 := ⟨r.val, by omega⟩
def hi (r : Fin 128) : Fin 256 := ⟨128 + r.val, by omega⟩

namespace Blk

variable (B : Blk)

theorem dqc_hc (h : Fin 16) (r : Fin 128) (d : Fin 64) (c : Fin 1024) (hc : c.val = 64 * h.val + d.val) : B.dqc r c = B.dq h r d := by
  unfold Blk.dqc
  have e1 : (⟨c.val / 64, by omega⟩ : Fin 16) = h := Fin.ext (by simp only; omega)
  have e2 : (⟨c.val % 64, by omega⟩ : Fin 64) = d := Fin.ext (by simp only; omega)
  rw [e1, e2]

theorem dkc_gc (a : Fin 2) (s : Fin 256) (d : Fin 64) (c : Fin 128) (hc : c.val = 64 * a.val + d.val) : B.dkc s c = B.dk a s d := by
  unfold Blk.dkc
  have e1 : (⟨c.val / 64, by omega⟩ : Fin 2) = a := Fin.ext (by simp only; omega)
  have e2 : (⟨c.val % 64, by omega⟩ : Fin 64) = d := Fin.ext (by simp only; omega)
  rw [e1, e2]

theorem dvc_gc (a : Fin 2) (s : Fin 256) (d : Fin 64) (c : Fin 128) (hc : c.val = 64 * a.val + d.val) : B.dvc s c = B.dv a s d := by
  unfold Blk.dvc
  have e1 : (⟨c.val / 64, by omega⟩ : Fin 2) = a := Fin.ext (by simp only; omega)
  have e2 : (⟨c.val % 64, by omega⟩ : Fin 64) = d := Fin.ext (by simp only; omega)
  rw [e1, e2]

/-- The sinks' gradient of the heads before `n`, by lane. -/
def acc (n : ℕ) (l : Fin 128) : EReal := if l.val < n then B.dsl l else 0

theorem acc_succ (h : Fin 16) (n : ℕ) (hn : h.val = n) (l : Fin 128) : B.acc n l + (if l.val = h.val then B.dsk h else 0) = B.acc (n + 1) l := by
  subst hn
  unfold Blk.acc
  by_cases h1 : l.val < h.val
  · rw [if_pos h1, if_neg (by omega), if_pos (by omega), add_zero]
  · by_cases h2 : l.val = h.val
    · rw [if_neg h1, if_pos h2, if_pos (by omega), zero_add]
      unfold Blk.dsl
      rw [dif_pos (by omega)]
      exact congrArg B.dsk (Fin.ext h2.symm)
    · rw [if_neg h1, if_neg h2, if_neg (by omega), add_zero]

theorem acc_zero (l : Fin 128) : B.acc 0 l = 0 := if_neg (by omega)

theorem acc_full (l : Fin 128) : B.acc 16 l = B.dsl l := by
  unfold Blk.acc Blk.dsl
  by_cases h : l.val < 16
  · rw [if_pos h]
  · rw [if_neg h, dif_neg h]

end Blk

end Cert.Attn

namespace Cert.KernelIdeal.Attn

open Idealize.ShloMosaic Idealize.ShloMosaic.TcCoe
open Cert.KernelIdeal.Gen Cert.Attn

/-- One head's share added to the running sum over heads. -/
theorem acc_step {B : Blk} {h : Fin 16} {M x b sk} (H : Soft B h M x b sk) {d : Vec Ideal S128x256 .f32} (hd : ∀ r s, d (ix2 r s) = B.dp h r s)
    {n : ℕ} (hn : h.val = n) {A : FVec Ideal S1x128 .f32} (hA : ∀ l, A (ix2 0 l) = B.acc n l) (l : Fin 128) :
    (addf A (hSink (F := Ideal) M x b sk d (BitVec.ofNat 32 h.val)) : FVec Ideal S1x128 .f32) (ix2 0 l) = B.acc (n + 1) l := by
  pointwise []
  rw [H.dsink hd, hA]
  exact B.acc_succ h n hn l

theorem zeros_acc (B : Blk) (l : Fin 128) : (broadcast S1x128 (Scalar.ofBits .f32 0x00000000#32 : Ideal .f32) : FVec Ideal S1x128 .f32) (ix2 0 l) = B.acc 0 l := by
  pointwise []
  exact (B.acc_zero l).symm

theorem Cols.full {e : EltTy} {M N : ℕ} {L : List (View.Piece (Elt Ideal) (⟨2, ![M, N]⟩ : Shape) e)} {G : Fin M → Fin N → Elt Ideal e} {W : Prop}
    {sp : Space} (v : View sig .tc sp (⟨2, ![M, N]⟩ : Shape) e) (f : v.ty.Contents (Elt Ideal)) (H : ∃ Z, Cols L N G Z W) :
    v.read (Elt Ideal) (v.writes (Elt Ideal) f L) = tab2 G := by
  obtain ⟨Z, H⟩ := H
  exact H.read v f (.inl (le_refl _)) (fun _ _ _ => rfl) fun _ c hc => absurd c.isLt (Nat.not_lt.mpr hc)

theorem one_full {e : EltTy} {M N : ℕ} {L : List (View.Piece (Elt Ideal) (⟨2, ![M, N]⟩ : Shape) e)} {G : Fin M → Fin N → Elt Ideal e}
    {sp : Space} (v : View sig .tc sp (⟨2, ![M, N]⟩ : Shape) e) (f : v.ty.Contents (Elt Ideal))
    {inb : ∀ a, ![0, 0] a + (![M, N] : Fin 2 → ℕ) a ≤ (⟨2, ![M, N]⟩ : Shape).size a} {w : (⟨2, ![M, N]⟩ : Shape).Idx → Elt Ideal e} (h : ∀ r c, w (ix2 r c) = G r c) :
    v.read (Elt Ideal) (v.writes (Elt Ideal) f ((⟨Rect.unit ![0, 0] ![M, N] inb, w⟩ : View.Piece (Elt Ideal) (⟨2, ![M, N]⟩ : Shape) e) :: L)) = tab2 G :=
  Cols.full v f ⟨_, Cols.base N fun r c _ => h r c⟩

theorem Cols.rest {e : EltTy} {M N b : ℕ} {L : List (View.Piece (Elt Ideal) (⟨2, ![M, N]⟩ : Shape) e)} {G Z Z' : Fin M → Fin N → Elt Ideal e} {W : Prop}
    (H : Cols L b G Z W) (h : ∀ r c, Z r c = Z' r c) : Cols L b G Z' W := ⟨H.lt, fun r c hc => (H.ge r c hc).trans (h r c), H.cov⟩

theorem Planes.rest {e : EltTy} {P M N b : ℕ} {L : List (View.Piece (Elt Ideal) (⟨3, ![P, M, N]⟩ : Shape) e)} {G Z Z' : Fin P → Fin M → Fin N → Elt Ideal e} {W : Prop}
    (H : Planes L b G Z W) (h : ∀ p r c, Z p r c = Z' p r c) : Planes L b G Z' W := ⟨H.lt, fun p r c hc => (H.ge p r c hc).trans (h p r c), H.cov⟩

theorem zeros_row (r : Fin 1) (c : Fin 1280) : k0_pay3 (F := Ideal) (ix2 r c) = 0 := by
  unfold k0_pay3
  pointwise []

theorem zeros_planes (h : Fin 16) (r : Fin 128) (s : Fin 256) : k0_pay1 (F := Ideal) (ix3 h r s) = 0 := by
  unfold k0_pay1
  pointwise []

/-- A load of columns of a row buffer. -/
theorem read_cols {W : Memref sig .tc .vmem S1x1280 .f32} (hW : W.IsWhole) (q : Vec Ideal S1x1280 .f32) (b n : ℕ) (inb) (d : Fin n) (h : b + d.val < 1280) :
    View.readAt (Elt Ideal) W.view (Rect.unit (s := S1x1280) ![0, b] ![1, n] inb).toLoadRect (hW.unread q) (ix2 0 d) = q (ix2 0 ⟨b + d.val, h⟩) := by
  rw [View.readAt_eq_ld, hW.read_unread]
  exact congrArg q (by funext a; fin_cases a <;> apply Fin.ext <;> simp)

theorem read_lane {W : Memref sig .tc .vmem S1x128 .f32} (hW : W.IsWhole) (q : Vec Ideal S1x128 .f32) (inb) (d : Fin 128) :
    View.readAt (Elt Ideal) W.view (Rect.unit (s := S1x128) ![0, 0] ![1, 128] inb).toLoadRect (hW.unread q) (ix2 0 d) = q (ix2 0 d) := by
  rw [View.readAt_eq_ld, hW.read_unread]
  exact congrArg q (by funext a; fin_cases a <;> apply Fin.ext <;> simp)

end Cert.KernelIdeal.Attn

end
-- ==== Proof.OutA.lean ====
/- What the body leaves in each buffer at a point of case A. -/
module

public import proofs.«01_k».proof.Proof.StackA
public import proofs.«01_k».proof.Proof.Out

@[expose] public section

set_option maxRecDepth 100000
set_option maxHeartbeats 1000000

noncomputable section

namespace Cert.KernelIdeal.Attn.A

open Idealize.ShloMosaic Idealize.ShloMosaic.TcCoe
open Cert.KernelIdeal.Gen Cert.Attn Cert.KernelIdeal.Attn

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (q : Vec Ideal S128x1024 .bf16) (k : Vec Ideal S128x128 .bf16) (v : Vec Ideal S128x128 .bf16) (kp : Vec Ideal S128x128 .bf16) (vp : Vec Ideal S128x128 .bf16) (g : Vec Ideal S128x1024 .bf16) (bias : Vec Ideal S16x128x256 .f32) (sinks : Vec Ideal S16 .f32)

theorem accs (l : Fin 128) : (runA.sl.v1146 (F := Ideal) c i arg1 harg1 arg2 harg2 arg3 harg3 arg4 harg4 arg5 harg5 arg6 harg6 arg7 harg7 arg8 harg8 arg19 arg20 q k v kp vp g bias sinks) (ix2 0 l) = Blk.dsl (blkV (BitVec.ofNat 32 (i 0).val) q k v kp vp g bias sinks) l := by
  have s0 := soft0 harg1 harg2 harg4 harg7 harg8 arg19 (BitVec.ofNat 32 (i 0).val) q k v kp vp g bias sinks
  have s1 := soft1 harg1 harg2 harg4 harg7 harg8 arg19 (BitVec.ofNat 32 (i 0).val) q k v kp vp g bias sinks
  have h0 : ∀ l, (runA.sl.r_10 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 1 l := acc_step (s0 0 0 rfl [] (by decide) (by decide) (by decide) (by decide) (Shape.Idx.first (by decide))) (dpr0 harg3 harg5 harg6 arg20 (BitVec.ofNat 32 (i 0).val) q k v kp vp g bias sinks 0 0 rfl [] (by decide) (by decide)) (n := 0) rfl (fun l => zeros_acc (blkV (BitVec.ofNat 32 (i 0).val) q k v kp vp g bias sinks) l)
  have h1 : ∀ l, (runA.sl.v182 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 2 l := acc_step (s0 1 1 rfl [] (by decide) (by decide) (by decide) (by decide) (Shape.Idx.first (by decide))) (dpr0 harg3 harg5 harg6 arg20 (BitVec.ofNat 32 (i 0).val) q k v kp vp g bias sinks 1 1 rfl [] (by decide) (by decide)) (n := 1) rfl h0
  have h2 : ∀ l, (runA.sl.r_18 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 3 l := acc_step (s0 2 2 rfl [] (by decide) (by decide) (by decide) (by decide) (Shape.Idx.first (by decide))) (dpr0 harg3 harg5 harg6 arg20 (BitVec.ofNat 32 (i 0).val) q k v kp vp g bias sinks 2 2 rfl [] (by decide) (by decide)) (n := 2) rfl h1
  have h3 : ∀ l, (runA.sl.v302 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 4 l := acc_step (s0 3 3 rfl [] (by decide) (by decide) (by decide) (by decide) (Shape.Idx.first (by decide))) (dpr0 harg3 harg5 harg6 arg20 (BitVec.ofNat 32 (i 0).val) q k v kp vp g bias sinks 3 3 rfl [] (by decide) (by decide)) (n := 3) rfl h2
  have h4 : ∀ l, (runA.sl.r_27 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 5 l := acc_step (s0 4 4 rfl [] (by decide) (by decide) (by decide) (by decide) (Shape.Idx.first (by decide))) (dpr0 harg3 harg5 harg6 arg20 (BitVec.ofNat 32 (i 0).val) q k v kp vp g bias sinks 4 4 rfl [] (by decide) (by decide)) (n := 4) rfl h3
  have h5 : ∀ l, (runA.sl.v422 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 6 l := acc_step (s0 5 5 rfl [] (by decide) (by decide) (by decide) (by decide) (Shape.Idx.first (by decide))) (dpr0 harg3 harg5 harg6 arg20 (BitVec.ofNat 32 (i 0).val) q k v kp vp g bias sinks 5 5 rfl [] (by decide) (by decide)) (n := 5) rfl h4
  have h6 : ∀ l, (runA.sl.r_38 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 7 l := acc_step (s0 6 6 rfl [] (by decide) (by decide) (by decide) (by decide) (Shape.Idx.first (by decide))) (dpr0 harg3 harg5 harg6 arg20 (BitVec.ofNat 32 (i 0).val) q k v kp vp g bias sinks 6 6 rfl [] (by decide) (by decide)) (n := 6) rfl h5
  have h7 : ∀ l, (runA.sl.v542 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 8 l := acc_step (s0 7 7 rfl [] (by decide) (by decide) (by decide) (by decide) (Shape.Idx.first (by decide))) (dpr0 harg3 harg5 harg6 arg20 (BitVec.ofNat 32 (i 0).val) q k v kp vp g bias sinks 7 7 rfl [] (by decide) (by decide)) (n := 7) rfl h6
  have h8 : ∀ l, (runA.sl.r_48 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 9 l := acc_step (s1 0 8 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 0 8 rfl (runA.sl.H20_1 (F := Ideal) c arg3 harg3 arg5 harg5 arg6 harg6 v vp g) (by decide) (by decide)) (n := 8) rfl h7
  have h9 : ∀ l, (runA.sl.r_52 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 10 l := acc_step (s1 1 9 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 1 9 rfl (runA.sl.H20_1 (F := Ideal) c arg3 harg3 arg5 harg5 arg6 harg6 v vp g) (by decide) (by decide)) (n := 9) rfl h8
  have h10 : ∀ l, (runA.sl.r_58 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 11 l := acc_step (s1 2 10 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 2 10 rfl (runA.sl.H20_1 (F := Ideal) c arg3 harg3 arg5 harg5 arg6 harg6 v vp g) (by decide) (by decide)) (n := 10) rfl h9
  have h11 : ∀ l, (runA.sl.r_61 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 12 l := acc_step (s1 3 11 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 3 11 rfl (runA.sl.H20_1 (F := Ideal) c arg3 harg3 arg5 harg5 arg6 harg6 v vp g) (by decide) (by decide)) (n := 11) rfl h10
  have h12 : ∀ l, (runA.sl.r_67 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 13 l := acc_step (s1 4 12 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 4 12 rfl (runA.sl.H20_1 (F := Ideal) c arg3 harg3 arg5 harg5 arg6 harg6 v vp g) (by decide) (by decide)) (n := 12) rfl h11
  have h13 : ∀ l, (runA.sl.r_70 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 14 l := acc_step (s1 5 13 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 5 13 rfl (runA.sl.H20_1 (F := Ideal) c arg3 harg3 arg5 harg5 arg6 harg6 v vp g) (by decide) (by decide)) (n := 13) rfl h12
  have h14 : ∀ l, (runA.sl.v1086 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 15 l := acc_step (s1 6 14 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 6 14 rfl (runA.sl.H20_1 (F := Ideal) c arg3 harg3 arg5 harg5 arg6 harg6 v vp g) (by decide) (by decide)) (n := 14) rfl h13
  have h15 : ∀ l, (runA.sl.v1146 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 16 l := acc_step (s1 7 15 rfl (runA.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 7 15 rfl (runA.sl.H20_1 (F := Ideal) c arg3 harg3 arg5 harg5 arg6 harg6 v vp g) (by decide) (by decide)) (n := 15) rfl h14
  exact (h15 l).trans (Blk.acc_full _ l)

theorem dq (hc1 : k0_cond1 i = 1#1) (hc2 : k0_cond2 i = 1#1) (hc3 : ¬k0_cond3 i = 1#1) (hc4 : ¬k0_cond4 i = 1#1) (f) : arg9.view.read (Elt Ideal) (arg9.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks hc1 hc2 hc3 hc4).1.dq) = tab2 (Blk.dqc (blkV (BitVec.ofNat 32 (i 0).val) q k v kp vp g bias sinks)) := by
  have e1 := sq1 c i arg1 harg1 arg2 harg2 arg3 harg3 arg4 harg4 arg5 harg5 arg6 harg6 arg7 harg7 arg8 harg8 arg19 arg20 arg22 q k v kp vp g bias sinks
  have e0 := sq0 c i arg1 harg1 arg2 harg2 arg3 harg3 arg4 harg4 arg5 harg5 arg6 harg6 arg7 harg7 arg8 harg8 arg19 arg20 arg22 q k v kp vp g bias sinks
  refine Cols.full (W := False) _ f ⟨fun r c => View.canon [] (ix2 r c), ?_⟩
  unfold runA; dsimp only
  refine Cols.step (b := 960) (n := 64) ?_ (by decide) (fun r d => ?_)
  rotate_left
  · exact (slcb_apply _ 896 7 rfl _ _ r d).trans ((e1 7 r d).trans (Blk.dqc_hc _ 15 r d _ rfl).symm)
  refine Cols.step (b := 896) (n := 64) ?_ (by decide) (fun r d => ?_)
  rotate_left
  · exact (slcb_apply _ 768 6 rfl _ _ r d).trans ((e1 6 r d).trans (Blk.dqc_hc _ 14 r d _ rfl).symm)
  refine Cols.step (b := 832) (n := 64) ?_ (by decide) (fun r d => ?_)
  rotate_left
  · exact (slcb_apply _ 640 5 rfl _ _ r d).trans ((e1 5 r d).trans (Blk.dqc_hc _ 13 r d _ rfl).symm)
  refine Cols.step (b := 768) (n := 64) ?_ (by decide) (fun r d => ?_)
  rotate_left
  · exact (slcb_apply _ 512 4 rfl _ _ r d).trans ((e1 4 r d).trans (Blk.dqc_hc _ 12 r d _ rfl).symm)
  refine Cols.step (b := 704) (n := 64) ?_ (by decide) (fun r d => ?_)
  rotate_left
  · exact (slcb_apply _ 384 3 rfl _ _ r d).trans ((e1 3 r d).trans (Blk.dqc_hc _ 11 r d _ rfl).symm)
  refine Cols.step (b := 640) (n := 64) ?_ (by decide) (fun r d => ?_)
  rotate_left
  · exact (slcb_apply _ 256 2 rfl _ _ r d).trans ((e1 2 r d).trans (Blk.dqc_hc _ 10 r d _ rfl).symm)
  refine Cols.step (b := 576) (n := 64) ?_ (by decide) (fun r d => ?_)
  rotate_left
  · exact (slcb_apply _ 128 1 rfl _ _ r d).trans ((e1 1 r d).trans (Blk.dqc_hc _ 9 r d _ rfl).symm)
  refine Cols.step (b := 512) (n := 64) ?_ (by decide) (fun r d => ?_)
  rotate_left
  · exact (slcb_apply _ 0 0 rfl _ _ r d).trans ((e1 0 r d).trans (Blk.dqc_hc _ 8 r d _ rfl).symm)
  refine Cols.step (b := 448) (n := 64) ?_ (by decide) (fun r d => ?_)
  rotate_left
  · exact (slcb_apply _ 896 7 rfl _ _ r d).trans ((e0 7 r d).trans (Blk.dqc_hc _ 7 r d _ rfl).symm)
  refine Cols.step (b := 384) (n := 64) ?_ (by decide) (fun r d => ?_)
  rotate_left
  · exact (slcb_apply _ 768 6 rfl _ _ r d).trans ((e0 6 r d).trans (Blk.dqc_hc _ 6 r d _ rfl).symm)
  refine Cols.step (b := 320) (n := 64) ?_ (by decide) (fun r d => ?_)
  rotate_left
  · exact (slcb_apply _ 640 5 rfl _ _ r d).trans ((e0 5 r d).trans (Blk.dqc_hc _ 5 r d _ rfl).symm)
  refine Cols.step (b := 256) (n := 64) ?_ (by decide) (fun r d => ?_)
  rotate_left
  · exact (slcb_apply _ 512 4 rfl _ _ r d).trans ((e0 4 r d).trans (Blk.dqc_hc _ 4 r d _ rfl).symm)
  refine Cols.step (b := 192) (n := 64) ?_ (by decide) (fun r d => ?_)
  rotate_left
  · exact (slcb_apply _ 384 3 rfl _ _ r d).trans ((e0 3 r d).trans (Blk.dqc_hc _ 3 r d _ rfl).symm)
  refine Cols.step (b := 128) (n := 64) ?_ (by decide) (fun r d => ?_)
  rotate_left
  · exact (slcb_apply _ 256 2 rfl _ _ r d).trans ((e0 2 r d).trans (Blk.dqc_hc _ 2 r d _ rfl).symm)
  refine Cols.step (b := 64) (n := 64) ?_ (by decide) (fun r d => ?_)
  rotate_left
  · exact (slcb_apply _ 128 1 rfl _ _ r d).trans ((e0 1 r d).trans (Blk.dqc_hc _ 1 r d _ rfl).symm)
  refine Cols.step (b := 0) (n := 64) (Cols.nil [] _) (by decide) (fun r d => ?_)
  · exact (slcb_apply _ 0 0 rfl _ _ r d).trans ((e0 0 r d).trans (Blk.dqc_hc _ 0 r d _ rfl).symm)

theorem rk : Cols (runA.sl.H17_2 (F := Ideal) c i arg1 harg1 arg2 harg2 arg3 harg3 arg4 harg4 arg5 harg5 arg6 harg6 arg7 harg7 arg8 harg8 arg19 arg20 arg22 q k v kp vp g bias sinks) 128 (Blk.dkc (blkV (BitVec.ofNat 32 (i 0).val) q k v kp vp g bias sinks)) (fun r c => View.canon [] (ix2 r c)) False := by
  refine Cols.step (b := 64) (n := 64) ?_ (by decide) (fun s d => ((bk1 c i arg1 harg1 arg2 harg2 arg3 harg3 arg4 harg4 arg5 harg5 arg6 harg6 arg7 harg7 arg8 harg8 arg19 arg20 arg22 q k v kp vp g bias sinks) s d).trans (Blk.dkc_gc _ 1 s d _ rfl).symm)
  exact Cols.step (b := 0) (n := 64) (Cols.nil [] _) (by decide) (fun s d => ((bk0 c i arg1 harg1 arg2 harg2 arg3 harg3 arg4 harg4 arg5 harg5 arg6 harg6 arg7 harg7 arg8 harg8 arg19 arg20 arg22 q k v kp vp g bias sinks) s d).trans (Blk.dkc_gc _ 0 s d _ (by simp)).symm)

theorem rv : Cols (runA.sl.H18_2 (F := Ideal) c i arg1 harg1 arg2 harg2 arg4 harg4 arg6 harg6 arg7 harg7 arg8 harg8 arg19 arg21 q k kp g bias sinks) 128 (Blk.dvc (blkV (BitVec.ofNat 32 (i 0).val) q k v kp vp g bias sinks)) (fun r c => View.canon [] (ix2 r c)) False := by
  refine Cols.step (b := 64) (n := 64) ?_ (by decide) (fun s d => ((bv1 c i arg1 harg1 arg2 harg2 arg4 harg4 arg6 harg6 arg7 harg7 arg8 harg8 arg19 arg21 q k v kp vp g bias sinks) s d).trans (Blk.dvc_gc _ 1 s d _ rfl).symm)
  exact Cols.step (b := 0) (n := 64) (Cols.nil [] _) (by decide) (fun s d => ((bv0 c i arg1 harg1 arg2 harg2 arg4 harg4 arg6 harg6 arg7 harg7 arg8 harg8 arg19 arg21 q k v kp vp g bias sinks) s d).trans (Blk.dvc_gc _ 0 s d _ (by simp)).symm)

theorem khi (r : Fin 128) (d : Fin 128) : (runA.sl.v1250 (F := Ideal) c i arg1 harg1 arg2 harg2 arg3 harg3 arg4 harg4 arg5 harg5 arg6 harg6 arg7 harg7 arg8 harg8 arg17 arg19 arg20 arg22 q k v kp vp g bias sinks) (ix2 r d) = Blk.dkc (blkV (BitVec.ofNat 32 (i 0).val) q k v kp vp g bias sinks) (hi r) d := by
  refine (read2 arg17 _ 128 0 _ r d (by omega) (by omega)).trans ?_
  refine ((rk c i arg1 harg1 arg2 harg2 arg3 harg3 arg4 harg4 arg5 harg5 arg6 harg6 arg7 harg7 arg8 harg8 arg19 arg20 arg22 q k v kp vp g bias sinks).lt _ _ (show 0 + d.val < 128 by omega)).trans ?_
  exact congrArg₂ (Blk.dkc (blkV (BitVec.ofNat 32 (i 0).val) q k v kp vp g bias sinks)) (Fin.ext (by simp [hi])) (Fin.ext (by simp))

theorem vhi (r : Fin 128) (d : Fin 128) : (runA.sl.v1254 (F := Ideal) c i arg1 harg1 arg2 harg2 arg4 harg4 arg6 harg6 arg7 harg7 arg8 harg8 arg18 arg19 arg21 q k kp g bias sinks) (ix2 r d) = Blk.dvc (blkV (BitVec.ofNat 32 (i 0).val) q k v kp vp g bias sinks) (hi r) d := by
  refine (read2 arg18 _ 128 0 _ r d (by omega) (by omega)).trans ?_
  refine ((rv c i arg1 harg1 arg2 harg2 arg4 harg4 arg6 harg6 arg7 harg7 arg8 harg8 arg19 arg21 q k v kp vp g bias sinks).lt _ _ (show 0 + d.val < 128 by omega)).trans ?_
  exact congrArg₂ (Blk.dvc (blkV (BitVec.ofNat 32 (i 0).val) q k v kp vp g bias sinks)) (Fin.ext (by simp [hi])) (Fin.ext (by simp))

theorem pkN (hc1 : k0_cond1 i = 1#1) (hc2 : k0_cond2 i = 1#1) (hc3 : ¬k0_cond3 i = 1#1) (hc4 : ¬k0_cond4 i = 1#1) (f) : arg15.view.read (Elt Ideal) (arg15.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks hc1 hc2 hc3 hc4).1.pk) = tab2 (fun r c => Blk.dkc (blkV (BitVec.ofNat 32 (i 0).val) q k v kp vp g bias sinks) (hi r) c) := by
  unfold runA; dsimp only
  refine one_full _ f (fun r y => ?_)
  refine Eq.trans ?_ ((khi c i arg1 harg1 arg2 harg2 arg3 harg3 arg4 harg4 arg5 harg5 arg6 harg6 arg7 harg7 arg8 harg8 arg17 arg19 arg20 arg22 q k v kp vp g bias sinks) r y)
  unfold k0_pay11
  pointwise []

theorem pvN (hc1 : k0_cond1 i = 1#1) (hc2 : k0_cond2 i = 1#1) (hc3 : ¬k0_cond3 i = 1#1) (hc4 : ¬k0_cond4 i = 1#1) (f) : arg16.view.read (Elt Ideal) (arg16.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks hc1 hc2 hc3 hc4).1.pv) = tab2 (fun r c => Blk.dvc (blkV (BitVec.ofNat 32 (i 0).val) q k v kp vp g bias sinks) (hi r) c) := by
  unfold runA; dsimp only
  refine one_full _ f (fun r y => ?_)
  refine Eq.trans ?_ ((vhi c i arg1 harg1 arg2 harg2 arg4 harg4 arg6 harg6 arg7 harg7 arg8 harg8 arg18 arg19 arg21 q k v kp vp g bias sinks) r y)
  unfold k0_pay12
  pointwise []

theorem dsinkN (hc1 : k0_cond1 i = 1#1) (hc2 : k0_cond2 i = 1#1) (hc3 : ¬k0_cond3 i = 1#1) (hc4 : ¬k0_cond4 i = 1#1) (f) : arg14.view.read (Elt Ideal) (arg14.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks hc1 hc2 hc3 hc4).1.dsink) = tab2 (fun (_ : Fin 1) l => Blk.dsl (blkV (BitVec.ofNat 32 (i 0).val) q k v kp vp g bias sinks) l) := by
  unfold runA; dsimp only
  refine one_full _ f (fun r l => ?_)
  obtain rfl : r = 0 := Subsingleton.elim _ _
  refine (show k0_pay4 (F := Ideal) (runA.sl.v1146 (F := Ideal) c i arg1 harg1 arg2 harg2 arg3 harg3 arg4 harg4 arg5 harg5 arg6 harg6 arg7 harg7 arg8 harg8 arg19 arg20 q k v kp vp g bias sinks) (runA.sl.r_78 (F := Ideal) c arg14) (ix2 0 l) = (runA.sl.r_78 (F := Ideal) c arg14) (ix2 0 l) + (runA.sl.v1146 (F := Ideal) c i arg1 harg1 arg2 harg2 arg3 harg3 arg4 harg4 arg5 harg5 arg6 harg6 arg7 harg7 arg8 harg8 arg19 arg20 q k v kp vp g bias sinks) (ix2 0 l) from rfl).trans ?_
  rw [accs]
  refine Eq.trans (congrArg (· + _) ?_) (zero_add _)
  unfold runA.sl.r_78 k0_pay303
  pointwise []
  refine (read2 arg14 _ 0 0 _ 0 l (by omega) (by omega)).trans ?_
  refine ((Cols.base (L := []) 0 (G := fun _ _ => 0) (fun _ _ h => absurd h (Nat.not_lt_zero _))).ge _ _ (Nat.zero_le _)).trans ?_
  unfold k0_pay2
  pointwise []

theorem dbiasN (hc1 : k0_cond1 i = 1#1) (hc2 : k0_cond2 i = 1#1) (hc3 : ¬k0_cond3 i = 1#1) (hc4 : ¬k0_cond4 i = 1#1) (f) : arg13.view.read (Elt Ideal) (arg13.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks hc1 hc2 hc3 hc4).1.dbias) = tab3 (fun h r s => Blk.dl (blkV (BitVec.ofNat 32 (i 0).val) q k v kp vp g bias sinks) h r s) := by
  have s0 := soft0 harg1 harg2 harg4 harg7 harg8 arg19 (BitVec.ofNat 32 (i 0).val) q k v kp vp g bias sinks
  have s1 := soft1 harg1 harg2 harg4 harg7 harg8 arg19 (BitVec.ofNat 32 (i 0).val) q k v kp vp g bias sinks
  have p0 : Planes (runA.sl.H13_1 (F := Ideal) ) 0 (fun h r s => Blk.dl (blkV (BitVec.ofNat 32 (i 0).val) q k v kp vp g bias sinks) h r s) (fun _ _ _ => 0) True := Planes.rest Planes.base zeros_planes
  have p1 : Planes (runA.sl.H13_2 (F := Ideal) c i arg1 harg1 arg2 harg2 arg3 harg3 arg4 harg4 arg5 harg5 arg6 harg6 arg7 harg7 arg8 harg8 arg13 arg19 arg20 q k v kp vp g bias sinks) 1 (fun h r s => Blk.dl (blkV (BitVec.ofNat 32 (i 0).val) q k v kp vp g bias sinks) h r s) (fun _ _ _ => 0) True := Planes.step p0 (by decide) (fun r s => ((s0 0 0 rfl [] (by decide) (by decide) (by decide) (by decide) (Shape.Idx.first (by decide))).dbias (dpr0 harg3 harg5 harg6 arg20 (BitVec.ofNat 32 (i 0).val) q k v kp vp g bias sinks 0 0 rfl [] (by decide) (by decide)) _ r s).trans ((congrArg (· + _) ((read3 arg13 _ 0 _ (by decide) r s).trans (p0.ge _ _ _ (le_refl _)))).trans (zero_add _)))
  have p2 : Planes (runA.sl.H13_3 (F := Ideal) c i arg1 harg1 arg2 harg2 arg3 harg3 arg4 harg4 arg5 harg5 arg6 harg6 arg7 harg7 arg8 harg8 arg13 arg19 arg20 q k v kp vp g bias sinks) 2 (fun h r s => Blk.dl (blkV (BitVec.ofNat 32 (i 0).val) q k v kp vp g bias sinks) h r s) (fun _ _ _ => 0) True := Planes.step p1 (by decide) (fun r s => ((s0 1 1 rfl [] (by decide) (by decide) (by decide) (by decide) (Shape.Idx.first (by decide))).dbias (dpr0 harg3 harg5 harg6 arg20 (BitVec.ofNat 32 (i 0).val) q k v kp vp g bias sinks 1 1 rfl [] (by decide) (by decide)) _ r s).trans ((congrArg (· + _) ((read3 arg13 _ 1 _ (by decide) r s).trans (p1.ge _ _ _ (le_refl _)))).trans (zero_add _)))
  have p3 : Planes (runA.sl.H13_4 (F := Ideal) c i arg1 harg1 arg2 harg2 arg3 harg3 arg4 harg4 arg5 harg5 arg6 harg6 arg7 harg7 arg8 harg8 arg13 arg19 arg20 q k v kp vp g bias sinks) 3 (fun h r s => Blk.dl (blkV (BitVec.ofNat 32 (i 0).val) q k v kp vp g bias sinks) h r s) (fun _ _ _ => 0) True := Planes.step p2 (by decide) (fun r s => ((s0 2 2 rfl [] (by decide) (by decide) (by decide) (by decide) (Shape.Idx.first (by decide))).dbias (dpr0 harg3 harg5 harg6 arg20 (BitVec.ofNat 32 (i 0).val) q k v kp vp g bias sinks 2 2 rfl [] (by decide) (by decide)) _ r s).trans ((congrArg (· + _) ((read3 arg13 _ 2 _ (by decide) r s).trans (p2.ge _ _ _ (le_refl _)))).trans (zero_add _)))
  have p4 : Planes (runA.sl.H13_5 (F := Ideal) c i arg1 harg1 arg2 harg2 arg3 harg3 arg4 harg4 arg5 harg5 arg6 harg6 arg7 harg7 arg8 harg8 arg13 arg19 arg20 q k v kp vp g bias sinks) 4 (fun h r s => Blk.dl (blkV (BitVec.ofNat 32 (i 0).val) q k v kp vp g bias sinks) h r s) (fun _ _ _ => 0) True := Planes.step p3 (by decide) (fun r s => ((s0 3 3 rfl [] (by decide) (by decide) (by decide) (by decide) (Shape.Idx.first (by decide))).dbias (dpr0 harg3 harg5 harg6 arg20 (BitVec.ofNat 32 (i 0).val) q k v kp vp g bias sinks 3 3 rfl [] (by decide) (by decide)) _ r s).trans ((congrArg (· + _) ((read3 arg13 _ 3 _ (by decide) r s).trans (p3.ge _ _ _ (le_refl _)))).trans (zero_add _)))
  have p5 : Planes (runA.sl.H13_6 (F := Ideal) c i arg1 harg1 arg2 harg2 arg3 harg3 arg4 harg4 arg5 harg5 arg6 harg6 arg7 harg7 arg8 harg8 arg13 arg19 arg20 q k v kp vp g bias sinks) 5 (fun h r s => Blk.dl (blkV (BitVec.ofNat 32 (i 0).val) q k v kp vp g bias sinks) h r s) (fun _ _ _ => 0) True := Planes.step p4 (by decide) (fun r s => ((s0 4 4 rfl [] (by decide) (by decide) (by decide) (by decide) (Shape.Idx.first (by decide))).dbias (dpr0 harg3 harg5 harg6 arg20 (BitVec.ofNat 32 (i 0).val) q k v kp vp g bias sinks 4 4 rfl [] (by decide) (by decide)) _ r s).trans ((congrArg (· + _) ((read3 arg13 _ 4 _ (by decide) r s).trans (p4.ge _ _ _ (le_refl _)))).trans (zero_add _)))
  have p6 : Planes (runA.sl.H13_7 (F := Ideal) c i arg1 harg1 arg2 harg2 arg3 harg3 arg4 harg4 arg5 harg5 arg6 harg6 arg7 harg7 arg8 harg8 arg13 arg19 arg20 q k v kp vp g bias sinks) 6 (fun h r s => Blk.dl (blkV (BitVec.ofNat 32 (i 0).val) q k v kp vp g bias sinks) h r s) (fun _ _ _ => 0) True := Planes.step p5 (by decide) (fun r s => ((s0 5 5 rfl [] (by decide) (by decide) (by decide) (by decide) (Shape.Idx.first (by decide))).dbias (dpr0 harg3 harg5 harg6 arg20 (BitVec.ofNat 32 (i 0).val) q k v kp vp g bias sinks 5 5 rfl [] (by decide) (by decide)) _ r s).trans ((congrArg (· + _) ((read3 arg13 _ 5 _ (by decide) r s).trans (p5.ge _ _ _ (le_refl _)))).trans (zero_add _)))
  have p7 : Planes (runA.sl.H13_8 (F := Ideal) c i arg1 harg1 arg2 harg2 arg3 harg3 arg4 harg4 arg5 harg5 arg6 harg6 arg7 harg7 arg8 harg8 arg13 arg19 arg20 q k v kp vp g bias sinks) 7 (fun h r s => Blk.dl (blkV (BitVec.ofNat 32 (i 0).val) q k v kp vp g bias sinks) h r s) (fun _ _ _ => 0) True := Planes.step p6 (by decide) (fun r s => ((s0 6 6 rfl [] (by decide) (by decide) (by decide) (by decide) (Shape.Idx.first (by decide))).dbias (dpr0 harg3 harg5 harg6 arg20 (BitVec.ofNat 32 (i 0).val) q k v kp vp g bias sinks 6 6 rfl [] (by decide) (by decide)) _ r s).trans ((congrArg (· + _) ((read3 arg13 _ 6 _ (by decide) r s).trans (p6.ge _ _ _ (le_refl _)))).trans (zero_add _)))
  have p8 : Planes (runA.sl.H13_9 (F := Ideal) c i arg1 harg1 arg2 harg2 arg3 harg3 arg4 harg4 arg5 harg5 arg6 harg6 arg7 harg7 arg8 harg8 arg13 arg19 arg20 q k v kp vp g bias sinks) 8 (fun h r s => Blk.dl (blkV (BitVec.ofNat 32 (i 0).val) q k v kp vp g bias sinks) h r s) (fun _ _ _ => 0) True := Planes.step p7 (by decide) (fun r s => ((s0 7 7 rfl [] (by decide) (by decide) (by decide) (by decide) (Shape.Idx.first (by decide))).dbias (dpr0 harg3 harg5 harg6 arg20 (BitVec.ofNat 32 (i 0).val) q k v kp vp g bias sinks 7 7 rfl [] (by decide) (by decide)) _ r s).trans ((congrArg (· + _) ((read3 arg13 _ 7 _ (by decide) r s).trans (p7.ge _ _ _ (le_refl _)))).trans (zero_add _)))
  have p9 : Planes (runA.sl.H13_10 (F := Ideal) c i arg1 harg1 arg2 harg2 arg3 harg3 arg4 harg4 arg5 harg5 arg6 harg6 arg7 harg7 arg8 harg8 arg13 arg19 arg20 q k v kp vp g bias sinks) 9 (fun h r s => Blk.dl (blkV (BitVec.ofNat 32 (i 0).val) q k v kp vp g bias sinks) h r s) (fun _ _ _ => 0) True := Planes.step p8 (by decide) (fun r s => ((s1 0 8 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 0 8 rfl (runA.sl.H20_1 (F := Ideal) c arg3 harg3 arg5 harg5 arg6 harg6 v vp g) (by decide) (by decide)) _ r s).trans ((congrArg (· + _) ((read3 arg13 _ 8 _ (by decide) r s).trans (p8.ge _ _ _ (le_refl _)))).trans (zero_add _)))
  have p10 : Planes (runA.sl.H13_11 (F := Ideal) c i arg1 harg1 arg2 harg2 arg3 harg3 arg4 harg4 arg5 harg5 arg6 harg6 arg7 harg7 arg8 harg8 arg13 arg19 arg20 q k v kp vp g bias sinks) 10 (fun h r s => Blk.dl (blkV (BitVec.ofNat 32 (i 0).val) q k v kp vp g bias sinks) h r s) (fun _ _ _ => 0) True := Planes.step p9 (by decide) (fun r s => ((s1 1 9 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 1 9 rfl (runA.sl.H20_1 (F := Ideal) c arg3 harg3 arg5 harg5 arg6 harg6 v vp g) (by decide) (by decide)) _ r s).trans ((congrArg (· + _) ((read3 arg13 _ 9 _ (by decide) r s).trans (p9.ge _ _ _ (le_refl _)))).trans (zero_add _)))
  have p11 : Planes (runA.sl.H13_12 (F := Ideal) c i arg1 harg1 arg2 harg2 arg3 harg3 arg4 harg4 arg5 harg5 arg6 harg6 arg7 harg7 arg8 harg8 arg13 arg19 arg20 q k v kp vp g bias sinks) 11 (fun h r s => Blk.dl (blkV (BitVec.ofNat 32 (i 0).val) q k v kp vp g bias sinks) h r s) (fun _ _ _ => 0) True := Planes.step p10 (by decide) (fun r s => ((s1 2 10 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 2 10 rfl (runA.sl.H20_1 (F := Ideal) c arg3 harg3 arg5 harg5 arg6 harg6 v vp g) (by decide) (by decide)) _ r s).trans ((congrArg (· + _) ((read3 arg13 _ 10 _ (by decide) r s).trans (p10.ge _ _ _ (le_refl _)))).trans (zero_add _)))
  have p12 : Planes (runA.sl.H13_13 (F := Ideal) c i arg1 harg1 arg2 harg2 arg3 harg3 arg4 harg4 arg5 harg5 arg6 harg6 arg7 harg7 arg8 harg8 arg13 arg19 arg20 q k v kp vp g bias sinks) 12 (fun h r s => Blk.dl (blkV (BitVec.ofNat 32 (i 0).val) q k v kp vp g bias sinks) h r s) (fun _ _ _ => 0) True := Planes.step p11 (by decide) (fun r s => ((s1 3 11 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 3 11 rfl (runA.sl.H20_1 (F := Ideal) c arg3 harg3 arg5 harg5 arg6 harg6 v vp g) (by decide) (by decide)) _ r s).trans ((congrArg (· + _) ((read3 arg13 _ 11 _ (by decide) r s).trans (p11.ge _ _ _ (le_refl _)))).trans (zero_add _)))
  have p13 : Planes (runA.sl.H13_14 (F := Ideal) c i arg1 harg1 arg2 harg2 arg3 harg3 arg4 harg4 arg5 harg5 arg6 harg6 arg7 harg7 arg8 harg8 arg13 arg19 arg20 q k v kp vp g bias sinks) 13 (fun h r s => Blk.dl (blkV (BitVec.ofNat 32 (i 0).val) q k v kp vp g bias sinks) h r s) (fun _ _ _ => 0) True := Planes.step p12 (by decide) (fun r s => ((s1 4 12 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 4 12 rfl (runA.sl.H20_1 (F := Ideal) c arg3 harg3 arg5 harg5 arg6 harg6 v vp g) (by decide) (by decide)) _ r s).trans ((congrArg (· + _) ((read3 arg13 _ 12 _ (by decide) r s).trans (p12.ge _ _ _ (le_refl _)))).trans (zero_add _)))
  have p14 : Planes (runA.sl.H13_15 (F := Ideal) c i arg1 harg1 arg2 harg2 arg3 harg3 arg4 harg4 arg5 harg5 arg6 harg6 arg7 harg7 arg8 harg8 arg13 arg19 arg20 q k v kp vp g bias sinks) 14 (fun h r s => Blk.dl (blkV (BitVec.ofNat 32 (i 0).val) q k v kp vp g bias sinks) h r s) (fun _ _ _ => 0) True := Planes.step p13 (by decide) (fun r s => ((s1 5 13 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 5 13 rfl (runA.sl.H20_1 (F := Ideal) c arg3 harg3 arg5 harg5 arg6 harg6 v vp g) (by decide) (by decide)) _ r s).trans ((congrArg (· + _) ((read3 arg13 _ 13 _ (by decide) r s).trans (p13.ge _ _ _ (le_refl _)))).trans (zero_add _)))
  have p15 : Planes (runA.sl.H13_16 (F := Ideal) c i arg1 harg1 arg2 harg2 arg3 harg3 arg4 harg4 arg5 harg5 arg6 harg6 arg7 harg7 arg8 harg8 arg13 arg19 arg20 q k v kp vp g bias sinks) 15 (fun h r s => Blk.dl (blkV (BitVec.ofNat 32 (i 0).val) q k v kp vp g bias sinks) h r s) (fun _ _ _ => 0) True := Planes.step p14 (by decide) (fun r s => ((s1 6 14 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 6 14 rfl (runA.sl.H20_1 (F := Ideal) c arg3 harg3 arg5 harg5 arg6 harg6 v vp g) (by decide) (by decide)) _ r s).trans ((congrArg (· + _) ((read3 arg13 _ 14 _ (by decide) r s).trans (p14.ge _ _ _ (le_refl _)))).trans (zero_add _)))
  refine Planes.read (b := 16) (Z := fun _ _ _ => 0) (W := True) ?_ _ f (le_refl _)
  unfold runA; dsimp only
  exact Planes.step p15 (by decide) (fun r s => ((s1 7 15 rfl (runA.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 7 15 rfl (runA.sl.H20_1 (F := Ideal) c arg3 harg3 arg5 harg5 arg6 harg6 v vp g) (by decide) (by decide)) _ r s).trans ((congrArg (· + _) ((read3 arg13 _ 15 _ (by decide) r s).trans (p15.ge _ _ _ (le_refl _)))).trans (zero_add _)))

theorem bsumN (hc1 : k0_cond1 i = 1#1) (hc2 : k0_cond2 i = 1#1) (hc3 : ¬k0_cond3 i = 1#1) (hc4 : ¬k0_cond4 i = 1#1) (f) : arg12.view.read (Elt Ideal) (arg12.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks hc1 hc2 hc3 hc4).1.bsum) = tab2 (fun (_ : Fin 1) (c : Fin 1280) => if h : c.val < 1024 then ∑ r, Blk.dqc (blkV (BitVec.ofNat 32 (i 0).val) q k v kp vp g bias sinks) r ⟨c.val, h⟩ else (0 : EReal)) := by
  have e0 := sq0 c i arg1 harg1 arg2 harg2 arg3 harg3 arg4 harg4 arg5 harg5 arg6 harg6 arg7 harg7 arg8 harg8 arg19 arg20 arg22 q k v kp vp g bias sinks
  have e1 := sq1 c i arg1 harg1 arg2 harg2 arg3 harg3 arg4 harg4 arg5 harg5 arg6 harg6 arg7 harg7 arg8 harg8 arg19 arg20 arg22 q k v kp vp g bias sinks
  have q0 : ∀ (b : ℕ) (d : Fin 64) (hb : b + 64 ≤ 1024), (fun (_ : Fin 1) (c : Fin 1280) => if h : c.val < 1024 then ∑ r, Blk.dqc (blkV (BitVec.ofNat 32 (i 0).val) q k v kp vp g bias sinks) r ⟨c.val, h⟩ else (0 : EReal)) 0 ⟨b + d.val, by omega⟩ = ∑ r, Blk.dqc (blkV (BitVec.ofNat 32 (i 0).val) q k v kp vp g bias sinks) r ⟨b + d.val, by omega⟩ := fun b d hb =>
    dif_pos (show b + d.val < 1024 by omega)
  have p0 : Cols (runA.sl.H12_1 (F := Ideal) ) 0 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := Cols.rest (Cols.base 0 (fun _ _ h => absurd h (Nat.not_lt_zero _))) zeros_row
  have p1 : Cols (runA.sl.H12_2 (F := Ideal) c i arg1 harg1 arg2 harg2 arg3 harg3 arg4 harg4 arg5 harg5 arg6 harg6 arg7 harg7 arg8 harg8 arg12 arg19 arg20 arg22 q k v kp vp g bias sinks) 64 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 0) (n := 64) p0 (by decide) (fun r d => ?_)
    obtain rfl : r = 0 := Subsingleton.elim _ _
    refine (csum64_apply _ _ _ _ _ _ _ d).trans (Eq.trans ?_ (q0 0 d (by decide)).symm)
    exact (congrArg₂ (· + ·) ((read2 arg12 _ 0 0 _ 0 d (by omega) (by omega)).trans (p0.ge _ _ (by simp))) (Finset.sum_congr rfl fun t _ => (slc_apply _ 0 0 rfl _ t d).trans ((e0 0 t d).trans (Blk.dqc_hc _ 0 t d _ (by simp)).symm))).trans (zero_add _)
  have p2 : Cols (runA.sl.H12_3 (F := Ideal) c i arg1 harg1 arg2 harg2 arg3 harg3 arg4 harg4 arg5 harg5 arg6 harg6 arg7 harg7 arg8 harg8 arg12 arg19 arg20 arg22 q k v kp vp g bias sinks) 128 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 64) (n := 64) p1 (by decide) (fun r d => ?_)
    obtain rfl : r = 0 := Subsingleton.elim _ _
    refine (csum64_apply _ _ _ _ _ _ _ d).trans (Eq.trans ?_ (q0 64 d (by decide)).symm)
    exact (congrArg₂ (· + ·) ((read2 arg12 _ 0 64 _ 0 d (by omega) (by omega)).trans (p1.ge _ _ (by simp))) (Finset.sum_congr rfl fun t _ => (slc_apply _ 128 1 rfl _ t d).trans ((e0 1 t d).trans (Blk.dqc_hc _ 1 t d _ rfl).symm))).trans (zero_add _)
  have p3 : Cols (runA.sl.H12_4 (F := Ideal) c i arg1 harg1 arg2 harg2 arg3 harg3 arg4 harg4 arg5 harg5 arg6 harg6 arg7 harg7 arg8 harg8 arg12 arg19 arg20 arg22 q k v kp vp g bias sinks) 192 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 128) (n := 64) p2 (by decide) (fun r d => ?_)
    obtain rfl : r = 0 := Subsingleton.elim _ _
    refine (csum64_apply _ _ _ _ _ _ _ d).trans (Eq.trans ?_ (q0 128 d (by decide)).symm)
    exact (congrArg₂ (· + ·) ((read2 arg12 _ 0 128 _ 0 d (by omega) (by omega)).trans (p2.ge _ _ (by simp))) (Finset.sum_congr rfl fun t _ => (slc_apply _ 256 2 rfl _ t d).trans ((e0 2 t d).trans (Blk.dqc_hc _ 2 t d _ rfl).symm))).trans (zero_add _)
  have p4 : Cols (runA.sl.H12_5 (F := Ideal) c i arg1 harg1 arg2 harg2 arg3 harg3 arg4 harg4 arg5 harg5 arg6 harg6 arg7 harg7 arg8 harg8 arg12 arg19 arg20 arg22 q k v kp vp g bias sinks) 256 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 192) (n := 64) p3 (by decide) (fun r d => ?_)
    obtain rfl : r = 0 := Subsingleton.elim _ _
    refine (csum64_apply _ _ _ _ _ _ _ d).trans (Eq.trans ?_ (q0 192 d (by decide)).symm)
    exact (congrArg₂ (· + ·) ((read2 arg12 _ 0 192 _ 0 d (by omega) (by omega)).trans (p3.ge _ _ (by simp))) (Finset.sum_congr rfl fun t _ => (slc_apply _ 384 3 rfl _ t d).trans ((e0 3 t d).trans (Blk.dqc_hc _ 3 t d _ rfl).symm))).trans (zero_add _)
  have p5 : Cols (runA.sl.H12_6 (F := Ideal) c i arg1 harg1 arg2 harg2 arg3 harg3 arg4 harg4 arg5 harg5 arg6 harg6 arg7 harg7 arg8 harg8 arg12 arg19 arg20 arg22 q k v kp vp g bias sinks) 320 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 256) (n := 64) p4 (by decide) (fun r d => ?_)
    obtain rfl : r = 0 := Subsingleton.elim _ _
    refine (csum64_apply _ _ _ _ _ _ _ d).trans (Eq.trans ?_ (q0 256 d (by decide)).symm)
    exact (congrArg₂ (· + ·) ((read2 arg12 _ 0 256 _ 0 d (by omega) (by omega)).trans (p4.ge _ _ (by simp))) (Finset.sum_congr rfl fun t _ => (slc_apply _ 512 4 rfl _ t d).trans ((e0 4 t d).trans (Blk.dqc_hc _ 4 t d _ rfl).symm))).trans (zero_add _)
  have p6 : Cols (runA.sl.H12_7 (F := Ideal) c i arg1 harg1 arg2 harg2 arg3 harg3 arg4 harg4 arg5 harg5 arg6 harg6 arg7 harg7 arg8 harg8 arg12 arg19 arg20 arg22 q k v kp vp g bias sinks) 384 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 320) (n := 64) p5 (by decide) (fun r d => ?_)
    obtain rfl : r = 0 := Subsingleton.elim _ _
    refine (csum64_apply _ _ _ _ _ _ _ d).trans (Eq.trans ?_ (q0 320 d (by decide)).symm)
    exact (congrArg₂ (· + ·) ((read2 arg12 _ 0 320 _ 0 d (by omega) (by omega)).trans (p5.ge _ _ (by simp))) (Finset.sum_congr rfl fun t _ => (slc_apply _ 640 5 rfl _ t d).trans ((e0 5 t d).trans (Blk.dqc_hc _ 5 t d _ rfl).symm))).trans (zero_add _)
  have p7 : Cols (runA.sl.H12_8 (F := Ideal) c i arg1 harg1 arg2 harg2 arg3 harg3 arg4 harg4 arg5 harg5 arg6 harg6 arg7 harg7 arg8 harg8 arg12 arg19 arg20 arg22 q k v kp vp g bias sinks) 448 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 384) (n := 64) p6 (by decide) (fun r d => ?_)
    obtain rfl : r = 0 := Subsingleton.elim _ _
    refine (csum64_apply _ _ _ _ _ _ _ d).trans (Eq.trans ?_ (q0 384 d (by decide)).symm)
    exact (congrArg₂ (· + ·) ((read2 arg12 _ 0 384 _ 0 d (by omega) (by omega)).trans (p6.ge _ _ (by simp))) (Finset.sum_congr rfl fun t _ => (slc_apply _ 768 6 rfl _ t d).trans ((e0 6 t d).trans (Blk.dqc_hc _ 6 t d _ rfl).symm))).trans (zero_add _)
  have p8 : Cols (runA.sl.H12_9 (F := Ideal) c i arg1 harg1 arg2 harg2 arg3 harg3 arg4 harg4 arg5 harg5 arg6 harg6 arg7 harg7 arg8 harg8 arg12 arg19 arg20 arg22 q k v kp vp g bias sinks) 512 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 448) (n := 64) p7 (by decide) (fun r d => ?_)
    obtain rfl : r = 0 := Subsingleton.elim _ _
    refine (csum64_apply _ _ _ _ _ _ _ d).trans (Eq.trans ?_ (q0 448 d (by decide)).symm)
    exact (congrArg₂ (· + ·) ((read2 arg12 _ 0 448 _ 0 d (by omega) (by omega)).trans (p7.ge _ _ (by simp))) (Finset.sum_congr rfl fun t _ => (slc_apply _ 896 7 rfl _ t d).trans ((e0 7 t d).trans (Blk.dqc_hc _ 7 t d _ rfl).symm))).trans (zero_add _)
  have p9 : Cols (runA.sl.H12_10 (F := Ideal) c i arg1 harg1 arg2 harg2 arg3 harg3 arg4 harg4 arg5 harg5 arg6 harg6 arg7 harg7 arg8 harg8 arg12 arg19 arg20 arg22 q k v kp vp g bias sinks) 576 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 512) (n := 64) p8 (by decide) (fun r d => ?_)
    obtain rfl : r = 0 := Subsingleton.elim _ _
    refine (csum64_apply _ _ _ _ _ _ _ d).trans (Eq.trans ?_ (q0 512 d (by decide)).symm)
    exact (congrArg₂ (· + ·) ((read2 arg12 _ 0 512 _ 0 d (by omega) (by omega)).trans (p8.ge _ _ (by simp))) (Finset.sum_congr rfl fun t _ => (slc_apply _ 0 0 rfl _ t d).trans ((e1 0 t d).trans (Blk.dqc_hc _ 8 t d _ rfl).symm))).trans (zero_add _)
  have p10 : Cols (runA.sl.H12_11 (F := Ideal) c i arg1 harg1 arg2 harg2 arg3 harg3 arg4 harg4 arg5 harg5 arg6 harg6 arg7 harg7 arg8 harg8 arg12 arg19 arg20 arg22 q k v kp vp g bias sinks) 640 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 576) (n := 64) p9 (by decide) (fun r d => ?_)
    obtain rfl : r = 0 := Subsingleton.elim _ _
    refine (csum64_apply _ _ _ _ _ _ _ d).trans (Eq.trans ?_ (q0 576 d (by decide)).symm)
    exact (congrArg₂ (· + ·) ((read2 arg12 _ 0 576 _ 0 d (by omega) (by omega)).trans (p9.ge _ _ (by simp))) (Finset.sum_congr rfl fun t _ => (slc_apply _ 128 1 rfl _ t d).trans ((e1 1 t d).trans (Blk.dqc_hc _ 9 t d _ rfl).symm))).trans (zero_add _)
  have p11 : Cols (runA.sl.H12_12 (F := Ideal) c i arg1 harg1 arg2 harg2 arg3 harg3 arg4 harg4 arg5 harg5 arg6 harg6 arg7 harg7 arg8 harg8 arg12 arg19 arg20 arg22 q k v kp vp g bias sinks) 704 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 640) (n := 64) p10 (by decide) (fun r d => ?_)
    obtain rfl : r = 0 := Subsingleton.elim _ _
    refine (csum64_apply _ _ _ _ _ _ _ d).trans (Eq.trans ?_ (q0 640 d (by decide)).symm)
    exact (congrArg₂ (· + ·) ((read2 arg12 _ 0 640 _ 0 d (by omega) (by omega)).trans (p10.ge _ _ (by simp))) (Finset.sum_congr rfl fun t _ => (slc_apply _ 256 2 rfl _ t d).trans ((e1 2 t d).trans (Blk.dqc_hc _ 10 t d _ rfl).symm))).trans (zero_add _)
  have p12 : Cols (runA.sl.H12_13 (F := Ideal) c i arg1 harg1 arg2 harg2 arg3 harg3 arg4 harg4 arg5 harg5 arg6 harg6 arg7 harg7 arg8 harg8 arg12 arg19 arg20 arg22 q k v kp vp g bias sinks) 768 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 704) (n := 64) p11 (by decide) (fun r d => ?_)
    obtain rfl : r = 0 := Subsingleton.elim _ _
    refine (csum64_apply _ _ _ _ _ _ _ d).trans (Eq.trans ?_ (q0 704 d (by decide)).symm)
    exact (congrArg₂ (· + ·) ((read2 arg12 _ 0 704 _ 0 d (by omega) (by omega)).trans (p11.ge _ _ (by simp))) (Finset.sum_congr rfl fun t _ => (slc_apply _ 384 3 rfl _ t d).trans ((e1 3 t d).trans (Blk.dqc_hc _ 11 t d _ rfl).symm))).trans (zero_add _)
  have p13 : Cols (runA.sl.H12_14 (F := Ideal) c i arg1 harg1 arg2 harg2 arg3 harg3 arg4 harg4 arg5 harg5 arg6 harg6 arg7 harg7 arg8 harg8 arg12 arg19 arg20 arg22 q k v kp vp g bias sinks) 832 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 768) (n := 64) p12 (by decide) (fun r d => ?_)
    obtain rfl : r = 0 := Subsingleton.elim _ _
    refine (csum64_apply _ _ _ _ _ _ _ d).trans (Eq.trans ?_ (q0 768 d (by decide)).symm)
    exact (congrArg₂ (· + ·) ((read2 arg12 _ 0 768 _ 0 d (by omega) (by omega)).trans (p12.ge _ _ (by simp))) (Finset.sum_congr rfl fun t _ => (slc_apply _ 512 4 rfl _ t d).trans ((e1 4 t d).trans (Blk.dqc_hc _ 12 t d _ rfl).symm))).trans (zero_add _)
  have p14 : Cols (runA.sl.H12_15 (F := Ideal) c i arg1 harg1 arg2 harg2 arg3 harg3 arg4 harg4 arg5 harg5 arg6 harg6 arg7 harg7 arg8 harg8 arg12 arg19 arg20 arg22 q k v kp vp g bias sinks) 896 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 832) (n := 64) p13 (by decide) (fun r d => ?_)
    obtain rfl : r = 0 := Subsingleton.elim _ _
    refine (csum64_apply _ _ _ _ _ _ _ d).trans (Eq.trans ?_ (q0 832 d (by decide)).symm)
    exact (congrArg₂ (· + ·) ((read2 arg12 _ 0 832 _ 0 d (by omega) (by omega)).trans (p13.ge _ _ (by simp))) (Finset.sum_congr rfl fun t _ => (slc_apply _ 640 5 rfl _ t d).trans ((e1 5 t d).trans (Blk.dqc_hc _ 13 t d _ rfl).symm))).trans (zero_add _)
  have p15 : Cols (runA.sl.H12_16 (F := Ideal) c i arg1 harg1 arg2 harg2 arg3 harg3 arg4 harg4 arg5 harg5 arg6 harg6 arg7 harg7 arg8 harg8 arg12 arg19 arg20 arg22 q k v kp vp g bias sinks) 960 (fun (_ : Fin 1) (c : Fin 1280) => if h : c.val < 1024 then ∑ r, Blk.dqc (blkV (BitVec.ofNat 32 (i 0).val) q k v kp vp g bias sinks) r ⟨c.val, h⟩ else (0 : EReal)) (fun _ _ => 0) True := by
    refine Cols.step (b := 896) (n := 64) p14 (by decide) (fun r d => ?_)
    obtain rfl : r = 0 := Subsingleton.elim _ _
    refine (csum64_apply _ _ _ _ _ _ _ d).trans (Eq.trans ?_ (q0 896 d (by decide)).symm)
    exact (congrArg₂ (· + ·) ((read2 arg12 _ 0 896 _ 0 d (by omega) (by omega)).trans (p14.ge _ _ (by simp))) (Finset.sum_congr rfl fun t _ => (slc_apply _ 768 6 rfl _ t d).trans ((e1 6 t d).trans (Blk.dqc_hc _ 14 t d _ rfl).symm))).trans (zero_add _)
  refine Cols.read (b := 1024) (G := (fun (_ : Fin 1) (c : Fin 1280) => if h : c.val < 1024 then ∑ r, Blk.dqc (blkV (BitVec.ofNat 32 (i 0).val) q k v kp vp g bias sinks) r ⟨c.val, h⟩ else (0 : EReal))) (Z := fun _ _ => 0) (W := True) ?_ _ f (.inr trivial) (fun _ _ _ => rfl) (fun _ c hc => by rw [dif_neg (Nat.not_lt.mpr hc)])
  unfold runA; dsimp only
  refine Cols.step (b := 960) (n := 64) p15 (by decide) (fun r d => ?_)
  obtain rfl : r = 0 := Subsingleton.elim _ _
  refine (csum64_apply _ _ _ _ _ _ _ d).trans (Eq.trans ?_ (q0 960 d (by decide)).symm)
  exact (congrArg₂ (· + ·) ((read2 arg12 _ 0 960 _ 0 d (by omega) (by omega)).trans (p15.ge _ _ (by simp))) (Finset.sum_congr rfl fun t _ => (slc_apply _ 896 7 rfl _ t d).trans ((e1 7 t d).trans (Blk.dqc_hc _ 15 t d _ rfl).symm))).trans (zero_add _)

end Cert.KernelIdeal.Attn.A

end
-- ==== Proof.RunB.lean ====
/- The body of the backward kernel run whole at a point of case B: the points 1 to 63. -/
module

public import proofs.«01_k».proof.Proof.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (q : Vec F S128x1024 .bf16) (k : Vec F S128x128 .bf16) (v : Vec F S128x128 .bf16) (kp : Vec F S128x128 .bf16) (vp : Vec F S128x128 .bf16) (g : Vec F S128x1024 .bf16) (bias : Vec F S16x128x256 .f32) (sinks : Vec F S16 .f32) (bsum : Vec F S1x1280 .f32) (dbias : Vec F S16x128x256 .f32) (dsink : Vec F S1x128 .f32) (pk : Vec F S128x128 .f32) (pv : Vec F S128x128 .f32)

/-- The stores of the body at a point of case B: for each buffer it stores into, the pieces it writes, last first. -/
structure PiecesB (F : FTy → Type) where
  dq : List (View.Piece (Elt F) S128x1024 .bf16)
  dk : List (View.Piece (Elt F) S128x128 .bf16)
  dv : List (View.Piece (Elt F) S128x128 .bf16)
  bsum : List (View.Piece (Elt F) S1x1280 .f32)
  dbias : List (View.Piece (Elt F) S16x128x256 .f32)
  dsink : List (View.Piece (Elt F) S1x128 .f32)
  pk : List (View.Piece (Elt F) S128x128 .f32)
  pv : List (View.Piece (Elt F) S128x128 .f32)
  bk : List (View.Piece (Elt F) S256x128 .f32)
  bv : List (View.Piece (Elt F) S256x128 .f32)
  lg : List (View.Piece (Elt F) S1024x256 .f32)
  dp : List (View.Piece (Elt F) S1024x256 .f32)
  pr : List (View.Piece (Elt F) S1024x256 .bf16)
  dl : List (View.Piece (Elt F) S1024x256 .bf16)

set_option maxHeartbeats 2276000 in
/-- The body at a point of case B (the points 1 to 63), on whole buffers: from the inputs and the carried buffers at the
    named contents and the others at anything it runs to a state holding what it only reads unchanged and every
    buffer it stores into with its pieces written; a buffer it does not touch is not mentioned. The pieces are found by
    running the body. -/
def runB (hc1 : ¬k0_cond1 i = 1#1) (hc2 : k0_cond2 i = 1#1) (hc3 : k0_cond3 i = 1#1) (hc4 : ¬k0_cond4 i = 1#1) : { L : PiecesB F // ∀ (E : Set ℕ) (K : PUnit → sProp 𝕄),
    iprop(owns (c : Thread nD τ) arg1 fullShare q ∗ owns (c : Thread nD τ) arg2 fullShare k ∗ owns (c : Thread nD τ) arg3 fullShare v ∗ owns (c : Thread nD τ) arg4 fullShare kp ∗ owns (c : Thread nD τ) arg5 fullShare vp ∗ owns (c : Thread nD τ) arg6 fullShare g ∗ owns (c : Thread nD τ) arg7 fullShare bias ∗ owns (c : Thread nD τ) arg8 fullShare sinks ∗ (∃ d, owns (c : Thread nD τ) arg9 fullShare d) ∗ (∃ d, owns (c : Thread nD τ) arg10 fullShare d) ∗ (∃ d, owns (c : Thread nD τ) arg11 fullShare d) ∗ owns (c : Thread nD τ) arg12 fullShare bsum ∗ owns (c : Thread nD τ) arg13 fullShare dbias ∗ owns (c : Thread nD τ) arg14 fullShare dsink ∗ owns (c : Thread nD τ) arg15 fullShare pk ∗ owns (c : Thread nD τ) arg16 fullShare pv ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg1 fullShare q ∗ owns (c : Thread nD τ) arg2 fullShare k ∗ owns (c : Thread nD τ) arg3 fullShare v ∗ owns (c : Thread nD τ) arg4 fullShare kp ∗ owns (c : Thread nD τ) arg5 fullShare vp ∗ owns (c : Thread nD τ) arg6 fullShare g ∗ owns (c : Thread nD τ) arg7 fullShare bias ∗ owns (c : Thread nD τ) arg8 fullShare sinks ∗ (∃ f, arg9.view.loc (c : Thread nD τ) ↦[arg9.view.set]{fullShare} arg9.view.writes (Elt F) f L.dq) ∗ (∃ f, arg10.view.loc (c : Thread nD τ) ↦[arg10.view.set]{fullShare} arg10.view.writes (Elt F) f L.dk) ∗ (∃ f, arg11.view.loc (c : Thread nD τ) ↦[arg11.view.set]{fullShare} arg11.view.writes (Elt F) f L.dv) ∗ (∃ f, arg12.view.loc (c : Thread nD τ) ↦[arg12.view.set]{fullShare} arg12.view.writes (Elt F) f L.bsum) ∗ (∃ f, arg13.view.loc (c : Thread nD τ) ↦[arg13.view.set]{fullShare} arg13.view.writes (Elt F) f L.dbias) ∗ (∃ f, arg14.view.loc (c : Thread nD τ) ↦[arg14.view.set]{fullShare} arg14.view.writes (Elt F) f L.dsink) ∗ (∃ f, arg15.view.loc (c : Thread nD τ) ↦[arg15.view.set]{fullShare} arg15.view.writes (Elt F) f L.pk) ∗ (∃ f, arg16.view.loc (c : Thread nD τ) ↦[arg16.view.set]{fullShare} arg16.view.writes (Elt F) f L.pv) ∗ (∃ f, arg17.view.loc (c : Thread nD τ) ↦[arg17.view.set]{fullShare} arg17.view.writes (Elt F) f L.bk) ∗ (∃ f, arg18.view.loc (c : Thread nD τ) ↦[arg18.view.set]{fullShare} arg18.view.writes (Elt F) f L.bv) ∗ (∃ f, arg19.view.loc (c : Thread nD τ) ↦[arg19.view.set]{fullShare} arg19.view.writes (Elt F) f L.lg) ∗ (∃ f, arg20.view.loc (c : Thread nD τ) ↦[arg20.view.set]{fullShare} arg20.view.writes (Elt F) f L.dp) ∗ (∃ f, arg21.view.loc (c : Thread nD τ) ↦[arg21.view.set]{fullShare} arg21.view.writes (Elt F) f L.pr) ∗ (∃ f, arg22.view.loc (c : Thread nD τ) ↦[arg22.view.set]{fullShare} arg22.view.writes (Elt F) f L.dl)) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨⟨?_, ?_, ?_, ?_, ?_, ?_, ?_, ?_, ?_, ?_, ?_, ?_, ?_, ?_⟩, fun E K => ?run⟩
  case run =>
    dsimp only
    simp only [cc0_attn_bwd_eq_skeleton]; unfold cc0_attn_bwd_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg12.eq_unread hf12
    obtain rfl := harg13.eq_unread hf13
    obtain rfl := harg14.eq_unread hf14
    obtain rfl := harg15.eq_unread hf15
    obtain rfl := harg16.eq_unread hf16
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.KernelIdeal.Attn

end
-- ==== Proof.StackB.lean ====
/- What the body stores at a point of case B, at an index: the stacks of the two groups of heads and their products. -/
module

public import proofs.«01_k».proof.Proof.RunB
public import proofs.«01_k».proof.Proof.Group

@[expose] public section

set_option maxRecDepth 100000
set_option maxHeartbeats 1000000

noncomputable section

namespace Cert.KernelIdeal.Attn.B

open Idealize.ShloMosaic Idealize.ShloMosaic.TcCoe
open Cert.KernelIdeal.Gen Cert.Attn Cert.KernelIdeal.Attn

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (q : Vec Ideal S128x1024 .bf16) (k : Vec Ideal S128x128 .bf16) (v : Vec Ideal S128x128 .bf16) (kp : Vec Ideal S128x128 .bf16) (vp : Vec Ideal S128x128 .bf16) (g : Vec Ideal S128x1024 .bf16) (bias : Vec Ideal S16x128x256 .f32) (sinks : Vec Ideal S16 .f32) (bsum : Vec Ideal S1x1280 .f32) (dbias : Vec Ideal S16x128x256 .f32) (dsink : Vec Ideal S1x128 .f32) (pk : Vec Ideal S128x128 .f32) (pv : Vec Ideal S128x128 .f32)

/-- The stacked probabilities of group 0, read back. -/
theorem pr0 (j : Fin 8) (r : Fin 128) (s : Fin 256) : (runB.sl.v543 (F := Ideal) c i arg1 harg1 arg2 harg2 arg4 harg4 arg7 harg7 arg8 harg8 arg19 arg21 q k kp bias sinks) (ix2 (rw8 j r) s) = Blk.p (blkV (BitVec.ofNat 32 (i 0).val) q k v kp vp g bias sinks) (hd 0 j) r s := by
  refine read_rows8 arg21 (L := []) (fun j r s => Blk.p (blkV (BitVec.ofNat 32 (i 0).val) q k v kp vp g bias sinks) (hd 0 j) r s) ?_ ?_ ?_ ?_ ?_ ?_ ?_ ?_ j r s
  · exact (soft0 harg1 harg2 harg4 harg7 harg8 arg19 (BitVec.ofNat 32 (i 0).val) q k v kp vp g bias sinks 0 0 rfl [] (by decide) (by decide) (by decide) (by decide) (Shape.Idx.first (by decide))).pb
  · exact (soft0 harg1 harg2 harg4 harg7 harg8 arg19 (BitVec.ofNat 32 (i 0).val) q k v kp vp g bias sinks 1 1 rfl [] (by decide) (by decide) (by decide) (by decide) (Shape.Idx.first (by decide))).pb
  · exact (soft0 harg1 harg2 harg4 harg7 harg8 arg19 (BitVec.ofNat 32 (i 0).val) q k v kp vp g bias sinks 2 2 rfl [] (by decide) (by decide) (by decide) (by decide) (Shape.Idx.first (by decide))).pb
  · exact (soft0 harg1 harg2 harg4 harg7 harg8 arg19 (BitVec.ofNat 32 (i 0).val) q k v kp vp g bias sinks 3 3 rfl [] (by decide) (by decide) (by decide) (by decide) (Shape.Idx.first (by decide))).pb
  · exact (soft0 harg1 harg2 harg4 harg7 harg8 arg19 (BitVec.ofNat 32 (i 0).val) q k v kp vp g bias sinks 4 4 rfl [] (by decide) (by decide) (by decide) (by decide) (Shape.Idx.first (by decide))).pb
  · exact (soft0 harg1 harg2 harg4 harg7 harg8 arg19 (BitVec.ofNat 32 (i 0).val) q k v kp vp g bias sinks 5 5 rfl [] (by decide) (by decide) (by decide) (by decide) (Shape.Idx.first (by decide))).pb
  · exact (soft0 harg1 harg2 harg4 harg7 harg8 arg19 (BitVec.ofNat 32 (i 0).val) q k v kp vp g bias sinks 6 6 rfl [] (by decide) (by decide) (by decide) (by decide) (Shape.Idx.first (by decide))).pb
  · exact (soft0 harg1 harg2 harg4 harg7 harg8 arg19 (BitVec.ofNat 32 (i 0).val) q k v kp vp g bias sinks 7 7 rfl [] (by decide) (by decide) (by decide) (by decide) (Shape.Idx.first (by decide))).pb

/-- The stacked derivatives of the logits of group 0, read back. -/
theorem dl0 (j : Fin 8) (r : Fin 128) (s : Fin 256) : (runB.sl.v548 (F := Ideal) c i arg1 harg1 arg2 harg2 arg3 harg3 arg4 harg4 arg5 harg5 arg6 harg6 arg7 harg7 arg8 harg8 arg19 arg20 arg22 q k v kp vp g bias sinks) (ix2 (rw8 j r) s) = Blk.dl (blkV (BitVec.ofNat 32 (i 0).val) q k v kp vp g bias sinks) (hd 0 j) r s := by
  refine read_rows8 arg22 (L := []) (fun j r s => Blk.dl (blkV (BitVec.ofNat 32 (i 0).val) q k v kp vp g bias sinks) (hd 0 j) r s) ?_ ?_ ?_ ?_ ?_ ?_ ?_ ?_ j r s
  · exact (soft0 harg1 harg2 harg4 harg7 harg8 arg19 (BitVec.ofNat 32 (i 0).val) q k v kp vp g bias sinks 0 0 rfl [] (by decide) (by decide) (by decide) (by decide) (Shape.Idx.first (by decide))).dlb (dpr0 harg3 harg5 harg6 arg20 (BitVec.ofNat 32 (i 0).val) q k v kp vp g bias sinks 0 0 rfl [] (by decide) (by decide))
  · exact (soft0 harg1 harg2 harg4 harg7 harg8 arg19 (BitVec.ofNat 32 (i 0).val) q k v kp vp g bias sinks 1 1 rfl [] (by decide) (by decide) (by decide) (by decide) (Shape.Idx.first (by decide))).dlb (dpr0 harg3 harg5 harg6 arg20 (BitVec.ofNat 32 (i 0).val) q k v kp vp g bias sinks 1 1 rfl [] (by decide) (by decide))
  · exact (soft0 harg1 harg2 harg4 harg7 harg8 arg19 (BitVec.ofNat 32 (i 0).val) q k v kp vp g bias sinks 2 2 rfl [] (by decide) (by decide) (by decide) (by decide) (Shape.Idx.first (by decide))).dlb (dpr0 harg3 harg5 harg6 arg20 (BitVec.ofNat 32 (i 0).val) q k v kp vp g bias sinks 2 2 rfl [] (by decide) (by decide))
  · exact (soft0 harg1 harg2 harg4 harg7 harg8 arg19 (BitVec.ofNat 32 (i 0).val) q k v kp vp g bias sinks 3 3 rfl [] (by decide) (by decide) (by decide) (by decide) (Shape.Idx.first (by decide))).dlb (dpr0 harg3 harg5 harg6 arg20 (BitVec.ofNat 32 (i 0).val) q k v kp vp g bias sinks 3 3 rfl [] (by decide) (by decide))
  · exact (soft0 harg1 harg2 harg4 harg7 harg8 arg19 (BitVec.ofNat 32 (i 0).val) q k v kp vp g bias sinks 4 4 rfl [] (by decide) (by decide) (by decide) (by decide) (Shape.Idx.first (by decide))).dlb (dpr0 harg3 harg5 harg6 arg20 (BitVec.ofNat 32 (i 0).val) q k v kp vp g bias sinks 4 4 rfl [] (by decide) (by decide))
  · exact (soft0 harg1 harg2 harg4 harg7 harg8 arg19 (BitVec.ofNat 32 (i 0).val) q k v kp vp g bias sinks 5 5 rfl [] (by decide) (by decide) (by decide) (by decide) (Shape.Idx.first (by decide))).dlb (dpr0 harg3 harg5 harg6 arg20 (BitVec.ofNat 32 (i 0).val) q k v kp vp g bias sinks 5 5 rfl [] (by decide) (by decide))
  · exact (soft0 harg1 harg2 harg4 harg7 harg8 arg19 (BitVec.ofNat 32 (i 0).val) q k v kp vp g bias sinks 6 6 rfl [] (by decide) (by decide) (by decide) (by decide) (Shape.Idx.first (by decide))).dlb (dpr0 harg3 harg5 harg6 arg20 (BitVec.ofNat 32 (i 0).val) q k v kp vp g bias sinks 6 6 rfl [] (by decide) (by decide))
  · exact (soft0 harg1 harg2 harg4 harg7 harg8 arg19 (BitVec.ofNat 32 (i 0).val) q k v kp vp g bias sinks 7 7 rfl [] (by decide) (by decide) (by decide) (by decide) (Shape.Idx.first (by decide))).dlb (dpr0 harg3 harg5 harg6 arg20 (BitVec.ofNat 32 (i 0).val) q k v kp vp g bias sinks 7 7 rfl [] (by decide) (by decide))

/-- The stacked probabilities of group 1, read back. -/
theorem pr1 (j : Fin 8) (r : Fin 128) (s : Fin 256) : (runB.sl.v1147 (F := Ideal) c i arg1 harg1 arg2 harg2 arg4 harg4 arg7 harg7 arg8 harg8 arg19 arg21 q k kp bias sinks) (ix2 (rw8 j r) s) = Blk.p (blkV (BitVec.ofNat 32 (i 0).val) q k v kp vp g bias sinks) (hd 1 j) r s := by
  refine read_rows8 arg21 (L := (runB.sl.H21_8 (F := Ideal) c i arg1 harg1 arg2 harg2 arg4 harg4 arg7 harg7 arg8 harg8 arg19 q k kp bias sinks)) (fun j r s => Blk.p (blkV (BitVec.ofNat 32 (i 0).val) q k v kp vp g bias sinks) (hd 1 j) r s) ?_ ?_ ?_ ?_ ?_ ?_ ?_ ?_ j r s
  · exact (soft1 harg1 harg2 harg4 harg7 harg8 arg19 (BitVec.ofNat 32 (i 0).val) q k v kp vp g bias sinks 0 8 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 1 9 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 2 10 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 3 11 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 4 12 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 5 13 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 6 14 rfl (runB.sl.H19_1 (F := Ideal) c arg1 harg1 arg2 harg2 arg4 harg4 q k kp) (by decide) (by decide) (by decide) (by decide) (Shape.Idx.first (by decide))).pb
  · exact (soft1 harg1 harg2 harg4 harg7 harg8 arg19 (BitVec.ofNat 32 (i 0).val) q k v kp vp g bias sinks 7 15 rfl (runB.sl.H19_1 (F := Ideal) c arg1 harg1 arg2 harg2 arg4 harg4 q k kp) (by decide) (by decide) (by decide) (by decide) (Shape.Idx.first (by decide))).pb

/-- The stacked derivatives of the logits of group 1, read back. -/
theorem dl1 (j : Fin 8) (r : Fin 128) (s : Fin 256) : (runB.sl.v1152 (F := Ideal) c i arg1 harg1 arg2 harg2 arg3 harg3 arg4 harg4 arg5 harg5 arg6 harg6 arg7 harg7 arg8 harg8 arg19 arg20 arg22 q k v kp vp g bias sinks) (ix2 (rw8 j r) s) = Blk.dl (blkV (BitVec.ofNat 32 (i 0).val) q k v kp vp g bias sinks) (hd 1 j) r s := by
  refine read_rows8 arg22 (L := (runB.sl.H22_8 (F := Ideal) c i arg1 harg1 arg2 harg2 arg3 harg3 arg4 harg4 arg5 harg5 arg6 harg6 arg7 harg7 arg8 harg8 arg19 arg20 q k v kp vp g bias sinks)) (fun j r s => Blk.dl (blkV (BitVec.ofNat 32 (i 0).val) q k v kp vp g bias sinks) (hd 1 j) r s) ?_ ?_ ?_ ?_ ?_ ?_ ?_ ?_ j r s
  · exact (soft1 harg1 harg2 harg4 harg7 harg8 arg19 (BitVec.ofNat 32 (i 0).val) q k v kp vp g bias sinks 0 8 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 0 8 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 1 9 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 1 9 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 2 10 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 2 10 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 3 11 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 3 11 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 4 12 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 4 12 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 5 13 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 5 13 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 6 14 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 6 14 rfl (runB.sl.H20_1 (F := Ideal) c arg3 harg3 arg5 harg5 arg6 harg6 v vp g) (by decide) (by decide))
  · exact (soft1 harg1 harg2 harg4 harg7 harg8 arg19 (BitVec.ofNat 32 (i 0).val) q k v kp vp g bias sinks 7 15 rfl (runB.sl.H19_1 (F := Ideal) c arg1 harg1 arg2 harg2 arg4 harg4 q k kp) (by decide) (by decide) (by decide) (by decide) (Shape.Idx.first (by decide))).dlb (dpr1 harg3 harg5 harg6 arg20 (BitVec.ofNat 32 (i 0).val) q k v kp vp g bias sinks 7 15 rfl (runB.sl.H20_1 (F := Ideal) c arg3 harg3 arg5 harg5 arg6 harg6 v vp g) (by decide) (by decide))

theorem bk0 (s : Fin 256) (d : Fin 64) : (runB.sl.v558 (F := Ideal) c i arg1 harg1 arg2 harg2 arg3 harg3 arg4 harg4 arg5 harg5 arg6 harg6 arg7 harg7 arg8 harg8 arg19 arg20 arg22 q k v kp vp g bias sinks) (ix2 s d) = Blk.dk (blkV (BitVec.ofNat 32 (i 0).val) q k v kp vp g bias sinks) 0 s d :=
  bandK0 harg1 (BitVec.ofNat 32 (i 0).val) q k v kp vp g bias sinks (dl0 c i arg1 harg1 arg2 harg2 arg3 harg3 arg4 harg4 arg5 harg5 arg6 harg6 arg7 harg7 arg8 harg8 arg19 arg20 arg22 q k v kp vp g bias sinks) s d

theorem bv0 (s : Fin 256) (d : Fin 64) : (runB.sl.v547 (F := Ideal) c i arg1 harg1 arg2 harg2 arg4 harg4 arg6 harg6 arg7 harg7 arg8 harg8 arg19 arg21 q k kp g bias sinks) (ix2 s d) = Blk.dv (blkV (BitVec.ofNat 32 (i 0).val) q k v kp vp g bias sinks) 0 s d :=
  bandV0 harg6 (BitVec.ofNat 32 (i 0).val) q k v kp vp g bias sinks (pr0 c i arg1 harg1 arg2 harg2 arg4 harg4 arg7 harg7 arg8 harg8 arg19 arg21 q k v kp vp g bias sinks) s d

theorem sq0 (j : Fin 8) (r : Fin 128) (d : Fin 64) : (runB.sl.v551 (F := Ideal) c i arg1 harg1 arg2 harg2 arg3 harg3 arg4 harg4 arg5 harg5 arg6 harg6 arg7 harg7 arg8 harg8 arg19 arg20 arg22 q k v kp vp g bias sinks) (ix2 (rw8 j r) d) = Blk.dq (blkV (BitVec.ofNat 32 (i 0).val) q k v kp vp g bias sinks) (hd 0 j) r d :=
  grpQ0 harg2 harg4 (BitVec.ofNat 32 (i 0).val) q k v kp vp g bias sinks (dl0 c i arg1 harg1 arg2 harg2 arg3 harg3 arg4 harg4 arg5 harg5 arg6 harg6 arg7 harg7 arg8 harg8 arg19 arg20 arg22 q k v kp vp g bias sinks) j r d

theorem bk1 (s : Fin 256) (d : Fin 64) : (runB.sl.v1162 (F := Ideal) c i arg1 harg1 arg2 harg2 arg3 harg3 arg4 harg4 arg5 harg5 arg6 harg6 arg7 harg7 arg8 harg8 arg19 arg20 arg22 q k v kp vp g bias sinks) (ix2 s d) = Blk.dk (blkV (BitVec.ofNat 32 (i 0).val) q k v kp vp g bias sinks) 1 s d :=
  bandK1 harg1 (BitVec.ofNat 32 (i 0).val) q k v kp vp g bias sinks (dl1 c i arg1 harg1 arg2 harg2 arg3 harg3 arg4 harg4 arg5 harg5 arg6 harg6 arg7 harg7 arg8 harg8 arg19 arg20 arg22 q k v kp vp g bias sinks) s d

theorem bv1 (s : Fin 256) (d : Fin 64) : (runB.sl.v1151 (F := Ideal) c i arg1 harg1 arg2 harg2 arg4 harg4 arg6 harg6 arg7 harg7 arg8 harg8 arg19 arg21 q k kp g bias sinks) (ix2 s d) = Blk.dv (blkV (BitVec.ofNat 32 (i 0).val) q k v kp vp g bias sinks) 1 s d :=
  bandV1 harg6 (BitVec.ofNat 32 (i 0).val) q k v kp vp g bias sinks (pr1 c i arg1 harg1 arg2 harg2 arg4 harg4 arg7 harg7 arg8 harg8 arg19 arg21 q k v kp vp g bias sinks) s d

theorem sq1 (j : Fin 8) (r : Fin 128) (d : Fin 64) : (runB.sl.v1155 (F := Ideal) c i arg1 harg1 arg2 harg2 arg3 harg3 arg4 harg4 arg5 harg5 arg6 harg6 arg7 harg7 arg8 harg8 arg19 arg20 arg22 q k v kp vp g bias sinks) (ix2 (rw8 j r) d) = Blk.dq (blkV (BitVec.ofNat 32 (i 0).val) q k v kp vp g bias sinks) (hd 1 j) r d :=
  grpQ1 harg2 harg4 (BitVec.ofNat 32 (i 0).val) q k v kp vp g bias sinks (dl1 c i arg1 harg1 arg2 harg2 arg3 harg3 arg4 harg4 arg5 harg5 arg6 harg6 arg7 harg7 arg8 harg8 arg19 arg20 arg22 q k v kp vp g bias sinks) j r d

end Cert.KernelIdeal.Attn.B

end
-- ==== Proof.OutB.lean ====
/- What the body leaves in each buffer at a point of case B. -/
module

public import proofs.«01_k».proof.Proof.StackB
public import proofs.«01_k».proof.Proof.Out

@[expose] public section

set_option maxRecDepth 100000
set_option maxHeartbeats 1000000

noncomputable section

namespace Cert.KernelIdeal.Attn.B

open Idealize.ShloMosaic Idealize.ShloMosaic.TcCoe
open Cert.KernelIdeal.Gen Cert.Attn Cert.KernelIdeal.Attn

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (q : Vec Ideal S128x1024 .bf16) (k : Vec Ideal S128x128 .bf16) (v : Vec Ideal S128x128 .bf16) (kp : Vec Ideal S128x128 .bf16) (vp : Vec Ideal S128x128 .bf16) (g : Vec Ideal S128x1024 .bf16) (bias : Vec Ideal S16x128x256 .f32) (sinks : Vec Ideal S16 .f32) (bsum : Vec Ideal S1x1280 .f32) (dbias : Vec Ideal S16x128x256 .f32) (dsink : Vec Ideal S1x128 .f32) (pk : Vec Ideal S128x128 .f32) (pv : Vec Ideal S128x128 .f32)

theorem accs (l : Fin 128) : (runB.sl.v1146 (F := Ideal) c i arg1 harg1 arg2 harg2 arg3 harg3 arg4 harg4 arg5 harg5 arg6 harg6 arg7 harg7 arg8 harg8 arg19 arg20 q k v kp vp g bias sinks) (ix2 0 l) = Blk.dsl (blkV (BitVec.ofNat 32 (i 0).val) q k v kp vp g bias sinks) l := by
  have s0 := soft0 harg1 harg2 harg4 harg7 harg8 arg19 (BitVec.ofNat 32 (i 0).val) q k v kp vp g bias sinks
  have s1 := soft1 harg1 harg2 harg4 harg7 harg8 arg19 (BitVec.ofNat 32 (i 0).val) q k v kp vp g bias sinks
  have h0 : ∀ l, (runB.sl.r_10 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 1 l := acc_step (s0 0 0 rfl [] (by decide) (by decide) (by decide) (by decide) (Shape.Idx.first (by decide))) (dpr0 harg3 harg5 harg6 arg20 (BitVec.ofNat 32 (i 0).val) q k v kp vp g bias sinks 0 0 rfl [] (by decide) (by decide)) (n := 0) rfl (fun l => zeros_acc (blkV (BitVec.ofNat 32 (i 0).val) q k v kp vp g bias sinks) l)
  have h1 : ∀ l, (runB.sl.v182 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 2 l := acc_step (s0 1 1 rfl [] (by decide) (by decide) (by decide) (by decide) (Shape.Idx.first (by decide))) (dpr0 harg3 harg5 harg6 arg20 (BitVec.ofNat 32 (i 0).val) q k v kp vp g bias sinks 1 1 rfl [] (by decide) (by decide)) (n := 1) rfl h0
  have h2 : ∀ l, (runB.sl.r_18 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 3 l := acc_step (s0 2 2 rfl [] (by decide) (by decide) (by decide) (by decide) (Shape.Idx.first (by decide))) (dpr0 harg3 harg5 harg6 arg20 (BitVec.ofNat 32 (i 0).val) q k v kp vp g bias sinks 2 2 rfl [] (by decide) (by decide)) (n := 2) rfl h1
  have h3 : ∀ l, (runB.sl.v302 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 4 l := acc_step (s0 3 3 rfl [] (by decide) (by decide) (by decide) (by decide) (Shape.Idx.first (by decide))) (dpr0 harg3 harg5 harg6 arg20 (BitVec.ofNat 32 (i 0).val) q k v kp vp g bias sinks 3 3 rfl [] (by decide) (by decide)) (n := 3) rfl h2
  have h4 : ∀ l, (runB.sl.r_27 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 5 l := acc_step (s0 4 4 rfl [] (by decide) (by decide) (by decide) (by decide) (Shape.Idx.first (by decide))) (dpr0 harg3 harg5 harg6 arg20 (BitVec.ofNat 32 (i 0).val) q k v kp vp g bias sinks 4 4 rfl [] (by decide) (by decide)) (n := 4) rfl h3
  have h5 : ∀ l, (runB.sl.v422 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 6 l := acc_step (s0 5 5 rfl [] (by decide) (by decide) (by decide) (by decide) (Shape.Idx.first (by decide))) (dpr0 harg3 harg5 harg6 arg20 (BitVec.ofNat 32 (i 0).val) q k v kp vp g bias sinks 5 5 rfl [] (by decide) (by decide)) (n := 5) rfl h4
  have h6 : ∀ l, (runB.sl.r_38 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 7 l := acc_step (s0 6 6 rfl [] (by decide) (by decide) (by decide) (by decide) (Shape.Idx.first (by decide))) (dpr0 harg3 harg5 harg6 arg20 (BitVec.ofNat 32 (i 0).val) q k v kp vp g bias sinks 6 6 rfl [] (by decide) (by decide)) (n := 6) rfl h5
  have h7 : ∀ l, (runB.sl.v542 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 8 l := acc_step (s0 7 7 rfl [] (by decide) (by decide) (by decide) (by decide) (Shape.Idx.first (by decide))) (dpr0 harg3 harg5 harg6 arg20 (BitVec.ofNat 32 (i 0).val) q k v kp vp g bias sinks 7 7 rfl [] (by decide) (by decide)) (n := 7) rfl h6
  have h8 : ∀ l, (runB.sl.r_48 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 9 l := acc_step (s1 0 8 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 0 8 rfl (runB.sl.H20_1 (F := Ideal) c arg3 harg3 arg5 harg5 arg6 harg6 v vp g) (by decide) (by decide)) (n := 8) rfl h7
  have h9 : ∀ l, (runB.sl.r_52 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 10 l := acc_step (s1 1 9 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 1 9 rfl (runB.sl.H20_1 (F := Ideal) c arg3 harg3 arg5 harg5 arg6 harg6 v vp g) (by decide) (by decide)) (n := 9) rfl h8
  have h10 : ∀ l, (runB.sl.r_58 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 11 l := acc_step (s1 2 10 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 2 10 rfl (runB.sl.H20_1 (F := Ideal) c arg3 harg3 arg5 harg5 arg6 harg6 v vp g) (by decide) (by decide)) (n := 10) rfl h9
  have h11 : ∀ l, (runB.sl.r_61 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 12 l := acc_step (s1 3 11 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 3 11 rfl (runB.sl.H20_1 (F := Ideal) c arg3 harg3 arg5 harg5 arg6 harg6 v vp g) (by decide) (by decide)) (n := 11) rfl h10
  have h12 : ∀ l, (runB.sl.r_67 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 13 l := acc_step (s1 4 12 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 4 12 rfl (runB.sl.H20_1 (F := Ideal) c arg3 harg3 arg5 harg5 arg6 harg6 v vp g) (by decide) (by decide)) (n := 12) rfl h11
  have h13 : ∀ l, (runB.sl.r_70 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 14 l := acc_step (s1 5 13 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 5 13 rfl (runB.sl.H20_1 (F := Ideal) c arg3 harg3 arg5 harg5 arg6 harg6 v vp g) (by decide) (by decide)) (n := 13) rfl h12
  have h14 : ∀ l, (runB.sl.v1086 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 15 l := acc_step (s1 6 14 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 6 14 rfl (runB.sl.H20_1 (F := Ideal) c arg3 harg3 arg5 harg5 arg6 harg6 v vp g) (by decide) (by decide)) (n := 14) rfl h13
  have h15 : ∀ l, (runB.sl.v1146 (F := Ideal) c i arg1 harg1 arg2 harg2 arg3 harg3 arg4 harg4 arg5 harg5 arg6 harg6 arg7 harg7 arg8 harg8 arg19 arg20 q k v kp vp g bias sinks) (ix2 0 l) = Blk.acc (blkV (BitVec.ofNat 32 (i 0).val) q k v kp vp g bias sinks) 16 l := acc_step (s1 7 15 rfl (runB.sl.H19_1 (F := Ideal) c arg1 harg1 arg2 harg2 arg4 harg4 q k kp) (by decide) (by decide) (by decide) (by decide) (Shape.Idx.first (by decide))) (dpr1 harg3 harg5 harg6 arg20 (BitVec.ofNat 32 (i 0).val) q k v kp vp g bias sinks 7 15 rfl (runB.sl.H20_1 (F := Ideal) c arg3 harg3 arg5 harg5 arg6 harg6 v vp g) (by decide) (by decide)) (n := 15) rfl h14
  exact (h15 l).trans (Blk.acc_full _ l)

theorem dq (hc1 : ¬k0_cond1 i = 1#1) (hc2 : k0_cond2 i = 1#1) (hc3 : k0_cond3 i = 1#1) (hc4 : ¬k0_cond4 i = 1#1) (f) : arg9.view.read (Elt Ideal) (arg9.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.dq) = tab2 (Blk.dqc (blkV (BitVec.ofNat 32 (i 0).val) q k v kp vp g bias sinks)) := by
  have e1 := sq1 c i arg1 harg1 arg2 harg2 arg3 harg3 arg4 harg4 arg5 harg5 arg6 harg6 arg7 harg7 arg8 harg8 arg19 arg20 arg22 q k v kp vp g bias sinks
  have e0 := sq0 c i arg1 harg1 arg2 harg2 arg3 harg3 arg4 harg4 arg5 harg5 arg6 harg6 arg7 harg7 arg8 harg8 arg19 arg20 arg22 q k v kp vp g bias sinks
  refine Cols.full (W := False) _ f ⟨fun r c => View.canon [] (ix2 r c), ?_⟩
  unfold runB; dsimp only
  refine Cols.step (b := 960) (n := 64) ?_ (by decide) (fun r d => ?_)
  rotate_left
  · exact (slcb_apply _ 896 7 rfl _ _ r d).trans ((e1 7 r d).trans (Blk.dqc_hc _ 15 r d _ rfl).symm)
  refine Cols.step (b := 896) (n := 64) ?_ (by decide) (fun r d => ?_)
  rotate_left
  · exact (slcb_apply _ 768 6 rfl _ _ r d).trans ((e1 6 r d).trans (Blk.dqc_hc _ 14 r d _ rfl).symm)
  refine Cols.step (b := 832) (n := 64) ?_ (by decide) (fun r d => ?_)
  rotate_left
  · exact (slcb_apply _ 640 5 rfl _ _ r d).trans ((e1 5 r d).trans (Blk.dqc_hc _ 13 r d _ rfl).symm)
  refine Cols.step (b := 768) (n := 64) ?_ (by decide) (fun r d => ?_)
  rotate_left
  · exact (slcb_apply _ 512 4 rfl _ _ r d).trans ((e1 4 r d).trans (Blk.dqc_hc _ 12 r d _ rfl).symm)
  refine Cols.step (b := 704) (n := 64) ?_ (by decide) (fun r d => ?_)
  rotate_left
  · exact (slcb_apply _ 384 3 rfl _ _ r d).trans ((e1 3 r d).trans (Blk.dqc_hc _ 11 r d _ rfl).symm)
  refine Cols.step (b := 640) (n := 64) ?_ (by decide) (fun r d => ?_)
  rotate_left
  · exact (slcb_apply _ 256 2 rfl _ _ r d).trans ((e1 2 r d).trans (Blk.dqc_hc _ 10 r d _ rfl).symm)
  refine Cols.step (b := 576) (n := 64) ?_ (by decide) (fun r d => ?_)
  rotate_left
  · exact (slcb_apply _ 128 1 rfl _ _ r d).trans ((e1 1 r d).trans (Blk.dqc_hc _ 9 r d _ rfl).symm)
  refine Cols.step (b := 512) (n := 64) ?_ (by decide) (fun r d => ?_)
  rotate_left
  · exact (slcb_apply _ 0 0 rfl _ _ r d).trans ((e1 0 r d).trans (Blk.dqc_hc _ 8 r d _ rfl).symm)
  refine Cols.step (b := 448) (n := 64) ?_ (by decide) (fun r d => ?_)
  rotate_left
  · exact (slcb_apply _ 896 7 rfl _ _ r d).trans ((e0 7 r d).trans (Blk.dqc_hc _ 7 r d _ rfl).symm)
  refine Cols.step (b := 384) (n := 64) ?_ (by decide) (fun r d => ?_)
  rotate_left
  · exact (slcb_apply _ 768 6 rfl _ _ r d).trans ((e0 6 r d).trans (Blk.dqc_hc _ 6 r d _ rfl).symm)
  refine Cols.step (b := 320) (n := 64) ?_ (by decide) (fun r d => ?_)
  rotate_left
  · exact (slcb_apply _ 640 5 rfl _ _ r d).trans ((e0 5 r d).trans (Blk.dqc_hc _ 5 r d _ rfl).symm)
  refine Cols.step (b := 256) (n := 64) ?_ (by decide) (fun r d => ?_)
  rotate_left
  · exact (slcb_apply _ 512 4 rfl _ _ r d).trans ((e0 4 r d).trans (Blk.dqc_hc _ 4 r d _ rfl).symm)
  refine Cols.step (b := 192) (n := 64) ?_ (by decide) (fun r d => ?_)
  rotate_left
  · exact (slcb_apply _ 384 3 rfl _ _ r d).trans ((e0 3 r d).trans (Blk.dqc_hc _ 3 r d _ rfl).symm)
  refine Cols.step (b := 128) (n := 64) ?_ (by decide) (fun r d => ?_)
  rotate_left
  · exact (slcb_apply _ 256 2 rfl _ _ r d).trans ((e0 2 r d).trans (Blk.dqc_hc _ 2 r d _ rfl).symm)
  refine Cols.step (b := 64) (n := 64) ?_ (by decide) (fun r d => ?_)
  rotate_left
  · exact (slcb_apply _ 128 1 rfl _ _ r d).trans ((e0 1 r d).trans (Blk.dqc_hc _ 1 r d _ rfl).symm)
  refine Cols.step (b := 0) (n := 64) (Cols.nil [] _) (by decide) (fun r d => ?_)
  · exact (slcb_apply _ 0 0 rfl _ _ r d).trans ((e0 0 r d).trans (Blk.dqc_hc _ 0 r d _ rfl).symm)

/-- The row of sums after the point. -/
theorem rk : Cols (runB.sl.H17_2 (F := Ideal) c i arg1 harg1 arg2 harg2 arg3 harg3 arg4 harg4 arg5 harg5 arg6 harg6 arg7 harg7 arg8 harg8 arg19 arg20 arg22 q k v kp vp g bias sinks) 128 (Blk.dkc (blkV (BitVec.ofNat 32 (i 0).val) q k v kp vp g bias sinks)) (fun r c => View.canon [] (ix2 r c)) False := by
  refine Cols.step (b := 64) (n := 64) ?_ (by decide) (fun s d => ((bk1 c i arg1 harg1 arg2 harg2 arg3 harg3 arg4 harg4 arg5 harg5 arg6 harg6 arg7 harg7 arg8 harg8 arg19 arg20 arg22 q k v kp vp g bias sinks) s d).trans (Blk.dkc_gc _ 1 s d _ rfl).symm)
  exact Cols.step (b := 0) (n := 64) (Cols.nil [] _) (by decide) (fun s d => ((bk0 c i arg1 harg1 arg2 harg2 arg3 harg3 arg4 harg4 arg5 harg5 arg6 harg6 arg7 harg7 arg8 harg8 arg19 arg20 arg22 q k v kp vp g bias sinks) s d).trans (Blk.dkc_gc _ 0 s d _ (by simp)).symm)

theorem rv : Cols (runB.sl.H18_2 (F := Ideal) c i arg1 harg1 arg2 harg2 arg4 harg4 arg6 harg6 arg7 harg7 arg8 harg8 arg19 arg21 q k kp g bias sinks) 128 (Blk.dvc (blkV (BitVec.ofNat 32 (i 0).val) q k v kp vp g bias sinks)) (fun r c => View.canon [] (ix2 r c)) False := by
  refine Cols.step (b := 64) (n := 64) ?_ (by decide) (fun s d => ((bv1 c i arg1 harg1 arg2 harg2 arg4 harg4 arg6 harg6 arg7 harg7 arg8 harg8 arg19 arg21 q k v kp vp g bias sinks) s d).trans (Blk.dvc_gc _ 1 s d _ rfl).symm)
  exact Cols.step (b := 0) (n := 64) (Cols.nil [] _) (by decide) (fun s d => ((bv0 c i arg1 harg1 arg2 harg2 arg4 harg4 arg6 harg6 arg7 harg7 arg8 harg8 arg19 arg21 q k v kp vp g bias sinks) s d).trans (Blk.dvc_gc _ 0 s d _ (by simp)).symm)

theorem klo (r : Fin 128) (d : Fin 128) : (runB.sl.v1259 (F := Ideal) c i arg1 harg1 arg2 harg2 arg3 harg3 arg4 harg4 arg5 harg5 arg6 harg6 arg7 harg7 arg8 harg8 arg17 arg19 arg20 arg22 q k v kp vp g bias sinks) (ix2 r d) = Blk.dkc (blkV (BitVec.ofNat 32 (i 0).val) q k v kp vp g bias sinks) (lo r) d := by
  refine (read2 arg17 _ 0 0 _ r d (by omega) (by omega)).trans ?_
  refine ((rk c i arg1 harg1 arg2 harg2 arg3 harg3 arg4 harg4 arg5 harg5 arg6 harg6 arg7 harg7 arg8 harg8 arg19 arg20 arg22 q k v kp vp g bias sinks).lt _ _ (show 0 + d.val < 128 by omega)).trans ?_
  exact congrArg₂ (Blk.dkc (blkV (BitVec.ofNat 32 (i 0).val) q k v kp vp g bias sinks)) (Fin.ext (by simp [lo])) (Fin.ext (by simp))

theorem khi (r : Fin 128) (d : Fin 128) : (runB.sl.v1250 (F := Ideal) c i arg1 harg1 arg2 harg2 arg3 harg3 arg4 harg4 arg5 harg5 arg6 harg6 arg7 harg7 arg8 harg8 arg17 arg19 arg20 arg22 q k v kp vp g bias sinks) (ix2 r d) = Blk.dkc (blkV (BitVec.ofNat 32 (i 0).val) q k v kp vp g bias sinks) (hi r) d := by
  refine (read2 arg17 _ 128 0 _ r d (by omega) (by omega)).trans ?_
  refine ((rk c i arg1 harg1 arg2 harg2 arg3 harg3 arg4 harg4 arg5 harg5 arg6 harg6 arg7 harg7 arg8 harg8 arg19 arg20 arg22 q k v kp vp g bias sinks).lt _ _ (show 0 + d.val < 128 by omega)).trans ?_
  exact congrArg₂ (Blk.dkc (blkV (BitVec.ofNat 32 (i 0).val) q k v kp vp g bias sinks)) (Fin.ext (by simp [hi])) (Fin.ext (by simp))

theorem vlo (r : Fin 128) (d : Fin 128) : (runB.sl.v1262 (F := Ideal) c i arg1 harg1 arg2 harg2 arg4 harg4 arg6 harg6 arg7 harg7 arg8 harg8 arg18 arg19 arg21 q k kp g bias sinks) (ix2 r d) = Blk.dvc (blkV (BitVec.ofNat 32 (i 0).val) q k v kp vp g bias sinks) (lo r) d := by
  refine (read2 arg18 _ 0 0 _ r d (by omega) (by omega)).trans ?_
  refine ((rv c i arg1 harg1 arg2 harg2 arg4 harg4 arg6 harg6 arg7 harg7 arg8 harg8 arg19 arg21 q k v kp vp g bias sinks).lt _ _ (show 0 + d.val < 128 by omega)).trans ?_
  exact congrArg₂ (Blk.dvc (blkV (BitVec.ofNat 32 (i 0).val) q k v kp vp g bias sinks)) (Fin.ext (by simp [lo])) (Fin.ext (by simp))

theorem vhi (r : Fin 128) (d : Fin 128) : (runB.sl.v1254 (F := Ideal) c i arg1 harg1 arg2 harg2 arg4 harg4 arg6 harg6 arg7 harg7 arg8 harg8 arg18 arg19 arg21 q k kp g bias sinks) (ix2 r d) = Blk.dvc (blkV (BitVec.ofNat 32 (i 0).val) q k v kp vp g bias sinks) (hi r) d := by
  refine (read2 arg18 _ 128 0 _ r d (by omega) (by omega)).trans ?_
  refine ((rv c i arg1 harg1 arg2 harg2 arg4 harg4 arg6 harg6 arg7 harg7 arg8 harg8 arg19 arg21 q k v kp vp g bias sinks).lt _ _ (show 0 + d.val < 128 by omega)).trans ?_
  exact congrArg₂ (Blk.dvc (blkV (BitVec.ofNat 32 (i 0).val) q k v kp vp g bias sinks)) (Fin.ext (by simp [hi])) (Fin.ext (by simp))

theorem pkN (hc1 : ¬k0_cond1 i = 1#1) (hc2 : k0_cond2 i = 1#1) (hc3 : k0_cond3 i = 1#1) (hc4 : ¬k0_cond4 i = 1#1) (f) : arg15.view.read (Elt Ideal) (arg15.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.pk) = tab2 (fun r c => Blk.dkc (blkV (BitVec.ofNat 32 (i 0).val) q k v kp vp g bias sinks) (hi r) c) := by
  unfold runB; dsimp only
  refine one_full _ f (fun r y => ?_)
  refine Eq.trans ?_ ((khi c i arg1 harg1 arg2 harg2 arg3 harg3 arg4 harg4 arg5 harg5 arg6 harg6 arg7 harg7 arg8 harg8 arg17 arg19 arg20 arg22 q k v kp vp g bias sinks) r y)
  unfold k0_pay11
  pointwise []

theorem pvN (hc1 : ¬k0_cond1 i = 1#1) (hc2 : k0_cond2 i = 1#1) (hc3 : k0_cond3 i = 1#1) (hc4 : ¬k0_cond4 i = 1#1) (f) : arg16.view.read (Elt Ideal) (arg16.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.pv) = tab2 (fun r c => Blk.dvc (blkV (BitVec.ofNat 32 (i 0).val) q k v kp vp g bias sinks) (hi r) c) := by
  unfold runB; dsimp only
  refine one_full _ f (fun r y => ?_)
  refine Eq.trans ?_ ((vhi c i arg1 harg1 arg2 harg2 arg4 harg4 arg6 harg6 arg7 harg7 arg8 harg8 arg18 arg19 arg21 q k v kp vp g bias sinks) r y)
  unfold k0_pay12
  pointwise []

theorem dsinkN (hc1 : ¬k0_cond1 i = 1#1) (hc2 : k0_cond2 i = 1#1) (hc3 : k0_cond3 i = 1#1) (hc4 : ¬k0_cond4 i = 1#1) (f) : arg14.view.read (Elt Ideal) (arg14.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.dsink) = tab2 (fun (_ : Fin 1) l => dsink (ix2 0 l) + Blk.dsl (blkV (BitVec.ofNat 32 (i 0).val) q k v kp vp g bias sinks) l) := by
  unfold runB; dsimp only
  refine one_full _ f (fun r l => ?_)
  obtain rfl : r = 0 := Subsingleton.elim _ _
  refine (show k0_pay4 (F := Ideal) (runB.sl.v1146 (F := Ideal) c i arg1 harg1 arg2 harg2 arg3 harg3 arg4 harg4 arg5 harg5 arg6 harg6 arg7 harg7 arg8 harg8 arg19 arg20 q k v kp vp g bias sinks) (runB.sl.r_78 (F := Ideal) c arg14 harg14 dsink) (ix2 0 l) = (runB.sl.r_78 (F := Ideal) c arg14 harg14 dsink) (ix2 0 l) + (runB.sl.v1146 (F := Ideal) c i arg1 harg1 arg2 harg2 arg3 harg3 arg4 harg4 arg5 harg5 arg6 harg6 arg7 harg7 arg8 harg8 arg19 arg20 q k v kp vp g bias sinks) (ix2 0 l) from rfl).trans ?_
  rw [accs]
  refine congrArg (· + _) ?_
  refine Eq.trans ?_ (read_lane harg14 dsink inb_S1x128_S1x128_0_0 l)
  unfold runB.sl.r_78 k0_pay303
  pointwise []

theorem dbiasN (hc1 : ¬k0_cond1 i = 1#1) (hc2 : k0_cond2 i = 1#1) (hc3 : k0_cond3 i = 1#1) (hc4 : ¬k0_cond4 i = 1#1) (f) : arg13.view.read (Elt Ideal) (arg13.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.dbias) = tab3 (fun h r s => dbias (ix3 h r s) + Blk.dl (blkV (BitVec.ofNat 32 (i 0).val) q k v kp vp g bias sinks) h r s) := by
  have s1 := soft1 harg1 harg2 harg4 harg7 harg8 arg19 (BitVec.ofNat 32 (i 0).val) q k v kp vp g bias sinks
  have s0 := soft0 harg1 harg2 harg4 harg7 harg8 arg19 (BitVec.ofNat 32 (i 0).val) q k v kp vp g bias sinks
  refine Planes.read (b := 16) (Z := fun h r s => View.canon [] (ix3 h r s)) (W := False) ?_ _ f (le_refl _)
  unfold runB; dsimp only
  refine Planes.step (b := 15) ?_ (by decide) (fun r s => ?_)
  rotate_left
  · exact ((s1 7 15 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 7 15 rfl (runB.sl.H20_1 (F := Ideal) c arg3 harg3 arg5 harg5 arg6 harg6 v vp g) (by decide) (by decide)) _ r s).trans (congrArg (· + _) (read_bias harg13 dbias 15 _ r s))
  refine Planes.step (b := 14) ?_ (by decide) (fun r s => ?_)
  rotate_left
  · exact ((s1 6 14 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 6 14 rfl (runB.sl.H20_1 (F := Ideal) c arg3 harg3 arg5 harg5 arg6 harg6 v vp g) (by decide) (by decide)) _ r s).trans (congrArg (· + _) (read_bias harg13 dbias 14 _ r s))
  refine Planes.step (b := 13) ?_ (by decide) (fun r s => ?_)
  rotate_left
  · exact ((s1 5 13 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 5 13 rfl (runB.sl.H20_1 (F := Ideal) c arg3 harg3 arg5 harg5 arg6 harg6 v vp g) (by decide) (by decide)) _ r s).trans (congrArg (· + _) (read_bias harg13 dbias 13 _ r s))
  refine Planes.step (b := 12) ?_ (by decide) (fun r s => ?_)
  rotate_left
  · exact ((s1 4 12 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 4 12 rfl (runB.sl.H20_1 (F := Ideal) c arg3 harg3 arg5 harg5 arg6 harg6 v vp g) (by decide) (by decide)) _ r s).trans (congrArg (· + _) (read_bias harg13 dbias 12 _ r s))
  refine Planes.step (b := 11) ?_ (by decide) (fun r s => ?_)
  rotate_left
  · exact ((s1 3 11 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 3 11 rfl (runB.sl.H20_1 (F := Ideal) c arg3 harg3 arg5 harg5 arg6 harg6 v vp g) (by decide) (by decide)) _ r s).trans (congrArg (· + _) (read_bias harg13 dbias 11 _ r s))
  refine Planes.step (b := 10) ?_ (by decide) (fun r s => ?_)
  rotate_left
  · exact ((s1 2 10 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 2 10 rfl (runB.sl.H20_1 (F := Ideal) c arg3 harg3 arg5 harg5 arg6 harg6 v vp g) (by decide) (by decide)) _ r s).trans (congrArg (· + _) (read_bias harg13 dbias 10 _ r s))
  refine Planes.step (b := 9) ?_ (by decide) (fun r s => ?_)
  rotate_left
  · exact ((s1 1 9 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 1 9 rfl (runB.sl.H20_1 (F := Ideal) c arg3 harg3 arg5 harg5 arg6 harg6 v vp g) (by decide) (by decide)) _ r s).trans (congrArg (· + _) (read_bias harg13 dbias 9 _ r s))
  refine Planes.step (b := 8) ?_ (by decide) (fun r s => ?_)
  rotate_left
  · exact ((s1 0 8 rfl (runB.sl.H19_1 (F := Ideal) c arg1 harg1 arg2 harg2 arg4 harg4 q k kp) (by decide) (by decide) (by decide) (by decide) (Shape.Idx.first (by decide))).dbias (dpr1 harg3 harg5 harg6 arg20 (BitVec.ofNat 32 (i 0).val) q k v kp vp g bias sinks 0 8 rfl (runB.sl.H20_1 (F := Ideal) c arg3 harg3 arg5 harg5 arg6 harg6 v vp g) (by decide) (by decide)) _ r s).trans (congrArg (· + _) (read_bias harg13 dbias 8 _ r s))
  refine Planes.step (b := 7) ?_ (by decide) (fun r s => ?_)
  rotate_left
  · exact ((s0 7 7 rfl [] (by decide) (by decide) (by decide) (by decide) (Shape.Idx.first (by decide))).dbias (dpr0 harg3 harg5 harg6 arg20 (BitVec.ofNat 32 (i 0).val) q k v kp vp g bias sinks 7 7 rfl [] (by decide) (by decide)) _ r s).trans (congrArg (· + _) (read_bias harg13 dbias 7 _ r s))
  refine Planes.step (b := 6) ?_ (by decide) (fun r s => ?_)
  rotate_left
  · exact ((s0 6 6 rfl [] (by decide) (by decide) (by decide) (by decide) (Shape.Idx.first (by decide))).dbias (dpr0 harg3 harg5 harg6 arg20 (BitVec.ofNat 32 (i 0).val) q k v kp vp g bias sinks 6 6 rfl [] (by decide) (by decide)) _ r s).trans (congrArg (· + _) (read_bias harg13 dbias 6 _ r s))
  refine Planes.step (b := 5) ?_ (by decide) (fun r s => ?_)
  rotate_left
  · exact ((s0 5 5 rfl [] (by decide) (by decide) (by decide) (by decide) (Shape.Idx.first (by decide))).dbias (dpr0 harg3 harg5 harg6 arg20 (BitVec.ofNat 32 (i 0).val) q k v kp vp g bias sinks 5 5 rfl [] (by decide) (by decide)) _ r s).trans (congrArg (· + _) (read_bias harg13 dbias 5 _ r s))
  refine Planes.step (b := 4) ?_ (by decide) (fun r s => ?_)
  rotate_left
  · exact ((s0 4 4 rfl [] (by decide) (by decide) (by decide) (by decide) (Shape.Idx.first (by decide))).dbias (dpr0 harg3 harg5 harg6 arg20 (BitVec.ofNat 32 (i 0).val) q k v kp vp g bias sinks 4 4 rfl [] (by decide) (by decide)) _ r s).trans (congrArg (· + _) (read_bias harg13 dbias 4 _ r s))
  refine Planes.step (b := 3) ?_ (by decide) (fun r s => ?_)
  rotate_left
  · exact ((s0 3 3 rfl [] (by decide) (by decide) (by decide) (by decide) (Shape.Idx.first (by decide))).dbias (dpr0 harg3 harg5 harg6 arg20 (BitVec.ofNat 32 (i 0).val) q k v kp vp g bias sinks 3 3 rfl [] (by decide) (by decide)) _ r s).trans (congrArg (· + _) (read_bias harg13 dbias 3 _ r s))
  refine Planes.step (b := 2) ?_ (by decide) (fun r s => ?_)
  rotate_left
  · exact ((s0 2 2 rfl [] (by decide) (by decide) (by decide) (by decide) (Shape.Idx.first (by decide))).dbias (dpr0 harg3 harg5 harg6 arg20 (BitVec.ofNat 32 (i 0).val) q k v kp vp g bias sinks 2 2 rfl [] (by decide) (by decide)) _ r s).trans (congrArg (· + _) (read_bias harg13 dbias 2 _ r s))
  refine Planes.step (b := 1) ?_ (by decide) (fun r s => ?_)
  rotate_left
  · exact ((s0 1 1 rfl [] (by decide) (by decide) (by decide) (by decide) (Shape.Idx.first (by decide))).dbias (dpr0 harg3 harg5 harg6 arg20 (BitVec.ofNat 32 (i 0).val) q k v kp vp g bias sinks 1 1 rfl [] (by decide) (by decide)) _ r s).trans (congrArg (· + _) (read_bias harg13 dbias 1 _ r s))
  refine Planes.step (b := 0) (Planes.nil [] _) (by decide) (fun r s => ?_)
  · exact ((s0 0 0 rfl [] (by decide) (by decide) (by decide) (by decide) (Shape.Idx.first (by decide))).dbias (dpr0 harg3 harg5 harg6 arg20 (BitVec.ofNat 32 (i 0).val) q k v kp vp g bias sinks 0 0 rfl [] (by decide) (by decide)) _ r s).trans (congrArg (· + _) (read_bias harg13 dbias 0 _ r s))

theorem bsumN (hc1 : ¬k0_cond1 i = 1#1) (hc2 : k0_cond2 i = 1#1) (hc3 : k0_cond3 i = 1#1) (hc4 : ¬k0_cond4 i = 1#1) (f) : arg12.view.read (Elt Ideal) (arg12.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.bsum) = tab2 (fun (_ : Fin 1) (c : Fin 1280) => bsum (ix2 0 c) + (if h : c.val < 1024 then ∑ r, Blk.dqc (blkV (BitVec.ofNat 32 (i 0).val) q k v kp vp g bias sinks) r ⟨c.val, h⟩ else if h2 : c.val < 1152 then ∑ r, (pk (ix2 r ⟨c.val - 1024, by omega⟩) + Blk.dkc (blkV (BitVec.ofNat 32 (i 0).val) q k v kp vp g bias sinks) (lo r) ⟨c.val - 1024, by omega⟩) else ∑ r, (pv (ix2 r ⟨c.val - 1152, by omega⟩) + Blk.dvc (blkV (BitVec.ofNat 32 (i 0).val) q k v kp vp g bias sinks) (lo r) ⟨c.val - 1152, by omega⟩))) := by
  have e1 := sq1 c i arg1 harg1 arg2 harg2 arg3 harg3 arg4 harg4 arg5 harg5 arg6 harg6 arg7 harg7 arg8 harg8 arg19 arg20 arg22 q k v kp vp g bias sinks
  have e0 := sq0 c i arg1 harg1 arg2 harg2 arg3 harg3 arg4 harg4 arg5 harg5 arg6 harg6 arg7 harg7 arg8 harg8 arg19 arg20 arg22 q k v kp vp g bias sinks
  have q0 : ∀ (b : ℕ) (d : Fin 64) (hb : b + 64 ≤ 1024), (fun (_ : Fin 1) (c : Fin 1280) => bsum (ix2 0 c) + (if h : c.val < 1024 then ∑ r, Blk.dqc (blkV (BitVec.ofNat 32 (i 0).val) q k v kp vp g bias sinks) r ⟨c.val, h⟩ else if h2 : c.val < 1152 then ∑ r, (pk (ix2 r ⟨c.val - 1024, by omega⟩) + Blk.dkc (blkV (BitVec.ofNat 32 (i 0).val) q k v kp vp g bias sinks) (lo r) ⟨c.val - 1024, by omega⟩) else ∑ r, (pv (ix2 r ⟨c.val - 1152, by omega⟩) + Blk.dvc (blkV (BitVec.ofNat 32 (i 0).val) q k v kp vp g bias sinks) (lo r) ⟨c.val - 1152, by omega⟩))) 0 ⟨b + d.val, by omega⟩ = bsum (ix2 0 ⟨b + d.val, by omega⟩) + ∑ r, Blk.dqc (blkV (BitVec.ofNat 32 (i 0).val) q k v kp vp g bias sinks) r ⟨b + d.val, by omega⟩ := fun b d hb =>
    congrArg (bsum (ix2 0 ⟨b + d.val, by omega⟩) + ·) (dif_pos (show b + d.val < 1024 by omega))
  refine Cols.full (W := False) _ f ⟨fun r c => View.canon [] (ix2 r c), ?_⟩
  unfold runB; dsimp only
  refine Cols.step (b := 1152) (n := 128) ?_ (by decide) (fun r d => ?_)
  rotate_left
  · obtain rfl : r = 0 := Subsingleton.elim _ _
    refine (csum128_apply _ _ _ _ _ _ _ d).trans (Eq.trans ?_ (congrArg (bsum (ix2 0 ⟨1152 + d.val, by omega⟩) + ·) ((dif_neg (show ¬ 1152 + d.val < 1024 by omega)).trans (dif_neg (show ¬ 1152 + d.val < 1152 by omega)))).symm)
    refine congrArg₂ (· + ·) (read_cols harg12 bsum 1152 128 _ d (by omega)) (Finset.sum_congr rfl fun t _ => ?_)
    refine congrArg₂ (· + ·) ?_ (((vlo c i arg1 harg1 arg2 harg2 arg4 harg4 arg6 harg6 arg7 harg7 arg8 harg8 arg18 arg19 arg21 q k v kp vp g bias sinks) t d).trans (congrArg (Blk.dvc (blkV (BitVec.ofNat 32 (i 0).val) q k v kp vp g bias sinks) (lo t)) (Fin.ext (by simp))))
    exact (congrFun (read_whole harg16 pv _) _).trans (congrArg (fun c => pv (ix2 t c)) (Fin.ext (by simp)))
  refine Cols.step (b := 1024) (n := 128) ?_ (by decide) (fun r d => ?_)
  rotate_left
  · obtain rfl : r = 0 := Subsingleton.elim _ _
    refine (csum128_apply _ _ _ _ _ _ _ d).trans (Eq.trans ?_ (congrArg (bsum (ix2 0 ⟨1024 + d.val, by omega⟩) + ·) ((dif_neg (show ¬ 1024 + d.val < 1024 by omega)).trans (dif_pos (show 1024 + d.val < 1152 by omega)))).symm)
    refine congrArg₂ (· + ·) (read_cols harg12 bsum 1024 128 _ d (by omega)) (Finset.sum_congr rfl fun t _ => ?_)
    refine congrArg₂ (· + ·) ?_ (((klo c i arg1 harg1 arg2 harg2 arg3 harg3 arg4 harg4 arg5 harg5 arg6 harg6 arg7 harg7 arg8 harg8 arg17 arg19 arg20 arg22 q k v kp vp g bias sinks) t d).trans (congrArg (Blk.dkc (blkV (BitVec.ofNat 32 (i 0).val) q k v kp vp g bias sinks) (lo t)) (Fin.ext (by simp))))
    exact (congrFun (read_whole harg15 pk _) _).trans (congrArg (fun c => pk (ix2 t c)) (Fin.ext (by simp)))
  refine Cols.step (b := 960) (n := 64) ?_ (by decide) (fun r d => ?_)
  rotate_left
  · obtain rfl : r = 0 := Subsingleton.elim _ _
    refine (csum64_apply _ _ _ _ _ _ _ d).trans (Eq.trans ?_ (q0 960 d (by decide)).symm)
    exact congrArg₂ (· + ·) (read_cols harg12 bsum 960 64 _ d (by omega)) (Finset.sum_congr rfl fun t _ => (slc_apply _ 896 7 rfl _ t d).trans ((e1 7 t d).trans (Blk.dqc_hc _ 15 t d _ rfl).symm))
  refine Cols.step (b := 896) (n := 64) ?_ (by decide) (fun r d => ?_)
  rotate_left
  · obtain rfl : r = 0 := Subsingleton.elim _ _
    refine (csum64_apply _ _ _ _ _ _ _ d).trans (Eq.trans ?_ (q0 896 d (by decide)).symm)
    exact congrArg₂ (· + ·) (read_cols harg12 bsum 896 64 _ d (by omega)) (Finset.sum_congr rfl fun t _ => (slc_apply _ 768 6 rfl _ t d).trans ((e1 6 t d).trans (Blk.dqc_hc _ 14 t d _ rfl).symm))
  refine Cols.step (b := 832) (n := 64) ?_ (by decide) (fun r d => ?_)
  rotate_left
  · obtain rfl : r = 0 := Subsingleton.elim _ _
    refine (csum64_apply _ _ _ _ _ _ _ d).trans (Eq.trans ?_ (q0 832 d (by decide)).symm)
    exact congrArg₂ (· + ·) (read_cols harg12 bsum 832 64 _ d (by omega)) (Finset.sum_congr rfl fun t _ => (slc_apply _ 640 5 rfl _ t d).trans ((e1 5 t d).trans (Blk.dqc_hc _ 13 t d _ rfl).symm))
  refine Cols.step (b := 768) (n := 64) ?_ (by decide) (fun r d => ?_)
  rotate_left
  · obtain rfl : r = 0 := Subsingleton.elim _ _
    refine (csum64_apply _ _ _ _ _ _ _ d).trans (Eq.trans ?_ (q0 768 d (by decide)).symm)
    exact congrArg₂ (· + ·) (read_cols harg12 bsum 768 64 _ d (by omega)) (Finset.sum_congr rfl fun t _ => (slc_apply _ 512 4 rfl _ t d).trans ((e1 4 t d).trans (Blk.dqc_hc _ 12 t d _ rfl).symm))
  refine Cols.step (b := 704) (n := 64) ?_ (by decide) (fun r d => ?_)
  rotate_left
  · obtain rfl : r = 0 := Subsingleton.elim _ _
    refine (csum64_apply _ _ _ _ _ _ _ d).trans (Eq.trans ?_ (q0 704 d (by decide)).symm)
    exact congrArg₂ (· + ·) (read_cols harg12 bsum 704 64 _ d (by omega)) (Finset.sum_congr rfl fun t _ => (slc_apply _ 384 3 rfl _ t d).trans ((e1 3 t d).trans (Blk.dqc_hc _ 11 t d _ rfl).symm))
  refine Cols.step (b := 640) (n := 64) ?_ (by decide) (fun r d => ?_)
  rotate_left
  · obtain rfl : r = 0 := Subsingleton.elim _ _
    refine (csum64_apply _ _ _ _ _ _ _ d).trans (Eq.trans ?_ (q0 640 d (by decide)).symm)
    exact congrArg₂ (· + ·) (read_cols harg12 bsum 640 64 _ d (by omega)) (Finset.sum_congr rfl fun t _ => (slc_apply _ 256 2 rfl _ t d).trans ((e1 2 t d).trans (Blk.dqc_hc _ 10 t d _ rfl).symm))
  refine Cols.step (b := 576) (n := 64) ?_ (by decide) (fun r d => ?_)
  rotate_left
  · obtain rfl : r = 0 := Subsingleton.elim _ _
    refine (csum64_apply _ _ _ _ _ _ _ d).trans (Eq.trans ?_ (q0 576 d (by decide)).symm)
    exact congrArg₂ (· + ·) (read_cols harg12 bsum 576 64 _ d (by omega)) (Finset.sum_congr rfl fun t _ => (slc_apply _ 128 1 rfl _ t d).trans ((e1 1 t d).trans (Blk.dqc_hc _ 9 t d _ rfl).symm))
  refine Cols.step (b := 512) (n := 64) ?_ (by decide) (fun r d => ?_)
  rotate_left
  · obtain rfl : r = 0 := Subsingleton.elim _ _
    refine (csum64_apply _ _ _ _ _ _ _ d).trans (Eq.trans ?_ (q0 512 d (by decide)).symm)
    exact congrArg₂ (· + ·) (read_cols harg12 bsum 512 64 _ d (by omega)) (Finset.sum_congr rfl fun t _ => (slc_apply _ 0 0 rfl _ t d).trans ((e1 0 t d).trans (Blk.dqc_hc _ 8 t d _ rfl).symm))
  refine Cols.step (b := 448) (n := 64) ?_ (by decide) (fun r d => ?_)
  rotate_left
  · obtain rfl : r = 0 := Subsingleton.elim _ _
    refine (csum64_apply _ _ _ _ _ _ _ d).trans (Eq.trans ?_ (q0 448 d (by decide)).symm)
    exact congrArg₂ (· + ·) (read_cols harg12 bsum 448 64 _ d (by omega)) (Finset.sum_congr rfl fun t _ => (slc_apply _ 896 7 rfl _ t d).trans ((e0 7 t d).trans (Blk.dqc_hc _ 7 t d _ rfl).symm))
  refine Cols.step (b := 384) (n := 64) ?_ (by decide) (fun r d => ?_)
  rotate_left
  · obtain rfl : r = 0 := Subsingleton.elim _ _
    refine (csum64_apply _ _ _ _ _ _ _ d).trans (Eq.trans ?_ (q0 384 d (by decide)).symm)
    exact congrArg₂ (· + ·) (read_cols harg12 bsum 384 64 _ d (by omega)) (Finset.sum_congr rfl fun t _ => (slc_apply _ 768 6 rfl _ t d).trans ((e0 6 t d).trans (Blk.dqc_hc _ 6 t d _ rfl).symm))
  refine Cols.step (b := 320) (n := 64) ?_ (by decide) (fun r d => ?_)
  rotate_left
  · obtain rfl : r = 0 := Subsingleton.elim _ _
    refine (csum64_apply _ _ _ _ _ _ _ d).trans (Eq.trans ?_ (q0 320 d (by decide)).symm)
    exact congrArg₂ (· + ·) (read_cols harg12 bsum 320 64 _ d (by omega)) (Finset.sum_congr rfl fun t _ => (slc_apply _ 640 5 rfl _ t d).trans ((e0 5 t d).trans (Blk.dqc_hc _ 5 t d _ rfl).symm))
  refine Cols.step (b := 256) (n := 64) ?_ (by decide) (fun r d => ?_)
  rotate_left
  · obtain rfl : r = 0 := Subsingleton.elim _ _
    refine (csum64_apply _ _ _ _ _ _ _ d).trans (Eq.trans ?_ (q0 256 d (by decide)).symm)
    exact congrArg₂ (· + ·) (read_cols harg12 bsum 256 64 _ d (by omega)) (Finset.sum_congr rfl fun t _ => (slc_apply _ 512 4 rfl _ t d).trans ((e0 4 t d).trans (Blk.dqc_hc _ 4 t d _ rfl).symm))
  refine Cols.step (b := 192) (n := 64) ?_ (by decide) (fun r d => ?_)
  rotate_left
  · obtain rfl : r = 0 := Subsingleton.elim _ _
    refine (csum64_apply _ _ _ _ _ _ _ d).trans (Eq.trans ?_ (q0 192 d (by decide)).symm)
    exact congrArg₂ (· + ·) (read_cols harg12 bsum 192 64 _ d (by omega)) (Finset.sum_congr rfl fun t _ => (slc_apply _ 384 3 rfl _ t d).trans ((e0 3 t d).trans (Blk.dqc_hc _ 3 t d _ rfl).symm))
  refine Cols.step (b := 128) (n := 64) ?_ (by decide) (fun r d => ?_)
  rotate_left
  · obtain rfl : r = 0 := Subsingleton.elim _ _
    refine (csum64_apply _ _ _ _ _ _ _ d).trans (Eq.trans ?_ (q0 128 d (by decide)).symm)
    exact congrArg₂ (· + ·) (read_cols harg12 bsum 128 64 _ d (by omega)) (Finset.sum_congr rfl fun t _ => (slc_apply _ 256 2 rfl _ t d).trans ((e0 2 t d).trans (Blk.dqc_hc _ 2 t d _ rfl).symm))
  refine Cols.step (b := 64) (n := 64) ?_ (by decide) (fun r d => ?_)
  rotate_left
  · obtain rfl : r = 0 := Subsingleton.elim _ _
    refine (csum64_apply _ _ _ _ _ _ _ d).trans (Eq.trans ?_ (q0 64 d (by decide)).symm)
    exact congrArg₂ (· + ·) (read_cols harg12 bsum 64 64 _ d (by omega)) (Finset.sum_congr rfl fun t _ => (slc_apply _ 128 1 rfl _ t d).trans ((e0 1 t d).trans (Blk.dqc_hc _ 1 t d _ rfl).symm))
  refine Cols.step (b := 0) (n := 64) (Cols.nil [] _) (by decide) (fun r d => ?_)
  · obtain rfl : r = 0 := Subsingleton.elim _ _
    refine (csum64_apply _ _ _ _ _ _ _ d).trans (Eq.trans ?_ (q0 0 d (by decide)).symm)
    exact congrArg₂ (· + ·) (read_cols harg12 bsum 0 64 _ d (by omega)) (Finset.sum_congr rfl fun t _ => (slc_apply _ 0 0 rfl _ t d).trans ((e0 0 t d).trans (Blk.dqc_hc _ 0 t d _ (by simp)).symm))

theorem dkN (hc1 : ¬k0_cond1 i = 1#1) (hc2 : k0_cond2 i = 1#1) (hc3 : k0_cond3 i = 1#1) (hc4 : ¬k0_cond4 i = 1#1) (f) : arg10.view.read (Elt Ideal) (arg10.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.dk) = tab2 (e := .bf16) (fun r c => pk (ix2 r c) + Blk.dkc (blkV (BitVec.ofNat 32 (i 0).val) q k v kp vp g bias sinks) (lo r) c) := by
  unfold runB; dsimp only
  refine one_full _ f (fun r y => ?_)
  exact congrArg₂ (· + ·) (congrFun (read_whole harg15 pk _) _) ((klo c i arg1 harg1 arg2 harg2 arg3 harg3 arg4 harg4 arg5 harg5 arg6 harg6 arg7 harg7 arg8 harg8 arg17 arg19 arg20 arg22 q k v kp vp g bias sinks) r y)

theorem dvN (hc1 : ¬k0_cond1 i = 1#1) (hc2 : k0_cond2 i = 1#1) (hc3 : k0_cond3 i = 1#1) (hc4 : ¬k0_cond4 i = 1#1) (f) : arg11.view.read (Elt Ideal) (arg11.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 q k v kp vp g bias sinks bsum dbias dsink pk pv hc1 hc2 hc3 hc4).1.dv) = tab2 (e := .bf16) (fun r c => pv (ix2 r c) + Blk.dvc (blkV (BitVec.ofNat 32 (i 0).val) q k v kp vp g bias sinks) (lo r) c) := by
  unfold runB; dsimp only
  refine one_full _ f (fun r y => ?_)
  exact congrArg₂ (· + ·) (congrFun (read_whole harg16 pv _) _) ((vlo c i arg1 harg1 arg2 harg2 arg4 harg4 arg6 harg6 arg7 harg7 arg8 harg8 arg18 arg19 arg21 q k v kp vp g bias sinks) r y)

end Cert.KernelIdeal.Attn.B

end
-- ==== Proof.RunC.lean ====
/- The body of the backward kernel run whole at a point of case C: the last point, which writes the last block of keys and values out. -/
module

public import proofs.«01_k».proof.Proof.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (bsum : Vec F S1x1280 .f32) (pk : Vec F S128x128 .f32) (pv : Vec F S128x128 .f32)

/-- The stores of the body at a point of case C: for each buffer it stores into, the pieces it writes, last first. -/
structure PiecesC (F : FTy → Type) where
  dk : List (View.Piece (Elt F) S128x128 .bf16)
  dv : List (View.Piece (Elt F) S128x128 .bf16)
  bsum : List (View.Piece (Elt F) S1x1280 .f32)

set_option maxHeartbeats 2276000 in
/-- The body at a point of case C (the last point, which writes the last block of keys and values out), on whole buffers: from the inputs and the carried buffers at the
    named contents and the others at anything it runs to a state holding what it only reads unchanged and every
    buffer it stores into with its pieces written; a buffer it does not touch is not mentioned. The pieces are found by
    running the body. -/
def runC (hc1 : ¬k0_cond1 i = 1#1) (hc2 : ¬k0_cond2 i = 1#1) (hc4 : k0_cond4 i = 1#1) : { L : PiecesC F // ∀ (E : Set ℕ) (K : PUnit → sProp 𝕄),
    iprop((∃ d, owns (c : Thread nD τ) arg10 fullShare d) ∗ (∃ d, owns (c : Thread nD τ) arg11 fullShare d) ∗ owns (c : Thread nD τ) arg12 fullShare bsum ∗ owns (c : Thread nD τ) arg15 fullShare pk ∗ owns (c : Thread nD τ) arg16 fullShare pv
      ∗ (iprop((∃ f, arg10.view.loc (c : Thread nD τ) ↦[arg10.view.set]{fullShare} arg10.view.writes (Elt F) f L.dk) ∗ (∃ f, arg11.view.loc (c : Thread nD τ) ↦[arg11.view.set]{fullShare} arg11.view.writes (Elt F) f L.dv) ∗ (arg12.view.loc (c : Thread nD τ) ↦[arg12.view.set]{fullShare} arg12.view.writes (Elt F) (harg12.unread bsum) L.bsum) ∗ owns (c : Thread nD τ) arg15 fullShare pk ∗ owns (c : Thread nD τ) arg16 fullShare pv) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨⟨?_, ?_, ?_⟩, fun E K => ?run⟩
  case run =>
    dsimp only
    simp only [cc0_attn_bwd_eq_skeleton]; unfold cc0_attn_bwd_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%d10, %f10, -, H10⟩, ⟨%d11, %f11, -, H11⟩, ⟨%f12, %hf12, H12⟩, ⟨%f15, %hf15, H15⟩, ⟨%f16, %hf16, H16⟩, Hk⟩
    obtain rfl := harg12.eq_unread hf12
    obtain rfl := harg15.eq_unread hf15
    obtain rfl := harg16.eq_unread hf16
    sl_exec (disch := first | sl_exact hc1 | sl_exact hc2 | sl_exact hc4)
    sl_step
    iapply Hk
    isplitl [H10]; · iexists _; iexact H10
    isplitl [H11]; · iexists _; iexact H11
    isplitl [H12]; · iexact H12
    isplitl [H15]
    · iexists _; isplitr; · ipureintro; exact harg15.read_unread _
      iexact H15
    iexists _; isplitr; · ipureintro; exact harg16.read_unread _
    iexact H16

end Cert.KernelIdeal.Attn

end
-- ==== Proof.OutC.lean ====
/- What the body leaves in each buffer at a point of case C. -/
module

public import proofs.«01_k».proof.Proof.RunC
public import proofs.«01_k».proof.Proof.Out

@[expose] public section

set_option maxRecDepth 100000
set_option maxHeartbeats 1000000

noncomputable section

namespace Cert.KernelIdeal.Attn.C

open Idealize.ShloMosaic Idealize.ShloMosaic.TcCoe
open Cert.KernelIdeal.Gen Cert.Attn Cert.KernelIdeal.Attn

variable (c : Dev nD) (i : grid0.Coords)
variable (arg1 : Memref sig .tc .vmem S128x1024 .bf16) (harg1 : arg1.IsWhole)
variable (arg2 : Memref sig .tc .vmem S128x128 .bf16) (harg2 : arg2.IsWhole)
variable (arg3 : Memref sig .tc .vmem S128x128 .bf16) (harg3 : arg3.IsWhole)
variable (arg4 : Memref sig .tc .vmem S128x128 .bf16) (harg4 : arg4.IsWhole)
variable (arg5 : Memref sig .tc .vmem S128x128 .bf16) (harg5 : arg5.IsWhole)
variable (arg6 : Memref sig .tc .vmem S128x1024 .bf16) (harg6 : arg6.IsWhole)
variable (arg7 : Memref sig .tc .vmem S16x128x256 .f32) (harg7 : arg7.IsWhole)
variable (arg8 : Memref sig .tc .smem S16 .f32) (harg8 : arg8.IsWhole)
variable (arg9 : Memref sig .tc .vmem S128x1024 .bf16) (harg9 : arg9.IsWhole)
variable (arg10 : Memref sig .tc .vmem S128x128 .bf16) (harg10 : arg10.IsWhole)
variable (arg11 : Memref sig .tc .vmem S128x128 .bf16) (harg11 : arg11.IsWhole)
variable (arg12 : Memref sig .tc .vmem S1x1280 .f32) (harg12 : arg12.IsWhole)
variable (arg13 : Memref sig .tc .vmem S16x128x256 .f32) (harg13 : arg13.IsWhole)
variable (arg14 : Memref sig .tc .vmem S1x128 .f32) (harg14 : arg14.IsWhole)
variable (arg15 : Memref sig .tc .vmem S128x128 .f32) (harg15 : arg15.IsWhole)
variable (arg16 : Memref sig .tc .vmem S128x128 .f32) (harg16 : arg16.IsWhole)
variable (arg17 : Memref sig .tc .vmem S256x128 .f32) (harg17 : arg17.IsWhole)
variable (arg18 : Memref sig .tc .vmem S256x128 .f32) (harg18 : arg18.IsWhole)
variable (arg19 : Memref sig .tc .vmem S1024x256 .f32) (harg19 : arg19.IsWhole)
variable (arg20 : Memref sig .tc .vmem S1024x256 .f32) (harg20 : arg20.IsWhole)
variable (arg21 : Memref sig .tc .vmem S1024x256 .bf16) (harg21 : arg21.IsWhole)
variable (arg22 : Memref sig .tc .vmem S1024x256 .bf16) (harg22 : arg22.IsWhole)
variable (bsum : Vec Ideal S1x1280 .f32) (pk : Vec Ideal S128x128 .f32) (pv : Vec Ideal S128x128 .f32)

theorem dkN (hc1 : ¬k0_cond1 i = 1#1) (hc2 : ¬k0_cond2 i = 1#1) (hc4 : k0_cond4 i = 1#1) (f) : arg10.view.read (Elt Ideal) (arg10.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 bsum pk pv hc1 hc2 hc4).1.dk) = tab2 (e := .bf16) (fun r c => pk (ix2 r c)) := by
  unfold runC; dsimp only
  refine one_full _ f (fun r y => ?_)
  exact congrFun (read_whole harg15 pk _) _

theorem dvN (hc1 : ¬k0_cond1 i = 1#1) (hc2 : ¬k0_cond2 i = 1#1) (hc4 : k0_cond4 i = 1#1) (f) : arg11.view.read (Elt Ideal) (arg11.view.writes (Elt Ideal) f (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 bsum pk pv hc1 hc2 hc4).1.dv) = tab2 (e := .bf16) (fun r c => pv (ix2 r c)) := by
  unfold runC; dsimp only
  refine one_full _ f (fun r y => ?_)
  exact congrFun (read_whole harg16 pv _) _

theorem bsumN (hc1 : ¬k0_cond1 i = 1#1) (hc2 : ¬k0_cond2 i = 1#1) (hc4 : k0_cond4 i = 1#1) : arg12.view.read (Elt Ideal) (arg12.view.writes (Elt Ideal) (harg12.unread bsum) (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 bsum pk pv hc1 hc2 hc4).1.bsum)
    = tab2 (fun (_ : Fin 1) (y : Fin 1280) => if y.val < 1024 then bsum (ix2 0 y)
        else if h2 : y.val < 1152 then bsum (ix2 0 y) + ∑ r : Fin 128, pk (ix2 r ⟨y.val - 1024, by omega⟩)
        else bsum (ix2 0 y) + ∑ r : Fin 128, pv (ix2 r ⟨y.val - 1152, by omega⟩)) := by
  rw [read_writes_over arg12.view _ (off := ![0, 0]) (by funext a; fin_cases a <;> rfl) (by intro a; fin_cases a <;> decide), harg12.read_unread]
  refine Eq.trans ?_ (Cols.full (W := True) arg12.view (harg12.unread bsum) (L := (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 bsum pk pv hc1 hc2 hc4).1.bsum ++ [⟨Rect.unit ![0, 0] ![1, 1280] (by intro a; fin_cases a <;> decide), bsum⟩]) ⟨fun r y => bsum (ix2 r y), ?_⟩)
  · rw [View.read_writes_eq_canon]
    · intro y
      refine ⟨_, List.mem_append_right _ (List.mem_singleton_self _), ?_⟩
      have h := (Rect.unit (s := S1x1280) ![0, 0] ![1, 1280] (by intro a; fin_cases a <;> decide)).idx_mem y
      have e1 : (Rect.unit (s := S1x1280) ![0, 0] ![1, 1280] (by intro a; fin_cases a <;> decide)).idx y = y := by
        funext a
        fin_cases a <;> apply Fin.ext <;> simp
      rwa [e1] at h
  unfold runC; dsimp only [List.cons_append, List.nil_append]
  refine Cols.step (b := 1152) (n := 128) ?_ (by decide) (fun r d => ?_)
  rotate_left
  · obtain rfl : r = 0 := Subsingleton.elim _ _
    refine (csum128_apply _ _ _ _ _ _ _ d).trans (Eq.trans ?_ ((if_neg (show ¬ 1152 + d.val < 1024 by omega)).trans (dif_neg (show ¬ 1152 + d.val < 1152 by omega))).symm)
    refine congrArg₂ (· + ·) (read_cols harg12 bsum 1152 128 _ d (by omega)) (Finset.sum_congr rfl fun t _ => ?_)
    exact (congrFun (read_whole harg16 pv _) _).trans (congrArg (fun c => pv (ix2 t c)) (Fin.ext (by simp)))
  refine Cols.step (b := 1024) (n := 128) ?_ (by decide) (fun r d => ?_)
  rotate_left
  · obtain rfl : r = 0 := Subsingleton.elim _ _
    refine (csum128_apply _ _ _ _ _ _ _ d).trans (Eq.trans ?_ ((if_neg (show ¬ 1024 + d.val < 1024 by omega)).trans (dif_pos (show 1024 + d.val < 1152 by omega))).symm)
    refine congrArg₂ (· + ·) (read_cols harg12 bsum 1024 128 _ d (by omega)) (Finset.sum_congr rfl fun t _ => ?_)
    exact (congrFun (read_whole harg15 pk _) _).trans (congrArg (fun c => pk (ix2 t c)) (Fin.ext (by simp)))
  exact Cols.base 1024 fun r c hc => by
    obtain rfl : r = 0 := Subsingleton.elim _ _
    exact (if_pos hc).symm

end Cert.KernelIdeal.Attn.C

end
-- ==== Proof.Data.lean ====
/- The proof data of the kernel's pipeline over extended reals, in closed form: what each staging buffer and each carried
   scratch buffer holds after the body at a grid point, as sums over the blocks so far. -/
module

public import proofs.«01_k».proof.Proof.OutA
public import proofs.«01_k».proof.Proof.OutB
public import proofs.«01_k».proof.Proof.OutC
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

/-! ## The grid -/

theorem t_lt (t : Fin cfg0.N) : t.val < 65 := lt_of_lt_of_eq t.isLt (show cfg0.N = 65 from N_0)

theorem first_iff : ∀ t : Fin cfg0.N, k0_cond1 (grid0.coords t) = 1#1 ↔ t.val = 0 := by decide +kernel
theorem works_iff : ∀ t : Fin cfg0.N, k0_cond2 (grid0.coords t) = 1#1 ↔ t.val < 64 := by decide +kernel
theorem emits_iff : ∀ t : Fin cfg0.N, k0_cond3 (grid0.coords t) = 1#1 ↔ 1 ≤ t.val := by decide +kernel
theorem last_iff : ∀ t : Fin cfg0.N, k0_cond4 (grid0.coords t) = 1#1 ↔ t.val = 64 := by decide +kernel
theorem coord_val : ∀ t : Fin cfg0.N, (grid0.coords t 0).val = t.val := by decide +kernel

theorem idle_8 : ∀ t : Fin cfg0.N, t.val < 64 → cfg0.idle 8 (grid0.coords t) = false := by decide +kernel
theorem idle_9 : ∀ t : Fin cfg0.N, 1 ≤ t.val → cfg0.idle 9 (grid0.coords t) = false := by decide +kernel
theorem idle_10 : ∀ t : Fin cfg0.N, 1 ≤ t.val → cfg0.idle 10 (grid0.coords t) = false := by decide +kernel
theorem idle_11 : ∀ t : Fin cfg0.N, cfg0.idle 11 (grid0.coords t) = false := by decide +kernel
theorem idle_12 : ∀ t : Fin cfg0.N, t.val < 64 → cfg0.idle 12 (grid0.coords t) = false := by decide +kernel
theorem idle_13 : ∀ t : Fin cfg0.N, t.val < 64 → cfg0.idle 13 (grid0.coords t) = false := by decide +kernel
theorem idle_9_first : ∀ t : Fin cfg0.N, t.val = 0 → cfg0.idle 9 (grid0.coords t) = true := by decide +kernel
theorem idle_10_first : ∀ t : Fin cfg0.N, t.val = 0 → cfg0.idle 10 (grid0.coords t) = true := by decide +kernel
theorem idle_8_last : ∀ t : Fin cfg0.N, t.val = 64 → cfg0.idle 8 (grid0.coords t) = true := by decide +kernel
theorem idle_12_last : ∀ t : Fin cfg0.N, t.val = 64 → cfg0.idle 12 (grid0.coords t) = true := by decide +kernel
theorem idle_13_last : ∀ t : Fin cfg0.N, t.val = 64 → cfg0.idle 13 (grid0.coords t) = true := by decide +kernel
theorem flush_9_first : ∀ t : Fin cfg0.N, t.val = 0 → (cfg0.win 9).flush t = false := by decide +kernel
theorem flush_10_first : ∀ t : Fin cfg0.N, t.val = 0 → (cfg0.win 10).flush t = false := by decide +kernel
theorem flush_8_last : ∀ t : Fin cfg0.N, t.val = 64 → (cfg0.win 8).flush t = true := by decide +kernel
theorem flush_12_last : ∀ t : Fin cfg0.N, t.val = 64 → (cfg0.win 12).flush t = true := by decide +kernel
theorem flush_13_last : ∀ t : Fin cfg0.N, t.val = 64 → (cfg0.win 13).flush t = true := by decide +kernel

/-- Whether window 8's buffer holds nothing stored since its last write-back, by position. -/
def fresh8 : ℕ → Bool
  | 0 => true
  | n + 1 => n != 63
theorem fresh8_step : ∀ t : Fin cfg0.N, fresh8 (t.val + 1) = ((cfg0.win 8).flush t || (cfg0.idle 8 (cfg0.grid.coords t) && fresh8 t.val)) := by decide +kernel
theorem fresh_8 (t : Fin cfg0.N) (ht : t.val = 64) : cfg0.fresh 8 t.val = false := by
  rw [Pipeline.Cfg.fresh_tab cfg0 8 fresh8 rfl fresh8_step t.val (Nat.le_of_lt t.isLt), ht]; rfl

/-- The same for the windows written back at the last point only. -/
def freshL : ℕ → Bool
  | 0 => true
  | n + 1 => n == 64
theorem freshL_pos : ∀ n, n ≠ 0 → n < 65 → freshL n = false
  | 0, h, _ => absurd rfl h
  | n + 1, _, h => by
    show (n == 64) = false
    exact beq_eq_false_iff_ne.mpr (by omega)
theorem fresh_11 (t : Fin cfg0.N) (ht : t.val ≠ 0) : cfg0.fresh 11 t.val = false := by
  rw [Pipeline.Cfg.fresh_tab cfg0 11 freshL rfl (by decide +kernel) t.val (Nat.le_of_lt t.isLt)]
  exact freshL_pos _ ht (t_lt t)
theorem fresh_12 (t : Fin cfg0.N) (ht : t.val ≠ 0) : cfg0.fresh 12 t.val = false := by
  rw [Pipeline.Cfg.fresh_tab cfg0 12 freshL rfl (by decide +kernel) t.val (Nat.le_of_lt t.isLt)]
  exact freshL_pos _ ht (t_lt t)
theorem fresh_13 (t : Fin cfg0.N) (ht : t.val ≠ 0) : cfg0.fresh 13 t.val = false := by
  rw [Pipeline.Cfg.fresh_tab cfg0 13 freshL rfl (by decide +kernel) t.val (Nat.le_of_lt t.isLt)]
  exact freshL_pos _ ht (t_lt t)

/-! ## What the buffers hold -/

section
variable (m : (ℓ : Loc nD τ sig) → Buf (Elt Ideal) ℓ) (c : Dev nD)

/-- The grid point of a position. -/
def pt (n : ℕ) : Fin cfg0.N := ⟨min n 64, lt_of_lt_of_eq (by omega : min n 64 < 65) (show cfg0.N = 65 from N_0).symm⟩

theorem pt_val (t : Fin cfg0.N) : pt t.val = t := Fin.ext (Nat.min_eq_left (Nat.le_of_lt_succ (t_lt t)))

/-- The block of position `n`: the blocks the windows stage there. -/
def blk (n : ℕ) : Blk :=
  blkV (BitVec.ofNat 32 n) (X0_0 m c (pt n)) (iblk m c 1 (pt n)) (iblk m c 2 (pt n)) (iblk m c 3 (pt n)) (iblk m c 4 (pt n)) (iblk m c 5 (pt n)) (iblk m c 6 (pt n)) (iblk m c 7 (pt n))

theorem blk_at (t : Fin cfg0.N) : blkV (BitVec.ofNat 32 (grid0.coords t 0).val) (X0_0 m c t) (iblk m c 1 t) (iblk m c 2 t) (iblk m c 3 t) (iblk m c 4 t) (iblk m c 5 t) (iblk m c 6 t) (iblk m c 7 t) = blk m c t.val := by
  unfold blk; rw [pt_val, coord_val]

/-- What is written out at position `t` of a gradient of the bands: the second half of the block before's and, up to the
    last block, the first half of this one's. -/
def em (D : ℕ → Fin 256 → Fin 128 → EReal) (t : ℕ) (r : Fin 128) (y : Fin 128) : EReal :=
  if t < 64 then D (t - 1) (hi r) y + D t (lo r) y else D (t - 1) (hi r) y

abbrev DK : ℕ → Fin 256 → Fin 128 → EReal := fun n => Blk.dkc (blk m c n)
abbrev DV : ℕ → Fin 256 → Fin 128 → EReal := fun n => Blk.dvc (blk m c n)

def o8 (t : ℕ) : Vec Ideal S128x1024 .bf16 := tab2 (e := .bf16) (Blk.dqc (blk m c (min t 63)))
def o9 (t : ℕ) : Vec Ideal S128x128 .bf16 := tab2 (e := .bf16) (em (DK m c) t)
def o10 (t : ℕ) : Vec Ideal S128x128 .bf16 := tab2 (e := .bf16) (em (DV m c) t)
def o11 (t : ℕ) : Vec Ideal S1x1280 .f32 := tab2 (e := .f32) fun (_ : Fin 1) (y : Fin 1280) =>
  if h : y.val < 1024 then ∑ n ∈ Finset.range (min (t + 1) 64), ∑ r, Blk.dqc (blk m c n) r ⟨y.val, h⟩
  else if h2 : y.val < 1152 then ∑ n ∈ Finset.range t, ∑ r, em (DK m c) (n + 1) r ⟨y.val - 1024, by omega⟩
  else ∑ n ∈ Finset.range t, ∑ r, em (DV m c) (n + 1) r ⟨y.val - 1152, by omega⟩
def o12 (t : ℕ) : Vec Ideal S16x128x256 .f32 := tab3 (e := .f32) fun h r s => ∑ n ∈ Finset.range (min (t + 1) 64), Blk.dl (blk m c n) h r s
def o13 (t : ℕ) : Vec Ideal S1x128 .f32 := tab2 (e := .f32) fun (_ : Fin 1) l => ∑ n ∈ Finset.range (min (t + 1) 64), Blk.dsl (blk m c n) l
def s0 (t : ℕ) : Vec Ideal S128x128 .f32 := tab2 (e := .f32) fun r y => Blk.dkc (blk m c (min t 63)) (hi r) y
def s1 (t : ℕ) : Vec Ideal S128x128 .f32 := tab2 (e := .f32) fun r y => Blk.dvc (blk m c (min t 63)) (hi r) y

/-! ## The steps -/

variable (t : ℕ)

theorem o8_work (h : t < 64) : tab2 (e := .bf16) (Blk.dqc (blk m c t)) = o8 m c t := by
  unfold o8; rw [Nat.min_eq_left (by omega)]

theorem s0_work (h : t < 64) : tab2 (e := .f32) (fun r y => Blk.dkc (blk m c t) (hi r) y) = s0 m c t := by
  unfold s0; rw [Nat.min_eq_left (by omega)]

theorem s1_work (h : t < 64) : tab2 (e := .f32) (fun r y => Blk.dvc (blk m c t) (hi r) y) = s1 m c t := by
  unfold s1; rw [Nat.min_eq_left (by omega)]

theorem s0_apply (h : t < 64) (r y : Fin 128) : s0 m c t (ix2 r y) = Blk.dkc (blk m c t) (hi r) y := congrFun (s0_work m c t h).symm _
theorem s1_apply (h : t < 64) (r y : Fin 128) : s1 m c t (ix2 r y) = Blk.dvc (blk m c t) (hi r) y := congrFun (s1_work m c t h).symm _

theorem o9_work (h1 : 1 ≤ t) (h : t < 64) : tab2 (e := .bf16) (fun r y => s0 m c (t - 1) (ix2 r y) + Blk.dkc (blk m c t) (lo r) y) = o9 m c t := by
  refine congrArg (tab2 (e := .bf16)) (funext fun r => funext fun y => ?_)
  unfold em; rw [if_pos h, s0_apply m c _ (by omega)]

theorem o10_work (h1 : 1 ≤ t) (h : t < 64) : tab2 (e := .bf16) (fun r y => s1 m c (t - 1) (ix2 r y) + Blk.dvc (blk m c t) (lo r) y) = o10 m c t := by
  refine congrArg (tab2 (e := .bf16)) (funext fun r => funext fun y => ?_)
  unfold em; rw [if_pos h, s1_apply m c _ (by omega)]

theorem o9_last (h : t = 64) : tab2 (e := .bf16) (fun r y => s0 m c (t - 1) (ix2 r y)) = o9 m c t := by
  refine congrArg (tab2 (e := .bf16)) (funext fun r => funext fun y => ?_)
  unfold em; rw [if_neg (by omega), s0_apply m c _ (by omega)]

theorem o10_last (h : t = 64) : tab2 (e := .bf16) (fun r y => s1 m c (t - 1) (ix2 r y)) = o10 m c t := by
  refine congrArg (tab2 (e := .bf16)) (funext fun r => funext fun y => ?_)
  unfold em; rw [if_neg (by omega), s1_apply m c _ (by omega)]

theorem s0_last (h : t = 64) : s0 m c (t - 1) = s0 m c t := by subst h; rfl
theorem s1_last (h : t = 64) : s1 m c (t - 1) = s1 m c t := by subst h; rfl
theorem o8_last (h : t = 64) : o8 m c (t - 1) = o8 m c t := by subst h; rfl
theorem o12_last (h : t = 64) : o12 m c (t - 1) = o12 m c t := by subst h; rfl
theorem o13_last (h : t = 64) : o13 m c (t - 1) = o13 m c t := by subst h; rfl

theorem sum_one (f : ℕ → EReal) : (∑ n ∈ Finset.range (min (0 + 1) 64), f n) = f 0 := Finset.sum_range_one f

theorem o12_first (h : t = 0) : tab3 (e := .f32) (fun h r s => Blk.dl (blk m c t) h r s) = o12 m c t := by
  subst h
  refine congrArg (tab3 (e := .f32)) (funext fun h => funext fun r => funext fun s => ?_)
  exact (sum_one fun n => Blk.dl (blk m c n) h r s).symm

theorem o13_first (h : t = 0) : tab2 (e := .f32) (fun (_ : Fin 1) l => Blk.dsl (blk m c t) l) = o13 m c t := by
  subst h
  refine congrArg (tab2 (e := .f32)) (funext fun r => funext fun l => ?_)
  exact (sum_one fun n => Blk.dsl (blk m c n) l).symm

theorem o11_first (h : t = 0) : tab2 (e := .f32) (fun (_ : Fin 1) (y : Fin 1280) => if h : y.val < 1024 then ∑ r, Blk.dqc (blk m c t) r ⟨y.val, h⟩ else (0 : EReal)) = o11 m c t := by
  subst h
  refine congrArg (tab2 (e := .f32)) (funext fun r => funext fun y => ?_)
  by_cases h1 : y.val < 1024
  · rw [dif_pos h1, dif_pos h1]; exact (sum_one fun n => ∑ r, Blk.dqc (blk m c n) r ⟨y.val, h1⟩).symm
  · rw [dif_neg h1, dif_neg h1]
    by_cases h2 : y.val < 1152
    · rw [dif_pos h2, Finset.sum_range_zero]
    · rw [dif_neg h2, Finset.sum_range_zero]

theorem sum_work (f : ℕ → EReal) (h1 : 1 ≤ t) (h : t < 64) : (∑ n ∈ Finset.range (min (t - 1 + 1) 64), f n) + f t = ∑ n ∈ Finset.range (min (t + 1) 64), f n := by
  rw [Nat.min_eq_left (by omega), Nat.min_eq_left (by omega), Nat.sub_add_cancel h1, Finset.sum_range_succ]

theorem sum_emit (f : ℕ → EReal) (h1 : 1 ≤ t) : (∑ n ∈ Finset.range (t - 1), f (n + 1)) + f t = ∑ n ∈ Finset.range t, f (n + 1) := by
  obtain ⟨u, rfl⟩ : ∃ u, t = u + 1 := ⟨t - 1, by omega⟩
  rw [Nat.add_sub_cancel, Finset.sum_range_succ]

theorem o12_work (h1 : 1 ≤ t) (h : t < 64) : tab3 (e := .f32) (fun h r s => o12 m c (t - 1) (ix3 h r s) + Blk.dl (blk m c t) h r s) = o12 m c t :=
  congrArg (tab3 (e := .f32)) (funext fun k => funext fun r => funext fun s => sum_work t (fun n => Blk.dl (blk m c n) k r s) h1 h)

theorem o13_work (h1 : 1 ≤ t) (h : t < 64) : tab2 (e := .f32) (fun (_ : Fin 1) l => o13 m c (t - 1) (ix2 0 l) + Blk.dsl (blk m c t) l) = o13 m c t :=
  congrArg (tab2 (e := .f32)) (funext fun r => funext fun l => sum_work t (fun n => Blk.dsl (blk m c n) l) h1 h)

theorem o11_q (t : ℕ) (y : Fin 1280) (h : y.val < 1024) : o11 m c t (ix2 0 y) = ∑ n ∈ Finset.range (min (t + 1) 64), ∑ r, Blk.dqc (blk m c n) r ⟨y.val, h⟩ := dif_pos h
theorem o11_k (t : ℕ) (y : Fin 1280) (h : ¬ y.val < 1024) (h2 : y.val < 1152) : o11 m c t (ix2 0 y) = ∑ n ∈ Finset.range t, ∑ r, em (DK m c) (n + 1) r ⟨y.val - 1024, by omega⟩ := (dif_neg h).trans (dif_pos h2)
theorem o11_v (t : ℕ) (y : Fin 1280) (h : ¬ y.val < 1024) (h2 : ¬ y.val < 1152) : o11 m c t (ix2 0 y) = ∑ n ∈ Finset.range t, ∑ r, em (DV m c) (n + 1) r ⟨y.val - 1152, by omega⟩ := (dif_neg h).trans (dif_neg h2)

theorem o11_work (h1 : 1 ≤ t) (h : t < 64) : tab2 (e := .f32) (fun (_ : Fin 1) (y : Fin 1280) => o11 m c (t - 1) (ix2 0 y) + (if h : y.val < 1024 then ∑ r, Blk.dqc (blk m c t) r ⟨y.val, h⟩
      else if h2 : y.val < 1152 then ∑ r, (s0 m c (t - 1) (ix2 r ⟨y.val - 1024, by omega⟩) + Blk.dkc (blk m c t) (lo r) ⟨y.val - 1024, by omega⟩)
      else ∑ r, (s1 m c (t - 1) (ix2 r ⟨y.val - 1152, by omega⟩) + Blk.dvc (blk m c t) (lo r) ⟨y.val - 1152, by omega⟩))) = o11 m c t := by
  refine congrArg (tab2 (e := .f32)) (funext fun i => funext fun y => ?_)
  show (o11 m c (t - 1) (ix2 0 y) + _ : EReal) = o11 m c t (ix2 0 y)
  by_cases hq : y.val < 1024
  · rw [dif_pos hq, o11_q m c _ y hq, o11_q m c _ y hq]
    exact sum_work t (fun n => ∑ r, Blk.dqc (blk m c n) r ⟨y.val, hq⟩) h1 h
  · rw [dif_neg hq]
    by_cases hk : y.val < 1152
    · rw [dif_pos hk, o11_k m c _ y hq hk, o11_k m c _ y hq hk]
      refine Eq.trans (congrArg (_ + ·) (Finset.sum_congr rfl fun r _ => ?_)) (sum_emit t (fun n => ∑ r, em (DK m c) n r ⟨y.val - 1024, by omega⟩) h1)
      unfold em; rw [if_pos h, s0_apply m c _ (by omega)]
    · rw [dif_neg hk, o11_v m c _ y hq hk, o11_v m c _ y hq hk]
      refine Eq.trans (congrArg (_ + ·) (Finset.sum_congr rfl fun r _ => ?_)) (sum_emit t (fun n => ∑ r, em (DV m c) n r ⟨y.val - 1152, by omega⟩) h1)
      unfold em; rw [if_pos h, s1_apply m c _ (by omega)]

theorem o11_last (h : t = 64) : tab2 (e := .f32) (fun (_ : Fin 1) (y : Fin 1280) => if y.val < 1024 then o11 m c (t - 1) (ix2 0 y)
      else if h2 : y.val < 1152 then o11 m c (t - 1) (ix2 0 y) + ∑ r : Fin 128, s0 m c (t - 1) (ix2 r ⟨y.val - 1024, by omega⟩)
      else o11 m c (t - 1) (ix2 0 y) + ∑ r : Fin 128, s1 m c (t - 1) (ix2 r ⟨y.val - 1152, by omega⟩)) = o11 m c t := by
  refine congrArg (tab2 (e := .f32)) (funext fun i => funext fun y => ?_)
  show (if y.val < 1024 then o11 m c (t - 1) (ix2 0 y) else _ : EReal) = o11 m c t (ix2 0 y)
  by_cases hq : y.val < 1024
  · rw [if_pos hq, o11_q m c _ y hq, o11_q m c _ y hq]
    subst h; rfl
  · rw [if_neg hq]
    by_cases hk : y.val < 1152
    · rw [dif_pos hk, o11_k m c _ y hq hk, o11_k m c _ y hq hk]
      refine Eq.trans (congrArg (_ + ·) (Finset.sum_congr rfl fun r _ => ?_)) (sum_emit t (fun n => ∑ r, em (DK m c) n r ⟨y.val - 1024, by omega⟩) (by omega))
      unfold em; rw [if_neg (by omega), s0_apply m c _ (by omega)]
    · rw [dif_neg hk, o11_v m c _ y hq hk, o11_v m c _ y hq hk]
      refine Eq.trans (congrArg (_ + ·) (Finset.sum_congr rfl fun r _ => ?_)) (sum_emit t (fun n => ∑ r, em (DV m c) n r ⟨y.val - 1152, by omega⟩) (by omega))
      unfold em; rw [if_neg (by omega), s1_apply m c _ (by omega)]

end

end Cert.KernelIdeal.Attn

end
-- ==== Proof.Body.lean ====
/- The body at every grid point: from the buffers at what the proof data says before the point to what it says after. -/
module

public import proofs.«01_k».proof.Proof.Data

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

/-! ## The buffers -/

abbrev mw0 (t : Fin cfg0.N) : Memref sig .tc .vmem S128x1024 .bf16 := win0_0.stage (cfg0.slots t 0)
abbrev hw0 (t : Fin cfg0.N) : (mw0 t).IsWhole := hstage0_0 ((cfg0.slots t 0).cast nbuf0_0)
abbrev mw1 (t : Fin cfg0.N) : Memref sig .tc .vmem S128x128 .bf16 := win0_1.stage (cfg0.slots t 1)
abbrev hw1 (t : Fin cfg0.N) : (mw1 t).IsWhole := hstage0_1 ((cfg0.slots t 1).cast nbuf0_1)
abbrev mw2 (t : Fin cfg0.N) : Memref sig .tc .vmem S128x128 .bf16 := win0_2.stage (cfg0.slots t 2)
abbrev hw2 (t : Fin cfg0.N) : (mw2 t).IsWhole := hstage0_2 ((cfg0.slots t 2).cast nbuf0_2)
abbrev mw3 (t : Fin cfg0.N) : Memref sig .tc .vmem S128x128 .bf16 := win0_3.stage (cfg0.slots t 3)
abbrev hw3 (t : Fin cfg0.N) : (mw3 t).IsWhole := hstage0_3 ((cfg0.slots t 3).cast nbuf0_3)
abbrev mw4 (t : Fin cfg0.N) : Memref sig .tc .vmem S128x128 .bf16 := win0_4.stage (cfg0.slots t 4)
abbrev hw4 (t : Fin cfg0.N) : (mw4 t).IsWhole := hstage0_4 ((cfg0.slots t 4).cast nbuf0_4)
abbrev mw5 (t : Fin cfg0.N) : Memref sig .tc .vmem S128x1024 .bf16 := win0_5.stage (cfg0.slots t 5)
abbrev hw5 (t : Fin cfg0.N) : (mw5 t).IsWhole := hstage0_5 ((cfg0.slots t 5).cast nbuf0_5)
abbrev mw6 (t : Fin cfg0.N) : Memref sig .tc .vmem S16x128x256 .f32 := win0_6.stage (cfg0.slots t 6)
abbrev hw6 (t : Fin cfg0.N) : (mw6 t).IsWhole := hstage0_6 ((cfg0.slots t 6).cast nbuf0_6)
abbrev mw7 (t : Fin cfg0.N) : Memref sig .tc .smem S16 .f32 := win0_7.stage (cfg0.slots t 7)
abbrev hw7 (t : Fin cfg0.N) : (mw7 t).IsWhole := hstage0_7 ((cfg0.slots t 7).cast nbuf0_7)
abbrev mw8 (t : Fin cfg0.N) : Memref sig .tc .vmem S128x1024 .bf16 := win0_8.stage (cfg0.slots t 8)
abbrev hw8 (t : Fin cfg0.N) : (mw8 t).IsWhole := hstage0_8 ((cfg0.slots t 8).cast nbuf0_8)
abbrev mw9 (t : Fin cfg0.N) : Memref sig .tc .vmem S128x128 .bf16 := win0_9.stage (cfg0.slots t 9)
abbrev hw9 (t : Fin cfg0.N) : (mw9 t).IsWhole := hstage0_9 ((cfg0.slots t 9).cast nbuf0_9)
abbrev mw10 (t : Fin cfg0.N) : Memref sig .tc .vmem S128x128 .bf16 := win0_10.stage (cfg0.slots t 10)
abbrev hw10 (t : Fin cfg0.N) : (mw10 t).IsWhole := hstage0_10 ((cfg0.slots t 10).cast nbuf0_10)
abbrev mw11 (t : Fin cfg0.N) : Memref sig .tc .vmem S1x1280 .f32 := win0_11.stage (cfg0.slots t 11)
abbrev hw11 (t : Fin cfg0.N) : (mw11 t).IsWhole := hstage0_11 ((cfg0.slots t 11).cast nbuf0_11)
abbrev mw12 (t : Fin cfg0.N) : Memref sig .tc .vmem S16x128x256 .f32 := win0_12.stage (cfg0.slots t 12)
abbrev hw12 (t : Fin cfg0.N) : (mw12 t).IsWhole := hstage0_12 ((cfg0.slots t 12).cast nbuf0_12)
abbrev mw13 (t : Fin cfg0.N) : Memref sig .tc .vmem S1x128 .f32 := win0_13.stage (cfg0.slots t 13)
abbrev hw13 (t : Fin cfg0.N) : (mw13 t).IsWhole := hstage0_13 ((cfg0.slots t 13).cast nbuf0_13)
abbrev sc0 : Memref sig .tc .vmem S128x128 .f32 := Memref.whole cc0_scratch0
abbrev sc1 : Memref sig .tc .vmem S128x128 .f32 := Memref.whole cc0_scratch1
abbrev sc2 : Memref sig .tc .vmem S256x128 .f32 := Memref.whole cc0_scratch2
abbrev sc3 : Memref sig .tc .vmem S256x128 .f32 := Memref.whole cc0_scratch3
abbrev sc4 : Memref sig .tc .vmem S1024x256 .f32 := Memref.whole cc0_scratch4
abbrev sc5 : Memref sig .tc .vmem S1024x256 .f32 := Memref.whole cc0_scratch5
abbrev sc6 : Memref sig .tc .vmem S1024x256 .bf16 := Memref.whole cc0_scratch6
abbrev sc7 : Memref sig .tc .vmem S1024x256 .bf16 := Memref.whole cc0_scratch7

/-- What the region starts from: every scratch buffer at anything. -/
theorem start_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

variable (m : (ℓ : Loc nD τ sig) → Buf (Elt Ideal) ℓ)

/-- What holds of the scratch before position `n`: nothing known at the first, afterwards the two carried blocks known. -/
def carried (c : Dev nD) : ℕ → sProp 𝕄
  | 0 => Pipeline.ΦA spec0 c
  | n + 1 => iprop(iprop(owns (c : Thread nD τ) sc0 fullShare (s0 m c n) ∗ owns (c : Thread nD τ) sc1 fullShare (s1 m c n) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r))

theorem carried_succ (c : Dev nD) (n : ℕ) : carried m c (n + 1) = iprop(iprop(owns (c : Thread nD τ) sc0 fullShare (s0 m c n) ∗ owns (c : Thread nD τ) sc1 fullShare (s1 m c n) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := rfl

theorem carried_pos (c : Dev nD) (n : ℕ) (h : n ≠ 0) : carried m c n = iprop(iprop(owns (c : Thread nD τ) sc0 fullShare (s0 m c (n - 1)) ∗ owns (c : Thread nD τ) sc1 fullShare (s1 m c (n - 1)) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  cases n with
  | zero => exact absurd rfl h
  | succ n => rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 m c t.val
    | ⟨9, _⟩ => o9 m c t.val
    | ⟨10, _⟩ => o10 m c t.val
    | ⟨11, _⟩ => o11 m c t.val
    | ⟨12, _⟩ => o12 m c t.val
    | ⟨13, _⟩ => o13 m c t.val
  Φ t := carried m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = o8 m c t.val := by dsimp only [dats]
theorem after_9 (c : Dev nD) (t : Fin cfg0.N) : (dats m 0 c).after 9 t = o9 m c t.val := by dsimp only [dats]
theorem after_10 (c : Dev nD) (t : Fin cfg0.N) : (dats m 0 c).after 10 t = o10 m c t.val := by dsimp only [dats]
theorem after_11 (c : Dev nD) (t : Fin cfg0.N) : (dats m 0 c).after 11 t = o11 m c t.val := by dsimp only [dats]
theorem after_12 (c : Dev nD) (t : Fin cfg0.N) : (dats m 0 c).after 12 t = o12 m c t.val := by dsimp only [dats]
theorem after_13 (c : Dev nD) (t : Fin cfg0.N) : (dats m 0 c).after 13 t = o13 m c t.val := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [after_8, after_8]
  by_cases h : t.val < 64
  · rw [idle_8 t h] at hi; exact absurd hi Bool.false_ne_true
  · exact (o8_last m c t.val (by have := t_lt t; omega)).symm
theorem carry_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [after_12, after_12]
  by_cases h : t.val < 64
  · rw [idle_12 t h] at hi; exact absurd hi Bool.false_ne_true
  · exact (o12_last m c t.val (by have := t_lt t; omega)).symm
theorem carry_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  rw [after_13, after_13]
  by_cases h : t.val < 64
  · rw [idle_13 t h] at hi; exact absurd hi Bool.false_ne_true
  · exact (o13_last m c t.val (by have := t_lt t; omega)).symm
theorem carry_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  rw [idle_11 t] at hi; exact absurd hi Bool.false_ne_true
theorem before_8 (c : Dev nD) (t : Fin cfg0.N) (ht : t.val = 64) (d) : (dats m 0 c).before 8 t d = o8 m c (t.val - 1) := by
  rw [Dat.before_out_traj _ 8 rfl (fun _ _ => rfl) (carry_8 m c) t.val t rfl d, if_neg (by rw [fresh_8 t ht]; exact Bool.false_ne_true)]
  dsimp only [dats]
theorem before_11 (c : Dev nD) (t : Fin cfg0.N) (ht : t.val ≠ 0) (d) : (dats m 0 c).before 11 t d = o11 m c (t.val - 1) := by
  rw [Dat.before_out_traj _ 11 rfl (fun _ _ => rfl) (carry_11 m c) t.val t rfl d, if_neg (by rw [fresh_11 t ht]; exact Bool.false_ne_true)]
  dsimp only [dats]
theorem before_12 (c : Dev nD) (t : Fin cfg0.N) (ht : t.val ≠ 0) (d) : (dats m 0 c).before 12 t d = o12 m c (t.val - 1) := by
  rw [Dat.before_out_traj _ 12 rfl (fun _ _ => rfl) (carry_12 m c) t.val t rfl d, if_neg (by rw [fresh_12 t ht]; exact Bool.false_ne_true)]
  dsimp only [dats]
theorem before_13 (c : Dev nD) (t : Fin cfg0.N) (ht : t.val ≠ 0) (d) : (dats m 0 c).before 13 t d = o13 m c (t.val - 1) := by
  rw [Dat.before_out_traj _ 13 rfl (fun _ _ => rfl) (carry_13 m c) t.val t rfl d, if_neg (by rw [fresh_13 t ht]; exact Bool.false_ne_true)]
  dsimp only [dats]
theorem live_0 (c : Dev nD) (t : Fin cfg0.N) (h : cfg0.idle 0 (grid0.coords t) = false) : (dats m 0 c).leavesExact 0 t = owns (c : Thread nD τ) (mw0 t) fullShare (X0_0 m c t) := by
  unfold Dat.leavesExact; rw [h, after_0]
theorem live_1 (c : Dev nD) (t : Fin cfg0.N) (h : cfg0.idle 1 (grid0.coords t) = false) : (dats m 0 c).leavesExact 1 t = owns (c : Thread nD τ) (mw1 t) fullShare (iblk m c 1 t) := by
  unfold Dat.leavesExact; rw [h, after_1]
theorem live_2 (c : Dev nD) (t : Fin cfg0.N) (h : cfg0.idle 2 (grid0.coords t) = false) : (dats m 0 c).leavesExact 2 t = owns (c : Thread nD τ) (mw2 t) fullShare (iblk m c 2 t) := by
  unfold Dat.leavesExact; rw [h, after_2]
theorem live_3 (c : Dev nD) (t : Fin cfg0.N) (h : cfg0.idle 3 (grid0.coords t) = false) : (dats m 0 c).leavesExact 3 t = owns (c : Thread nD τ) (mw3 t) fullShare (iblk m c 3 t) := by
  unfold Dat.leavesExact; rw [h, after_3]
theorem live_4 (c : Dev nD) (t : Fin cfg0.N) (h : cfg0.idle 4 (grid0.coords t) = false) : (dats m 0 c).leavesExact 4 t = owns (c : Thread nD τ) (mw4 t) fullShare (iblk m c 4 t) := by
  unfold Dat.leavesExact; rw [h, after_4]
theorem live_5 (c : Dev nD) (t : Fin cfg0.N) (h : cfg0.idle 5 (grid0.coords t) = false) : (dats m 0 c).leavesExact 5 t = owns (c : Thread nD τ) (mw5 t) fullShare (iblk m c 5 t) := by
  unfold Dat.leavesExact; rw [h, after_5]
theorem live_6 (c : Dev nD) (t : Fin cfg0.N) (h : cfg0.idle 6 (grid0.coords t) = false) : (dats m 0 c).leavesExact 6 t = owns (c : Thread nD τ) (mw6 t) fullShare (iblk m c 6 t) := by
  unfold Dat.leavesExact; rw [h, after_6]
theorem live_7 (c : Dev nD) (t : Fin cfg0.N) (h : cfg0.idle 7 (grid0.coords t) = false) : (dats m 0 c).leavesExact 7 t = owns (c : Thread nD τ) (mw7 t) fullShare (iblk m c 7 t) := by
  unfold Dat.leavesExact; rw [h, after_7]
theorem live_8 (c : Dev nD) (t : Fin cfg0.N) (h : cfg0.idle 8 (grid0.coords t) = false) : (dats m 0 c).leavesExact 8 t = owns (c : Thread nD τ) (mw8 t) fullShare (o8 m c t.val) := by
  unfold Dat.leavesExact; rw [h, after_8]
theorem live_9 (c : Dev nD) (t : Fin cfg0.N) (h : cfg0.idle 9 (grid0.coords t) = false) : (dats m 0 c).leavesExact 9 t = owns (c : Thread nD τ) (mw9 t) fullShare (o9 m c t.val) := by
  unfold Dat.leavesExact; rw [h, after_9]
theorem live_10 (c : Dev nD) (t : Fin cfg0.N) (h : cfg0.idle 10 (grid0.coords t) = false) : (dats m 0 c).leavesExact 10 t = owns (c : Thread nD τ) (mw10 t) fullShare (o10 m c t.val) := by
  unfold Dat.leavesExact; rw [h, after_10]
theorem live_11 (c : Dev nD) (t : Fin cfg0.N) (h : cfg0.idle 11 (grid0.coords t) = false) : (dats m 0 c).leavesExact 11 t = owns (c : Thread nD τ) (mw11 t) fullShare (o11 m c t.val) := by
  unfold Dat.leavesExact; rw [h, after_11]
theorem live_12 (c : Dev nD) (t : Fin cfg0.N) (h : cfg0.idle 12 (grid0.coords t) = false) : (dats m 0 c).leavesExact 12 t = owns (c : Thread nD τ) (mw12 t) fullShare (o12 m c t.val) := by
  unfold Dat.leavesExact; rw [h, after_12]
theorem live_13 (c : Dev nD) (t : Fin cfg0.N) (h : cfg0.idle 13 (grid0.coords t) = false) : (dats m 0 c).leavesExact 13 t = owns (c : Thread nD τ) (mw13 t) fullShare (o13 m c t.val) := by
  unfold Dat.leavesExact; rw [h, after_13]
theorem flushed_8 (c : Dev nD) (t : Fin cfg0.N) (h : t.val = 64) : (dats m 0 c).leavesExact 8 t = owns (c : Thread nD τ) (mw8 t) fullShare (o8 m c t.val) := by
  unfold Dat.leavesExact; rw [idle_8_last t h, flush_8_last t h, after_8]
theorem flushed_12 (c : Dev nD) (t : Fin cfg0.N) (h : t.val = 64) : (dats m 0 c).leavesExact 12 t = owns (c : Thread nD τ) (mw12 t) fullShare (o12 m c t.val) := by
  unfold Dat.leavesExact; rw [idle_12_last t h, flush_12_last t h, after_12]
theorem flushed_13 (c : Dev nD) (t : Fin cfg0.N) (h : t.val = 64) : (dats m 0 c).leavesExact 13 t = owns (c : Thread nD τ) (mw13 t) fullShare (o13 m c t.val) := by
  unfold Dat.leavesExact; rw [idle_13_last t h, flush_13_last t h, after_13]

/-! ## The body -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d))
    ∗ (∃ d, owns (c : Thread nD τ) (mw8 t) fullShare ((dats m 0 c).before 8 t d))
    ∗ (∃ d, owns (c : Thread nD τ) (mw9 t) fullShare ((dats m 0 c).before 9 t d))
    ∗ (∃ d, owns (c : Thread nD τ) (mw10 t) fullShare ((dats m 0 c).before 10 t d))
    ∗ (∃ d, owns (c : Thread nD τ) (mw11 t) fullShare ((dats m 0 c).before 11 t d))
    ∗ (∃ d, owns (c : Thread nD τ) (mw12 t) fullShare ((dats m 0 c).before 12 t d))
    ∗ (∃ d, owns (c : Thread nD τ) (mw13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 1600000 in
theorem bodyA (c : Dev nD) (t : Fin cfg0.N) (h0 : t.val = 0) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = carried m c (t.val + 1) from rfl, carried_succ]
  rw [show (dats m 0 c).Φ t.castSucc = carried m c t.val from rfl]
  rw [live_0 m c t rfl, live_1 m c t rfl, live_2 m c t rfl, live_3 m c t rfl, live_4 m c t rfl, live_5 m c t rfl, live_6 m c t rfl, live_7 m c t rfl]
  rw [live_8 m c t (idle_8 t (by omega)), live_11 m c t (idle_11 t), live_12 m c t (idle_12 t (by omega)), live_13 m c t (idle_13 t (by omega))]
  rw [Dat.leavesExact_idle (dats m 0 c) 9 t (idle_9_first t h0) (flush_9_first t h0), Dat.leavesExact_idle (dats m 0 c) 10 t (idle_10_first t h0) (flush_10_first t h0)]
  rw [show carried m c t.val = Pipeline.ΦA spec0 c from by rw [h0]; rfl, start_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, ⟨%d11, H11⟩, ⟨%d12, H12⟩, ⟨%d13, H13⟩⟩
  iapply ((runA (F := Ideal) c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) ((first_iff t).mpr h0) ((works_iff t).mpr (by omega)) (fun h => absurd ((emits_iff t).mp h) (by omega)) (fun h => absurd ((last_iff t).mp h) (by omega))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%e8, H8⟩, ⟨%e11, H11⟩, ⟨%e12, H12⟩, ⟨%e13, H13⟩, ⟨%f0, HS0⟩, ⟨%f1, HS1⟩, ⟨%f2, HS2⟩, ⟨%f3, HS3⟩, ⟨%f4, HS4⟩, ⟨%f5, HS5⟩, ⟨%f6, HS6⟩, ⟨%f7, HS7⟩⟩
  isplitl [HS0 HS1 HS2 HS3 HS4 HS5 HS6 HS7 Hg]
  · isplitl [HS0 HS1 HS2 HS3 HS4 HS5 HS6 HS7]
    · isplitl [HS0]
      · unfold owns; iexists _; isplitr
        swap; · iexact HS0
        ipureintro; exact (A.pkN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) _ _ _ _ _).trans ((congrArg (fun B => tab2 (e := .f32) (fun r y => Blk.dkc B (hi r) y)) (blk_at m c t)).trans (s0_work m c t.val (by omega)))
      isplitl [HS1]
      · unfold owns; iexists _; isplitr
        swap; · iexact HS1
        ipureintro; exact (A.pvN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) _ _ _ _ _).trans ((congrArg (fun B => tab2 (e := .f32) (fun r y => Blk.dvc B (hi r) y)) (blk_at m c t)).trans (s1_work m c t.val (by omega)))
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      iexists _; unfold owns; iexists _; isplitr
      swap; · iexact HS7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact (A.dq c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) _ _ _ _ _).trans ((congrArg (fun B => tab2 (e := .bf16) (Blk.dqc B)) (blk_at m c t)).trans (o8_work m c t.val (by omega)))
  isplitl [H9]
  · iexact H9
  isplitl [H10]
  · iexact H10
  isplitl [H11]
  · unfold owns; iexists _; isplitr
    swap; · iexact H11
    ipureintro; exact (A.bsumN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) _ _ _ _ _).trans ((congrArg (fun B => tab2 (e := .f32) (fun (_ : Fin 1) (y : Fin 1280) => if h : y.val < 1024 then ∑ r, Blk.dqc B r ⟨y.val, h⟩ else (0 : EReal))) (blk_at m c t)).trans (o11_first m c t.val h0))
  isplitl [H12]
  · unfold owns; iexists _; isplitr
    swap; · iexact H12
    ipureintro; exact (A.dbiasN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) _ _ _ _ _).trans ((congrArg (fun B => tab3 (e := .f32) (fun h r s => Blk.dl B h r s)) (blk_at m c t)).trans (o12_first m c t.val h0))
  unfold owns; iexists _; isplitr
  swap; · iexact H13
  ipureintro; exact (A.dsinkN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) _ _ _ _ _).trans ((congrArg (fun B => tab2 (e := .f32) (fun (_ : Fin 1) l => Blk.dsl B l)) (blk_at m c t)).trans (o13_first m c t.val h0))

set_option maxHeartbeats 1600000 in
theorem bodyB (c : Dev nD) (t : Fin cfg0.N) (h1 : 1 ≤ t.val) (h2 : t.val < 64) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = carried m c (t.val + 1) from rfl, carried_succ]
  rw [show (dats m 0 c).Φ t.castSucc = carried m c t.val from rfl]
  rw [live_0 m c t rfl, live_1 m c t rfl, live_2 m c t rfl, live_3 m c t rfl, live_4 m c t rfl, live_5 m c t rfl, live_6 m c t rfl, live_7 m c t rfl]
  rw [live_8 m c t (idle_8 t h2), live_9 m c t (idle_9 t h1), live_10 m c t (idle_10 t h1), live_11 m c t (idle_11 t), live_12 m c t (idle_12 t h2), live_13 m c t (idle_13 t h2)]
  simp only [before_11 m c t (by omega), before_12 m c t (by omega), before_13 m c t (by omega)]
  rw [carried_pos m c t.val (by omega)]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runB (F := Ideal) c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) (fun h => absurd ((first_iff t).mp h) (by omega)) ((works_iff t).mpr h2) ((emits_iff t).mpr h1) (fun h => absurd ((last_iff t).mp h) (by omega))).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, ⟨%e8, H8⟩, ⟨%e9, H9⟩, ⟨%e10, H10⟩, ⟨%e11, H11⟩, ⟨%e12, H12⟩, ⟨%e13, H13⟩, ⟨%f0, HS0⟩, ⟨%f1, HS1⟩, ⟨%f2, HS2⟩, ⟨%f3, HS3⟩, ⟨%f4, HS4⟩, ⟨%f5, HS5⟩, ⟨%f6, HS6⟩, ⟨%f7, HS7⟩⟩
  isplitl [HS0 HS1 HS2 HS3 HS4 HS5 HS6 HS7 Hg]
  · isplitl [HS0 HS1 HS2 HS3 HS4 HS5 HS6 HS7]
    · isplitl [HS0]
      · unfold owns; iexists _; isplitr
        swap; · iexact HS0
        ipureintro; exact (B.pkN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .f32) (fun r y => Blk.dkc B (hi r) y)) (blk_at m c t)).trans (s0_work m c t.val h2))
      isplitl [HS1]
      · unfold owns; iexists _; isplitr
        swap; · iexact HS1
        ipureintro; exact (B.pvN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .f32) (fun r y => Blk.dvc B (hi r) y)) (blk_at m c t)).trans (s1_work m c t.val h2))
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      iexists _; unfold owns; iexists _; isplitr
      swap; · iexact HS7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact (B.dq c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .bf16) (Blk.dqc B)) (blk_at m c t)).trans (o8_work m c t.val h2))
  isplitl [H9]
  · unfold owns; iexists _; isplitr
    swap; · iexact H9
    ipureintro; exact (B.dkN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .bf16) (fun r y => s0 m c (t.val - 1) (ix2 r y) + Blk.dkc B (lo r) y)) (blk_at m c t)).trans (o9_work m c t.val h1 h2))
  isplitl [H10]
  · unfold owns; iexists _; isplitr
    swap; · iexact H10
    ipureintro; exact (B.dvN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .bf16) (fun r y => s1 m c (t.val - 1) (ix2 r y) + Blk.dvc B (lo r) y)) (blk_at m c t)).trans (o10_work m c t.val h1 h2))
  isplitl [H11]
  · unfold owns; iexists _; isplitr
    swap; · iexact H11
    ipureintro; exact (B.bsumN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .f32) (fun (_ : Fin 1) (y : Fin 1280) => o11 m c (t.val - 1) (ix2 0 y) + (if h : y.val < 1024 then ∑ r, Blk.dqc B r ⟨y.val, h⟩ else if h2 : y.val < 1152 then ∑ r, (s0 m c (t.val - 1) (ix2 r ⟨y.val - 1024, by omega⟩) + Blk.dkc B (lo r) ⟨y.val - 1024, by omega⟩) else ∑ r, (s1 m c (t.val - 1) (ix2 r ⟨y.val - 1152, by omega⟩) + Blk.dvc B (lo r) ⟨y.val - 1152, by omega⟩)))) (blk_at m c t)).trans (o11_work m c t.val h1 h2))
  isplitl [H12]
  · unfold owns; iexists _; isplitr
    swap; · iexact H12
    ipureintro; exact (B.dbiasN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab3 (e := .f32) (fun h r s => o12 m c (t.val - 1) (ix3 h r s) + Blk.dl B h r s)) (blk_at m c t)).trans (o12_work m c t.val h1 h2))
  unfold owns; iexists _; isplitr
  swap; · iexact H13
  ipureintro; exact (B.dsinkN c (grid0.coords t) _ _ _ _ _ _ _ _ _ _ _ _ _ _ _ _ _ _ _ _ _ _ _ _ _ _ _ _ _ _ _ _ _ _ _ _ _ _ _ _ _ _ _ _ (X0_0 m c t) (iblk m c 1 t) (iblk m c 2 t) (iblk m c 3 t) (iblk m c 4 t) (iblk m c 5 t) (iblk m c 6 t) (iblk m c 7 t) (o11 m c (t.val - 1)) (o12 m c (t.val - 1)) (o13 m c (t.val - 1)) (s0 m c (t.val - 1)) (s1 m c (t.val - 1)) _ _ _ _ _).trans ((congrArg (fun B => tab2 (e := .f32) (fun (_ : Fin 1) l => o13 m c (t.val - 1) (ix2 0 l) + Blk.dsl B l)) (blk_at m c t)).trans (o13_work m c t.val h1 h2))

set_option maxHeartbeats 1600000 in
theorem bodyC (c : Dev nD) (t : Fin cfg0.N) (h0 : t.val = 64) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = carried m c (t.val + 1) from rfl, carried_succ]
  rw [show (dats m 0 c).Φ t.castSucc = carried m c t.val from rfl]
  rw [live_0 m c t rfl, live_1 m c t rfl, live_2 m c t rfl, live_3 m c t rfl, live_4 m c t rfl, live_5 m c t rfl, live_6 m c t rfl, live_7 m c t rfl]
  rw [flushed_8 m c t h0, live_9 m c t (idle_9 t (by omega)), live_10 m c t (idle_10 t (by omega)), live_11 m c t (idle_11 t), flushed_12 m c t h0, flushed_13 m c t h0]
  simp only [before_8 m c t h0, before_11 m c t (by omega), before_12 m c t (by omega), before_13 m c t (by omega)]
  rw [o8_last m c t.val h0, o12_last m c t.val h0, o13_last m c t.val h0, carried_pos m c t.val (by omega), ← s0_last m c t.val h0, ← s1_last m c t.val h0]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runC (F := Ideal) c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (o11 m c (t.val - 1)) (s0 m c (t.val - 1)) (s1 m c (t.val - 1)) (fun h => absurd ((first_iff t).mp h) (by omega)) (fun h => absurd ((works_iff t).mp h) (by omega)) ((last_iff t).mpr h0)).2 Set.univ _)
  isplitl [H9]; · iexists _; iexact H9
  isplitl [H10]; · iexists _; iexact H10
  isplitl [H11]; · iexact H11
  isplitl [HS0]; · iexact HS0
  isplitl [HS1]; · iexact HS1
  iintro ⟨⟨%e9, H9⟩, ⟨%e10, H10⟩, H11, HS0, HS1⟩
  isplitl [HS0 HS1 HS2 HS3 HS4 HS5 HS6 HS7 Hg]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact (C.dkN c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (o11 m c (t.val - 1)) (s0 m c (t.val - 1)) (s1 m c (t.val - 1)) _ _ _ _).trans (o9_last m c t.val h0)
  isplitl [H10]
  · unfold owns; iexists _; isplitr
    swap; · iexact H10
    ipureintro; exact (C.dvN c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (o11 m c (t.val - 1)) (s0 m c (t.val - 1)) (s1 m c (t.val - 1)) _ _ _ _).trans (o10_last m c t.val h0)
  isplitl [H11]
  · unfold owns; iexists _; isplitr
    swap; · iexact H11
    ipureintro; exact (C.bsumN c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) (mw11 t) (hw11 t) (mw12 t) (hw12 t) (mw13 t) (hw13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (o11 m c (t.val - 1)) (s0 m c (t.val - 1)) (s1 m c (t.val - 1)) _ _ _).trans (o11_last m c t.val h0)
  isplitl [H12]; · iexact H12
  iexact H13

theorem body_row (t : Fin cfg0.N) : defs₀ (F := Ideal) .tc cfg0.body (cfg0.bodyArgs t (cfg0.slots t)) = bodyAt0 t := by
  unfold defs₀; rw [Defs.onTc_tc]

/-- The body keeps the proof data at every point. -/
theorem body_all (c : Dev nD) (t : Fin cfg0.N) :
    bodyPre m c t ⊢ wp frame (wpE (defs₀ (F := Ideal)) Variants.none c none) Set.univ (bodyAt0 t) (fun _ => bodyPost m c t) := by
  have h := t_lt t
  rcases Nat.eq_zero_or_pos t.val with h0 | h1
  · exact bodyA m c t h0
  · rcases Nat.lt_or_ge t.val 64 with h2 | h2
    · exact bodyB m c t h1 h2
    · exact bodyC m c t (by omega)

theorem obligation (c : Dev nD) : BodyObligation (dats m 0 c) (defs₀ (F := Ideal)) Variants.none () Set.univ := fun t => by
  rw [bigSep_W0, bigSep_W0, body_row]
  exact triple_restated (body_all m c t) rfl .rfl fun _ => .rfl

theorem start (c : Dev nD) : Pipeline.ΦA spec0 c ⊢ (dats m 0 c).Φ 0 := by
  rw [show (dats m 0 c).Φ 0 = Pipeline.ΦA spec0 c from rfl]

theorem finish (c : Dev nD) : (dats m 0 c).Φ (Fin.last cfg0.N) ⊢ Pipeline.ΦA spec0 c := by
  rw [show (dats m 0 c).Φ (Fin.last cfg0.N) = carried m c (Fin.last cfg0.N).val from rfl, carried_pos m c _ (by rw [Fin.val_last]; have : cfg0.N = 65 := N_0; omega), start_eq]
  iintro ⟨⟨HS0, HS1, HS⟩, Hg⟩
  isplitl [HS0 HS1 HS]
  · isplitl [HS0]
    · iexists _; iexact HS0
    isplitl [HS1]
    · iexists _; iexact HS1
    iexact HS
  iexact Hg

/-! ## The run -/

variable (ρ : Dev nD → PrngReg)

set_option backward.isDefEq.respectTransparency.types false in
/-- Every execution ends with every array of the pipeline at what the proof data makes of it and every counter at zero. -/
theorem run_all : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := start m) (hout := finish m)

theorem args_kept : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_all m ρ))

end Cert.KernelIdeal.Attn

end
-- ==== Proof.Softmax.lean ====
/- The gradient of one block over real numbers: where every entry of a block is a number, the quotients, products and sums
   of the softmax's derivative may be taken in any order. -/
module

public import proofs.«01_k».proof.Proof.Spec
public import Idealize.ShloMosaic.Lib.IdealHost

@[expose] public section

noncomputable section

namespace Cert.Attn

open Idealize.ShloMosaic

/-- An extended real that is a number. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

namespace IsReal

theorem coe (r : ℝ) : IsReal (r : EReal) := ⟨r, rfl⟩
theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem of_abs {x : EReal} (h : max x (-x) < ⊤) : IsReal x := by
  induction x using EReal.rec with
  | bot => simp at h
  | coe r => exact ⟨r, rfl⟩
  | top => simp at h

end IsReal

/-- A factor that is a number goes into a sum of numbers. -/
theorem sum_mul_real {ι : Type} (s : Finset ι) {f : ι → EReal} (h : ∀ i, IsReal (f i)) {c : EReal} (hc : IsReal c) :
    (∑ i ∈ s, f i) * c = ∑ i ∈ s, f i * c := by
  choose g hg using h
  obtain ⟨c', rfl⟩ := hc
  simp only [hg]
  rw [← coe_sum, ← EReal.coe_mul, Finset.sum_mul, coe_sum]
  exact Finset.sum_congr rfl fun i _ => EReal.coe_mul _ _

/-- The negative of a sum of numbers. -/
theorem sum_neg_real {ι : Type} (s : Finset ι) {f : ι → EReal} (h : ∀ i, IsReal (f i)) :
    (∑ i ∈ s, -f i) = -∑ i ∈ s, f i := by
  choose g hg using h
  simp only [hg]
  rw [← coe_sum, ← EReal.coe_neg, ← Finset.sum_neg_distrib, coe_sum]
  exact Finset.sum_congr rfl fun i _ => (EReal.coe_neg _).symm

theorem fold_max_lt_top {ι : Type} (s : Finset ι) (f : ι → EReal) (h : ∀ i, f i < ⊤) : s.fold max ⊥ f < ⊤ := by
  classical
  induction s using Finset.induction_on with
  | empty => exact bot_lt_top
  | insert a s ha ih => rw [Finset.fold_insert ha]; exact max_lt (h a) ih

theorem c8_real : IsReal c8 := ⟨1 / 8, by simp [Ideal.ofBits, Ideal.ieee, -EReal.coe_mul]; norm_num⟩

namespace Blk

/-- Every entry of the block is a number. -/
structure Numbers (B : Blk) : Prop where
  q : ∀ r c, IsReal (B.q r c)
  g : ∀ r c, IsReal (B.g r c)
  kb : ∀ s c, IsReal (B.kb s c)
  vb : ∀ s c, IsReal (B.vb s c)
  bias : ∀ h r s, IsReal (B.bias h r s)
  sk : ∀ h, IsReal (B.sk h)

variable {B : Blk}

theorem x_cases (hB : B.Numbers) (h : Fin 16) (r : Fin 128) (s : Fin 256) : B.x h r s = ⊥ ∨ IsReal (B.x h r s) := by
  unfold Blk.x
  by_cases ho : B.on r s = 1#1
  · rw [if_pos ho]
    exact .inr (((IsReal.sum _ fun d => (hB.q _ _).mul (hB.kb _ _)).mul c8_real).add (hB.bias _ _ _))
  · rw [if_neg ho]; exact .inl rfl

theorem mx_real (hB : B.Numbers) (h : Fin 16) (r : Fin 128) : IsReal (B.mx h r) := by
  unfold Blk.mx
  obtain ⟨k, hk⟩ := hB.sk h
  have h1 : Finset.univ.fold max ⊥ (fun s => B.x h r s) < ⊤ :=
    fold_max_lt_top _ _ fun s => by
      rcases x_cases hB h r s with e | ⟨y, e⟩
      · rw [e]; exact bot_lt_top
      · rw [e]; exact EReal.coe_lt_top y
  have h2 : max (Finset.univ.fold max ⊥ (fun s => B.x h r s)) (B.sk h) < ⊤ := max_lt h1 (hk ▸ EReal.coe_lt_top k)
  have h3 : ⊥ < max (Finset.univ.fold max ⊥ (fun s => B.x h r s)) (B.sk h) := lt_of_lt_of_le (hk ▸ EReal.bot_lt_coe k) (le_max_right _ _)
  exact ⟨_, (EReal.coe_toReal h2.ne h3.ne').symm⟩

theorem e_real (hB : B.Numbers) (h : Fin 16) (r : Fin 128) (s : Fin 256) : ∃ v : ℝ, 0 ≤ v ∧ B.e h r s = v := by
  obtain ⟨m, hm⟩ := mx_real hB h r
  unfold Blk.e
  rcases x_cases hB h r s with e | ⟨y, e⟩
  · exact ⟨0, le_rfl, by rw [e, EReal.bot_sub, Ideal.exp_bot]; rfl⟩
  · exact ⟨Real.exp (y - m), (Real.exp_pos _).le, by rw [e, hm, ← EReal.coe_sub, Ideal.exp_coe]⟩

theorem es_real (hB : B.Numbers) (h : Fin 16) (r : Fin 128) : ∃ v : ℝ, 0 < v ∧ B.es h r = v := by
  obtain ⟨m, hm⟩ := mx_real hB h r
  obtain ⟨k, hk⟩ := hB.sk h
  unfold Blk.es
  exact ⟨Real.exp (k - m), Real.exp_pos _, by rw [hk, hm, ← EReal.coe_sub, Ideal.exp_coe]⟩

theorem dp_real (hB : B.Numbers) (h : Fin 16) (r : Fin 128) (s : Fin 256) : IsReal (B.dp h r s) :=
  IsReal.sum _ fun _ => (hB.g _ _).mul (hB.vb _ _)

/-- The sum of the exponentials, the sink's among them. -/
def Z (B : Blk) (h : Fin 16) (r : Fin 128) : EReal := (∑ s, B.e h r s) + B.es h r

theorem inv_eq (B : Blk) (h : Fin 16) (r : Fin 128) : B.inv h r = Ideal.div 1 (B.Z h r) := rfl

/-- The numbers behind one row of a head. -/
theorem core (hB : B.Numbers) (h : Fin 16) (r : Fin 128) : ∃ (e dp : Fin 256 → ℝ) (es z : ℝ), (∀ s, B.e h r s = e s) ∧ (∀ s, B.dp h r s = dp s)
    ∧ B.es h r = es ∧ B.Z h r = z ∧ z ≠ 0 ∧ B.inv h r = ((1 / z : ℝ) : EReal) := by
  choose e he0 he using fun s => e_real hB h r s
  choose dp hdp using fun s => dp_real hB h r s
  obtain ⟨es, hs0, hs⟩ := es_real hB h r
  have hz : B.Z h r = (((∑ s, e s) + es : ℝ) : EReal) := by
    unfold Blk.Z
    rw [EReal.coe_add, coe_sum, hs]
    exact congrArg (· + (es : EReal)) (Finset.sum_congr rfl fun s _ => he s)
  have hz0 : (∑ s, e s) + es ≠ 0 := (add_pos_of_nonneg_of_pos (Finset.sum_nonneg fun s _ => he0 s) hs0).ne'
  exact ⟨e, dp, es, _, he, hdp, hs, hz, hz0, by rw [inv_eq, hz, Ideal.div_coe hz0, one_mul]⟩

theorem p_real (hB : B.Numbers) (h : Fin 16) (r : Fin 128) (s : Fin 256) : IsReal (B.p h r s) := by
  obtain ⟨e, dp, es, z, he, hdp, hs, hz, hz0, hi⟩ := core hB h r
  unfold Blk.p; rw [he, hi]; exact (IsReal.coe _).mul (IsReal.coe _)

theorem ps_real (hB : B.Numbers) (h : Fin 16) (r : Fin 128) : IsReal (B.ps h r) := by
  obtain ⟨e, dp, es, z, he, hdp, hs, hz, hz0, hi⟩ := core hB h r
  unfold Blk.ps; rw [hs, hi]; exact (IsReal.coe _).mul (IsReal.coe _)

theorem delta_real (hB : B.Numbers) (h : Fin 16) (r : Fin 128) : IsReal (B.delta h r) :=
  IsReal.sum _ fun s => (p_real hB h r s).mul (dp_real hB h r s)

theorem dl_real (hB : B.Numbers) (h : Fin 16) (r : Fin 128) (s : Fin 256) : IsReal (B.dl h r s) :=
  (p_real hB h r s).mul ((dp_real hB h r s).sub (delta_real hB h r))

/-- A probability as a quotient. -/
theorem quot_p (hB : B.Numbers) (h : Fin 16) (r : Fin 128) (s : Fin 256) : Ideal.div (B.e h r s) (B.Z h r) = B.p h r s := by
  obtain ⟨e, dp, es, z, he, hdp, hs, hz, hz0, hi⟩ := core hB h r
  unfold Blk.p
  rw [hz, Ideal.div_coe hz0, hi]

/-- The derivative of a quotient's denominator, summed over a row. -/
def rdel (B : Blk) (h : Fin 16) (r : Fin 128) : EReal := ∑ s, B.dp h r s * Ideal.div 1 (B.Z h r * B.Z h r) * B.e h r s

theorem rdel_core (hB : B.Numbers) (h : Fin 16) (r : Fin 128) : ∃ (e dp : Fin 256 → ℝ) (es z : ℝ), (∀ s, B.e h r s = e s) ∧ (∀ s, B.dp h r s = dp s)
    ∧ B.es h r = es ∧ B.Z h r = z ∧ z ≠ 0 ∧ B.inv h r = ((1 / z : ℝ) : EReal)
    ∧ B.delta h r = ((∑ s, e s * (1 / z) * dp s : ℝ) : EReal) ∧ B.rdel h r = (((∑ s, e s * (1 / z) * dp s) * (1 / z) : ℝ) : EReal) := by
  obtain ⟨e, dp, es, z, he, hdp, hs, hz, hz0, hi⟩ := core hB h r
  refine ⟨e, dp, es, z, he, hdp, hs, hz, hz0, hi, ?_, ?_⟩
  · unfold Blk.delta Blk.p
    rw [coe_sum]
    refine Finset.sum_congr rfl fun s _ => ?_
    rw [he, hi, hdp, ← EReal.coe_mul, ← EReal.coe_mul]
  · unfold Blk.rdel
    rw [Finset.sum_mul, coe_sum]
    refine Finset.sum_congr rfl fun s _ => ?_
    rw [he, hdp, hz, ← EReal.coe_mul, Ideal.div_coe (mul_ne_zero hz0 hz0), one_mul, ← EReal.coe_mul, ← EReal.coe_mul]
    refine congrArg _ ?_
    field_simp

/-- The derivative of the quotient is the gradient of the logits. -/
theorem quot_dl (hB : B.Numbers) (h : Fin 16) (r : Fin 128) (s : Fin 256) :
    (Ideal.div (B.dp h r s) (B.Z h r) + -B.rdel h r) * B.e h r s = B.dl h r s := by
  obtain ⟨e, dp, es, z, he, hdp, hs, hz, hz0, hi, hd, hr⟩ := rdel_core hB h r
  unfold Blk.dl Blk.p
  rw [hr, hd, hdp, hz, he, hi, Ideal.div_coe hz0, ← EReal.coe_mul, ← EReal.coe_neg, ← EReal.coe_add, ← EReal.coe_mul, ← EReal.coe_mul, ← EReal.coe_sub, ← EReal.coe_mul]
  refine congrArg _ ?_
  ring

/-- The same for the sink, whose probability has no cotangent. -/
theorem quot_ds (hB : B.Numbers) (h : Fin 16) (r : Fin 128) :
    (Ideal.div 0 (B.Z h r) + -B.rdel h r) * B.es h r = -(B.ps h r * B.delta h r) := by
  obtain ⟨e, dp, es, z, he, hdp, hs, hz, hz0, hi, hd, hr⟩ := rdel_core hB h r
  unfold Blk.ps
  rw [hr, hd, hz, hs, hi, Ideal.div_coe hz0, zero_mul, zero_add, ← EReal.coe_neg, ← EReal.coe_mul, ← EReal.coe_mul, ← EReal.coe_mul, ← EReal.coe_neg]
  refine congrArg _ ?_
  ring

/-- A masked key has no probability. -/
theorem p_masked (B : Blk) (h : Fin 16) (r : Fin 128) (s : Fin 256) (ho : B.on r s ≠ 1#1) : B.p h r s = 0 := by
  unfold Blk.p Blk.e Blk.x
  rw [if_neg ho, EReal.bot_sub, Ideal.exp_bot, zero_mul]

theorem dl_masked (B : Blk) (h : Fin 16) (r : Fin 128) (s : Fin 256) (ho : B.on r s ≠ 1#1) : B.dl h r s = 0 := by
  unfold Blk.dl; rw [p_masked B h r s ho, zero_mul]

/-! ## Keys that no query sees -/

/-- Two blocks that differ in keys and values that no query sees only. -/
structure Like (B C : Blk) : Prop where
  q : B.q = C.q
  g : B.g = C.g
  bias : B.bias = C.bias
  sk : B.sk = C.sk
  on : B.on = C.on
  kb : ∀ r s c, B.on r s = 1#1 → B.kb s c = C.kb s c
  vb : ∀ r s c, B.on r s = 1#1 → B.vb s c = C.vb s c

variable {C : Blk} (L : Like B C)
include L

theorem Like.x : B.x = C.x := by
  funext h r s
  unfold Blk.x
  rw [← L.on]
  by_cases ho : B.on r s = 1#1
  · rw [if_pos ho, if_pos ho, L.bias]
    refine congrArg (· * c8 + C.bias h r s) ?_
    unfold Blk.lg
    exact Finset.sum_congr rfl fun d _ => by rw [L.q, L.kb r s _ ho]
  · rw [if_neg ho, if_neg ho]

theorem Like.mx : B.mx = C.mx := by
  funext h r; unfold Blk.mx; rw [L.x, L.sk]

theorem Like.e : B.e = C.e := by
  funext h r s; unfold Blk.e; rw [L.x, L.mx]

theorem Like.es : B.es = C.es := by
  funext h r; unfold Blk.es; rw [L.sk, L.mx]

theorem Like.inv : B.inv = C.inv := by
  funext h r; unfold Blk.inv; rw [L.e, L.es]

theorem Like.p : B.p = C.p := by
  funext h r s; unfold Blk.p; rw [L.e, L.inv]

theorem Like.ps : B.ps = C.ps := by
  funext h r; unfold Blk.ps; rw [L.es, L.inv]

theorem Like.dp {r s} (ho : B.on r s = 1#1) (h) : B.dp h r s = C.dp h r s := by
  unfold Blk.dp
  exact Finset.sum_congr rfl fun d _ => by rw [L.g, L.vb r s _ ho]

theorem Like.delta : B.delta = C.delta := by
  funext h r; unfold Blk.delta
  refine Finset.sum_congr rfl fun s _ => ?_
  by_cases ho : B.on r s = 1#1
  · rw [L.p, L.dp ho]
  · rw [← L.p, p_masked B h r s ho, zero_mul, zero_mul]

theorem Like.dl : B.dl = C.dl := by
  funext h r s
  by_cases ho : B.on r s = 1#1
  · unfold Blk.dl; rw [L.p, L.delta, L.dp ho]
  · rw [dl_masked B h r s ho, dl_masked C h r s (by rw [← L.on]; exact ho)]

theorem Like.dq : B.dq = C.dq := by
  funext h r d; unfold Blk.dq
  refine congrArg (· * c8) (Finset.sum_congr rfl fun s _ => ?_)
  by_cases ho : B.on r s = 1#1
  · rw [L.dl, L.kb r s _ ho]
  · rw [← L.dl, dl_masked B h r s ho, zero_mul, zero_mul]

theorem Like.dk : B.dk = C.dk := by
  funext a s d; unfold Blk.dk; rw [L.dl, L.q]

theorem Like.dv : B.dv = C.dv := by
  funext a s d; unfold Blk.dv; rw [L.p, L.g]

theorem Like.dsk : B.dsk = C.dsk := by
  funext h; unfold Blk.dsk; rw [L.ps, L.delta]

end Blk

end Cert.Attn

end
-- ==== Proof.Rows.lean ====
/- The blocks of a sequence of 64 blocks of 128 rows: which rows a block reads, and which keys each of its queries sees. -/
module

public import proofs.«01_k».proof.Proof.Softmax

@[expose] public section

noncomputable section

namespace Cert.Attn

open Idealize.ShloMosaic

/-- Row `r` of block `n`. -/
def rowOf (n : Fin 64) (r : Fin 128) : Fin 8192 := ⟨n.val * 128 + r.val, by omega⟩

theorem rowOf_surj (i : Fin 8192) : ∃ n r, rowOf n r = i :=
  ⟨⟨i.val / 128, by omega⟩, ⟨i.val % 128, by omega⟩, Fin.ext (show i.val / 128 * 128 + i.val % 128 = i.val by omega)⟩

/-- A sum over the rows, block by block. -/
theorem sum_rows (f : Fin 8192 → EReal) : ∑ i, f i = ∑ n, ∑ r, f (rowOf n r) := Fin.sum_univ_tiles 64 128 rfl f

/-- Query `r` of block `n` sees key `s` of its band: the 128 keys up to its own, none before the sequence's first. -/
def Sees (n : ℕ) (r : Fin 128) (s : Fin 256) : Prop := (r.val < s.val ∧ s.val ≤ r.val + 128) ∧ (128 ≤ s.val ∨ 0 < n)

instance (n : ℕ) (r : Fin 128) (s : Fin 256) : Decidable (Sees n r s) := by unfold Sees; infer_instance

def seesBit (n : ℕ) (r : Fin 128) (s : Fin 256) : BitVec 1 := BitVec.ofBool (decide (Sees n r s))

theorem seesBit_iff (n : ℕ) (r : Fin 128) (s : Fin 256) : seesBit n r s = 1#1 ↔ Sees n r s := by
  unfold seesBit
  by_cases h : Sees n r s
  · rw [decide_eq_true h]; exact ⟨fun _ => h, fun _ => rfl⟩
  · rw [decide_eq_false h]; exact ⟨fun e => absurd e (by decide), fun e => absurd e h⟩

section
variable (X : Fin 8192 → Fin 1280 → EReal) (G : Fin 8192 → Fin 1024 → EReal) (b : Fin 16 → Fin 128 → Fin 256 → EReal) (sk : Fin 16 → EReal) (n : Fin 64)

/-- A band of 128 columns from column `o` on: the rows of the block before (of the first block, its own), then the block's. -/
def bandK (o : ℕ) (ho : o + 128 ≤ 1280) (s : Fin 256) (c : Fin 128) : EReal :=
  if h : s.val < 128 then X ⟨(n.val - 1) * 128 + s.val, by omega⟩ ⟨o + c.val, by omega⟩
  else X ⟨n.val * 128 + (s.val - 128), by omega⟩ ⟨o + c.val, by omega⟩

/-- The same band with zeros in front of the sequence. -/
def bandR (o : ℕ) (ho : o + 128 ≤ 1280) (s : Fin 256) (c : Fin 128) : EReal :=
  if h : s.val < 128 then (if n.val < 1 then 0 else X ⟨(n.val - 1) * 128 + s.val, by omega⟩ ⟨o + c.val, by omega⟩)
  else X ⟨n.val * 128 + (s.val - 128), by omega⟩ ⟨o + c.val, by omega⟩

/-- Block `n`. -/
def kblk : Blk where
  q r c := X (rowOf n r) ⟨c.val, by omega⟩
  g r c := G (rowOf n r) c
  kb := bandK X n 1024 (by omega)
  vb := bandK X n 1152 (by omega)
  bias := b
  sk := sk
  on := seesBit n.val

/-- Block `n` with zeros in front of the sequence. -/
def rblk : Blk where
  q r c := X (rowOf n r) ⟨c.val, by omega⟩
  g r c := G (rowOf n r) c
  kb := bandR X n 1024 (by omega)
  vb := bandR X n 1152 (by omega)
  bias := b
  sk := sk
  on := seesBit n.val

theorem band_eq (o : ℕ) (ho : o + 128 ≤ 1280) (r : Fin 128) (s : Fin 256) (c : Fin 128) (h : Sees n.val r s) :
    bandK X n o ho s c = bandR X n o ho s c := by
  unfold bandK bandR
  by_cases hs : s.val < 128
  · rw [dif_pos hs, dif_pos hs, if_neg (by unfold Sees at h; omega)]
  · rw [dif_neg hs, dif_neg hs]

theorem like : Blk.Like (kblk X G b sk n) (rblk X G b sk n) where
  q := rfl
  g := rfl
  bias := rfl
  sk := rfl
  on := rfl
  kb r s c h := band_eq X n 1024 (by omega) r s c ((seesBit_iff _ _ _).mp h)
  vb r s c h := band_eq X n 1152 (by omega) r s c ((seesBit_iff _ _ _).mp h)

variable {X G b sk}

theorem band_real (hX : ∀ i c, IsReal (X i c)) (o : ℕ) (ho : o + 128 ≤ 1280) (s : Fin 256) (c : Fin 128) : IsReal (bandR X n o ho s c) := by
  unfold bandR
  by_cases hs : s.val < 128
  · rw [dif_pos hs]
    by_cases hn : n.val < 1
    · rw [if_pos hn]; exact IsReal.zero
    · rw [if_neg hn]; exact hX _ _
  · rw [dif_neg hs]; exact hX _ _

theorem rblk_numbers (hX : ∀ i c, IsReal (X i c)) (hG : ∀ i c, IsReal (G i c)) (hb : ∀ h r s, IsReal (b h r s)) (hs : ∀ h, IsReal (sk h)) :
    (rblk X G b sk n).Numbers where
  q _ _ := hX _ _
  g _ _ := hG _ _
  kb := band_real n hX 1024 (by omega)
  vb := band_real n hX 1152 (by omega)
  bias := hb
  sk := hs

end

end Cert.Attn

end
-- ==== Proof.Mask.lean ====
/- The mask's bits in 32-bit words, as the program and the reference compute them. -/
module

public import proofs.«01_k».proof.Proof.Rows
public import proofs.«01_k».proof.Proof.Heads
public import Idealize.ShloMosaic.Lib.WordCmp

@[expose] public section

noncomputable section

namespace Cert.Attn

open Idealize.ShloMosaic

/-- The window's bit: the 128 keys up to the query's own. -/
def nearBit (r : Fin 128) (s : Fin 256) : BitVec 1 := BitVec.ofBool (decide (r.val < s.val ∧ s.val ≤ r.val + 128))

/-- The bit of the keys that the sequence has. -/
def frontBit (n : ℕ) (s : Fin 256) : BitVec 1 := BitVec.ofBool (decide (128 ≤ s.val ∨ 0 < n))

theorem near_words (r : Fin 128) (s : Fin 256) :
    IntOp.andi (IntOp.cmpi .sge (IntOp.subi (IntOp.addi (BitVec.ofNat 32 r.val) 128#32) (BitVec.ofNat 32 s.val)) 0#32)
      (IntOp.cmpi .slt (IntOp.subi (IntOp.addi (BitVec.ofNat 32 r.val) 128#32) (BitVec.ofNat 32 s.val)) 128#32) = nearBit r s := by
  rw [show (128#32 : BitVec 32) = BitVec.ofNat 32 128 from rfl, WordCmp.andi_sge_zero_slt_ofNat (by norm_num)]
  unfold nearBit
  refine congrArg BitVec.ofBool (decide_eq_decide.mpr ?_)
  have hr := r.isLt
  have hs := s.isLt
  simp only [IntOp.subi, IntOp.addi, BitVec.toNat_sub, BitVec.toNat_add, BitVec.toNat_ofNat]
  omega

theorem front_words (n : Fin 64) (s : Fin 256) :
    IntOp.cmpi .sge (IntOp.addi (IntOp.subi (IntOp.muli (BitVec.ofNat 32 n.val) 128#32) 128#32) (BitVec.ofNat 32 s.val)) 0#32 = frontBit n.val s := by
  rw [WordCmp.cmpi_sge_zero]
  unfold frontBit
  refine congrArg BitVec.ofBool (decide_eq_decide.mpr ?_)
  have hn := n.isLt
  have hs := s.isLt
  simp only [IntOp.subi, IntOp.addi, IntOp.muli, BitVec.toNat_sub, BitVec.toNat_add, BitVec.toNat_mul, BitVec.toNat_ofNat]
  omega

theorem sees_words (n : ℕ) (r : Fin 128) (s : Fin 256) : IntOp.andi (nearBit r s) (frontBit n s) = seesBit n r s := by
  unfold nearBit frontBit seesBit
  have e : decide (Sees n r s) = (decide (r.val < s.val ∧ s.val ≤ r.val + 128) && decide (128 ≤ s.val ∨ 0 < n)) := by
    rw [← Bool.decide_and]; rfl
  rw [e]
  cases decide (r.val < s.val ∧ s.val ≤ r.val + 128) <;> cases decide (128 ≤ s.val ∨ 0 < n) <;> rfl

end Cert.Attn

namespace Cert.KernelIdeal.Attn

open Idealize.ShloMosaic Cert.KernelIdeal Cert.KernelIdeal.Gen Cert.Attn

theorem hMask_at (n : ℕ) (hn : n < 64) (r : Fin 128) (s : Fin 256) : hMask (BitVec.ofNat 32 n) (ix2 r s) = seesBit n r s := by
  have e : ∀ r : Fin 128, IntOp.andi (BitVec.ofNat 32 r.val) 127#32 = BitVec.ofNat 32 r.val := by decide +kernel
  have hf : IntOp.ori (IntOp.cmpi .sge (BitVec.ofNat 32 s.val) 128#32) (IntOp.cmpi .sgt (BitVec.ofNat 32 n) 0#32) = frontBit n s := by
    rw [show (128#32 : BitVec 32) = BitVec.ofNat 32 128 from rfl, show (0#32 : BitVec 32) = BitVec.ofNat 32 0 from rfl,
      WordCmp.cmpi_sge_ofNat (by have := s.isLt; norm_num; omega) (by norm_num), WordCmp.cmpi_sgt_ofNat (by norm_num; omega) (by norm_num)]
    unfold frontBit
    rw [Bool.decide_or]
    cases decide (128 ≤ s.val) <;> cases decide (0 < n) <;> rfl
  pointwise [hMask]
  simp only [e, near_words]
  rw [← sees_words]
  exact congrArg _ hf

end Cert.KernelIdeal.Attn

end
-- ==== Proof.Arrays.lean ====
/- What the windows read of the arguments, and what the result arrays hold after the pipeline. -/
module

public import proofs.«01_k».proof.Proof.Body
public import proofs.«01_k».proof.Proof.Mask

@[expose] public section

set_option maxRecDepth 16384

noncomputable section

namespace Cert.KernelIdeal.Attn

open Idealize.ShloMosaic Idealize.ShloMosaic.TcCoe
open Idealize.ShloMosaic.Pipeline (Dat Cfg Window cellOf)
open Cert.KernelIdeal.Gen Cert.Attn

variable (m : (ℓ : Loc nD τ sig) → Buf (Elt Ideal) ℓ) (c : Dev nD)

/-- The arguments on a device. -/
abbrev inX (i : Fin 8192) (y : Fin 1280) : EReal := m ((c.tc : Thread nD τ).loc main_arg0) (ix2 i y)
abbrev inG (i : Fin 8192) (y : Fin 1024) : EReal := m ((c.tc : Thread nD τ).loc main_arg1) (ix2 i y)
abbrev inB (h : Fin 16) (r : Fin 128) (s : Fin 256) : EReal := m ((c.tc : Thread nD τ).loc main_arg2) (ix3 h r s)
abbrev inS (h : Fin 16) : EReal := m ((c.tc : Thread nD τ).loc main_arg3) (ix1 h)

theorem at_0 : ∀ t : Fin cfg0.N, win0_0.index t 0 = min t.val 63 ∧ win0_0.index t 1 = 0 := by decide +kernel
theorem at_1 : ∀ t : Fin cfg0.N, win0_1.index t 0 = min t.val 63 ∧ win0_1.index t 1 = 8 := by decide +kernel
theorem at_2 : ∀ t : Fin cfg0.N, win0_2.index t 0 = min t.val 63 ∧ win0_2.index t 1 = 9 := by decide +kernel
theorem at_3 : ∀ t : Fin cfg0.N, win0_3.index t 0 = min t.val 63 - 1 ∧ win0_3.index t 1 = 8 := by decide +kernel
theorem at_4 : ∀ t : Fin cfg0.N, win0_4.index t 0 = min t.val 63 - 1 ∧ win0_4.index t 1 = 9 := by decide +kernel
theorem at_5 : ∀ t : Fin cfg0.N, win0_5.index t 0 = min t.val 63 ∧ win0_5.index t 1 = 0 := by decide +kernel
theorem at_6 : ∀ t : Fin cfg0.N, win0_6.index t 0 = 0 ∧ win0_6.index t 1 = 0 ∧ win0_6.index t 2 = 0 := by decide +kernel
theorem at_7 : ∀ t : Fin cfg0.N, win0_7.index t 0 = 0 := by decide +kernel

variable (t : Fin cfg0.N)

theorem read_1 (r y : Fin 128) (i : Fin 8192) (j : Fin 1280) (hi : i.val = min t.val 63 * 128 + r.val) (hj : j.val = 1024 + y.val) :
    iblk m c 1 t (ix2 r y) = inX m c i j := by
  unfold iblk
  rw [View.read_apply]
  refine congrArg (m ((c.tc : Thread nD τ).loc main_arg0)) (funext fun a => Fin.ext ?_)
  match a with
  | ⟨0, _⟩ => show win0_1.index t 0 * 128 + 1 * r.val = i.val; rw [(at_1 t).1]; omega
  | ⟨1, _⟩ => show win0_1.index t 1 * 128 + 1 * y.val = j.val; rw [(at_1 t).2]; omega

theorem read_0 (r : Fin 128) (y : Fin 1024) (i : Fin 8192) (j : Fin 1280) (hi : i.val = min t.val 63 * 128 + r.val) (hj : j.val = y.val) :
    X0_0 m c t (ix2 r y) = inX m c i j := by
  unfold X0_0 Window.fill
  rw [dif_pos (moved0_0 t _)]
  unfold iblk
  rw [View.read_apply]
  refine congrArg (m ((c.tc : Thread nD τ).loc main_arg0)) (funext fun a => Fin.ext ?_)
  match a with
  | ⟨0, _⟩ => show win0_0.index t 0 * 128 + 1 * r.val = i.val; rw [(at_0 t).1]; omega
  | ⟨1, _⟩ => show win0_0.index t 1 * 1024 + 1 * y.val = j.val; rw [(at_0 t).2]; omega

theorem read_2 (r y : Fin 128) (i : Fin 8192) (j : Fin 1280) (hi : i.val = min t.val 63 * 128 + r.val) (hj : j.val = 1152 + y.val) :
    iblk m c 2 t (ix2 r y) = inX m c i j := by
  unfold iblk
  rw [View.read_apply]
  refine congrArg (m ((c.tc : Thread nD τ).loc main_arg0)) (funext fun a => Fin.ext ?_)
  match a with
  | ⟨0, _⟩ => show win0_2.index t 0 * 128 + 1 * r.val = i.val; rw [(at_2 t).1]; omega
  | ⟨1, _⟩ => show win0_2.index t 1 * 128 + 1 * y.val = j.val; rw [(at_2 t).2]; omega

theorem read_3 (r y : Fin 128) (i : Fin 8192) (j : Fin 1280) (hi : i.val = (min t.val 63 - 1) * 128 + r.val) (hj : j.val = 1024 + y.val) :
    iblk m c 3 t (ix2 r y) = inX m c i j := by
  unfold iblk
  rw [View.read_apply]
  refine congrArg (m ((c.tc : Thread nD τ).loc main_arg0)) (funext fun a => Fin.ext ?_)
  match a with
  | ⟨0, _⟩ => show win0_3.index t 0 * 128 + 1 * r.val = i.val; rw [(at_3 t).1]; omega
  | ⟨1, _⟩ => show win0_3.index t 1 * 128 + 1 * y.val = j.val; rw [(at_3 t).2]; omega

theorem read_4 (r y : Fin 128) (i : Fin 8192) (j : Fin 1280) (hi : i.val = (min t.val 63 - 1) * 128 + r.val) (hj : j.val = 1152 + y.val) :
    iblk m c 4 t (ix2 r y) = inX m c i j := by
  unfold iblk
  rw [View.read_apply]
  refine congrArg (m ((c.tc : Thread nD τ).loc main_arg0)) (funext fun a => Fin.ext ?_)
  match a with
  | ⟨0, _⟩ => show win0_4.index t 0 * 128 + 1 * r.val = i.val; rw [(at_4 t).1]; omega
  | ⟨1, _⟩ => show win0_4.index t 1 * 128 + 1 * y.val = j.val; rw [(at_4 t).2]; omega

theorem read_5 (r : Fin 128) (y : Fin 1024) (i : Fin 8192) (hi : i.val = min t.val 63 * 128 + r.val) :
    iblk m c 5 t (ix2 r y) = inG m c i y := by
  unfold iblk
  rw [View.read_apply]
  refine congrArg (m ((c.tc : Thread nD τ).loc main_arg1)) (funext fun a => Fin.ext ?_)
  match a with
  | ⟨0, _⟩ => show win0_5.index t 0 * 128 + 1 * r.val = i.val; rw [(at_5 t).1]; omega
  | ⟨1, _⟩ => show win0_5.index t 1 * 1024 + 1 * y.val = y.val; rw [(at_5 t).2]; omega

theorem read_6 (h : Fin 16) (r : Fin 128) (s : Fin 256) : iblk m c 6 t (ix3 h r s) = inB m c h r s := by
  unfold iblk
  rw [View.read_apply]
  refine congrArg (m ((c.tc : Thread nD τ).loc main_arg2)) (funext fun a => Fin.ext ?_)
  match a with
  | ⟨0, _⟩ => show win0_6.index t 0 * 16 + 1 * h.val = h.val; rw [(at_6 t).1]; omega
  | ⟨1, _⟩ => show win0_6.index t 1 * 128 + 1 * r.val = r.val; rw [(at_6 t).2.1]; omega
  | ⟨2, _⟩ => show win0_6.index t 2 * 256 + 1 * s.val = s.val; rw [(at_6 t).2.2]; omega

theorem read_7 (h : Fin 16) : iblk m c 7 t (ix1 h) = inS m c h := by
  unfold iblk
  rw [View.read_apply]
  refine congrArg (m ((c.tc : Thread nD τ).loc main_arg3)) (funext fun a => Fin.ext ?_)
  match a with
  | ⟨0, _⟩ => show win0_7.index t 0 * 16 + 1 * h.val = h.val; rw [at_7 t]; omega

/-- Block `n` of the arguments, as the kernel's windows read it. -/
abbrev K (n : Fin 64) : Blk := kblk (inX m c) (inG m c) (inB m c) (inS m c) n

theorem band_read (a b : Vec Ideal S128x128 .bf16) (o : ℕ) (ho : o + 128 ≤ 1280) (n : Fin 64)
    (ha : ∀ (r y : Fin 128) (i : Fin 8192) (j : Fin 1280), i.val = (n.val - 1) * 128 + r.val → j.val = o + y.val → a (ix2 r y) = inX m c i j)
    (hb : ∀ (r y : Fin 128) (i : Fin 8192) (j : Fin 1280), i.val = n.val * 128 + r.val → j.val = o + y.val → b (ix2 r y) = inX m c i j)
    (s : Fin 256) (y : Fin 128) : vBand a b (ix2 s y) = bandK (inX m c) n o ho s y := by
  pointwise [vBand]
  unfold bandK
  by_cases h : s.val < 128
  · rw [dif_pos h, dif_pos h]; exact ha _ _ _ _ rfl rfl
  · rw [dif_neg h, dif_neg h]; exact hb _ _ _ _ rfl rfl

theorem blk_eq (n : Fin 64) : blk m c n.val = K m c n := by
  have e : (pt n.val).val = n.val := Nat.min_eq_left (by omega)
  have e' : min (pt n.val).val 63 = n.val := by rw [e]; exact Nat.min_eq_left (by omega)
  unfold blk blkV K kblk
  refine Blk.ext ?_ ?_ ?_ ?_ ?_ ?_ ?_
  · exact funext fun r => funext fun y => read_0 m c (pt n.val) r y (rowOf n r) _ (by rw [e']; rfl) rfl
  · exact funext fun r => funext fun y => read_5 m c (pt n.val) r y (rowOf n r) (by rw [e']; rfl)
  · exact funext fun s => funext fun y => band_read m c _ _ 1024 (by omega) n
      (fun r y i j hi hj => read_3 m c (pt n.val) r y i j (by rw [e']; exact hi) hj) (fun r y i j hi hj => read_1 m c (pt n.val) r y i j (by rw [e']; exact hi) hj) s y
  · exact funext fun s => funext fun y => band_read m c _ _ 1152 (by omega) n
      (fun r y i j hi hj => read_4 m c (pt n.val) r y i j (by rw [e']; exact hi) hj) (fun r y i j hi hj => read_2 m c (pt n.val) r y i j (by rw [e']; exact hi) hj) s y
  · exact funext fun h => funext fun r => funext fun s => read_6 m c (pt n.val) h r s
  · exact funext fun h => read_7 m c (pt n.val) h
  · exact funext fun r => funext fun s => hMask_at n.val n.isLt r s

/-! ## The arrays the pipeline leaves -/

theorem at_8 : ∀ t : Fin cfg0.N, win0_8.index t 0 = min t.val 63 ∧ win0_8.index t 1 = 0 := by decide +kernel
theorem at_9 : ∀ t : Fin cfg0.N, win0_9.index t 0 = t.val - 1 ∧ win0_9.index t 1 = 0 := by decide +kernel
theorem at_10 : ∀ t : Fin cfg0.N, win0_10.index t 0 = t.val - 1 ∧ win0_10.index t 1 = 0 := by decide +kernel
theorem at_11 : ∀ t : Fin cfg0.N, win0_11.index t 0 = 0 ∧ win0_11.index t 1 = 0 := by decide +kernel
theorem at_12 : ∀ t : Fin cfg0.N, win0_12.index t 0 = 0 ∧ win0_12.index t 1 = 0 ∧ win0_12.index t 2 = 0 := by decide +kernel
theorem at_13 : ∀ t : Fin cfg0.N, win0_13.index t 0 = 0 ∧ win0_13.index t 1 = 0 := by decide +kernel
theorem out_8 : ∀ t : Fin cfg0.N, (cfg0.win 8).flush t = true ↔ (t.val ≠ 63) := by decide +kernel
theorem out_9 : ∀ t : Fin cfg0.N, (cfg0.win 9).flush t = true ↔ t.val ≠ 0 := by decide +kernel
theorem out_10 : ∀ t : Fin cfg0.N, (cfg0.win 10).flush t = true ↔ t.val ≠ 0 := by decide +kernel
theorem out_11 : ∀ t : Fin cfg0.N, (cfg0.win 11).flush t = true ↔ t.val = 64 := by decide +kernel
theorem out_12 : ∀ t : Fin cfg0.N, (cfg0.win 12).flush t = true ↔ t.val = 64 := by decide +kernel
theorem out_13 : ∀ t : Fin cfg0.N, (cfg0.win 13).flush t = true ↔ t.val = 64 := by decide +kernel

/-- The gradients as arrays: the queries' rows by block, the keys' and values' rows by block. -/
def g8 : Vec Ideal S8192x1024 .bf16 := tab2 (e := .bf16) fun (i : Fin 8192) (y : Fin 1024) => Blk.dqc (blk m c (i.val / 128)) ⟨i.val % 128, by omega⟩ y
def g9 : Vec Ideal S8192x128 .bf16 := tab2 (e := .bf16) fun (i : Fin 8192) (y : Fin 128) => em (DK m c) (i.val / 128 + 1) ⟨i.val % 128, by omega⟩ y
def g10 : Vec Ideal S8192x128 .bf16 := tab2 (e := .bf16) fun (i : Fin 8192) (y : Fin 128) => em (DV m c) (i.val / 128 + 1) ⟨i.val % 128, by omega⟩ y

theorem wrote_8 (hf : (cfg0.win 8).flush t = true) : (dats m 0 c).flushed 8 t = (win0_8.blk t).view.read (Elt Ideal) (g8 m c) := by
  show (cfg0.win 8).cut (grid0.coords t) ((dats m 0 c).after 8 t) = _
  rw [after_8]
  funext j
  rw [View.read_apply]
  have h0 : ((win0_8.blk t).view.emb j 0).val = min t.val 63 * 128 + (j 0).val := by
    show win0_8.index t 0 * 128 + 1 * (j 0).val = _; rw [(at_8 t).1]; omega
  have h1 : ((win0_8.blk t).view.emb j 1).val = (j 1).val := by
    show win0_8.index t 1 * 1024 + 1 * (j 1).val = _; rw [(at_8 t).2]; omega
  have hj : (j 0).val < 128 := (j 0).isLt
  show Blk.dqc (blk m c (min t.val 63)) (j 0) (j 1) = Blk.dqc (blk m c (((win0_8.blk t).view.emb j 0).val / 128)) ⟨((win0_8.blk t).view.emb j 0).val % 128, _⟩ ((win0_8.blk t).view.emb j 1)
  have e1 : ((win0_8.blk t).view.emb j 0).val / 128 = min t.val 63 := by rw [h0]; omega
  have e2 : (⟨((win0_8.blk t).view.emb j 0).val % 128, Nat.mod_lt _ (by omega)⟩ : Fin 128) = j 0 := Fin.ext (by show ((win0_8.blk t).view.emb j 0).val % 128 = (j 0).val; rw [h0]; omega)
  have e3 : ((win0_8.blk t).view.emb j 1) = j 1 := Fin.ext h1
  rw [e1, e3]
  exact congrArg (fun r => Blk.dqc (blk m c (min t.val 63)) r (j 1)) e2.symm

theorem cover_8 (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  obtain ⟨n, hn, hq, h63⟩ : ∃ n : ℕ, n < 65 ∧ min n 63 = (i 0).val / 128 ∧ n ≠ 63 := by
    by_cases h : (i 0).val / 128 < 63
    · exact ⟨(i 0).val / 128, by omega, by omega, by omega⟩
    · exact ⟨64, by omega, by omega, by omega⟩
  let t : Fin cfg0.N := ⟨n, lt_of_lt_of_eq hn (show cfg0.N = 65 from N_0).symm⟩
  have ht : min t.val 63 = (i 0).val / 128 := hq
  refine ⟨t, (out_8 t).mpr h63, ?_⟩
  show i ∈ ((View.whole main_v0_0).slice (win0_8.rect t)).set
  rw [View.set_slice_whole, Rect.mem_set_unit]
  intro a
  match a with
  | ⟨0, _⟩ => show win0_8.index t 0 * 128 ≤ (i 0).val ∧ (i 0).val < win0_8.index t 0 * 128 + 128; rw [(at_8 t).1, ht]; omega
  | ⟨1, _⟩ => show win0_8.index t 1 * 1024 ≤ (i 1).val ∧ (i 1).val < win0_8.index t 1 * 1024 + 1024; rw [(at_8 t).2]; omega

theorem final_8 : (dats m 0 c).arrAt 8 cfg0.N = g8 m c := (dats m 0 c).arrAt_eq_of_cover 8 (g8 m c) (wrote_8 m c) cover_8

theorem wrote_9 (hf : (cfg0.win 9).flush t = true) : (dats m 0 c).flushed 9 t = (win0_9.blk t).view.read (Elt Ideal) (g9 m c) := by
  have ht : t.val ≠ 0 := (out_9 t).mp hf
  show (cfg0.win 9).cut (grid0.coords t) ((dats m 0 c).after 9 t) = _
  rw [after_9]
  funext j
  rw [View.read_apply]
  have h0 : ((win0_9.blk t).view.emb j 0).val = (t.val - 1) * 128 + (j 0).val := by
    show win0_9.index t 0 * 128 + 1 * (j 0).val = _; rw [(at_9 t).1]; omega
  have h1 : ((win0_9.blk t).view.emb j 1).val = (j 1).val := by
    show win0_9.index t 1 * 128 + 1 * (j 1).val = _; rw [(at_9 t).2]; omega
  have hj : (j 0).val < 128 := (j 0).isLt
  show em (DK m c) t.val (j 0) (j 1) = em (DK m c) (((win0_9.blk t).view.emb j 0).val / 128 + 1) ⟨((win0_9.blk t).view.emb j 0).val % 128, _⟩ ((win0_9.blk t).view.emb j 1)
  have e1 : ((win0_9.blk t).view.emb j 0).val / 128 + 1 = t.val := by rw [h0]; omega
  have e2 : (⟨((win0_9.blk t).view.emb j 0).val % 128, Nat.mod_lt _ (by omega)⟩ : Fin 128) = j 0 := Fin.ext (by show ((win0_9.blk t).view.emb j 0).val % 128 = (j 0).val; rw [h0]; omega)
  have e3 : ((win0_9.blk t).view.emb j 1) = j 1 := Fin.ext h1
  rw [e1, e3]
  exact congrArg (fun r => em (DK m c) t.val r (j 1)) e2.symm

theorem cover_9 (i : S8192x128.Idx) : ∃ t : Fin cfg0.N, (cfg0.win 9).flush t = true ∧ i ∈ ((cfg0.win 9).blk t).view.set := by
  have h0 : (i 0).val < 8192 := (i 0).isLt
  have h1 : (i 1).val < 128 := (i 1).isLt
  let t : Fin cfg0.N := ⟨(i 0).val / 128 + 1, lt_of_lt_of_eq (by omega : (i 0).val / 128 + 1 < 65) (show cfg0.N = 65 from N_0).symm⟩
  have ht : t.val - 1 = (i 0).val / 128 := Nat.add_sub_cancel _ _
  refine ⟨t, (out_9 t).mpr (Nat.succ_ne_zero _), ?_⟩
  show i ∈ ((View.whole main_v0_1).slice (win0_9.rect t)).set
  rw [View.set_slice_whole, Rect.mem_set_unit]
  intro a
  match a with
  | ⟨0, _⟩ => show win0_9.index t 0 * 128 ≤ (i 0).val ∧ (i 0).val < win0_9.index t 0 * 128 + 128; rw [(at_9 t).1, ht]; omega
  | ⟨1, _⟩ => show win0_9.index t 1 * 128 ≤ (i 1).val ∧ (i 1).val < win0_9.index t 1 * 128 + 128; rw [(at_9 t).2]; omega

theorem final_9 : (dats m 0 c).arrAt 9 cfg0.N = g9 m c := (dats m 0 c).arrAt_eq_of_cover 9 (g9 m c) (wrote_9 m c) cover_9

theorem wrote_10 (hf : (cfg0.win 10).flush t = true) : (dats m 0 c).flushed 10 t = (win0_10.blk t).view.read (Elt Ideal) (g10 m c) := by
  have ht : t.val ≠ 0 := (out_10 t).mp hf
  show (cfg0.win 10).cut (grid0.coords t) ((dats m 0 c).after 10 t) = _
  rw [after_10]
  funext j
  rw [View.read_apply]
  have h0 : ((win0_10.blk t).view.emb j 0).val = (t.val - 1) * 128 + (j 0).val := by
    show win0_10.index t 0 * 128 + 1 * (j 0).val = _; rw [(at_10 t).1]; omega
  have h1 : ((win0_10.blk t).view.emb j 1).val = (j 1).val := by
    show win0_10.index t 1 * 128 + 1 * (j 1).val = _; rw [(at_10 t).2]; omega
  have hj : (j 0).val < 128 := (j 0).isLt
  show em (DV m c) t.val (j 0) (j 1) = em (DV m c) (((win0_10.blk t).view.emb j 0).val / 128 + 1) ⟨((win0_10.blk t).view.emb j 0).val % 128, _⟩ ((win0_10.blk t).view.emb j 1)
  have e1 : ((win0_10.blk t).view.emb j 0).val / 128 + 1 = t.val := by rw [h0]; omega
  have e2 : (⟨((win0_10.blk t).view.emb j 0).val % 128, Nat.mod_lt _ (by omega)⟩ : Fin 128) = j 0 := Fin.ext (by show ((win0_10.blk t).view.emb j 0).val % 128 = (j 0).val; rw [h0]; omega)
  have e3 : ((win0_10.blk t).view.emb j 1) = j 1 := Fin.ext h1
  rw [e1, e3]
  exact congrArg (fun r => em (DV m c) t.val r (j 1)) e2.symm

theorem cover_10 (i : S8192x128.Idx) : ∃ t : Fin cfg0.N, (cfg0.win 10).flush t = true ∧ i ∈ ((cfg0.win 10).blk t).view.set := by
  have h0 : (i 0).val < 8192 := (i 0).isLt
  have h1 : (i 1).val < 128 := (i 1).isLt
  let t : Fin cfg0.N := ⟨(i 0).val / 128 + 1, lt_of_lt_of_eq (by omega : (i 0).val / 128 + 1 < 65) (show cfg0.N = 65 from N_0).symm⟩
  have ht : t.val - 1 = (i 0).val / 128 := Nat.add_sub_cancel _ _
  refine ⟨t, (out_10 t).mpr (Nat.succ_ne_zero _), ?_⟩
  show i ∈ ((View.whole main_v0_2).slice (win0_10.rect t)).set
  rw [View.set_slice_whole, Rect.mem_set_unit]
  intro a
  match a with
  | ⟨0, _⟩ => show win0_10.index t 0 * 128 ≤ (i 0).val ∧ (i 0).val < win0_10.index t 0 * 128 + 128; rw [(at_10 t).1, ht]; omega
  | ⟨1, _⟩ => show win0_10.index t 1 * 128 ≤ (i 1).val ∧ (i 1).val < win0_10.index t 1 * 128 + 128; rw [(at_10 t).2]; omega

theorem final_10 : (dats m 0 c).arrAt 10 cfg0.N = g10 m c := (dats m 0 c).arrAt_eq_of_cover 10 (g10 m c) (wrote_10 m c) cover_10

theorem wrote_11 (hf : (cfg0.win 11).flush t = true) : (dats m 0 c).flushed 11 t = (win0_11.blk t).view.read (Elt Ideal) (o11 m c 64) := by
  have ht : t.val = 64 := (out_11 t).mp hf
  show (cfg0.win 11).cut (grid0.coords t) ((dats m 0 c).after 11 t) = _
  rw [after_11, ht]
  funext j
  rw [View.read_apply]
  refine congrArg (o11 m c 64) (funext fun a => Fin.ext ?_)
  match a with
  | ⟨0, _⟩ => show (j 0).val = win0_11.index t 0 * 1 + 1 * (j 0).val; rw [(at_11 t).1]; omega
  | ⟨1, _⟩ => show (j 1).val = win0_11.index t 1 * 1280 + 1 * (j 1).val; rw [(at_11 t).2]; omega

theorem cover_11 (i : S1x1280.Idx) : ∃ t : Fin cfg0.N, (cfg0.win 11).flush t = true ∧ i ∈ ((cfg0.win 11).blk t).view.set := by
  let t : Fin cfg0.N := ⟨64, lt_of_lt_of_eq (by omega : 64 < 65) (show cfg0.N = 65 from N_0).symm⟩
  refine ⟨t, (out_11 t).mpr rfl, ?_⟩
  show i ∈ ((View.whole main_v0_3).slice (win0_11.rect t)).set
  rw [View.set_slice_whole, Rect.mem_set_unit]
  intro a
  match a with
  | ⟨0, _⟩ => show win0_11.index t 0 * 1 ≤ (i 0).val ∧ (i 0).val < win0_11.index t 0 * 1 + 1; rw [(at_11 t).1]; have h : (i 0).val < 1 := (i 0).isLt; omega
  | ⟨1, _⟩ => show win0_11.index t 1 * 1280 ≤ (i 1).val ∧ (i 1).val < win0_11.index t 1 * 1280 + 1280; rw [(at_11 t).2]; have h : (i 1).val < 1280 := (i 1).isLt; omega

theorem final_11 : (dats m 0 c).arrAt 11 cfg0.N = o11 m c 64 := (dats m 0 c).arrAt_eq_of_cover 11 (o11 m c 64) (wrote_11 m c) cover_11

theorem wrote_12 (hf : (cfg0.win 12).flush t = true) : (dats m 0 c).flushed 12 t = (win0_12.blk t).view.read (Elt Ideal) (o12 m c 64) := by
  have ht : t.val = 64 := (out_12 t).mp hf
  show (cfg0.win 12).cut (grid0.coords t) ((dats m 0 c).after 12 t) = _
  rw [after_12, ht]
  funext j
  rw [View.read_apply]
  refine congrArg (o12 m c 64) (funext fun a => Fin.ext ?_)
  match a with
  | ⟨0, _⟩ => show (j 0).val = win0_12.index t 0 * 16 + 1 * (j 0).val; rw [(at_12 t).1]; omega
  | ⟨1, _⟩ => show (j 1).val = win0_12.index t 1 * 128 + 1 * (j 1).val; rw [(at_12 t).2.1]; omega
  | ⟨2, _⟩ => show (j 2).val = win0_12.index t 2 * 256 + 1 * (j 2).val; rw [(at_12 t).2.2]; omega

theorem cover_12 (i : S16x128x256.Idx) : ∃ t : Fin cfg0.N, (cfg0.win 12).flush t = true ∧ i ∈ ((cfg0.win 12).blk t).view.set := by
  let t : Fin cfg0.N := ⟨64, lt_of_lt_of_eq (by omega : 64 < 65) (show cfg0.N = 65 from N_0).symm⟩
  refine ⟨t, (out_12 t).mpr rfl, ?_⟩
  show i ∈ ((View.whole main_v0_4).slice (win0_12.rect t)).set
  rw [View.set_slice_whole, Rect.mem_set_unit]
  intro a
  match a with
  | ⟨0, _⟩ => show win0_12.index t 0 * 16 ≤ (i 0).val ∧ (i 0).val < win0_12.index t 0 * 16 + 16; rw [(at_12 t).1]; have h : (i 0).val < 16 := (i 0).isLt; omega
  | ⟨1, _⟩ => show win0_12.index t 1 * 128 ≤ (i 1).val ∧ (i 1).val < win0_12.index t 1 * 128 + 128; rw [(at_12 t).2.1]; have h : (i 1).val < 128 := (i 1).isLt; omega
  | ⟨2, _⟩ => show win0_12.index t 2 * 256 ≤ (i 2).val ∧ (i 2).val < win0_12.index t 2 * 256 + 256; rw [(at_12 t).2.2]; have h : (i 2).val < 256 := (i 2).isLt; omega

theorem final_12 : (dats m 0 c).arrAt 12 cfg0.N = o12 m c 64 := (dats m 0 c).arrAt_eq_of_cover 12 (o12 m c 64) (wrote_12 m c) cover_12

theorem wrote_13 (hf : (cfg0.win 13).flush t = true) : (dats m 0 c).flushed 13 t = (win0_13.blk t).view.read (Elt Ideal) (o13 m c 64) := by
  have ht : t.val = 64 := (out_13 t).mp hf
  show (cfg0.win 13).cut (grid0.coords t) ((dats m 0 c).after 13 t) = _
  rw [after_13, ht]
  funext j
  rw [View.read_apply]
  refine congrArg (o13 m c 64) (funext fun a => Fin.ext ?_)
  match a with
  | ⟨0, _⟩ => show (j 0).val = win0_13.index t 0 * 1 + 1 * (j 0).val; rw [(at_13 t).1]; omega
  | ⟨1, _⟩ => show (j 1).val = win0_13.index t 1 * 128 + 1 * (j 1).val; rw [(at_13 t).2]; omega

theorem cover_13 (i : S1x128.Idx) : ∃ t : Fin cfg0.N, (cfg0.win 13).flush t = true ∧ i ∈ ((cfg0.win 13).blk t).view.set := by
  let t : Fin cfg0.N := ⟨64, lt_of_lt_of_eq (by omega : 64 < 65) (show cfg0.N = 65 from N_0).symm⟩
  refine ⟨t, (out_13 t).mpr rfl, ?_⟩
  show i ∈ ((View.whole main_v0_5).slice (win0_13.rect t)).set
  rw [View.set_slice_whole, Rect.mem_set_unit]
  intro a
  match a with
  | ⟨0, _⟩ => show win0_13.index t 0 * 1 ≤ (i 0).val ∧ (i 0).val < win0_13.index t 0 * 1 + 1; rw [(at_13 t).1]; have h : (i 0).val < 1 := (i 0).isLt; omega
  | ⟨1, _⟩ => show win0_13.index t 1 * 128 ≤ (i 1).val ∧ (i 1).val < win0_13.index t 1 * 128 + 128; rw [(at_13 t).2]; have h : (i 1).val < 128 := (i 1).isLt; omega

theorem final_13 : (dats m 0 c).arrAt 13 cfg0.N = o13 m c 64 := (dats m 0 c).arrAt_eq_of_cover 13 (o13 m c 64) (wrote_13 m c) cover_13

/-! ## The run -/

theorem run (ρ : Dev nD → PrngReg) : θ_run defs (onTc (τ := τ) (main (F := Ideal))) ⟨m, fun _ => 0, ρ⟩ fun r => ∀ c : Dev nD,
      r.2.mem ((c.tc : Thread nD τ).loc main_v0_0) = g8 m c
      ∧ r.2.mem ((c.tc : Thread nD τ).loc main_v0_1) = g9 m c
      ∧ r.2.mem ((c.tc : Thread nD τ).loc main_v0_2) = g10 m c
      ∧ r.2.mem ((c.tc : Thread nD τ).loc main_v0_3) = o11 m c 64
      ∧ r.2.mem ((c.tc : Thread nD τ).loc main_v0_4) = o12 m c 64
      ∧ r.2.mem ((c.tc : Thread nD τ).loc main_v0_5) = o13 m c 64 :=
  (θ_run defs _ _).mono (fun _ h c => ⟨((h.1 c).1 8).trans (final_8 m c), ((h.1 c).1 9).trans (final_9 m c), ((h.1 c).1 10).trans (final_10 m c),
    ((h.1 c).1 11).trans (final_11 m c), ((h.1 c).1 12).trans (final_12 m c), ((h.1 c).1 13).trans (final_13 m c)⟩) (run_all m ρ)

end Cert.KernelIdeal.Attn

end
-- ==== Proof.RefA.lean ====
/- What the reference computes of one block, at an index: the bands, the masked logits, the exponentials, the softmax's
   derivative. -/
module

public import proofs.«01_k».proof.Proof.Mask
public import proofs.«01_k».proof.Proof.Gen.ReferenceIdeal.Read
public import Idealize.ShloMosaic.Lib.Pointwise

@[expose] public section

noncomputable section

namespace Cert.ReferenceIdeal.Attn

open Idealize.ShloMosaic
open Cert.ReferenceIdeal Cert.ReferenceIdeal.Gen Cert.ReferenceIdeal.Read Cert.Attn

variable (A0 : (⟨S8192x1280, .bf16⟩ : BufTy).Contents (Elt Ideal)) (A1 : (⟨S8192x1024, .bf16⟩ : BufTy).Contents (Elt Ideal))
  (A2 : (⟨S16x128x256, .f32⟩ : BufTy).Contents (Elt Ideal)) (A3 : (⟨S16, .f32⟩ : BufTy).Contents (Elt Ideal))

/-- Block `n` of the arguments, with zeros in front of the sequence. -/
def B (n : Fin 64) : Blk := rblk (fun i c => A0 (ix2 i c)) (fun i c => A1 (ix2 i c)) (fun h r s => A2 (ix3 h r s)) (fun h => A3 (ix1 h)) n

variable (n : Fin 64) (r : Fin 128) (s : Fin 256) (a : Fin 2) (j : Fin 8) (d : Fin 64)

theorem at2 {A : S8192x1280.Idx → EReal} {i i' : Fin 8192} {c c' : Fin 1280} (h : i.val = i'.val) (h' : c.val = c'.val) : A (ix2 i c) = A (ix2 i' c') := by
  rw [Fin.ext h, Fin.ext h']

theorem at2g {A : S8192x1024.Idx → EReal} {i i' : Fin 8192} {c c' : Fin 1024} (h : i.val = i'.val) (h' : c.val = c'.val) : A (ix2 i c) = A (ix2 i' c') := by
  rw [Fin.ext h, Fin.ext h']

theorem kc_hd (a : Fin 2) (j : Fin 8) (d : Fin 64) : kc (hd a j) d = gc a d :=
  Fin.ext (by show 64 * ((8 * a.val + j.val) / 8) + d.val = 64 * a.val + d.val; omega)

theorem v4_at : val_main_v4 (F := Ideal) A0 (ix5 n r a j d) = (B A0 A1 A2 A3 n).q r (hc (hd a j) d) := by
  pointwise [val_main_v4, val_main_v1, val_main_v0]
  exact at2 rfl (by simp only [hc, hd]; omega)

theorem v5_at : val_main_v5 (F := Ideal) A0 (ix4 n r a d) = A0 (ix2 (rowOf n r) ⟨1024 + (gc a d).val, by omega⟩) := by
  pointwise [val_main_v5, val_main_v2, val_main_v0]
  exact at2 rfl (by simp only [gc]; omega)

theorem v12_at : val_main_v12 (F := Ideal) A0 (ix4 n r a d) = A0 (ix2 (rowOf n r) ⟨1152 + (gc a d).val, by omega⟩) := by
  pointwise [val_main_v12, val_main_v3, val_main_v0]
  exact at2 rfl (by simp only [gc]; omega)

theorem v11_at : val_main_v11 (F := Ideal) A0 (ix4 n s a d) = (B A0 A1 A2 A3 n).kb s (gc a d) := by
  pointwise [val_main_v11, val_main_v9, val_main_v8, val_main_v7, val_main_cst, v5_at]
  show _ = bandR (fun i c => A0 (ix2 i c)) n 1024 (by omega) s (gc a d)
  unfold bandR rowOf
  split <;> rfl

theorem v18_at : val_main_v18 (F := Ideal) A0 (ix4 n s a d) = (B A0 A1 A2 A3 n).vb s (gc a d) := by
  pointwise [val_main_v18, val_main_v16, val_main_v15, val_main_v14, val_main_cst_1, v12_at]
  show _ = bandR (fun i c => A0 (ix2 i c)) n 1152 (by omega) s (gc a d)
  unfold bandR rowOf
  split <;> rfl

theorem v26_at : val_main_v26 (F := Ideal) A0 A2 (ix5 n a j r s) = (B A0 A1 A2 A3 n).lg (hd a j) r s * c8 + (B A0 A1 A2 A3 n).bias (hd a j) r s := by
  pointwise [val_main_v26, val_main_v22, val_main_v20, val_main_v19, val_main_v21, val_main_cst_3, val_main_v25, val_main_v24, val_main_v23, v4_at A0 A1 A2 A3, v11_at A0 A1 A2 A3]
  have e : (⟨a.val * 8 + j.val, by omega⟩ : Fin 16) = hd a j := Fin.ext (by simp only [hd]; omega)
  rw [e]
  refine congrArg₂ (· + ·) (congrArg (· * c8) (Finset.sum_congr rfl fun d _ => ?_)) rfl
  rw [kc_hd, mul_comm]

theorem v40_at : val_main_v40 (F := Ideal) (ix2 r s) = nearBit r s := by
  pointwise [val_main_v40, val_main_v39, val_main_v38, val_main_v37, val_main_v36, val_main_v35, val_main_v34, val_main_v33, val_main_v32, val_main_v31, val_main_v30, val_main_v29, val_main_v28, val_main_v27, val_main_c, val_main_c_4, val_main_c_5]
  exact near_words r s

theorem v53_at : val_main_v53 (F := Ideal) (ix3 n 0 s) = frontBit n.val s := by
  pointwise [val_main_v53, val_main_v52, val_main_v50, val_main_v49, val_main_v48, val_main_v47, val_main_v46, val_main_v45, val_main_v44, val_main_v43, val_main_v42, val_main_v41, val_main_v30, val_main_v29, val_main_c_6, val_main_c_7, val_main_c_8]
  exact front_words n s

theorem v98_at : val_main_v98 (F := Ideal) A0 A1 (ix5 n a j r s) = (B A0 A1 A2 A3 n).dp (hd a j) r s := by
  pointwise [val_main_v98, val_main_v97, val_main_v96, val_main_v95, v18_at A0 A1 A2 A3]
  unfold Blk.dp
  refine Finset.sum_congr rfl fun d _ => ?_
  rw [kc_hd]
  refine congrArg (· * _) ?_
  exact at2g rfl (by simp only [hc, hd]; omega)

theorem v56_at : val_main_v56 (F := Ideal) (ix3 n r s) = (B A0 A1 A2 A3 n).on r s := by
  pointwise [val_main_v56, val_main_v55, val_main_v54, val_main_v51, v40_at, v53_at]
  exact sees_words n.val r s

theorem bot32 : Ideal.ofBits .f32 0xFF800000#32 = ⊥ := by simp [Ideal.ofBits, Ideal.ieee]

theorem v58_at : val_main_v58_0 (F := Ideal) A0 A2 (ix5 n a j r s) = (B A0 A1 A2 A3 n).x (hd a j) r s := by
  pointwise [val_main_v58_0, val_main_v58_1, val_main_call0_v2, val_main_call0_v0, val_main_cst_9, val_main_v57, v56_at A0 A1 A2 A3, v26_at A0 A1 A2 A3]
  show Scalar.select _ _ (Ideal.ofBits .f32 0xFF800000#32) = _
  rw [bot32]
  rfl

/-- A row of the masked logits, the sink behind them. -/
def withSink (f : Fin 256 → EReal) (z : EReal) (t : Fin 257) : EReal := if h : t.val < 256 then f ⟨t.val, h⟩ else z

variable (t : Fin 257)

theorem v62_at : val_main_v62 (F := Ideal) A0 A2 A3 (ix5 n a j r t) = withSink ((B A0 A1 A2 A3 n).x (hd a j) r) ((B A0 A1 A2 A3 n).sk (hd a j)) t := by
  pointwise [val_main_v62, val_main_v61, val_main_v60, val_main_v59, v58_at A0 A1 A2 A3]
  have e : (⟨a.val * 8 + j.val, by omega⟩ : Fin 16) = hd a j := Fin.ext (by simp only [hd]; omega)
  rw [e]
  rfl

theorem withSink_cast (f : Fin 256 → EReal) (z : EReal) (s : Fin 256) : withSink f z s.castSucc = f s := dif_pos s.isLt
theorem withSink_last (f : Fin 256 → EReal) (z : EReal) : withSink f z (Fin.last 256) = z := dif_neg (Nat.lt_irrefl 256)

theorem sum_withSink (f : Fin 256 → EReal) (z : EReal) : ∑ t, withSink f z t = (∑ s, f s) + z := by
  rw [Fin.sum_univ_castSucc, withSink_last]
  exact congrArg (· + z) (Finset.sum_congr rfl fun s _ => withSink_cast f z s)

theorem max_withSink (f : Fin 256 → EReal) (z : EReal) : Finset.univ.fold max ⊥ (withSink f z) = max (Finset.univ.fold max ⊥ f) z := by
  rw [Fin.univ_castSuccEmb, Finset.fold_cons, Finset.fold_map, withSink_last, max_comm]
  exact congrArg (max · z) (Finset.fold_congr fun s _ => withSink_cast f z s)

theorem map_withSink (φ : EReal → EReal) (f : Fin 256 → EReal) (z : EReal) (t : Fin 257) : φ (withSink f z t) = withSink (fun s => φ (f s)) (φ z) t := by
  unfold withSink
  by_cases h : t.val < 256
  · rw [dif_pos h, dif_pos h]
  · rw [dif_neg h, dif_neg h]

theorem map2_withSink (φ : EReal → EReal → EReal) (f f' : Fin 256 → EReal) (z z' : EReal) (t : Fin 257) :
    φ (withSink f z t) (withSink f' z' t) = withSink (fun s => φ (f s) (f' s)) (φ z z') t := by
  unfold withSink
  by_cases h : t.val < 256
  · rw [dif_pos h, dif_pos h, dif_pos h]
  · rw [dif_neg h, dif_neg h, dif_neg h]

end Cert.ReferenceIdeal.Attn

end
-- ==== Proof.RefB.lean ====
/- What the reference computes of one block, at an index, from the row maxima to the gradients of the bands. -/
module

public import proofs.«01_k».proof.Proof.RefA

@[expose] public section

noncomputable section

namespace Cert.ReferenceIdeal.Attn

open Idealize.ShloMosaic
open Cert.ReferenceIdeal Cert.ReferenceIdeal.Gen Cert.ReferenceIdeal.Read Cert.Attn

variable (A0 : (⟨S8192x1280, .bf16⟩ : BufTy).Contents (Elt Ideal)) (A1 : (⟨S8192x1024, .bf16⟩ : BufTy).Contents (Elt Ideal))
  (A2 : (⟨S16x128x256, .f32⟩ : BufTy).Contents (Elt Ideal)) (A3 : (⟨S16, .f32⟩ : BufTy).Contents (Elt Ideal))

section

variable (n : Fin 64) (r : Fin 128) (s : Fin 256) (a : Fin 2) (j : Fin 8) (d : Fin 64) (t : Fin 257)

theorem v63_at : val_main_v63 (F := Ideal) A0 A2 A3 (ix4 n a j r) = (B A0 A1 A2 A3 n).mx (hd a j) r := by
  pointwise [val_main_v63, val_main_cst_10, v62_at A0 A1 A2 A3]
  rw [bot32]
  exact max_withSink _ _

theorem v69_at : val_main_v69 (F := Ideal) (ix4 n a j r) = ⊥ := by
  pointwise [val_main_v69, val_main_cst_12]
  exact bot32

theorem v70_at : val_main_v70 (F := Ideal) A0 A2 A3 (ix4 n a j r) = (B A0 A1 A2 A3 n).mx (hd a j) r :=
  (val_main_v70_apply A0 A2 A3 (ix4 n a j r)).trans ((congrArg₂ (max · ·) (v69_at n r a j) (v63_at A0 A1 A2 A3 n r a j)).trans (max_eq_right bot_le))

theorem v83_at : val_main_v83 (F := Ideal) A0 A2 A3 (ix5 n a j r t) = withSink ((B A0 A1 A2 A3 n).e (hd a j) r) ((B A0 A1 A2 A3 n).es (hd a j) r) t := by
  pointwise [val_main_v83, val_main_v82, val_main_v81, val_main_v80, v62_at A0 A1 A2 A3, v70_at A0 A1 A2 A3]
  exact map_withSink (fun x => Ideal.exp (x - (B A0 A1 A2 A3 n).mx (hd a j) r)) _ _ t

theorem v84_at : val_main_v84 (F := Ideal) A0 A2 A3 (ix4 n a j r) = (B A0 A1 A2 A3 n).Z (hd a j) r := by
  pointwise [val_main_v84, val_main_cst_18, v83_at A0 A1 A2 A3]
  exact sum_withSink _ _

theorem v85_at (z : Fin 1) : val_main_v85 (F := Ideal) A0 A2 A3 (ix5 n a j r z) = (B A0 A1 A2 A3 n).Z (hd a j) r := by
  pointwise [val_main_v85, v84_at A0 A1 A2 A3]

theorem v101_at : val_main_v101 (F := Ideal) A0 A1 (ix5 n a j r t) = withSink ((B A0 A1 A2 A3 n).dp (hd a j) r) 0 t := by
  pointwise [val_main_v101, val_main_cst_20, v98_at A0 A1 A2 A3]
  rfl

theorem v105_at : val_main_v105 (F := Ideal) A0 A1 A2 A3 (ix4 n a j r) = (B A0 A1 A2 A3 n).rdel (hd a j) r := by
  pointwise [val_main_v105, val_main_v104, val_main_v103, val_main_v102, val_main_v90, val_main_v89, val_main_cst_19, val_main_v88, val_main_cst_21, v83_at A0 A1 A2 A3, v101_at A0 A1 A2 A3, v85_at A0 A1 A2 A3]
  refine (Finset.sum_congr rfl fun t _ => map2_withSink (fun u v => u * Ideal.div 1 ((B A0 A1 A2 A3 n).Z (hd a j) r * (B A0 A1 A2 A3 n).Z (hd a j) r) * v) _ _ _ _ t).trans ?_
  rw [sum_withSink, zero_mul, zero_mul, add_zero]
  rfl

theorem v113_at (hB : ∀ n, (B A0 A1 A2 A3 n).Numbers) : val_main_v113 (F := Ideal) A0 A1 A2 A3 (ix5 n a j r t)
    = withSink ((B A0 A1 A2 A3 n).dl (hd a j) r) (-((B A0 A1 A2 A3 n).ps (hd a j) r * (B A0 A1 A2 A3 n).delta (hd a j) r)) t := by
  pointwise [val_main_v113, val_main_v112, val_main_v111, val_main_v110, val_main_v109, val_main_v108, val_main_v107, val_main_v106, val_main_cst_22, v83_at A0 A1 A2 A3, v101_at A0 A1 A2 A3, v85_at A0 A1 A2 A3, v105_at A0 A1 A2 A3]
  simp only [Finset.univ_unique, Finset.sum_singleton]
  refine (map2_withSink (fun u v => (Ideal.div u ((B A0 A1 A2 A3 n).Z (hd a j) r) + -(B A0 A1 A2 A3 n).rdel (hd a j) r) * v) _ _ _ _ t).trans ?_
  rw [Blk.quot_ds (hB n)]
  exact congrArg (fun f => withSink f _ t) (funext fun s => Blk.quot_dl (hB n) (hd a j) r s)

theorem v91_at (hB : ∀ n, (B A0 A1 A2 A3 n).Numbers) : val_main_v91 (F := Ideal) A0 A2 A3 (ix5 n a j r s) = (B A0 A1 A2 A3 n).p (hd a j) r s := by
  pointwise [val_main_v91, val_main_v87, val_main_v86, v83_at A0 A1 A2 A3, v85_at A0 A1 A2 A3]
  exact (congrArg (Ideal.div · _) (withSink_cast _ _ s)).trans (Blk.quot_p (hB n) (hd a j) r s)

end

variable (hB : ∀ n, (B A0 A1 A2 A3 n).Numbers)
include hB

variable (n : Fin 64) (r : Fin 128) (s : Fin 256) (a : Fin 2) (j : Fin 8) (d : Fin 64)

theorem v113_at' (t : Fin 257) : val_main_v113 (F := Ideal) A0 A1 A2 A3 (ix5 n a j r t)
    = withSink ((B A0 A1 A2 A3 n).dl (hd a j) r) (-((B A0 A1 A2 A3 n).ps (hd a j) r * (B A0 A1 A2 A3 n).delta (hd a j) r)) t :=
  v113_at A0 A1 A2 A3 n r a j t hB

theorem v91_at' : val_main_v91 (F := Ideal) A0 A2 A3 (ix5 n a j r s) = (B A0 A1 A2 A3 n).p (hd a j) r s := v91_at A0 A1 A2 A3 n r s a j hB

theorem v120_at : val_main_v120 (F := Ideal) A0 A1 A2 A3 (ix5 n a j r s) = (B A0 A1 A2 A3 n).dl (hd a j) r s := by
  pointwise [val_main_v120, val_main_v58_1, val_main_v57, v56_at A0 A1 A2 A3, val_main_v114, v113_at' A0 A1 A2 A3 hB, val_main_call1_v0, val_main_call1_cst]
  by_cases ho : (B A0 A1 A2 A3 n).on r s = 1#1
  · exact (if_pos ho).trans (withSink_cast _ _ s)
  · exact (if_neg ho).trans (Blk.dl_masked _ _ _ _ ho).symm

omit hB in
/-- A sum over the outer axis and the two inner ones. -/
theorem sum_outer {n0 n1 n2 n3 n4 : ℕ} (h : (⟨5, ![n0, n1, n2, n3, n4]⟩ : Shape).ReducesTo [0, 3, 4] ⟨2, ![n1, n2]⟩)
    (v : (⟨5, ![n0, n1, n2, n3, n4]⟩ : Shape).Idx → EReal) (c : EReal) (x : Fin n1) (y : Fin n2) :
    Ideal.hostReduceAdd h v c (ix2 x y) = c + ∑ k0, ∑ k3, ∑ k4, v (ix5 k0 x y k3 k4) := by
  refine congrArg (c + ·) ((Finset.sum_filter_eq_sum_of_fiber _ (fun k : Fin n0 × Fin n3 × Fin n4 => ix5 k.1 x y k.2.1 k.2.2)
    (fun _ _ e => Prod.ext (congrFun e 0) (Prod.ext (congrFun e 3) (congrFun e 4))) (fun i => ⟨fun e => ?_, ?_⟩) v).trans ?_)
  · refine ⟨(i 0, i 3, i 4), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => rfl
  · rintro ⟨k, rfl⟩
    refine funext fun b => Fin.ext ?_
    match b with
    | ⟨0, _⟩ => rfl
    | ⟨1, _⟩ => rfl
  · simp only [Fintype.sum_prod_type]

theorem v123_at : val_main_v123 (F := Ideal) A0 A1 A2 A3 (ix4 a j r s) = ∑ n, (B A0 A1 A2 A3 n).dl (hd a j) r s := by
  pointwise [val_main_v123, val_main_cst_26, val_main_v122, val_main_v121, val_main_cst_25, v120_at A0 A1 A2 A3 hB]
  rw [Fin.sum_univ_one]

theorem v115_at (z : Fin 1) : val_main_v115 (F := Ideal) A0 A1 A2 A3 (ix5 n a j r z) = -((B A0 A1 A2 A3 n).ps (hd a j) r * (B A0 A1 A2 A3 n).delta (hd a j) r) := by
  pointwise [val_main_v115, v113_at' A0 A1 A2 A3 hB]
  exact withSink_last _ _

theorem v116_at : val_main_v116 (F := Ideal) A0 A1 A2 A3 (ix2 a j) = ∑ n, ∑ r, -((B A0 A1 A2 A3 n).ps (hd a j) r * (B A0 A1 A2 A3 n).delta (hd a j) r) := by
  pointwise [val_main_v116, val_main_cst_23]
  refine (sum_outer reducesTo_S64x2x8x128x1_S2x8_d0_3_4 (val_main_v115 (F := Ideal) A0 A1 A2 A3) 0 a j).trans ?_
  simp only [Fin.sum_univ_one, zero_add, v115_at A0 A1 A2 A3 hB]

theorem v117_at (z z' z'' : Fin 1) : val_main_v117 (F := Ideal) A0 A1 A2 A3 (ix5 z a j z' z'') = ∑ n, ∑ r, -((B A0 A1 A2 A3 n).ps (hd a j) r * (B A0 A1 A2 A3 n).delta (hd a j) r) := by
  pointwise [val_main_v117, v116_at A0 A1 A2 A3 hB]

theorem v118_at : val_main_v118 (F := Ideal) A0 A1 A2 A3 (ix2 a j) = ∑ n, ∑ r, -((B A0 A1 A2 A3 n).ps (hd a j) r * (B A0 A1 A2 A3 n).delta (hd a j) r) := by
  pointwise [val_main_v118, val_main_cst_24]
  refine (sum_outer reducesTo_S1x2x8x1x1_S2x8_d0_3_4 (val_main_v117 (F := Ideal) A0 A1 A2 A3) 0 a j).trans ?_
  simp only [Fin.sum_univ_one, zero_add, v117_at A0 A1 A2 A3 hB]

theorem v128_at : val_main_v128 (F := Ideal) A0 A1 A2 A3 (ix5 n a r j d) = (B A0 A1 A2 A3 n).dq (hd a j) r d := by
  pointwise [val_main_v128, val_main_v127, val_main_v126, val_main_v125, val_main_cst_27, v120_at A0 A1 A2 A3 hB, v11_at A0 A1 A2 A3]
  unfold Blk.dq
  rw [sum_mul_real _ (fun s => (Blk.dl_real (hB n) _ _ _).mul ((hB n).kb _ _)) c8_real]
  refine Finset.sum_congr rfl fun s _ => ?_
  rw [kc_hd, mul_right_comm]

theorem v130_at : val_main_v130 (F := Ideal) A0 A1 A2 A3 (ix4 n a s d) = (B A0 A1 A2 A3 n).dk a s d := by
  pointwise [val_main_v130, val_main_v127, val_main_v126, val_main_v125, val_main_cst_27, v120_at A0 A1 A2 A3 hB, v4_at A0 A1 A2 A3]
  unfold Blk.dk
  rw [sum_mul_real _ (fun j => IsReal.sum _ fun r => (Blk.dl_real (hB n) _ _ _).mul ((hB n).q _ _)) c8_real, Finset.sum_comm]
  refine Finset.sum_congr rfl fun j _ => ?_
  rw [sum_mul_real _ (fun r => (Blk.dl_real (hB n) _ _ _).mul ((hB n).q _ _)) c8_real]
  exact Finset.sum_congr rfl fun r _ => mul_right_comm ((B A0 A1 A2 A3 n).dl (hd a j) r s) _ _

theorem v99_at : val_main_v99 (F := Ideal) A0 A1 A2 A3 (ix4 n a d s) = (B A0 A1 A2 A3 n).dv a s d := by
  pointwise [val_main_v99, val_main_v97, val_main_v96, val_main_v95, v91_at' A0 A1 A2 A3 hB]
  unfold Blk.dv
  refine Finset.sum_congr rfl fun j _ => Finset.sum_congr rfl fun r _ => ?_
  rw [mul_comm]
  refine congrArg ((B A0 A1 A2 A3 n).p (hd a j) r s * ·) ?_
  exact at2g rfl (by simp only [hc, hd]; omega)

end Cert.ReferenceIdeal.Attn

end
-- ==== Proof.RefC.lean ====
/- What the reference returns, at an index. -/
module

public import proofs.«01_k».proof.Proof.RefB
public import proofs.«01_k».proof.Proof.Out

@[expose] public section

noncomputable section

namespace Cert.ReferenceIdeal.Attn

open Idealize.ShloMosaic
open Cert.ReferenceIdeal Cert.ReferenceIdeal.Gen Cert.ReferenceIdeal.Read Cert.Attn

/-- The gradient of the rows of block `n` from the gradients of the bands: the block's own band holds the rows in its second
    half, the band of the block after in its first. -/
def rows (D : Fin 64 → Fin 256 → Fin 128 → EReal) (n : Fin 64) (r : Fin 128) (y : Fin 128) : EReal :=
  D n (hi r) y + (if h : n.val < 63 then D ⟨n.val + 1, by omega⟩ (lo r) y else 0)

theorem dq_of (W : Fin 64 → Blk) {n n' : Fin 64} {h : Fin 16} {r r' : Fin 128} {d : Fin 64} {y : Fin 1024}
    (hn : n'.val = n.val) (hr : r'.val = r.val) (hy : y.val = 64 * h.val + d.val) : (W n').dq h r' d = (W n).dqc r y := by
  rw [Fin.ext hn, Fin.ext hr]; exact ((W n).dqc_hc h r d y hy).symm

theorem dk_of (W : Fin 64 → Blk) {n n' : Fin 64} {a : Fin 2} {s s' : Fin 256} {d : Fin 64} {y : Fin 128}
    (hn : n'.val = n.val) (hr : s'.val = s.val) (hy : y.val = 64 * a.val + d.val) : (W n').dk a s' d = (W n).dkc s y := by
  rw [Fin.ext hn, Fin.ext hr]; exact ((W n).dkc_gc a s d y hy).symm

theorem dv_of (W : Fin 64 → Blk) {n n' : Fin 64} {a : Fin 2} {s s' : Fin 256} {d : Fin 64} {y : Fin 128}
    (hn : n'.val = n.val) (hr : s'.val = s.val) (hy : y.val = 64 * a.val + d.val) : (W n').dv a s' d = (W n).dvc s y := by
  rw [Fin.ext hn, Fin.ext hr]; exact ((W n).dvc_gc a s d y hy).symm

variable (A0 : (⟨S8192x1280, .bf16⟩ : BufTy).Contents (Elt Ideal)) (A1 : (⟨S8192x1024, .bf16⟩ : BufTy).Contents (Elt Ideal))
  (A2 : (⟨S16x128x256, .f32⟩ : BufTy).Contents (Elt Ideal)) (A3 : (⟨S16, .f32⟩ : BufTy).Contents (Elt Ideal))
variable (hB : ∀ n, (B A0 A1 A2 A3 n).Numbers)
include hB

variable (n : Fin 64) (r : Fin 128) (s : Fin 256) (a : Fin 2) (j : Fin 8) (d : Fin 64)

theorem v137_at : val_main_v137 (F := Ideal) A0 A1 A2 A3 (ix4 n r a d) = rows (fun n => (B A0 A1 A2 A3 n).dvc) n r (gc a d) := by
  pointwise [val_main_v137, val_main_v136, val_main_cst_28, val_main_v135, val_main_v133, val_main_v132, val_main_v100, v99_at A0 A1 A2 A3 hB]
  unfold rows
  refine congrArg₂ (· + ·) (dv_of (B A0 A1 A2 A3) rfl rfl rfl) ?_
  by_cases h : n.val < 63
  · rw [dif_pos h, dif_pos h]; exact dv_of (B A0 A1 A2 A3) (Nat.add_comm _ _) rfl rfl
  · rw [dif_neg h, dif_neg h]

theorem v144_at : val_main_v144 (F := Ideal) A0 A1 A2 A3 (ix4 n r a d) = rows (fun n => (B A0 A1 A2 A3 n).dkc) n r (gc a d) := by
  pointwise [val_main_v144, val_main_v143, val_main_cst_29, val_main_v142, val_main_v140, val_main_v139, val_main_v131, v130_at A0 A1 A2 A3 hB]
  unfold rows
  refine congrArg₂ (· + ·) (dk_of (B A0 A1 A2 A3) rfl rfl rfl) ?_
  by_cases h : n.val < 63
  · rw [dif_pos h, dif_pos h]; exact dk_of (B A0 A1 A2 A3) (Nat.add_comm _ _) rfl rfl
  · rw [dif_neg h, dif_neg h]

theorem v138_at (i : Fin 8192) (y : Fin 128) : val_main_v138 (F := Ideal) A0 A1 A2 A3 (ix2 i y)
    = rows (fun n => (B A0 A1 A2 A3 n).dvc) ⟨i.val / 128, by omega⟩ ⟨i.val % 128, by omega⟩ y := by
  pointwise [val_main_v138, v137_at A0 A1 A2 A3 hB]
  exact congrArg (rows _ _ _) (Fin.ext (by simp only [gc]; omega))

theorem v145_at (i : Fin 8192) (y : Fin 128) : val_main_v145 (F := Ideal) A0 A1 A2 A3 (ix2 i y)
    = rows (fun n => (B A0 A1 A2 A3 n).dkc) ⟨i.val / 128, by omega⟩ ⟨i.val % 128, by omega⟩ y := by
  pointwise [val_main_v145, v144_at A0 A1 A2 A3 hB]
  exact congrArg (rows _ _ _) (Fin.ext (by simp only [gc]; omega))

theorem v146_at (i : Fin 8192) (y : Fin 1024) : val_main_v146 (F := Ideal) A0 A1 A2 A3 (ix2 i y)
    = (B A0 A1 A2 A3 ⟨i.val / 128, by omega⟩).dqc ⟨i.val % 128, by omega⟩ y := by
  pointwise [val_main_v146, val_main_v129, v128_at A0 A1 A2 A3 hB]
  exact dq_of (B A0 A1 A2 A3) rfl rfl (by simp only [hd]; omega)

theorem v151_at (i : Fin 8192) (y : Fin 1024) : val_main_v151 (F := Ideal) A0 A1 A2 A3 (ix2 i y)
    = (B A0 A1 A2 A3 ⟨i.val / 128, by omega⟩).dqc ⟨i.val % 128, by omega⟩ y := by
  pointwise [val_main_v151, val_main_v148, val_main_v147, v146_at A0 A1 A2 A3 hB]

theorem v152_at (i : Fin 8192) (y : Fin 128) : val_main_v152 (F := Ideal) A0 A1 A2 A3 (ix2 i y)
    = rows (fun n => (B A0 A1 A2 A3 n).dkc) ⟨i.val / 128, by omega⟩ ⟨i.val % 128, by omega⟩ y := by
  pointwise [val_main_v152, val_main_v149, val_main_v147, v145_at A0 A1 A2 A3 hB]

theorem v153_at (i : Fin 8192) (y : Fin 128) : val_main_v153 (F := Ideal) A0 A1 A2 A3 (ix2 i y)
    = rows (fun n => (B A0 A1 A2 A3 n).dvc) ⟨i.val / 128, by omega⟩ ⟨i.val % 128, by omega⟩ y := by
  pointwise [val_main_v153, val_main_v150, val_main_v147, v138_at A0 A1 A2 A3 hB]
  rw [dif_neg (by omega), dif_neg (by omega)]
  exact congrArg (rows _ _ _) (Fin.ext (by simp only; omega))

theorem v155_at (z : Fin 1) (y : Fin 1280) : val_main_v155 (F := Ideal) A0 A1 A2 A3 (ix2 z y)
    = ∑ n, ∑ r, if h : y.val < 1024 then (B A0 A1 A2 A3 n).dqc r ⟨y.val, h⟩
      else if h2 : y.val < 1152 then rows (fun n => (B A0 A1 A2 A3 n).dkc) n r ⟨y.val - 1024, by omega⟩
      else rows (fun n => (B A0 A1 A2 A3 n).dvc) n r ⟨y.val - 1152, by omega⟩ := by
  pointwise [val_main_v155, val_main_v154, val_main_cst_30, val_main_v147, v146_at A0 A1 A2 A3 hB, v138_at A0 A1 A2 A3 hB, v145_at A0 A1 A2 A3 hB]
  refine (sum_rows _).trans (Finset.sum_congr rfl fun n _ => Finset.sum_congr rfl fun r _ => ?_)
  have e : (⟨(rowOf n r).val / 128, by omega⟩ : Fin 64) = n := Fin.ext (by simp only [rowOf]; omega)
  have e' : (⟨(rowOf n r).val % 128, by omega⟩ : Fin 128) = r := Fin.ext (by simp only [rowOf]; omega)
  rw [e, e']
  by_cases h : y.val < 1024
  · rw [dif_pos h, dif_pos h]
  · rw [dif_neg h, dif_neg h]
    by_cases h2 : y.val < 1152
    · rw [dif_pos h2, dif_pos (by omega)]
    · rw [dif_neg h2, dif_neg (by omega)]
      exact congrArg (rows _ _ _) (Fin.ext (by simp only; omega))

omit hB in
theorem hd_div (h : Fin 16) : hd ⟨h.val / 8, by omega⟩ ⟨h.val % 8, by omega⟩ = h := Fin.ext (by simp only [hd]; omega)

theorem v124_at (h : Fin 16) : val_main_v124 (F := Ideal) A0 A1 A2 A3 (ix3 h r s) = ∑ n, (B A0 A1 A2 A3 n).dl h r s := by
  pointwise [val_main_v124, v123_at A0 A1 A2 A3 hB]
  rw [hd_div]

theorem v119_at (h : Fin 16) : val_main_v119 (F := Ideal) A0 A1 A2 A3 (ix1 h) = ∑ n, ∑ r, -((B A0 A1 A2 A3 n).ps h r * (B A0 A1 A2 A3 n).delta h r) := by
  pointwise [val_main_v119, v118_at A0 A1 A2 A3 hB]
  rw [hd_div]

theorem v157_at (z : Fin 1) (l : Fin 128) : val_main_v157 (F := Ideal) A0 A1 A2 A3 (ix2 z l)
    = if h : l.val < 16 then ∑ n, ∑ r, -((B A0 A1 A2 A3 n).ps ⟨l.val, h⟩ r * (B A0 A1 A2 A3 n).delta ⟨l.val, h⟩ r) else 0 := by
  pointwise [val_main_v157, val_main_v156, v119_at A0 A1 A2 A3 hB, val_main_call2_v0, val_main_c_31]
  by_cases h : l.val < 16
  · rw [dif_pos h, dif_pos h]
  · rw [dif_neg h, dif_neg h]; simp [FloatOps.sitofp]

end Cert.ReferenceIdeal.Attn

end
-- ==== Proof.Value.lean ====
/- The kernel's results and the reference's, equal for finite arguments. -/
module

public import proofs.«01_k».proof.Defs
public import proofs.«01_k».proof.Proof.Arrays
public import proofs.«01_k».proof.Proof.RefC
public import Idealize.ShloMosaic.Lib.Claim

@[expose] public section

noncomputable section

/-- The shapes the precondition's function broadcasts. -/
theorem Cert.Pre_finite_inputs.Attn.facts : Cert.Pre_finite_inputs.Facts where
  bcast_S_S8192x1280 := by decide
  bcast_S_S8192x1024 := by decide
  bcast_S_S16x128x256 := by decide
  bcast_S_S16 := by decide

namespace Cert.KernelIdeal.Attn

open Idealize.ShloMosaic Idealize.ShloMosaic.TcCoe
open Cert.KernelIdeal.Gen Cert.Attn Cert.ReferenceIdeal.Read Cert.ReferenceIdeal.Attn

variable (m : (ℓ : Loc nD τ sig) → Buf (Elt Ideal) ℓ) (c : Dev nD)

/-- Block `n` of the arguments, as the reference reads it. -/
abbrev R (n : Fin 64) : Blk := B (m ((c.tc : Thread nD τ).loc main_arg0)) (m ((c.tc : Thread nD τ).loc main_arg1)) (m ((c.tc : Thread nD τ).loc main_arg2)) (m ((c.tc : Thread nD τ).loc main_arg3)) n

theorem alike (n : Fin 64) : Blk.Like (blk m c n.val) (R m c n) := by
  rw [blk_eq]; exact like _ _ _ _ n

theorem dqc_eq (n : Fin 64) : Blk.dqc (blk m c n.val) = (R m c n).dqc := by unfold Blk.dqc; rw [(alike m c n).dq]
theorem dkc_eq (n : Fin 64) : Blk.dkc (blk m c n.val) = (R m c n).dkc := by unfold Blk.dkc; rw [(alike m c n).dk]
theorem dvc_eq (n : Fin 64) : Blk.dvc (blk m c n.val) = (R m c n).dvc := by unfold Blk.dvc; rw [(alike m c n).dv]

theorem em_rows (D : ℕ → Fin 256 → Fin 128 → EReal) (E : Fin 64 → Fin 256 → Fin 128 → EReal) (h : ∀ n : Fin 64, D n.val = E n) (n : Fin 64) (r y : Fin 128) :
    em D (n.val + 1) r y = rows E n r y := by
  unfold em rows
  rw [Nat.add_sub_cancel, h n]
  by_cases hn : n.val < 63
  · rw [if_pos (by omega), dif_pos hn]
    exact congrArg (fun f => E n (hi r) y + f (lo r) y) (h ⟨n.val + 1, by omega⟩)
  · rw [if_neg (by omega), dif_neg hn, add_zero]

theorem over_64 (f : ℕ → EReal) : (∑ n ∈ Finset.range (min (64 + 1) 64), f n) = ∑ n : Fin 64, f n.val := Finset.sum_range f

variable (hR : ∀ n, (R m c n).Numbers)
include hR

theorem eq_8 : g8 m c = val_main_v151 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, y, rfl⟩ : ∃ (i : Fin 8192) (y : Fin 1024), x = ix2 i y := ⟨x 0, x 1, eq_ix2 x⟩
  exact (congrFun (congrFun (dqc_eq m c ⟨i.val / 128, by omega⟩) _) y).trans (v151_at _ _ _ _ hR i y).symm

theorem eq_9 : g9 m c = val_main_v152 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, y, rfl⟩ : ∃ (i : Fin 8192) (y : Fin 128), x = ix2 i y := ⟨x 0, x 1, eq_ix2 x⟩
  exact (em_rows (DK m c) _ (dkc_eq m c) ⟨i.val / 128, by omega⟩ _ y).trans (v152_at _ _ _ _ hR i y).symm

theorem eq_10 : g10 m c = val_main_v153 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, y, rfl⟩ : ∃ (i : Fin 8192) (y : Fin 128), x = ix2 i y := ⟨x 0, x 1, eq_ix2 x⟩
  exact (em_rows (DV m c) _ (dvc_eq m c) ⟨i.val / 128, by omega⟩ _ y).trans (v153_at _ _ _ _ hR i y).symm

theorem eq_11 : o11 m c 64 = val_main_v155 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨z, y, rfl⟩ : ∃ (z : Fin 1) (y : Fin 1280), x = ix2 z y := ⟨x 0, x 1, eq_ix2 x⟩
  obtain rfl : z = 0 := Subsingleton.elim _ _
  refine Eq.trans ?_ (v155_at _ _ _ _ hR 0 y).symm
  by_cases h : y.val < 1024
  · rw [o11_q m c 64 y h]
    refine (over_64 _).trans (Finset.sum_congr rfl fun n _ => Finset.sum_congr rfl fun r _ => ?_)
    rw [dif_pos h, dqc_eq]
  · by_cases h2 : y.val < 1152
    · rw [o11_k m c 64 y h h2]
      refine (Finset.sum_range _).trans (Finset.sum_congr rfl fun n _ => Finset.sum_congr rfl fun r _ => ?_)
      rw [dif_neg h, dif_pos h2]
      exact em_rows (DK m c) _ (dkc_eq m c) n r _
    · rw [o11_v m c 64 y h h2]
      refine (Finset.sum_range _).trans (Finset.sum_congr rfl fun n _ => Finset.sum_congr rfl fun r _ => ?_)
      rw [dif_neg h, dif_neg h2]
      exact em_rows (DV m c) _ (dvc_eq m c) n r _

theorem eq_12 : o12 m c 64 = val_main_v124 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨h, r, s, rfl⟩ : ∃ (h : Fin 16) (r : Fin 128) (s : Fin 256), x = ix3 h r s := ⟨x 0, x 1, x 2, eq_ix3 x⟩
  refine Eq.trans ?_ (v124_at _ _ _ _ hR r s h).symm
  refine (over_64 fun n => Blk.dl (blk m c n) h r s).trans (Finset.sum_congr rfl fun n _ => ?_)
  rw [(alike m c n).dl]

theorem dsl_eq (n : Fin 64) (l : Fin 128) (h : l.val < 16) : Blk.dsl (blk m c n.val) l = ∑ r, -((R m c n).ps ⟨l.val, h⟩ r * (R m c n).delta ⟨l.val, h⟩ r) := by
  unfold Blk.dsl
  rw [dif_pos h, (alike m c n).dsk]
  unfold Blk.dsk
  rw [sum_neg_real _ (fun r => (Blk.ps_real (hR n) _ _).mul (Blk.delta_real (hR n) _ _)), sub_eq_add_neg, zero_add]

theorem eq_13 : o13 m c 64 = val_main_v157 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨z, l, rfl⟩ : ∃ (z : Fin 1) (l : Fin 128), x = ix2 z l := ⟨x 0, x 1, eq_ix2 x⟩
  refine Eq.trans ?_ (v157_at _ _ _ _ hR z l).symm
  refine (over_64 fun n => Blk.dsl (blk m c n) l).trans ?_
  by_cases h : l.val < 16
  · rw [dif_pos h]
    exact Finset.sum_congr rfl fun n _ => dsl_eq m c hR n l h
  · rw [dif_neg h]
    exact Finset.sum_eq_zero fun n _ => dif_neg h

omit hR

/-! ## Finite arguments -/

theorem top_16 : Ideal.ofBits .bf16 0x7F80#16 = ⊤ := by simp [Ideal.ofBits, Ideal.ieee]
theorem top_32 : Ideal.ofBits .f32 0x7F800000#32 = ⊤ := by simp [Ideal.ofBits, Ideal.ieee]

theorem real_of_lt {x t : EReal} (ht : t = ⊤) (h : Ideal.cmp .olt (max x (-x)) t = 1#1) : IsReal x := by
  refine IsReal.of_abs ?_
  subst ht
  by_contra hn
  simp [Ideal.cmp, hn] at h

theorem numbers (h : Cert.Pre_KernelIdeal_finite_inputs (hPre_finite_inputs := Cert.Pre_finite_inputs.Attn.facts) m) (n : Fin 64) : (R m c n).Numbers := by
  obtain ⟨h0, h1, h2, h3⟩ := h c
  refine rblk_numbers n ?_ ?_ ?_ ?_
  · intro i y
    exact real_of_lt top_16 (congrFun h0 (ix2 i y))
  · intro i y
    exact real_of_lt top_16 (congrFun h1 (ix2 i y))
  · intro a r s
    exact real_of_lt top_32 (congrFun h2 (ix3 a r s))
  · intro a
    exact real_of_lt top_32 (congrFun h3 (ix1 a))

/-! ## The claim -/

theorem algebraic : Cert.algebraic_KernelIdeal_ReferenceIdeal_pre_finite_inputs (hKernelIdeal := Cert.KernelIdeal.Gen.facts) (hReferenceIdeal := Cert.ReferenceIdeal.Gen.facts)
    (hPre_finite_inputs := Cert.Pre_finite_inputs.Attn.facts) := by
  intro m ρ m' ρ' hm hargs
  refine ⟨g8 m, g9 m, g10 m, fun c => o11 m c 64, fun c => o12 m c 64, fun c => o13 m c 64, ?_, ?_⟩
  · refine (θ_run defs _ _).mono (fun _ h c => ?_) (θ_run_and (run m ρ) (args_kept m ρ))
    exact ⟨(h.1 c).1, (h.1 c).2.1, (h.1 c).2.2.1, (h.1 c).2.2.2.1, (h.1 c).2.2.2.2.1, (h.1 c).2.2.2.2.2, (h.2 c).1, (h.2 c).2.1, (h.2 c).2.2.1, (h.2 c).2.2.2⟩
  · refine (θ_run Cert.ReferenceIdeal.defs _ _).mono (fun _ h c => ?_) (Cert.ReferenceIdeal.Value.run (F := Ideal) m' ρ')
    obtain ⟨k0, k1, k2, k3⟩ := hargs c
    obtain ⟨e0, e1, e2, e3, e4, e5, a0, a1, a2, a3⟩ := h c
    have hR := fun n => numbers m c hm n
    refine ⟨e0.trans ((val_main_v151_eq _).trans ?_), e1.trans ((val_main_v152_eq _).trans ?_), e2.trans ((val_main_v153_eq _).trans ?_),
      e3.trans ((val_main_v155_eq _).trans ?_), e4.trans ((val_main_v124_eq _).trans ?_), e5.trans ((val_main_v157_eq _).trans ?_), a0, a1, a2, a3⟩
    · refine Eq.trans ?_ (eq_8 m c hR).symm; rw [← k0, ← k1, ← k2, ← k3]
    · refine Eq.trans ?_ (eq_9 m c hR).symm; rw [← k0, ← k1, ← k2, ← k3]
    · refine Eq.trans ?_ (eq_10 m c hR).symm; rw [← k0, ← k1, ← k2, ← k3]
    · refine Eq.trans ?_ (eq_11 m c hR).symm; rw [← k0, ← k1, ← k2, ← k3]
    · refine Eq.trans ?_ (eq_12 m c hR).symm; rw [← k0, ← k1, ← k2, ← k3]
    · refine Eq.trans ?_ (eq_13 m c hR).symm; rw [← k0, ← k1, ← k2, ← k3]

end Cert.KernelIdeal.Attn

end
-- ==== Proof.Gate2.lean ====
/- The gradient of the gated activation `silu(gate) · up`, the gradient in the activation being a product of two arguments:
   one block of 512 rows and 1408 columns at a time. -/
module

public import proofs.«01_k».proof.Defs
public import proofs.«01_k».proof.Proof.Value
public import proofs.«01_k».proof.Proof.Gen.Kernel2Ideal
public import proofs.«01_k».proof.Proof.Gen.Kernel2Ideal.Value
public import proofs.«01_k».proof.Proof.Gen.Reference2Ideal.Read
public import Idealize.ShloMosaic.Lib.Pointwise
public import Idealize.ShloMosaic.Lib.Claim

@[expose] public section

set_option maxRecDepth 16384

noncomputable section

/-- The shapes the precondition's function broadcasts. -/
theorem Cert.Pre_finite_factors.Gate.facts : Cert.Pre_finite_factors.Facts where
  bcast_S_S8192x1024 := by decide
  bcast_S_S2816x1024 := by decide
  bcast_S_S8192x2816 := by decide

namespace Cert.Gate

open Idealize.ShloMosaic Cert.Attn

/-- The constant one. -/
abbrev one : EReal := Ideal.ofBits .f32 0x3F800000#32

theorem one_eq : one = 1 := by simp [Ideal.ofBits, Ideal.ieee]

/-- The logistic function, as the reference divides it out. -/
abbrev sg (g : EReal) : EReal := Ideal.div one (one + Ideal.exp (-g))

theorem sg_eq (g : EReal) : Ideal.logistic g = sg g := by unfold sg; rw [one_eq]; rfl

theorem sg_bot : sg ⊥ = 0 := (sg_eq ⊥).symm.trans Ideal.logistic_bot
theorem sg_top : sg ⊤ = 1 := by
  rw [← sg_eq]; exact Ideal.logistic_top

theorem sg_real (g : ℝ) : IsReal (sg (g : EReal)) := by
  rw [← sg_eq]; exact ⟨_, Ideal.logistic_coe g⟩

/-- The derivative of `silu`, times a number: over all gates, infinite ones among them. -/
theorem dgate (e g : EReal) (he : IsReal e) :
    e * (Ideal.logistic g * (one + g * (one - Ideal.logistic g))) = e * sg g + g * e * (sg g * (one - sg g)) := by
  rw [sg_eq, one_eq]
  obtain ⟨a, rfl⟩ := he
  induction g using EReal.rec with
  | bot => rw [sg_bot]; simp
  | top =>
    rw [sg_top, show (1 : EReal) - 1 = 0 by rw [← EReal.coe_one, ← EReal.coe_sub, sub_self, EReal.coe_zero]]
    simp
  | coe r =>
    obtain ⟨s, hs⟩ := sg_real r
    rw [hs]
    norm_cast
    push_cast
    norm_cast
    ring_nf

end Cert.Gate

namespace Cert.Kernel2Ideal.Gate

open Idealize.ShloMosaic Idealize.ShloMosaic.TcCoe
open Cert.Kernel2Ideal Cert.Kernel2Ideal.Gen Cert.Kernel2Ideal.Value Cert.Attn Cert.Gate
open Cert.Reference2Ideal.Read

variable (m : (ℓ : Loc nD τ sig) → Buf (Elt Ideal) ℓ) (c : Dev nD)

/-- The four arguments at an index. -/
abbrev D (r : Fin 8192) (k : Fin 1024) : EReal := m ((c.tc : Thread nD τ).loc main_arg0) (ix2 r k)
abbrev W (j : Fin 2816) (k : Fin 1024) : EReal := m ((c.tc : Thread nD τ).loc main_arg1) (ix2 j k)
abbrev G (r : Fin 8192) (j : Fin 2816) : EReal := m ((c.tc : Thread nD τ).loc main_arg2) (ix2 r j)
abbrev U (r : Fin 8192) (j : Fin 2816) : EReal := m ((c.tc : Thread nD τ).loc main_arg3) (ix2 r j)

/-- The gradient in the activation. -/
def P (r : Fin 8192) (j : Fin 2816) : EReal := ∑ k, D m c r k * W m c j k

/-- The two results. -/
def S4 (r : Fin 8192) (j : Fin 2816) : EReal :=
  P m c r j * U m c r j * (Ideal.logistic (G m c r j) * (one + G m c r j * (one - Ideal.logistic (G m c r j))))
def S5 (r : Fin 8192) (j : Fin 2816) : EReal := P m c r j * (G m c r j * Ideal.logistic (G m c r j))

def g4 : Buf (Elt Ideal) ((c : Thread nD τ).loc main_v0_0) := fun i => S4 m c (i 0) (i 1)
def g5 : Buf (Elt Ideal) ((c : Thread nD τ).loc main_v0_1) := fun i => S5 m c (i 0) (i 1)

/-- Which blocks point `t` reads and writes: sixteen blocks of rows for either block of columns. -/
theorem at_0 : ∀ t : Fin cfg0.N, win0_0.index t 0 = t.val % 16 ∧ win0_0.index t 1 = 0 := (by decide +kernel : ∀ t : Fin grid0.N, _)
theorem at_1 : ∀ t : Fin cfg0.N, win0_1.index t 0 = t.val / 16 ∧ win0_1.index t 1 = 0 := (by decide +kernel : ∀ t : Fin grid0.N, _)
theorem at_2 : ∀ t : Fin cfg0.N, win0_2.index t 0 = t.val % 16 ∧ win0_2.index t 1 = t.val / 16 := (by decide +kernel : ∀ t : Fin grid0.N, _)
theorem at_3 : ∀ t : Fin cfg0.N, win0_3.index t 0 = t.val % 16 ∧ win0_3.index t 1 = t.val / 16 := (by decide +kernel : ∀ t : Fin grid0.N, _)
theorem at_4 : ∀ t : Fin cfg0.N, (win0_4.index t 0 = t.val % 16 ∧ win0_4.index t 1 = t.val / 16) ∧ win0_4.flush t = true := (by decide +kernel : ∀ t : Fin grid0.N, _)
theorem at_5 : ∀ t : Fin cfg0.N, (win0_5.index t 0 = t.val % 16 ∧ win0_5.index t 1 = t.val / 16) ∧ win0_5.flush t = true := (by decide +kernel : ∀ t : Fin grid0.N, _)

theorem read_0 (t : Fin cfg0.N) (r : Fin 512) (k : Fin 1024) (R : Fin 8192) (hR : R.val = t.val % 16 * 512 + r.val) : iblk m c 0 t (ix2 r k) = D m c R k := by
  unfold iblk
  rw [View.read_apply]
  refine congrArg (m ((c.tc : Thread nD τ).loc main_arg0)) (funext fun a => Fin.ext ?_)
  match a with
  | ⟨0, _⟩ => show win0_0.index t 0 * 512 + 1 * r.val = R.val; rw [(at_0 t).1]; omega
  | ⟨1, _⟩ => show win0_0.index t 1 * 1024 + 1 * k.val = k.val; rw [(at_0 t).2]; omega

theorem read_1 (t : Fin cfg0.N) (j : Fin 1408) (k : Fin 1024) (J : Fin 2816) (hJ : J.val = t.val / 16 * 1408 + j.val) : iblk m c 1 t (ix2 j k) = W m c J k := by
  unfold iblk
  rw [View.read_apply]
  refine congrArg (m ((c.tc : Thread nD τ).loc main_arg1)) (funext fun a => Fin.ext ?_)
  match a with
  | ⟨0, _⟩ => show win0_1.index t 0 * 1408 + 1 * j.val = J.val; rw [(at_1 t).1]; omega
  | ⟨1, _⟩ => show win0_1.index t 1 * 1024 + 1 * k.val = k.val; rw [(at_1 t).2]; omega

theorem read_2 (t : Fin cfg0.N) (r : Fin 512) (j : Fin 1408) (R : Fin 8192) (J : Fin 2816) (hR : R.val = t.val % 16 * 512 + r.val) (hJ : J.val = t.val / 16 * 1408 + j.val) :
    iblk m c 2 t (ix2 r j) = G m c R J := by
  unfold iblk
  rw [View.read_apply]
  refine congrArg (m ((c.tc : Thread nD τ).loc main_arg2)) (funext fun a => Fin.ext ?_)
  match a with
  | ⟨0, _⟩ => show win0_2.index t 0 * 512 + 1 * r.val = R.val; rw [(at_2 t).1]; omega
  | ⟨1, _⟩ => show win0_2.index t 1 * 1408 + 1 * j.val = J.val; rw [(at_2 t).2]; omega

theorem read_3 (t : Fin cfg0.N) (r : Fin 512) (j : Fin 1408) (R : Fin 8192) (J : Fin 2816) (hR : R.val = t.val % 16 * 512 + r.val) (hJ : J.val = t.val / 16 * 1408 + j.val) :
    iblk m c 3 t (ix2 r j) = U m c R J := by
  unfold iblk
  rw [View.read_apply]
  refine congrArg (m ((c.tc : Thread nD τ).loc main_arg3)) (funext fun a => Fin.ext ?_)
  match a with
  | ⟨0, _⟩ => show win0_3.index t 0 * 512 + 1 * r.val = R.val; rw [(at_3 t).1]; omega
  | ⟨1, _⟩ => show win0_3.index t 1 * 1408 + 1 * j.val = J.val; rw [(at_3 t).2]; omega

/-- The body at an index. -/
theorem body_4 (x0 : Vec Ideal S512x1024 .bf16) (x1 : Vec Ideal S1408x1024 .bf16) (x2 x3 : Vec Ideal S512x1408 .bf16) (r : Fin 512) (j : Fin 1408) :
    k0_pay3 (F := Ideal) x0 x1 x2 x3 (ix2 r j) = (∑ k : Fin 1024, x0 (ix2 r k) * x1 (ix2 j k)) * x3 (ix2 r j)
      * (Ideal.logistic (x2 (ix2 r j)) * (one + x2 (ix2 r j) * (one - Ideal.logistic (x2 (ix2 r j))))) := by
  pointwise [k0_pay3, k0_pay1, k0_pay2]

theorem body_5 (x0 : Vec Ideal S512x1024 .bf16) (x1 : Vec Ideal S1408x1024 .bf16) (x2 : Vec Ideal S512x1408 .bf16) (r : Fin 512) (j : Fin 1408) :
    k0_pay4 (F := Ideal) x0 x1 x2 (ix2 r j) = (∑ k : Fin 1024, x0 (ix2 r k) * x1 (ix2 j k)) * (x2 (ix2 r j) * Ideal.logistic (x2 (ix2 r j))) := by
  pointwise [k0_pay4, k0_pay1, k0_pay2]

theorem hz2 : (![0, 0] : Fin 2 → Nat) = fun _ => 0 := funext fun a => by fin_cases a <;> rfl

theorem out_4 (x0 : Vec Ideal S512x1024 .bf16) (x1 : Vec Ideal S1408x1024 .bf16) (x2 x3 : Vec Ideal S512x1408 .bf16) :
    out0_4 (F := Ideal) x0 x1 x2 x3 = k0_pay3 (F := Ideal) x0 x1 x2 x3 := by
  unfold out0_4
  rw [View.canon_unit_zero hz2]
  rw [View.ld_unit_zero (S := S512x1024) hz2, View.ld_unit_zero (S := S1408x1024) hz2, View.ld_unit_zero (S := S512x1408) hz2, View.ld_unit_zero (S := S512x1408) hz2]

theorem out_5 (x0 : Vec Ideal S512x1024 .bf16) (x1 : Vec Ideal S1408x1024 .bf16) (x2 x3 : Vec Ideal S512x1408 .bf16) :
    out0_5 (F := Ideal) x0 x1 x2 x3 = k0_pay4 (F := Ideal) x0 x1 x2 := by
  unfold out0_5
  rw [View.canon_unit_zero hz2]
  rw [View.ld_unit_zero (S := S512x1024) hz2, View.ld_unit_zero (S := S1408x1024) hz2, View.ld_unit_zero (S := S512x1408) hz2]

theorem wrote_4 (t : Fin cfg0.N) (hf : (cfg0.win 4).flush t = true) : (dats m 0 c).flushed 4 t = ((cfg0.win 4).blk t).view.read (Elt Ideal) (g4 m c) := by
  rw [flushed4, out_4]
  funext y
  have ht : t.val < 32 := lt_of_lt_of_eq t.isLt N_0
  obtain ⟨r, j, rfl⟩ : ∃ (r : Fin 512) (j : Fin 1408), y = ix2 r j := ⟨y 0, y 1, eq_ix2 y⟩
  refine Eq.trans (b := S4 m c ⟨t.val % 16 * 512 + r.val, by omega⟩ ⟨t.val / 16 * 1408 + j.val, by omega⟩) ?_ ?_
  · refine (body_4 _ _ _ _ r j).trans ?_
    have hl := fun k : Fin 1024 => read_0 m c t r k ⟨t.val % 16 * 512 + r.val, by omega⟩ rfl
    have hw := fun k : Fin 1024 => read_1 m c t j k ⟨t.val / 16 * 1408 + j.val, by omega⟩ rfl
    have hg := read_2 m c t r j ⟨t.val % 16 * 512 + r.val, by omega⟩ ⟨t.val / 16 * 1408 + j.val, by omega⟩ rfl rfl
    have hu := read_3 m c t r j ⟨t.val % 16 * 512 + r.val, by omega⟩ ⟨t.val / 16 * 1408 + j.val, by omega⟩ rfl rfl
    exact congrArg₂ (· * ·) (congrArg₂ (· * ·) (Finset.sum_congr rfl fun k _ => congrArg₂ (· * ·) (hl k) (hw k)) hu) (congrArg (fun x : EReal => Ideal.logistic x * (one + x * (one - Ideal.logistic x))) hg)
  · rw [View.read_apply]
    refine congrArg₂ (S4 m c) (Fin.ext ?_) (Fin.ext ?_)
    · show t.val % 16 * 512 + r.val = win0_4.index t 0 * 512 + 1 * r.val; rw [(at_4 t).1.1]; omega
    · show t.val / 16 * 1408 + j.val = win0_4.index t 1 * 1408 + 1 * j.val; rw [(at_4 t).1.2]; omega

theorem cover_4 (i : S8192x2816.Idx) : ∃ t : Fin cfg0.N, (cfg0.win 4).flush t = true ∧ i ∈ ((cfg0.win 4).blk t).view.set := by
  have h0 : (i 0).val < 8192 := (i 0).isLt
  have h1 : (i 1).val < 2816 := (i 1).isLt
  have hN : (i 1).val / 1408 * 16 + (i 0).val / 512 < cfg0.N := by rw [show cfg0.N = 32 from N_0]; omega
  refine ⟨⟨(i 1).val / 1408 * 16 + (i 0).val / 512, hN⟩, (at_4 _).2, ?_⟩
  show i ∈ ((View.whole main_v0_0).slice (win0_4.rect ⟨(i 1).val / 1408 * 16 + (i 0).val / 512, hN⟩)).set
  rw [View.set_slice_whole, Rect.mem_set_unit]
  intro a
  match a with
  | ⟨0, _⟩ =>
    show win0_4.index _ 0 * 512 ≤ (i 0).val ∧ (i 0).val < win0_4.index _ 0 * 512 + 512
    rw [(at_4 _).1.1]
    show ((i 1).val / 1408 * 16 + (i 0).val / 512) % 16 * 512 ≤ _ ∧ _ < ((i 1).val / 1408 * 16 + (i 0).val / 512) % 16 * 512 + 512
    omega
  | ⟨1, _⟩ =>
    show win0_4.index _ 1 * 1408 ≤ (i 1).val ∧ (i 1).val < win0_4.index _ 1 * 1408 + 1408
    rw [(at_4 _).1.2]
    show ((i 1).val / 1408 * 16 + (i 0).val / 512) / 16 * 1408 ≤ _ ∧ _ < ((i 1).val / 1408 * 16 + (i 0).val / 512) / 16 * 1408 + 1408
    omega

theorem final_4 : (dats m 0 c).arrAt 4 cfg0.N = g4 m c := (dats m 0 c).arrAt_eq_of_cover 4 (g4 m c) (wrote_4 m c) cover_4

theorem wrote_5 (t : Fin cfg0.N) (hf : (cfg0.win 5).flush t = true) : (dats m 0 c).flushed 5 t = ((cfg0.win 5).blk t).view.read (Elt Ideal) (g5 m c) := by
  rw [flushed5, out_5]
  funext y
  have ht : t.val < 32 := lt_of_lt_of_eq t.isLt N_0
  obtain ⟨r, j, rfl⟩ : ∃ (r : Fin 512) (j : Fin 1408), y = ix2 r j := ⟨y 0, y 1, eq_ix2 y⟩
  refine Eq.trans (b := S5 m c ⟨t.val % 16 * 512 + r.val, by omega⟩ ⟨t.val / 16 * 1408 + j.val, by omega⟩) ?_ ?_
  · refine (body_5 _ _ _ r j).trans ?_
    have hl := fun k : Fin 1024 => read_0 m c t r k ⟨t.val % 16 * 512 + r.val, by omega⟩ rfl
    have hw := fun k : Fin 1024 => read_1 m c t j k ⟨t.val / 16 * 1408 + j.val, by omega⟩ rfl
    have hg := read_2 m c t r j ⟨t.val % 16 * 512 + r.val, by omega⟩ ⟨t.val / 16 * 1408 + j.val, by omega⟩ rfl rfl
    exact congrArg₂ (· * ·) (Finset.sum_congr rfl fun k _ => congrArg₂ (· * ·) (hl k) (hw k)) (congrArg (fun x : EReal => x * Ideal.logistic x) hg)
  · rw [View.read_apply]
    refine congrArg₂ (S5 m c) (Fin.ext ?_) (Fin.ext ?_)
    · show t.val % 16 * 512 + r.val = win0_5.index t 0 * 512 + 1 * r.val; rw [(at_5 t).1.1]; omega
    · show t.val / 16 * 1408 + j.val = win0_5.index t 1 * 1408 + 1 * j.val; rw [(at_5 t).1.2]; omega

theorem cover_5 (i : S8192x2816.Idx) : ∃ t : Fin cfg0.N, (cfg0.win 5).flush t = true ∧ i ∈ ((cfg0.win 5).blk t).view.set := by
  have h0 : (i 0).val < 8192 := (i 0).isLt
  have h1 : (i 1).val < 2816 := (i 1).isLt
  have hN : (i 1).val / 1408 * 16 + (i 0).val / 512 < cfg0.N := by rw [show cfg0.N = 32 from N_0]; omega
  refine ⟨⟨(i 1).val / 1408 * 16 + (i 0).val / 512, hN⟩, (at_5 _).2, ?_⟩
  show i ∈ ((View.whole main_v0_1).slice (win0_5.rect ⟨(i 1).val / 1408 * 16 + (i 0).val / 512, hN⟩)).set
  rw [View.set_slice_whole, Rect.mem_set_unit]
  intro a
  match a with
  | ⟨0, _⟩ =>
    show win0_5.index _ 0 * 512 ≤ (i 0).val ∧ (i 0).val < win0_5.index _ 0 * 512 + 512
    rw [(at_5 _).1.1]
    show ((i 1).val / 1408 * 16 + (i 0).val / 512) % 16 * 512 ≤ _ ∧ _ < ((i 1).val / 1408 * 16 + (i 0).val / 512) % 16 * 512 + 512
    omega
  | ⟨1, _⟩ =>
    show win0_5.index _ 1 * 1408 ≤ (i 1).val ∧ (i 1).val < win0_5.index _ 1 * 1408 + 1408
    rw [(at_5 _).1.2]
    show ((i 1).val / 1408 * 16 + (i 0).val / 512) / 16 * 1408 ≤ _ ∧ _ < ((i 1).val / 1408 * 16 + (i 0).val / 512) / 16 * 1408 + 1408
    omega

theorem final_5 : (dats m 0 c).arrAt 5 cfg0.N = g5 m c := (dats m 0 c).arrAt_eq_of_cover 5 (g5 m c) (wrote_5 m c) cover_5

/-! ## The reference -/

abbrev X0 := (⟨Cert.Reference2Ideal.S8192x1024, .bf16⟩ : BufTy).Contents (Elt Ideal)
abbrev X1 := (⟨Cert.Reference2Ideal.S2816x1024, .bf16⟩ : BufTy).Contents (Elt Ideal)
abbrev X2 := (⟨Cert.Reference2Ideal.S8192x2816, .bf16⟩ : BufTy).Contents (Elt Ideal)

theorem sg_at (x2 : X2) (i : Fin 8192) (j : Fin 2816) : val_main_v3_2 (F := Ideal) x2 (ix2 i j) = sg (x2 (ix2 i j)) := by
  unfold sg
  rw [one_eq]
  pointwise [val_main_v3_2, val_main_call0_v4, val_main_call0_v3, val_main_call0_v2, val_main_call0_v1, val_main_call0_v0, val_main_v0, val_main_call0_cst, val_main_call0_cst_0]

theorem dsg_at (x2 : X2) (i : Fin 8192) (j : Fin 2816) : val_main_v3_1 (F := Ideal) x2 (ix2 i j) = sg (x2 (ix2 i j)) * (one - sg (x2 (ix2 i j))) := by
  rw [← sg_at]
  pointwise [val_main_v3_1, val_main_call0_v7, val_main_call0_v6, val_main_call0_cst_1]

theorem v7_at (x0 : X0) (x1 : X1) (i : Fin 8192) (j : Fin 2816) : val_main_v7 (F := Ideal) x0 x1 (ix2 i j) = ∑ k : Fin 1024, x0 (ix2 i k) * x1 (ix2 j k) := by
  pointwise [val_main_v7, val_main_v6, val_main_v2]

theorem v11_at (x0 : X0) (x1 : X1) (x2 x3 : X2) (i : Fin 8192) (j : Fin 2816) : val_main_v11 (F := Ideal) x0 x1 x2 x3 (ix2 i j)
    = (∑ k : Fin 1024, x0 (ix2 i k) * x1 (ix2 j k)) * x3 (ix2 i j) * sg (x2 (ix2 i j))
      + x2 (ix2 i j) * ((∑ k : Fin 1024, x0 (ix2 i k) * x1 (ix2 j k)) * x3 (ix2 i j)) * (sg (x2 (ix2 i j)) * (one - sg (x2 (ix2 i j)))) := by
  rw [← dsg_at, ← sg_at, ← v7_at]
  pointwise [val_main_v11, val_main_v10, val_main_call1_v2, val_main_call1_v1, val_main_call1_v0, val_main_v9, val_main_v1, val_main_v0]

theorem v12_at (x0 : X0) (x1 : X1) (x2 : X2) (i : Fin 8192) (j : Fin 2816) : val_main_v12 (F := Ideal) x0 x1 x2 (ix2 i j)
    = x2 (ix2 i j) * sg (x2 (ix2 i j)) * (∑ k : Fin 1024, x0 (ix2 i k) * x1 (ix2 j k)) := by
  rw [← sg_at, ← v7_at]
  pointwise [val_main_v12, val_main_v8, val_main_v3_0, val_main_v0]

/-! ## The claim -/

/-- The factors of the gradient in the activation and the other factor of the activation are numbers. -/
structure Numbers : Prop where
  d : ∀ r k, IsReal (D m c r k)
  w : ∀ j k, IsReal (W m c j k)
  u : ∀ r j, IsReal (U m c r j)

theorem numbers (h : Cert.Pre_Kernel2Ideal_finite_factors (hPre_finite_factors := Cert.Pre_finite_factors.Gate.facts) m) : Numbers m c := by
  obtain ⟨h0, h1, h2⟩ := h c
  exact ⟨fun r k => Cert.KernelIdeal.Attn.real_of_lt Cert.KernelIdeal.Attn.top_16 (congrFun h0 (ix2 r k)),
    fun j k => Cert.KernelIdeal.Attn.real_of_lt Cert.KernelIdeal.Attn.top_16 (congrFun h1 (ix2 j k)),
    fun r j => Cert.KernelIdeal.Attn.real_of_lt Cert.KernelIdeal.Attn.top_16 (congrFun h2 (ix2 r j))⟩

theorem eq_4 (h : Numbers m c) : g4 m c = val_main_v11 (F := Ideal) (m ((c.tc : Thread nD τ).loc main_arg0)) (m ((c.tc : Thread nD τ).loc main_arg1))
    (m ((c.tc : Thread nD τ).loc main_arg2)) (m ((c.tc : Thread nD τ).loc main_arg3)) := funext fun x => by
  obtain ⟨i, j, rfl⟩ : ∃ (i : Fin 8192) (j : Fin 2816), x = ix2 i j := ⟨x 0, x 1, eq_ix2 x⟩
  refine Eq.trans ?_ (v11_at _ _ _ _ i j).symm
  exact dgate _ _ ((IsReal.sum _ fun k => (h.d i k).mul (h.w j k)).mul (h.u i j))

theorem eq_5 : g5 m c = val_main_v12 (F := Ideal) (m ((c.tc : Thread nD τ).loc main_arg0)) (m ((c.tc : Thread nD τ).loc main_arg1))
    (m ((c.tc : Thread nD τ).loc main_arg2)) := funext fun x => by
  obtain ⟨i, j, rfl⟩ : ∃ (i : Fin 8192) (j : Fin 2816), x = ix2 i j := ⟨x 0, x 1, eq_ix2 x⟩
  refine Eq.trans ?_ (v12_at _ _ _ i j).symm
  refine (congrArg (fun s => P m c i j * (G m c i j * s)) (sg_eq _)).trans ?_
  exact mul_comm (P m c i j) (G m c i j * sg (G m c i j))

theorem algebraic : Cert.algebraic_Kernel2Ideal_Reference2Ideal_pre_finite_factors (hKernel2Ideal := Cert.Kernel2Ideal.Gen.facts) (hReference2Ideal := Cert.Reference2Ideal.Gen.facts)
    (hPre_finite_factors := Cert.Pre_finite_factors.Gate.facts) := by
  intro m ρ m' ρ' hm hargs
  refine ⟨fun c => g4 m c, fun c => g5 m c, ?_, ?_⟩
  · refine (θ_run defs _ _).mono (fun _ h c => ?_) (run_blocks m ρ)
    exact ⟨(h c).1.trans (final_4 m c), (h c).2.1.trans (final_5 m c), (h c).2.2⟩
  refine (θ_run Cert.Reference2Ideal.defs _ _).mono (fun _ h c => ?_) (Cert.Reference2Ideal.Value.run (F := Ideal) m' ρ')
  obtain ⟨k0, k1, k2, k3⟩ := hargs c
  obtain ⟨e0, e1, a⟩ := h c
  refine ⟨e0.trans ((val_main_v11_eq _ _ _ _).trans ?_), e1.trans ((val_main_v12_eq _ _ _).trans ?_), a⟩
  · refine Eq.trans ?_ (eq_4 m c (numbers m c hm)).symm
    rw [← k0, ← k1, ← k2, ← k3]
  · refine Eq.trans ?_ (eq_5 m c).symm
    rw [← k0, ← k1, ← k2]

/-- The reference: its arguments unchanged; it has no counters. -/
theorem frame_ri : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Kernel2Ideal.Gate

end
-- ==== Proof.Blocks.lean ====
/- What the modules on single calls share: a load's offsets, the norm, and a product over all rows as the sum over blocks of rows. -/
module

public import Idealize.ShloMosaic.Lib.Pointwise
public import Idealize.ShloMosaic.Lib.Pipeline.ValueKit.Geometry

@[expose] public section

noncomputable section

namespace Cert.Blocks

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- A row over its root mean square, times the norm's weights, modulated. -/
def normed (y w sc sh : Fin 1024 → EReal) (j : Fin 1024) : EReal :=
  y j * Ideal.rsqrt (Ideal.div (∑ k, y k * y k) (Ideal.ofBits .f32 0x44800000#32) + Ideal.ofBits .f32 0x358637BD#32) * w j
    * (Ideal.ofBits .f32 0x3F800000#32 + sc j) + sh j

section

variable {M : ℕ} (b : ℕ) (A : Fin 8192 → Fin M → EReal) (B : Fin 8192 → Fin 1024 → EReal)

/-- What point `n` adds to a product over the rows, at column `x` of block `n / 8` of the left factor's columns and column `j` of the
    right factor's: the sum over block `n % 8` of the rows. -/
def added (n x : ℕ) (j : Fin 1024) : EReal :=
  if h : n / 8 * b + x < M then ∑ r : Fin 1024, A ⟨n % 8 * 1024 + r.val, by omega⟩ ⟨n / 8 * b + x, h⟩ * B ⟨n % 8 * 1024 + r.val, by omega⟩ j else 0

/-- The eight points of one block of columns add up to the sum over all rows. -/
theorem added_total (q x : ℕ) (j : Fin 1024) (h : q * b + x < M) :
    ∑ s ∈ Finset.range 8, added b A B (8 * q + s) x j = ∑ r : Fin 8192, A r ⟨q * b + x, h⟩ * B r j := by
  rw [Finset.sum_range, Fin.sum_univ_tiles 8 1024 (by decide) (fun r : Fin 8192 => A r ⟨q * b + x, h⟩ * B r j)]
  refine Finset.sum_congr rfl fun s _ => ?_
  have hq : (8 * q + s.val) / 8 = q := by omega
  have hs : (8 * q + s.val) % 8 = s.val := by omega
  unfold added
  simp only [hq, hs, dif_pos h]

end

end Cert.Blocks

end
-- ==== Proof.Weights3.lean ====
/- A gradient of the feed-forward layer in its weights: the product of two arrays over their rows, in blocks of 1024 rows added up
   in the result, is the product over all rows. -/
module

public import proofs.«01_k».proof.Defs
public import proofs.«01_k».proof.Proof.Blocks
public import proofs.«01_k».proof.Proof.Gen.Kernel3Ideal
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel3Ideal.Weights

open Idealize.ShloMosaic Idealize.ShloMosaic.TcCoe
open Cert.Kernel3Ideal Cert.Kernel3Ideal.Gen Cert.Kernel3Ideal.Value Cert.Blocks
open Cert.Reference3Ideal.Read

variable (m : (ℓ : Loc nD τ sig) → Buf (Elt Ideal) ℓ) (c : Dev nD)

/-- The left factor and the right one, row by row. -/
abbrev A (r : Fin 8192) (i : Fin 2816) : EReal := m ((c.tc : Thread nD τ).loc main_arg0) (ix2 r i)
abbrev B (r : Fin 8192) (j : Fin 1024) : EReal := m ((c.tc : Thread nD τ).loc main_arg1) (ix2 r j)

/-- Which blocks point `t` reads: block `t % 8` of the rows, and of the left factor's columns block `t / 8`. -/
theorem at_0 : ∀ t : Fin cfg0.N, win0_0.index t 0 = t.val % 8 ∧ win0_0.index t 1 = t.val / 8 := (by decide +kernel : ∀ t : Fin grid0.N, _)
theorem at_1 : ∀ t : Fin cfg0.N, win0_1.index t 0 = t.val % 8 ∧ win0_1.index t 1 = 0 := (by decide +kernel : ∀ t : Fin grid0.N, _)

theorem read_0 (t : Fin cfg0.N) (r : Fin 1024) (y : Fin 1408) (R : Fin 8192) (i : Fin 2816) (hR : R.val = t.val % 8 * 1024 + r.val) (hi : i.val = t.val / 8 * 1408 + y.val) :
    iblk m c 0 t (ix2 r y) = A m c R i := by
  blk_ext [iblk, V, at_0, hR, hi]

theorem read_1 (t : Fin cfg0.N) (r : Fin 1024) (y : Fin 1024) (R : Fin 8192) (hR : R.val = t.val % 8 * 1024 + r.val) :
    iblk m c 1 t (ix2 r y) = B m c R y := by
  blk_ext [iblk, V, at_1, hR]

/-- One point's step: what was there, and the product of the two blocks over their rows. -/
theorem step (v : Vec Ideal S1408x1024 .f32) (x : Vec Ideal S1024x1408 .bf16) (y : Vec Ideal S1024x1024 .bf16) (i : Fin 1408) (j : Fin 1024) :
    k0_pay2 (F := Ideal) v x y (ix2 i j) = v (ix2 i j) + ∑ r : Fin 1024, x (ix2 r i) * y (ix2 r j) := by
  pointwise [k0_pay2]

theorem start (i : Fin 1408) (j : Fin 1024) : k0_pay1 (F := Ideal) (ix2 i j) = 0 := by
  pointwise [k0_pay1]

/-- What point `n` adds at an index of its block. -/
def part (n : ℕ) (x : S1408x1024.Idx) : EReal := added 1408 (A m c) (B m c) n (x 0).val (x 1)

theorem add_eq (n : ℕ) (h : n < cfg0.N) (v : Vec Ideal S1408x1024 .f32) (i : Fin 1408) (j : Fin 1024) :
    k0_pay2 (F := Ideal) v (iblk m c 0 ⟨n, h⟩) (iblk m c 1 ⟨n, h⟩) (ix2 i j) = v (ix2 i j) + part m c n (ix2 i j) := by
  have hn : n < 16 := lt_of_lt_of_eq h (show cfg0.N = 16 from N_0)
  rw [step]
  refine congrArg (v (ix2 i j) + ·) (Eq.trans ?_ (dif_pos (show n / 8 * 1408 + i.val < 2816 by omega)).symm)
  exact Finset.sum_congr rfl fun r _ => congrArg₂ (· * ·) (read_0 m c _ r i _ _ rfl rfl) (read_1 m c _ r j _ rfl)

theorem folded (b j : ℕ) (hj : j ≤ 7) (h : b + j < cfg0.N) (x : S1408x1024.Idx) :
    Pipeline.accAt (reset2 m c) (step2 m c) b j h x = 0 + ∑ s ∈ Finset.range (j + 1), part m c (b + s) x := by
  refine Pipeline.accAt_add_apply (reset2 m c) (step2 m c) (fun _ => (0 : EReal)) (part m c) b 7 ?_ ?_ j hj h x
  · intro h x
    rw [eq_ix2 x]
    exact (add_eq m c b h _ _ _).trans (congrArg (· + _) (start _ _))
  · intro n h v x _ _
    rw [eq_ix2 x]
    exact add_eq m c n h v _ _

/-- The array that the kernel leaves is the product over all rows. -/
theorem whole (i : Fin 2816) (j : Fin 1024) : G2 m c (ix2 i j) = ∑ r : Fin 8192, A m c r i * B m c r j := by
  have hrun : run2Of (ix2 i j) = i.val / 1408 := by
    show 1 * (i.val / 1408 - 0) + 1 * (j.val / 1024 - 0) = _
    omega
  have hb : 8 * run2Of (ix2 i j) + 7 < cfg0.N := by
    rw [show cfg0.N = 16 from N_0, hrun]; omega
  have e : G2 m c (ix2 i j) = Pipeline.accAt (reset2 m c) (step2 m c) (8 * run2Of (ix2 i j)) 7 hb (loc2Of (ix2 i j)) := dif_pos hb
  refine e.trans ((folded m c _ 7 (le_refl 7) hb _).trans ?_)
  rw [zero_add]
  refine (added_total 1408 (A m c) (B m c) _ _ _ (by rw [hrun]; show i.val / 1408 * 1408 + i.val % 1408 < 2816; omega)).trans ?_
  refine Finset.sum_congr rfl fun r _ => congrArg₂ (· * ·) (congrArg (A m c r) (Fin.ext ?_)) (congrArg (B m c r) (Fin.ext ?_))
  · show run2Of (ix2 i j) * 1408 + i.val % 1408 = i.val; rw [hrun]; omega
  · show j.val % 1024 = j.val; omega

theorem ref_at (x0 : (⟨Cert.Reference3Ideal.S8192x2816, .bf16⟩ : BufTy).Contents (Elt Ideal)) (x1 : (⟨Cert.Reference3Ideal.S8192x1024, .bf16⟩ : BufTy).Contents (Elt Ideal)) (i : Fin 2816) (j : Fin 1024) :
    val_main_v5 (F := Ideal) x0 x1 (ix2 i j) = ∑ r : Fin 8192, x1 (ix2 r j) * x0 (ix2 r i) := by
  pointwise [val_main_v5, val_main_v4, val_main_v3, val_main_v1]

theorem eq_ref : G2 m c = val_main_v5 (F := Ideal) (m ((c.tc : Thread nD τ).loc main_arg0)) (m ((c.tc : Thread nD τ).loc main_arg1)) := funext fun x => by
  obtain ⟨i, j, rfl⟩ : ∃ (i : Fin 2816) (j : Fin 1024), x = ix2 i j := ⟨x 0, x 1, eq_ix2 x⟩
  rw [whole]
  exact (Finset.sum_congr rfl fun r _ => mul_comm _ _).trans (ref_at _ _ i j).symm

theorem algebraic : Cert.algebraic_Kernel3Ideal_Reference3Ideal (hKernel3Ideal := Cert.Kernel3Ideal.Gen.facts) (hReference3Ideal := Cert.Reference3Ideal.Gen.facts) := by
  intro m ρ m' ρ' _ hargs
  refine ⟨fun c => G2 m c, run m ρ, ?_⟩
  refine (θ_run Cert.Reference3Ideal.defs _ _).mono (fun _ h c => ?_) (Cert.Reference3Ideal.Value.run (F := Ideal) m' ρ')
  obtain ⟨k0, k1⟩ := hargs c
  obtain ⟨e, a0, a1⟩ := h c
  refine ⟨e.trans ((val_main_v5_eq _ _).trans ?_), a0, a1⟩
  refine Eq.trans ?_ (eq_ref m c).symm
  rw [← k0, ← k1]

/-- The reference: its arguments unchanged; it has no counters. -/
theorem frame_ri : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Kernel3Ideal.Weights

end
-- ==== Proof.Rows4.lean ====
/- The gradient of the feed-forward layer in its input: the sum of two products, one block of 512 rows at a time. -/
module

public import proofs.«01_k».proof.Defs
public import proofs.«01_k».proof.Proof.Blocks
public import proofs.«01_k».proof.Proof.Gen.Kernel4Ideal
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel4Ideal.Rows

open Idealize.ShloMosaic Idealize.ShloMosaic.TcCoe
open Cert.Kernel4Ideal Cert.Kernel4Ideal.Gen Cert.Kernel4Ideal.Value Cert.Blocks
open Cert.Reference4Ideal.Read

/-- The parts of the arguments that an entry of the results is computed from. -/
structure Parts where
  a : Fin 2816 → EReal
  u : Fin 2816 → Fin 1024 → EReal
  b : Fin 2816 → EReal
  w : Fin 2816 → Fin 1024 → EReal

/-- The results at an index. -/
def F4 (p : Parts) (j : Fin 1024) : EReal := (∑ k, p.a k * p.u k j) + ∑ k, p.b k * p.w k j

section

variable (x0 : (⟨Cert.Reference4Ideal.S8192x2816, .bf16⟩ : BufTy).Contents (Elt Ideal)) (x1 : (⟨Cert.Reference4Ideal.S2816x1024, .bf16⟩ : BufTy).Contents (Elt Ideal)) (x2 : (⟨Cert.Reference4Ideal.S8192x2816, .bf16⟩ : BufTy).Contents (Elt Ideal)) (x3 : (⟨Cert.Reference4Ideal.S2816x1024, .bf16⟩ : BufTy).Contents (Elt Ideal))

/-- The parts that row `r` of the results is computed from, in whole arrays. -/
def rows (r : Fin 8192) : Parts := ⟨fun k => x0 (ix2 r k), fun k j => x1 (ix2 k j), fun k => x2 (ix2 r k), fun k j => x3 (ix2 k j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) (m ((c.tc : Thread nD τ).loc main_arg3)) r
def g4 : Buf (Elt Ideal) ((c : Thread nD τ).loc main_v0) := fun i => F4 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)
theorem at_3 : ∀ (t : Fin cfg0.N) (a : Fin 2), win0_3.index t a = 0 := (by decide +kernel : ∀ (t : Fin grid0.N) (a : Fin 2), _)
theorem at_4 : ∀ t : Fin cfg0.N, win0_4.index t 0 = t.val ∧ win0_4.index t 1 = 0 := (by decide +kernel : ∀ t : Fin grid0.N, _)

/-! The body at an index. -/

section

variable (x0 : Vec Ideal S512x2816 .bf16) (x1 : Vec Ideal S2816x1024 .bf16) (x2 : Vec Ideal S512x2816 .bf16) (x3 : Vec Ideal S2816x1024 .bf16)

/-- The same in one block. -/
def part (r : Fin 512) : Parts := ⟨fun k => x0 (ix2 r k), fun k j => x1 (ix2 k j), fun k => x2 (ix2 r k), fun k j => x3 (ix2 k j)⟩

theorem out_4 (r : Fin 512) (j : Fin 1024) : out0_4 (F := Ideal) x0 x1 x2 x3 (ix2 r j) = F4 (part x0 x1 x2 x3 r) j := by
  unfold out0_4
  rw [View.canon_unit_zero hz2, View.ld_unit_zero (S := S512x2816) hz2, View.ld_unit_zero (S := S2816x1024) hz2, View.ld_unit_zero (S := S512x2816) hz2, View.ld_unit_zero (S := S2816x1024) hz2]
  dsimp only [F4, part]
  pointwise [k0_pay1]

end

/-- A block has the array's parts. -/
theorem part_eq (t : Fin cfg0.N) (r : Fin 512) (R : Fin 8192) (hR : R.val = t.val * 512 + r.val) :
    part (iblk m c 0 t) (iblk m c 1 t) (iblk m c 2 t) (iblk m c 3 t) r = all m c R := by
  simp only [part, all, rows, Parts.mk.injEq]
  refine ⟨?_, ?_, ?_, ?_⟩ <;> funext k <;> (try funext j) <;>
    blk_ext [iblk, V, at_0, at_1, at_2, at_3, hR]

theorem final_4 : (dats m 0 c).arrAt 4 cfg0.N = g4 m c := by
  refine (dats m 0 c).arrAt_eq_of_covers 4 _ (by decide +kernel) fun t _ y => ?_
  obtain ⟨r, j, rfl⟩ : ∃ (r : Fin 512) (j : Fin 1024), y = ix2 r j := ⟨y 0, y 1, eq_ix2 y⟩
  blk_simp
  rw [after0_4, out_4, part_eq m c t r _ (by blk_simp [at_4] : (((win0_4.blk t).view.emb (ix2 r j)) 0).val = _)]
  exact congrArg (F4 _) (Fin.ext (by blk_simp [at_4]))

/-! ## The reference -/

section

variable (x0 : (⟨Cert.Reference4Ideal.S8192x2816, .bf16⟩ : BufTy).Contents (Elt Ideal)) (x1 : (⟨Cert.Reference4Ideal.S2816x1024, .bf16⟩ : BufTy).Contents (Elt Ideal)) (x2 : (⟨Cert.Reference4Ideal.S8192x2816, .bf16⟩ : BufTy).Contents (Elt Ideal)) (x3 : (⟨Cert.Reference4Ideal.S2816x1024, .bf16⟩ : BufTy).Contents (Elt Ideal))

theorem ref_4 (r : Fin 8192) (j : Fin 1024) : val_main_v11 (F := Ideal) x0 x1 x2 x3 (ix2 r j) = F4 (rows x0 x1 x2 x3 r) j := by
  dsimp only [F4, rows]
  rw [add_comm]
  pointwise [val_main_v11, val_main_v9, val_main_v10, val_main_v8, val_main_v5, val_main_v7, val_main_v2, val_main_v4, val_main_v1]

end

theorem eq_4 : g4 m c = val_main_v11 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, j, rfl⟩ : ∃ (i : Fin 8192) (j : Fin 1024), x = ix2 i j := ⟨x 0, x 1, eq_ix2 x⟩
  exact (ref_4 _ _ _ _ i j).symm

/-! ## The claim -/

theorem algebraic : Cert.algebraic_Kernel4Ideal_Reference4Ideal (hKernel4Ideal := Cert.Kernel4Ideal.Gen.facts) (hReference4Ideal := Cert.Reference4Ideal.Gen.facts) := by
  intro m ρ m' ρ' _ hargs
  refine ⟨fun c => g4 m c, ?_, ?_⟩
  · refine (θ_run defs _ _).mono (fun _ h c => ?_) (run_blocks m ρ)
    exact ⟨(h c).1.trans (final_4 m c), (h c).2⟩
  refine (θ_run Cert.Reference4Ideal.defs _ _).mono (fun _ h c => ?_) (Cert.Reference4Ideal.Value.run (F := Ideal) m' ρ')
  obtain ⟨k0, k1, k2, k3⟩ := hargs c
  obtain ⟨e0, a⟩ := h c
  refine ⟨e0.trans ((val_main_v11_eq _ _ _ _).trans ?_), a⟩
  · refine Eq.trans ?_ (eq_4 m c).symm
    rw [← k0, ← k1, ← k2, ← k3]

/-- The reference: its arguments unchanged; it has no counters. -/
theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Kernel4Ideal.Rows

end
-- ==== Proof.Weights5.lean ====
/- A gradient of a projection in its square weights: the product of two arrays over their rows, in blocks of 1024 rows added up
   in the result, is the product over all rows. -/
module

public import proofs.«01_k».proof.Defs
public import proofs.«01_k».proof.Proof.Blocks
public import proofs.«01_k».proof.Proof.Gen.Kernel5Ideal
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel5Ideal.Weights

open Idealize.ShloMosaic Idealize.ShloMosaic.TcCoe
open Cert.Kernel5Ideal Cert.Kernel5Ideal.Gen Cert.Kernel5Ideal.Value Cert.Blocks
open Cert.Reference5Ideal.Read

variable (m : (ℓ : Loc nD τ sig) → Buf (Elt Ideal) ℓ) (c : Dev nD)

/-- The left factor and the right one, row by row. -/
abbrev A (r : Fin 8192) (i : Fin 1024) : EReal := m ((c.tc : Thread nD τ).loc main_arg0) (ix2 r i)
abbrev B (r : Fin 8192) (j : Fin 1024) : EReal := m ((c.tc : Thread nD τ).loc main_arg1) (ix2 r j)

/-- Which blocks point `t` reads: block `t % 8` of the rows, and of the left factor's columns block `t / 8`. -/
theorem at_0 : ∀ t : Fin cfg0.N, win0_0.index t 0 = t.val % 8 ∧ win0_0.index t 1 = t.val / 8 := (by decide +kernel : ∀ t : Fin grid0.N, _)
theorem at_1 : ∀ t : Fin cfg0.N, win0_1.index t 0 = t.val % 8 ∧ win0_1.index t 1 = 0 := (by decide +kernel : ∀ t : Fin grid0.N, _)

theorem read_0 (t : Fin cfg0.N) (r : Fin 1024) (y : Fin 1024) (R : Fin 8192) (i : Fin 1024) (hR : R.val = t.val % 8 * 1024 + r.val) (hi : i.val = t.val / 8 * 1024 + y.val) :
    iblk m c 0 t (ix2 r y) = A m c R i := by
  blk_ext [iblk, V, at_0, hR, hi]

theorem read_1 (t : Fin cfg0.N) (r : Fin 1024) (y : Fin 1024) (R : Fin 8192) (hR : R.val = t.val % 8 * 1024 + r.val) :
    iblk m c 1 t (ix2 r y) = B m c R y := by
  blk_ext [iblk, V, at_1, hR]

/-- One point's step: what was there, and the product of the two blocks over their rows. -/
theorem step (v : Vec Ideal S1024x1024 .f32) (x : Vec Ideal S1024x1024 .bf16) (y : Vec Ideal S1024x1024 .bf16) (i : Fin 1024) (j : Fin 1024) :
    k0_pay2 (F := Ideal) v x y (ix2 i j) = v (ix2 i j) + ∑ r : Fin 1024, x (ix2 r i) * y (ix2 r j) := by
  pointwise [k0_pay2]

theorem start (i : Fin 1024) (j : Fin 1024) : k0_pay1 (F := Ideal) (ix2 i j) = 0 := by
  pointwise [k0_pay1]

/-- What point `n` adds at an index of its block. -/
def part (n : ℕ) (x : S1024x1024.Idx) : EReal := added 1024 (A m c) (B m c) n (x 0).val (x 1)

theorem add_eq (n : ℕ) (h : n < cfg0.N) (v : Vec Ideal S1024x1024 .f32) (i : Fin 1024) (j : Fin 1024) :
    k0_pay2 (F := Ideal) v (iblk m c 0 ⟨n, h⟩) (iblk m c 1 ⟨n, h⟩) (ix2 i j) = v (ix2 i j) + part m c n (ix2 i j) := by
  have hn : n < 8 := lt_of_lt_of_eq h (show cfg0.N = 8 from N_0)
  rw [step]
  refine congrArg (v (ix2 i j) + ·) (Eq.trans ?_ (dif_pos (show n / 8 * 1024 + i.val < 1024 by omega)).symm)
  exact Finset.sum_congr rfl fun r _ => congrArg₂ (· * ·) (read_0 m c _ r i _ _ rfl rfl) (read_1 m c _ r j _ rfl)

theorem folded (b j : ℕ) (hj : j ≤ 7) (h : b + j < cfg0.N) (x : S1024x1024.Idx) :
    Pipeline.accAt (reset2 m c) (step2 m c) b j h x = 0 + ∑ s ∈ Finset.range (j + 1), part m c (b + s) x := by
  refine Pipeline.accAt_add_apply (reset2 m c) (step2 m c) (fun _ => (0 : EReal)) (part m c) b 7 ?_ ?_ j hj h x
  · intro h x
    rw [eq_ix2 x]
    exact (add_eq m c b h _ _ _).trans (congrArg (· + _) (start _ _))
  · intro n h v x _ _
    rw [eq_ix2 x]
    exact add_eq m c n h v _ _

/-- The array that the kernel leaves is the product over all rows. -/
theorem whole (i : Fin 1024) (j : Fin 1024) : G2 m c (ix2 i j) = ∑ r : Fin 8192, A m c r i * B m c r j := by
  have hrun : run2Of (ix2 i j) = i.val / 1024 := by
    show 1 * (i.val / 1024 - 0) + 1 * (j.val / 1024 - 0) = _
    omega
  have hb : 8 * run2Of (ix2 i j) + 7 < cfg0.N := by
    rw [show cfg0.N = 8 from N_0, hrun]; omega
  have e : G2 m c (ix2 i j) = Pipeline.accAt (reset2 m c) (step2 m c) (8 * run2Of (ix2 i j)) 7 hb (loc2Of (ix2 i j)) := dif_pos hb
  refine e.trans ((folded m c _ 7 (le_refl 7) hb _).trans ?_)
  rw [zero_add]
  refine (added_total 1024 (A m c) (B m c) _ _ _ (by rw [hrun]; show i.val / 1024 * 1024 + i.val % 1024 < 1024; omega)).trans ?_
  refine Finset.sum_congr rfl fun r _ => congrArg₂ (· * ·) (congrArg (A m c r) (Fin.ext ?_)) (congrArg (B m c r) (Fin.ext ?_))
  · show run2Of (ix2 i j) * 1024 + i.val % 1024 = i.val; rw [hrun]; omega
  · show j.val % 1024 = j.val; omega

theorem ref_at (x0 : (⟨Cert.Reference5Ideal.S8192x1024, .bf16⟩ : BufTy).Contents (Elt Ideal)) (x1 : (⟨Cert.Reference5Ideal.S8192x1024, .bf16⟩ : BufTy).Contents (Elt Ideal)) (i : Fin 1024) (j : Fin 1024) :
    val_main_v5 (F := Ideal) x0 x1 (ix2 i j) = ∑ r : Fin 8192, x1 (ix2 r j) * x0 (ix2 r i) := by
  pointwise [val_main_v5, val_main_v4, val_main_v3, val_main_v1]

theorem eq_ref : G2 m c = val_main_v5 (F := Ideal) (m ((c.tc : Thread nD τ).loc main_arg0)) (m ((c.tc : Thread nD τ).loc main_arg1)) := funext fun x => by
  obtain ⟨i, j, rfl⟩ : ∃ (i : Fin 1024) (j : Fin 1024), x = ix2 i j := ⟨x 0, x 1, eq_ix2 x⟩
  rw [whole]
  exact (Finset.sum_congr rfl fun r _ => mul_comm _ _).trans (ref_at _ _ i j).symm

theorem algebraic : Cert.algebraic_Kernel5Ideal_Reference5Ideal (hKernel5Ideal := Cert.Kernel5Ideal.Gen.facts) (hReference5Ideal := Cert.Reference5Ideal.Gen.facts) := by
  intro m ρ m' ρ' _ hargs
  refine ⟨fun c => G2 m c, run m ρ, ?_⟩
  refine (θ_run Cert.Reference5Ideal.defs _ _).mono (fun _ h c => ?_) (Cert.Reference5Ideal.Value.run (F := Ideal) m' ρ')
  obtain ⟨k0, k1⟩ := hargs c
  obtain ⟨e, a0, a1⟩ := h c
  refine ⟨e.trans ((val_main_v5_eq _ _).trans ?_), a0, a1⟩
  refine Eq.trans ?_ (eq_ref m c).symm
  rw [← k0, ← k1]

/-- The reference: its arguments unchanged; it has no counters. -/
theorem frame_ri : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Kernel5Ideal.Weights

end
-- ==== Proof.Weights6.lean ====
/- The gradient of the mixing layer's first projection in the weights of its third part: the product of two arrays over their
   rows, in blocks of 1024 rows added up in the result, is the product over all rows. -/
module

public import proofs.«01_k».proof.Defs
public import proofs.«01_k».proof.Proof.Blocks
public import proofs.«01_k».proof.Proof.Gen.Kernel6Ideal
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel6Ideal.Weights

open Idealize.ShloMosaic Idealize.ShloMosaic.TcCoe
open Cert.Kernel6Ideal Cert.Kernel6Ideal.Gen Cert.Kernel6Ideal.Value Cert.Blocks
open Cert.Reference6Ideal.Read

variable (m : (ℓ : Loc nD τ sig) → Buf (Elt Ideal) ℓ) (c : Dev nD)

/-- The left factor and the right one, row by row. -/
abbrev A (r : Fin 8192) (i : Fin 1536) : EReal := m ((c.tc : Thread nD τ).loc main_arg0) (ix2 r i)
abbrev B (r : Fin 8192) (j : Fin 1024) : EReal := m ((c.tc : Thread nD τ).loc main_arg1) (ix2 r j)

/-- Which blocks point `t` reads: block `t % 8` of the rows, and of the left factor's columns block `t / 8`. -/
theorem at_0 : ∀ t : Fin cfg0.N, win0_0.index t 0 = t.val % 8 ∧ win0_0.index t 1 = t.val / 8 := (by decide +kernel : ∀ t : Fin grid0.N, _)
theorem at_1 : ∀ t : Fin cfg0.N, win0_1.index t 0 = t.val % 8 ∧ win0_1.index t 1 = 0 := (by decide +kernel : ∀ t : Fin grid0.N, _)

theorem read_0 (t : Fin cfg0.N) (r : Fin 1024) (y : Fin 768) (R : Fin 8192) (i : Fin 1536) (hR : R.val = t.val % 8 * 1024 + r.val) (hi : i.val = t.val / 8 * 768 + y.val) :
    iblk m c 0 t (ix2 r y) = A m c R i := by
  blk_ext [iblk, V, at_0, hR, hi]

theorem read_1 (t : Fin cfg0.N) (r : Fin 1024) (y : Fin 1024) (R : Fin 8192) (hR : R.val = t.val % 8 * 1024 + r.val) :
    iblk m c 1 t (ix2 r y) = B m c R y := by
  blk_ext [iblk, V, at_1, hR]

/-- One point's step: what was there, and the product of the two blocks over their rows. -/
theorem step (v : Vec Ideal S768x1024 .f32) (x : Vec Ideal S1024x768 .bf16) (y : Vec Ideal S1024x1024 .bf16) (i : Fin 768) (j : Fin 1024) :
    k0_pay2 (F := Ideal) v x y (ix2 i j) = v (ix2 i j) + ∑ r : Fin 1024, x (ix2 r i) * y (ix2 r j) := by
  pointwise [k0_pay2]

theorem start (i : Fin 768) (j : Fin 1024) : k0_pay1 (F := Ideal) (ix2 i j) = 0 := by
  pointwise [k0_pay1]

/-- What point `n` adds at an index of its block. -/
def part (n : ℕ) (x : S768x1024.Idx) : EReal := added 768 (A m c) (B m c) n (x 0).val (x 1)

theorem add_eq (n : ℕ) (h : n < cfg0.N) (v : Vec Ideal S768x1024 .f32) (i : Fin 768) (j : Fin 1024) :
    k0_pay2 (F := Ideal) v (iblk m c 0 ⟨n, h⟩) (iblk m c 1 ⟨n, h⟩) (ix2 i j) = v (ix2 i j) + part m c n (ix2 i j) := by
  have hn : n < 16 := lt_of_lt_of_eq h (show cfg0.N = 16 from N_0)
  rw [step]
  refine congrArg (v (ix2 i j) + ·) (Eq.trans ?_ (dif_pos (show n / 8 * 768 + i.val < 1536 by omega)).symm)
  exact Finset.sum_congr rfl fun r _ => congrArg₂ (· * ·) (read_0 m c _ r i _ _ rfl rfl) (read_1 m c _ r j _ rfl)

theorem folded (b j : ℕ) (hj : j ≤ 7) (h : b + j < cfg0.N) (x : S768x1024.Idx) :
    Pipeline.accAt (reset2 m c) (step2 m c) b j h x = 0 + ∑ s ∈ Finset.range (j + 1), part m c (b + s) x := by
  refine Pipeline.accAt_add_apply (reset2 m c) (step2 m c) (fun _ => (0 : EReal)) (part m c) b 7 ?_ ?_ j hj h x
  · intro h x
    rw [eq_ix2 x]
    exact (add_eq m c b h _ _ _).trans (congrArg (· + _) (start _ _))
  · intro n h v x _ _
    rw [eq_ix2 x]
    exact add_eq m c n h v _ _

/-- The array that the kernel leaves is the product over all rows. -/
theorem whole (i : Fin 1536) (j : Fin 1024) : G2 m c (ix2 i j) = ∑ r : Fin 8192, A m c r i * B m c r j := by
  have hrun : run2Of (ix2 i j) = i.val / 768 := by
    show 1 * (i.val / 768 - 0) + 1 * (j.val / 1024 - 0) = _
    omega
  have hb : 8 * run2Of (ix2 i j) + 7 < cfg0.N := by
    rw [show cfg0.N = 16 from N_0, hrun]; omega
  have e : G2 m c (ix2 i j) = Pipeline.accAt (reset2 m c) (step2 m c) (8 * run2Of (ix2 i j)) 7 hb (loc2Of (ix2 i j)) := dif_pos hb
  refine e.trans ((folded m c _ 7 (le_refl 7) hb _).trans ?_)
  rw [zero_add]
  refine (added_total 768 (A m c) (B m c) _ _ _ (by rw [hrun]; show i.val / 768 * 768 + i.val % 768 < 1536; omega)).trans ?_
  refine Finset.sum_congr rfl fun r _ => congrArg₂ (· * ·) (congrArg (A m c r) (Fin.ext ?_)) (congrArg (B m c r) (Fin.ext ?_))
  · show run2Of (ix2 i j) * 768 + i.val % 768 = i.val; rw [hrun]; omega
  · show j.val % 1024 = j.val; omega

theorem ref_at (x0 : (⟨Cert.Reference6Ideal.S8192x1536, .bf16⟩ : BufTy).Contents (Elt Ideal)) (x1 : (⟨Cert.Reference6Ideal.S8192x1024, .bf16⟩ : BufTy).Contents (Elt Ideal)) (i : Fin 1536) (j : Fin 1024) :
    val_main_v5 (F := Ideal) x0 x1 (ix2 i j) = ∑ r : Fin 8192, x1 (ix2 r j) * x0 (ix2 r i) := by
  pointwise [val_main_v5, val_main_v4, val_main_v3, val_main_v1]

theorem eq_ref : G2 m c = val_main_v5 (F := Ideal) (m ((c.tc : Thread nD τ).loc main_arg0)) (m ((c.tc : Thread nD τ).loc main_arg1)) := funext fun x => by
  obtain ⟨i, j, rfl⟩ : ∃ (i : Fin 1536) (j : Fin 1024), x = ix2 i j := ⟨x 0, x 1, eq_ix2 x⟩
  rw [whole]
  exact (Finset.sum_congr rfl fun r _ => mul_comm _ _).trans (ref_at _ _ i j).symm

theorem algebraic : Cert.algebraic_Kernel6Ideal_Reference6Ideal (hKernel6Ideal := Cert.Kernel6Ideal.Gen.facts) (hReference6Ideal := Cert.Reference6Ideal.Gen.facts) := by
  intro m ρ m' ρ' _ hargs
  refine ⟨fun c => G2 m c, run m ρ, ?_⟩
  refine (θ_run Cert.Reference6Ideal.defs _ _).mono (fun _ h c => ?_) (Cert.Reference6Ideal.Value.run (F := Ideal) m' ρ')
  obtain ⟨k0, k1⟩ := hargs c
  obtain ⟨e, a0, a1⟩ := h c
  refine ⟨e.trans ((val_main_v5_eq _ _).trans ?_), a0, a1⟩
  refine Eq.trans ?_ (eq_ref m c).symm
  rw [← k0, ← k1]

/-- The reference: its arguments unchanged; it has no counters. -/
theorem frame_ri : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Kernel6Ideal.Weights

end
-- ==== Proof.Up7.lean ====
/- The feed-forward layer's first half: its two products and the gated activation `silu(gate) · up`, one block of 512 rows and
   1408 columns at a time. -/
module

public import proofs.«01_k».proof.Defs
public import proofs.«01_k».proof.Proof.Blocks
public import proofs.«01_k».proof.Proof.Gen.Kernel7Ideal
public import proofs.«01_k».proof.Proof.Gen.Kernel7Ideal.Value
public import proofs.«01_k».proof.Proof.Gen.Reference7Ideal.Read
public import proofs.«01_k».proof.Proof.Gate2
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel7Ideal.Up

open Idealize.ShloMosaic Idealize.ShloMosaic.TcCoe
open Cert.Kernel7Ideal Cert.Kernel7Ideal.Gen Cert.Kernel7Ideal.Value Cert.Blocks Cert.Gate
open Cert.Reference7Ideal.Read

/-- The parts of the arguments that an entry of the results is computed from. -/
structure Parts where
  h : Fin 1024 → EReal
  wg : Fin 1024 → EReal
  wu : Fin 1024 → EReal

/-- The results at an index. -/
def F3 (p : Parts) : EReal := ∑ k, p.h k * p.wg k
def F4 (p : Parts) : EReal := ∑ k, p.h k * p.wu k
def F5 (p : Parts) : EReal := (∑ k, p.h k * p.wg k) * sg (∑ k, p.h k * p.wg k) * ∑ k, p.h k * p.wu k

section

variable (x0 : (⟨Cert.Reference7Ideal.S8192x1024, .bf16⟩ : BufTy).Contents (Elt Ideal)) (x1 : (⟨Cert.Reference7Ideal.S2816x1024, .bf16⟩ : BufTy).Contents (Elt Ideal)) (x2 : (⟨Cert.Reference7Ideal.S2816x1024, .bf16⟩ : BufTy).Contents (Elt Ideal))

/-- The parts that row `r` of the results is computed from, in whole arrays. -/
def rows (r : Fin 8192) (j : Fin 2816) : Parts := ⟨fun k => x0 (ix2 r k), fun k => x1 (ix2 j k), fun k => x2 (ix2 j k)⟩

end

variable (m : (ℓ : Loc nD τ sig) → Buf (Elt Ideal) ℓ) (c : Dev nD)

/-- The results. -/
def all (r : Fin 8192) (j : Fin 2816) : Parts := rows (m ((c.tc : Thread nD τ).loc main_arg0)) (m ((c.tc : Thread nD τ).loc main_arg1)) (m ((c.tc : Thread nD τ).loc main_arg2)) r j
def g3 : Buf (Elt Ideal) ((c : Thread nD τ).loc main_v0_0) := fun i => F3 (all m c (i 0) (i 1))
def g4 : Buf (Elt Ideal) ((c : Thread nD τ).loc main_v0_1) := fun i => F4 (all m c (i 0) (i 1))
def g5 : Buf (Elt Ideal) ((c : Thread nD τ).loc main_v0_2) := fun i => F5 (all m c (i 0) (i 1))

/-- Which blocks point `t` reads and writes. -/
theorem at_0 : ∀ t : Fin cfg0.N, win0_0.index t 0 = t.val % 16 ∧ win0_0.index t 1 = 0 := (by decide +kernel : ∀ t : Fin grid0.N, _)
theorem at_1 : ∀ t : Fin cfg0.N, win0_1.index t 0 = t.val / 16 ∧ win0_1.index t 1 = 0 := (by decide +kernel : ∀ t : Fin grid0.N, _)
theorem at_2 : ∀ t : Fin cfg0.N, win0_2.index t 0 = t.val / 16 ∧ win0_2.index t 1 = 0 := (by decide +kernel : ∀ t : Fin grid0.N, _)
theorem at_3 : ∀ t : Fin cfg0.N, win0_3.index t 0 = t.val % 16 ∧ win0_3.index t 1 = t.val / 16 := (by decide +kernel : ∀ t : Fin grid0.N, _)
theorem at_4 : ∀ t : Fin cfg0.N, win0_4.index t 0 = t.val % 16 ∧ win0_4.index t 1 = t.val / 16 := (by decide +kernel : ∀ t : Fin grid0.N, _)
theorem at_5 : ∀ t : Fin cfg0.N, win0_5.index t 0 = t.val % 16 ∧ win0_5.index t 1 = t.val / 16 := (by decide +kernel : ∀ t : Fin grid0.N, _)

/-! The body at an index. -/

section

variable (x0 : Vec Ideal S512x1024 .bf16) (x1 : Vec Ideal S1408x1024 .bf16) (x2 : Vec Ideal S1408x1024 .bf16)

/-- The same in one block. -/
def part (r : Fin 512) (j : Fin 1408) : Parts := ⟨fun k => x0 (ix2 r k), fun k => x1 (ix2 j k), fun k => x2 (ix2 j k)⟩

theorem out_3 (r : Fin 512) (j : Fin 1408) : out0_3 (F := Ideal) x0 x1 x2 (ix2 r j) = F3 (part x0 x1 x2 r j) := by
  unfold out0_3
  rw [View.canon_unit_zero hz2, View.ld_unit_zero (S := S512x1024) hz2, View.ld_unit_zero (S := S1408x1024) hz2]
  dsimp only [F3, part]
  pointwise [k0_pay3, k0_pay1]

theorem out_4 (r : Fin 512) (j : Fin 1408) : out0_4 (F := Ideal) x0 x1 x2 (ix2 r j) = F4 (part x0 x1 x2 r j) := by
  unfold out0_4
  rw [View.canon_unit_zero hz2, View.ld_unit_zero (S := S512x1024) hz2, View.ld_unit_zero (S := S1408x1024) hz2]
  dsimp only [F4, part]
  pointwise [k0_pay4, k0_pay2]

theorem out_5 (r : Fin 512) (j : Fin 1408) : out0_5 (F := Ideal) x0 x1 x2 (ix2 r j) = F5 (part x0 x1 x2 r j) := by
  unfold out0_5
  rw [View.canon_unit_zero hz2, View.ld_unit_zero (S := S512x1024) hz2, View.ld_unit_zero (S := S1408x1024) hz2, View.ld_unit_zero (S := S1408x1024) hz2]
  dsimp only [F5, part]
  rw [← sg_eq]
  pointwise [k0_pay5, k0_pay1, k0_pay2]

end

/-- A block has the array's parts. -/
theorem part_eq (t : Fin cfg0.N) (r : Fin 512) (j : Fin 1408) (R : Fin 8192) (J : Fin 2816) (hR : R.val = t.val % 16 * 512 + r.val) (hJ : J.val = t.val / 16 * 1408 + j.val) :
    part (iblk m c 0 t) (iblk m c 1 t) (iblk m c 2 t) r j = all m c R J := by
  simp only [part, all, rows, Parts.mk.injEq]
  refine ⟨?_, ?_, ?_⟩ <;> funext k <;>
    blk_ext [iblk, V, at_0, at_1, at_2, hR, hJ]

theorem final_3 : (dats m 0 c).arrAt 3 cfg0.N = g3 m c := by
  refine (dats m 0 c).arrAt_eq_of_covers 3 _ (by decide +kernel) fun t _ y => ?_
  obtain ⟨r, j, rfl⟩ : ∃ (r : Fin 512) (j : Fin 1408), y = ix2 r j := ⟨y 0, y 1, eq_ix2 y⟩
  blk_simp
  rw [after0_3, out_3, part_eq m c t r j _ _ (by blk_simp [at_3] : (((win0_3.blk t).view.emb (ix2 r j)) 0).val = _) (by blk_simp [at_3] : (((win0_3.blk t).view.emb (ix2 r j)) 1).val = _)]
  rfl

theorem final_4 : (dats m 0 c).arrAt 4 cfg0.N = g4 m c := by
  refine (dats m 0 c).arrAt_eq_of_covers 4 _ (by decide +kernel) fun t _ y => ?_
  obtain ⟨r, j, rfl⟩ : ∃ (r : Fin 512) (j : Fin 1408), y = ix2 r j := ⟨y 0, y 1, eq_ix2 y⟩
  blk_simp
  rw [after0_4, out_4, part_eq m c t r j _ _ (by blk_simp [at_4] : (((win0_4.blk t).view.emb (ix2 r j)) 0).val = _) (by blk_simp [at_4] : (((win0_4.blk t).view.emb (ix2 r j)) 1).val = _)]
  rfl

theorem final_5 : (dats m 0 c).arrAt 5 cfg0.N = g5 m c := by
  refine (dats m 0 c).arrAt_eq_of_covers 5 _ (by decide +kernel) fun t _ y => ?_
  obtain ⟨r, j, rfl⟩ : ∃ (r : Fin 512) (j : Fin 1408), y = ix2 r j := ⟨y 0, y 1, eq_ix2 y⟩
  blk_simp
  rw [after0_5, out_5, part_eq m c t r j _ _ (by blk_simp [at_5] : (((win0_5.blk t).view.emb (ix2 r j)) 0).val = _) (by blk_simp [at_5] : (((win0_5.blk t).view.emb (ix2 r j)) 1).val = _)]
  rfl

/-! ## The reference -/

section

variable (x0 : (⟨Cert.Reference7Ideal.S8192x1024, .bf16⟩ : BufTy).Contents (Elt Ideal)) (x1 : (⟨Cert.Reference7Ideal.S2816x1024, .bf16⟩ : BufTy).Contents (Elt Ideal)) (x2 : (⟨Cert.Reference7Ideal.S2816x1024, .bf16⟩ : BufTy).Contents (Elt Ideal))

theorem ref_3 (r : Fin 8192) (j : Fin 2816) : val_main_v8 (F := Ideal) x0 x1 (ix2 r j) = F3 (rows x0 x1 x2 r j) := by
  dsimp only [F3, rows]
  pointwise [val_main_v8, val_main_v3, val_main_v0, val_main_v2, val_main_v1]

theorem ref_4 (r : Fin 8192) (j : Fin 2816) : val_main_v9 (F := Ideal) x0 x2 (ix2 r j) = F4 (rows x0 x1 x2 r j) := by
  dsimp only [F4, rows]
  pointwise [val_main_v9, val_main_v7, val_main_v4, val_main_v6, val_main_v5]

theorem ref_5 (r : Fin 8192) (j : Fin 2816) : val_main_v12 (F := Ideal) x0 x1 x2 (ix2 r j) = F5 (rows x0 x1 x2 r j) := by
  dsimp only [F5, rows]
  unfold sg
  rw [one_eq]
  pointwise [val_main_v12, val_main_v11, val_main_v10, val_main_v7, val_main_v3, val_main_call0_v5, val_main_v4, val_main_v6, val_main_v0, val_main_v2, val_main_call0_v4, val_main_call0_v3, val_main_v5, val_main_v1, val_main_call0_cst_0, val_main_call0_v2, val_main_call0_v1, val_main_call0_cst, val_main_call0_v0]

end

theorem eq_3 : g3 m c = val_main_v8 (F := Ideal) (m ((c.tc : Thread nD τ).loc main_arg0)) (m ((c.tc : Thread nD τ).loc main_arg1)) := funext fun x => by
  obtain ⟨i, j, rfl⟩ : ∃ (i : Fin 8192) (j : Fin 2816), x = ix2 i j := ⟨x 0, x 1, eq_ix2 x⟩
  exact (ref_3 _ _ _ i j).symm

theorem eq_4 : g4 m c = val_main_v9 (F := Ideal) (m ((c.tc : Thread nD τ).loc main_arg0)) (m ((c.tc : Thread nD τ).loc main_arg2)) := funext fun x => by
  obtain ⟨i, j, rfl⟩ : ∃ (i : Fin 8192) (j : Fin 2816), x = ix2 i j := ⟨x 0, x 1, eq_ix2 x⟩
  exact (ref_4 _ _ _ i j).symm

theorem eq_5 : g5 m c = val_main_v12 (F := Ideal) (m ((c.tc : Thread nD τ).loc main_arg0)) (m ((c.tc : Thread nD τ).loc main_arg1)) (m ((c.tc : Thread nD τ).loc main_arg2)) := funext fun x => by
  obtain ⟨i, j, rfl⟩ : ∃ (i : Fin 8192) (j : Fin 2816), x = ix2 i j := ⟨x 0, x 1, eq_ix2 x⟩
  exact (ref_5 _ _ _ i j).symm

/-! ## The claim -/

theorem algebraic : Cert.algebraic_Kernel7Ideal_Reference7Ideal (hKernel7Ideal := Cert.Kernel7Ideal.Gen.facts) (hReference7Ideal := Cert.Reference7Ideal.Gen.facts) := by
  intro m ρ m' ρ' _ hargs
  refine ⟨fun c => g3 m c, fun c => g4 m c, fun c => g5 m c, ?_, ?_⟩
  · refine (θ_run defs _ _).mono (fun _ h c => ?_) (run_blocks m ρ)
    exact ⟨(h c).1.trans (final_3 m c), (h c).2.1.trans (final_4 m c), (h c).2.2.1.trans (final_5 m c), (h c).2.2.2⟩
  refine (θ_run Cert.Reference7Ideal.defs _ _).mono (fun _ h c => ?_) (Cert.Reference7Ideal.Value.run (F := Ideal) m' ρ')
  obtain ⟨k0, k1, k2⟩ := hargs c
  obtain ⟨e0, e1, e2, a⟩ := h c
  refine ⟨e0.trans ((val_main_v8_eq _ _).trans ?_), e1.trans ((val_main_v9_eq _ _).trans ?_), e2.trans ((val_main_v12_eq _ _ _).trans ?_), a⟩
  · refine Eq.trans ?_ (eq_3 m c).symm
    rw [← k0, ← k1]
  · refine Eq.trans ?_ (eq_4 m c).symm
    rw [← k0, ← k2]
  · refine Eq.trans ?_ (eq_5 m c).symm
    rw [← k0, ← k1, ← k2]

/-- The reference: its arguments unchanged; it has no counters. -/
theorem frame_ri : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

end Cert.Kernel7Ideal.Up

end
-- ==== Proof.Down8.lean ====
/- The feed-forward layer's second half: a product, and the residual with the gated product added, one block of 512 rows at a time. -/
module

public import proofs.«01_k».proof.Defs
public import proofs.«01_k».proof.Proof.Blocks
public import proofs.«01_k».proof.Proof.Gen.Kernel8Ideal
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel8Ideal.Down

open Idealize.ShloMosaic Idealize.ShloMosaic.TcCoe
open Cert.Kernel8Ideal Cert.Kernel8Ideal.Gen Cert.Kernel8Ideal.Value Cert.Blocks
open Cert.Reference8Ideal.Read

/-- The parts of the arguments that an entry of the results is computed from. -/
structure Parts where
  a : Fin 2816 → EReal
  wd : Fin 2816 → Fin 1024 → EReal
  x : Fin 1024 → EReal
  g : Fin 1024 → EReal

/-- The results at an index. -/
def F4 (p : Parts) (j : Fin 1024) : EReal := p.x j + p.g j * ∑ k, p.a k * p.wd k j
def F5 (p : Parts) (j : Fin 1024) : EReal := ∑ k, p.a k * p.wd k j

section

variable (x0 : (⟨Cert.Reference8Ideal.S8192x2816, .bf16⟩ : BufTy).Contents (Elt Ideal)) (x1 : (⟨Cert.Reference8Ideal.S2816x1024, .bf16⟩ : BufTy).Contents (Elt Ideal)) (x2 : (⟨Cert.Reference8Ideal.S8192x1024, .f32⟩ : BufTy).Contents (Elt Ideal)) (x3 : (⟨Cert.Reference8Ideal.S1x1024, .f32⟩ : BufTy).Contents (Elt Ideal))

/-- The parts that row `r` of the results is computed from, in whole arrays. -/
def rows (r : Fin 8192) : Parts := ⟨fun k => x0 (ix2 r k), fun k j => x1 (ix2 k j), fun k => x2 (ix2 r k), fun j => x3 (ix2 (0 : Fin 1) j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) (m ((c.tc : Thread nD τ).loc main_arg3)) r
def g4 : Buf (Elt Ideal) ((c : Thread nD τ).loc main_v0_0) := fun i => F4 (all m c (i 0)) (i 1)
def g5 : Buf (Elt Ideal) ((c : Thread nD τ).loc main_v0_1) := fun i => F5 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)
theorem at_3 : ∀ (t : Fin cfg0.N) (a : Fin 2), win0_3.index t a = 0 := (by decide +kernel : ∀ (t : Fin grid0.N) (a : Fin 2), _)
theorem at_4 : ∀ t : Fin cfg0.N, win0_4.index t 0 = t.val ∧ win0_4.index t 1 = 0 := (by decide +kernel : ∀ t : Fin grid0.N, _)
theorem at_5 : ∀ t : Fin cfg0.N, win0_5.index t 0 = t.val ∧ win0_5.index t 1 = 0 := (by decide +kernel : ∀ t : Fin grid0.N, _)

/-! The body at an index. -/

section

variable (x0 : Vec Ideal S512x2816 .bf16) (x1 : Vec Ideal S2816x1024 .bf16) (x2 : Vec Ideal S512x1024 .f32) (x3 : Vec Ideal S1x1024 .f32)

/-- The same in one block. -/
def part (r : Fin 512) : Parts := ⟨fun k => x0 (ix2 r k), fun k j => x1 (ix2 k j), fun k => x2 (ix2 r k), fun j => x3 (ix2 (0 : Fin 1) j)⟩

theorem out_4 (r : Fin 512) (j : Fin 1024) : out0_4 (F := Ideal) x0 x1 x2 x3 (ix2 r j) = F4 (part x0 x1 x2 x3 r) j := by
  unfold out0_4
  rw [View.canon_unit_zero hz2, View.ld_unit_zero (S := S512x2816) hz2, View.ld_unit_zero (S := S2816x1024) hz2, View.ld_unit_zero (S := S512x1024) hz2, View.ld_unit_zero (S := S1x1024) hz2]
  dsimp only [F4, part]
  pointwise [k0_pay2, k0_pay1]

theorem out_5 (r : Fin 512) (j : Fin 1024) : out0_5 (F := Ideal) x0 x1 x2 x3 (ix2 r j) = F5 (part x0 x1 x2 x3 r) j := by
  unfold out0_5
  rw [View.canon_unit_zero hz2, View.ld_unit_zero (S := S512x2816) hz2, View.ld_unit_zero (S := S2816x1024) hz2]
  dsimp only [F5, part]
  pointwise [k0_pay3, k0_pay1]

end

/-- A block has the array's parts. -/
theorem part_eq (t : Fin cfg0.N) (r : Fin 512) (R : Fin 8192) (hR : R.val = t.val * 512 + r.val) :
    part (iblk m c 0 t) (iblk m c 1 t) (iblk m c 2 t) (iblk m c 3 t) r = all m c R := by
  simp only [part, all, rows, Parts.mk.injEq]
  refine ⟨?_, ?_, ?_, ?_⟩ <;> funext k <;> (try funext j) <;>
    blk_ext [iblk, V, at_0, at_1, at_2, at_3, hR]

theorem final_4 : (dats m 0 c).arrAt 4 cfg0.N = g4 m c := by
  refine (dats m 0 c).arrAt_eq_of_covers 4 _ (by decide +kernel) fun t _ y => ?_
  obtain ⟨r, j, rfl⟩ : ∃ (r : Fin 512) (j : Fin 1024), y = ix2 r j := ⟨y 0, y 1, eq_ix2 y⟩
  blk_simp
  rw [after0_4, out_4, part_eq m c t r _ (by blk_simp [at_4] : (((win0_4.blk t).view.emb (ix2 r j)) 0).val = _)]
  exact congrArg (F4 _) (Fin.ext (by blk_simp [at_4]))

theorem final_5 : (dats m 0 c).arrAt 5 cfg0.N = g5 m c := by
  refine (dats m 0 c).arrAt_eq_of_covers 5 _ (by decide +kernel) fun t _ y => ?_
  obtain ⟨r, j, rfl⟩ : ∃ (r : Fin 512) (j : Fin 1024), y = ix2 r j := ⟨y 0, y 1, eq_ix2 y⟩
  blk_simp
  rw [after0_5, out_5, part_eq m c t r _ (by blk_simp [at_5] : (((win0_5.blk t).view.emb (ix2 r j)) 0).val = _)]
  exact congrArg (F5 _) (Fin.ext (by blk_simp [at_5]))

/-! ## The reference -/

section

variable (x0 : (⟨Cert.Reference8Ideal.S8192x2816, .bf16⟩ : BufTy).Contents (Elt Ideal)) (x1 : (⟨Cert.Reference8Ideal.S2816x1024, .bf16⟩ : BufTy).Contents (Elt Ideal)) (x2 : (⟨Cert.Reference8Ideal.S8192x1024, .f32⟩ : BufTy).Contents (Elt Ideal)) (x3 : (⟨Cert.Reference8Ideal.S1x1024, .f32⟩ : BufTy).Contents (Elt Ideal))

theorem ref_4 (r : Fin 8192) (j : Fin 1024) : val_main_v5 (F := Ideal) x0 x1 x2 x3 (ix2 r j) = F4 (rows x0 x1 x2 x3 r) j := by
  dsimp only [F4, rows]
  pointwise [val_main_v5, val_main_v4, val_main_v3, val_main_v2, val_main_v0, val_main_v1]

theorem ref_5 (r : Fin 8192) (j : Fin 1024) : val_main_v6 (F := Ideal) x0 x1 (ix2 r j) = F5 (rows x0 x1 x2 x3 r) j := by
  dsimp only [F5, rows]
  pointwise [val_main_v6, val_main_v2, val_main_v0, val_main_v1]

end

theorem eq_4 : g4 m c = val_main_v5 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, j, rfl⟩ : ∃ (i : Fin 8192) (j : Fin 1024), x = ix2 i j := ⟨x 0, x 1, eq_ix2 x⟩
  exact (ref_4 _ _ _ _ i j).symm

theorem eq_5 : g5 m c = val_main_v6 (F := Ideal) (m ((c.tc : Thread nD τ).loc main_arg0)) (m ((c.tc : Thread nD τ).loc main_arg1)) := funext fun x => by
  obtain ⟨i, j, rfl⟩ : ∃ (i : Fin 8192) (j : Fin 1024), x = ix2 i j := ⟨x 0, x 1, eq_ix2 x⟩
  exact (ref_5 _ _ _ _ i j).symm

/-! ## The claim -/

theorem algebraic : Cert.algebraic_Kernel8Ideal_Reference8Ideal (hKernel8Ideal := Cert.Kernel8Ideal.Gen.facts) (hReference8Ideal := Cert.Reference8Ideal.Gen.facts) := by
  intro m ρ m' ρ' _ hargs
  refine ⟨fun c => g4 m c, fun c => g5 m c, ?_, ?_⟩
  · refine (θ_run defs _ _).mono (fun _ h c => ?_) (run_blocks m ρ)
    exact ⟨(h c).1.trans (final_4 m c), (h c).2.1.trans (final_5 m c), (h c).2.2⟩
  refine (θ_run Cert.Reference8Ideal.defs _ _).mono (fun _ h c => ?_) (Cert.Reference8Ideal.Value.run (F := Ideal) m' ρ')
  obtain ⟨k0, k1, k2, k3⟩ := hargs c
  obtain ⟨e0, e1, a⟩ := h c
  refine ⟨e0.trans ((val_main_v5_eq _ _ _ _).trans ?_), e1.trans ((val_main_v6_eq _ _).trans ?_), a⟩
  · refine Eq.trans ?_ (eq_4 m c).symm
    rw [← k0, ← k1, ← k2, ← k3]
  · refine Eq.trans ?_ (eq_5 m c).symm
    rw [← k0, ← k1]

/-- The reference: its arguments unchanged; it has no counters. -/
theorem frame_ri : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

end Cert.Kernel8Ideal.Down

end
-- ==== Proof.Down9.lean ====
/- The feed-forward layer's second half with the next norm: a product, the residual with the gated product added, and that sum
   normed and modulated, one block of 512 rows at a time. -/
module

public import proofs.«01_k».proof.Defs
public import proofs.«01_k».proof.Proof.Blocks
public import proofs.«01_k».proof.Proof.Gen.Kernel9Ideal
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel9Ideal.Down

open Idealize.ShloMosaic Idealize.ShloMosaic.TcCoe
open Cert.Kernel9Ideal Cert.Kernel9Ideal.Gen Cert.Kernel9Ideal.Value Cert.Blocks
open Cert.Reference9Ideal.Read

/-- The parts of the arguments that an entry of the results is computed from. -/
structure Parts where
  a : Fin 2816 → EReal
  wd : Fin 2816 → Fin 1024 → EReal
  x : Fin 1024 → EReal
  g : Fin 1024 → EReal
  w : Fin 1024 → EReal
  sc : Fin 1024 → EReal
  sh : Fin 1024 → EReal

/-- The results at an index. -/
def F7 (p : Parts) (j : Fin 1024) : EReal := p.x j + p.g j * ∑ k, p.a k * p.wd k j
def F8 (p : Parts) (j : Fin 1024) : EReal := ∑ k, p.a k * p.wd k j
def F9 (p : Parts) (j : Fin 1024) : EReal := normed (fun j => p.x j + p.g j * ∑ k, p.a k * p.wd k j) p.w p.sc p.sh j

section

variable (x0 : (⟨Cert.Reference9Ideal.S8192x2816, .bf16⟩ : BufTy).Contents (Elt Ideal)) (x1 : (⟨Cert.Reference9Ideal.S2816x1024, .bf16⟩ : BufTy).Contents (Elt Ideal)) (x2 : (⟨Cert.Reference9Ideal.S8192x1024, .f32⟩ : BufTy).Contents (Elt Ideal)) (x3 : (⟨Cert.Reference9Ideal.S1x1024, .f32⟩ : BufTy).Contents (Elt Ideal)) (x4 : (⟨Cert.Reference9Ideal.S1x1024, .f32⟩ : BufTy).Contents (Elt Ideal)) (x5 : (⟨Cert.Reference9Ideal.S1x1024, .f32⟩ : BufTy).Contents (Elt Ideal)) (x6 : (⟨Cert.Reference9Ideal.S1x1024, .f32⟩ : BufTy).Contents (Elt Ideal))

/-- The parts that row `r` of the results is computed from, in whole arrays. -/
def rows (r : Fin 8192) : Parts := ⟨fun k => x0 (ix2 r k), fun k j => x1 (ix2 k j), fun k => x2 (ix2 r k), fun j => x3 (ix2 (0 : Fin 1) j), fun j => x4 (ix2 (0 : Fin 1) j), fun j => x5 (ix2 (0 : Fin 1) j), fun j => x6 (ix2 (0 : Fin 1) j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) r
def g7 : Buf (Elt Ideal) ((c : Thread nD τ).loc main_v0_0) := fun i => F7 (all m c (i 0)) (i 1)
def g8 : Buf (Elt Ideal) ((c : Thread nD τ).loc main_v0_1) := fun i => F8 (all m c (i 0)) (i 1)
def g9 : Buf (Elt Ideal) ((c : Thread nD τ).loc main_v0_2) := fun i => F9 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)
theorem at_3 : ∀ (t : Fin cfg0.N) (a : Fin 2), win0_3.index t a = 0 := (by decide +kernel : ∀ (t : Fin grid0.N) (a : Fin 2), _)
theorem at_4 : ∀ (t : Fin cfg0.N) (a : Fin 2), win0_4.index t a = 0 := (by decide +kernel : ∀ (t : Fin grid0.N) (a : Fin 2), _)
theorem at_5 : ∀ (t : Fin cfg0.N) (a : Fin 2), win0_5.index t a = 0 := (by decide +kernel : ∀ (t : Fin grid0.N) (a : Fin 2), _)
theorem at_6 : ∀ (t : Fin cfg0.N) (a : Fin 2), win0_6.index t a = 0 := (by decide +kernel : ∀ (t : Fin grid0.N) (a : Fin 2), _)
theorem at_7 : ∀ t : Fin cfg0.N, win0_7.index t 0 = t.val ∧ win0_7.index t 1 = 0 := (by decide +kernel : ∀ t : Fin grid0.N, _)
theorem at_8 : ∀ t : Fin cfg0.N, win0_8.index t 0 = t.val ∧ win0_8.index t 1 = 0 := (by decide +kernel : ∀ t : Fin grid0.N, _)
theorem at_9 : ∀ t : Fin cfg0.N, win0_9.index t 0 = t.val ∧ win0_9.index t 1 = 0 := (by decide +kernel : ∀ t : Fin grid0.N, _)

/-! The body at an index. -/

section

variable (x0 : Vec Ideal S512x2816 .bf16) (x1 : Vec Ideal S2816x1024 .bf16) (x2 : Vec Ideal S512x1024 .f32) (x3 : Vec Ideal S1x1024 .f32) (x4 : Vec Ideal S1x1024 .f32) (x5 : Vec Ideal S1x1024 .f32) (x6 : Vec Ideal S1x1024 .f32)

/-- The same in one block. -/
def part (r : Fin 512) : Parts := ⟨fun k => x0 (ix2 r k), fun k j => x1 (ix2 k j), fun k => x2 (ix2 r k), fun j => x3 (ix2 (0 : Fin 1) j), fun j => x4 (ix2 (0 : Fin 1) j), fun j => x5 (ix2 (0 : Fin 1) j), fun j => x6 (ix2 (0 : Fin 1) j)⟩

theorem out_7 (r : Fin 512) (j : Fin 1024) : out0_7 (F := Ideal) x0 x1 x2 x3 x4 x5 x6 (ix2 r j) = F7 (part x0 x1 x2 x3 x4 x5 x6 r) j := by
  unfold out0_7
  rw [View.canon_unit_zero hz2, View.ld_unit_zero (S := S512x2816) hz2, View.ld_unit_zero (S := S2816x1024) hz2, View.ld_unit_zero (S := S512x1024) hz2, View.ld_unit_zero (S := S1x1024) hz2]
  dsimp only [F7, part]
  pointwise [k0_pay2, k0_pay1]

theorem out_8 (r : Fin 512) (j : Fin 1024) : out0_8 (F := Ideal) x0 x1 x2 x3 x4 x5 x6 (ix2 r j) = F8 (part x0 x1 x2 x3 x4 x5 x6 r) j := by
  unfold out0_8
  rw [View.canon_unit_zero hz2, View.ld_unit_zero (S := S512x2816) hz2, View.ld_unit_zero (S := S2816x1024) hz2]
  dsimp only [F8, part]
  pointwise [k0_pay3, k0_pay1]

theorem out_9 (r : Fin 512) (j : Fin 1024) : out0_9 (F := Ideal) x0 x1 x2 x3 x4 x5 x6 (ix2 r j) = F9 (part x0 x1 x2 x3 x4 x5 x6 r) j := by
  unfold out0_9
  rw [View.canon_unit_zero hz2, View.ld_unit_zero (S := S512x2816) hz2, View.ld_unit_zero (S := S2816x1024) hz2, View.ld_unit_zero (S := S512x1024) hz2, View.ld_unit_zero (S := S1x1024) hz2, View.ld_unit_zero (S := S1x1024) hz2, View.ld_unit_zero (S := S1x1024) hz2, View.ld_unit_zero (S := S1x1024) hz2]
  dsimp only [F9, part]
  unfold normed
  pointwise [k0_pay4, k0_pay2, k0_pay1]

end

/-- A block has the array's parts. -/
theorem part_eq (t : Fin cfg0.N) (r : Fin 512) (R : Fin 8192) (hR : R.val = t.val * 512 + r.val) :
    part (iblk m c 0 t) (iblk m c 1 t) (iblk m c 2 t) (iblk m c 3 t) (iblk m c 4 t) (iblk m c 5 t) (iblk m c 6 t) r = all m c R := by
  simp only [part, all, rows, Parts.mk.injEq]
  refine ⟨?_, ?_, ?_, ?_, ?_, ?_, ?_⟩ <;> funext k <;> (try funext j) <;>
    blk_ext [iblk, V, at_0, at_1, at_2, at_3, at_4, at_5, at_6, hR]

theorem final_7 : (dats m 0 c).arrAt 7 cfg0.N = g7 m c := by
  refine (dats m 0 c).arrAt_eq_of_covers 7 _ (by decide +kernel) fun t _ y => ?_
  obtain ⟨r, j, rfl⟩ : ∃ (r : Fin 512) (j : Fin 1024), y = ix2 r j := ⟨y 0, y 1, eq_ix2 y⟩
  blk_simp
  rw [after0_7, out_7, part_eq m c t r _ (by blk_simp [at_7] : (((win0_7.blk t).view.emb (ix2 r j)) 0).val = _)]
  exact congrArg (F7 _) (Fin.ext (by blk_simp [at_7]))

theorem final_8 : (dats m 0 c).arrAt 8 cfg0.N = g8 m c := by
  refine (dats m 0 c).arrAt_eq_of_covers 8 _ (by decide +kernel) fun t _ y => ?_
  obtain ⟨r, j, rfl⟩ : ∃ (r : Fin 512) (j : Fin 1024), y = ix2 r j := ⟨y 0, y 1, eq_ix2 y⟩
  blk_simp
  rw [after0_8, out_8, part_eq m c t r _ (by blk_simp [at_8] : (((win0_8.blk t).view.emb (ix2 r j)) 0).val = _)]
  exact congrArg (F8 _) (Fin.ext (by blk_simp [at_8]))

theorem final_9 : (dats m 0 c).arrAt 9 cfg0.N = g9 m c := by
  refine (dats m 0 c).arrAt_eq_of_covers 9 _ (by decide +kernel) fun t _ y => ?_
  obtain ⟨r, j, rfl⟩ : ∃ (r : Fin 512) (j : Fin 1024), y = ix2 r j := ⟨y 0, y 1, eq_ix2 y⟩
  blk_simp
  rw [after0_9, out_9, part_eq m c t r _ (by blk_simp [at_9] : (((win0_9.blk t).view.emb (ix2 r j)) 0).val = _)]
  exact congrArg (F9 _) (Fin.ext (by blk_simp [at_9]))

/-! ## The reference -/

section

variable (x0 : (⟨Cert.Reference9Ideal.S8192x2816, .bf16⟩ : BufTy).Contents (Elt Ideal)) (x1 : (⟨Cert.Reference9Ideal.S2816x1024, .bf16⟩ : BufTy).Contents (Elt Ideal)) (x2 : (⟨Cert.Reference9Ideal.S8192x1024, .f32⟩ : BufTy).Contents (Elt Ideal)) (x3 : (⟨Cert.Reference9Ideal.S1x1024, .f32⟩ : BufTy).Contents (Elt Ideal)) (x4 : (⟨Cert.Reference9Ideal.S1x1024, .f32⟩ : BufTy).Contents (Elt Ideal)) (x5 : (⟨Cert.Reference9Ideal.S1x1024, .f32⟩ : BufTy).Contents (Elt Ideal)) (x6 : (⟨Cert.Reference9Ideal.S1x1024, .f32⟩ : BufTy).Contents (Elt Ideal))

theorem ref_7 (r : Fin 8192) (j : Fin 1024) : val_main_v5 (F := Ideal) x0 x1 x2 x3 (ix2 r j) = F7 (rows x0 x1 x2 x3 x4 x5 x6 r) j := by
  dsimp only [F7, rows]
  pointwise [val_main_v5, val_main_v4, val_main_v3, val_main_v2, val_main_v0, val_main_v1]

theorem ref_8 (r : Fin 8192) (j : Fin 1024) : val_main_v6 (F := Ideal) x0 x1 (ix2 r j) = F8 (rows x0 x1 x2 x3 x4 x5 x6 r) j := by
  dsimp only [F8, rows]
  pointwise [val_main_v6, val_main_v2, val_main_v0, val_main_v1]

theorem ref_9 (r : Fin 8192) (j : Fin 1024) : val_main_v25 (F := Ideal) x0 x1 x2 x3 x4 x5 x6 (ix2 r j) = F9 (rows x0 x1 x2 x3 x4 x5 x6 r) j := by
  dsimp only [F9, rows]
  unfold normed
  pointwise [val_main_v25, val_main_v24, val_main_v22, val_main_v23, val_main_v18, val_main_v21, val_main_v16, val_main_v17, val_main_v20, val_main_v5, val_main_v15, val_main_v19, val_main_v4, val_main_v14, val_main_cst_2, val_main_v3, val_main_v2, val_main_v13, val_main_v0, val_main_v1, val_main_v11, val_main_v12, val_main_v9, val_main_v10, val_main_cst_1, val_main_v8, val_main_cst_0, val_main_v7, val_main_cst]

end

theorem eq_7 : g7 m c = val_main_v5 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, j, rfl⟩ : ∃ (i : Fin 8192) (j : Fin 1024), x = ix2 i j := ⟨x 0, x 1, eq_ix2 x⟩
  exact (ref_7 _ _ _ _ _ _ _ i j).symm

theorem eq_8 : g8 m c = val_main_v6 (F := Ideal) (m ((c.tc : Thread nD τ).loc main_arg0)) (m ((c.tc : Thread nD τ).loc main_arg1)) := funext fun x => by
  obtain ⟨i, j, rfl⟩ : ∃ (i : Fin 8192) (j : Fin 1024), x = ix2 i j := ⟨x 0, x 1, eq_ix2 x⟩
  exact (ref_8 _ _ _ _ _ _ _ i j).symm

theorem eq_9 : g9 m c = val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := funext fun x => by
  obtain ⟨i, j, rfl⟩ : ∃ (i : Fin 8192) (j : Fin 1024), x = ix2 i j := ⟨x 0, x 1, eq_ix2 x⟩
  exact (ref_9 _ _ _ _ _ _ _ i j).symm

/-! ## The claim -/

theorem algebraic : Cert.algebraic_Kernel9Ideal_Reference9Ideal (hKernel9Ideal := Cert.Kernel9Ideal.Gen.facts) (hReference9Ideal := Cert.Reference9Ideal.Gen.facts) := by
  intro m ρ m' ρ' _ hargs
  refine ⟨fun c => g7 m c, fun c => g8 m c, fun c => g9 m c, ?_, ?_⟩
  · refine (θ_run defs _ _).mono (fun _ h c => ?_) (run_blocks m ρ)
    exact ⟨(h c).1.trans (final_7 m c), (h c).2.1.trans (final_8 m c), (h c).2.2.1.trans (final_9 m c), (h c).2.2.2⟩
  refine (θ_run Cert.Reference9Ideal.defs _ _).mono (fun _ h c => ?_) (Cert.Reference9Ideal.Value.run (F := Ideal) m' ρ')
  obtain ⟨k0, k1, k2, k3, k4, k5, k6⟩ := hargs c
  obtain ⟨e0, e1, e2, a⟩ := h c
  refine ⟨e0.trans ((val_main_v5_eq _ _ _ _).trans ?_), e1.trans ((val_main_v6_eq _ _).trans ?_), e2.trans ((val_main_v25_eq _ _ _ _ _ _ _).trans ?_), a⟩
  · refine Eq.trans ?_ (eq_7 m c).symm
    rw [← k0, ← k1, ← k2, ← k3]
  · refine Eq.trans ?_ (eq_8 m c).symm
    rw [← k0, ← k1]
  · refine Eq.trans ?_ (eq_9 m c).symm
    rw [← k0, ← k1, ← k2, ← k3, ← k4, ← k5, ← k6]

/-- The reference: its arguments unchanged; it has no counters. -/
theorem frame_ri : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

end Cert.Kernel9Ideal.Down

end
-- ==== Proof.Mix10.lean ====
/- The mixing layer's last projection: the sum of two products, the residual with the gated sum added, and that normed and
   modulated, one block of 512 rows at a time. -/
module

public import proofs.«01_k».proof.Defs
public import proofs.«01_k».proof.Proof.Blocks
public import proofs.«01_k».proof.Proof.Gen.Kernel10Ideal
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel10Ideal.Mix

open Idealize.ShloMosaic Idealize.ShloMosaic.TcCoe
open Cert.Kernel10Ideal Cert.Kernel10Ideal.Gen Cert.Kernel10Ideal.Value Cert.Blocks
open Cert.Reference10Ideal.Read

/-- The parts of the arguments that an entry of the results is computed from. -/
structure Parts where
  a : Fin 1024 → EReal
  wa : Fin 1024 → Fin 1024 → EReal
  b : Fin 1024 → EReal
  wb : Fin 1024 → Fin 1024 → EReal
  x : Fin 1024 → EReal
  g : Fin 1024 → EReal
  w : Fin 1024 → EReal
  sc : Fin 1024 → EReal
  sh : Fin 1024 → EReal

/-- The results at an index. -/
def F9 (p : Parts) (j : Fin 1024) : EReal := p.x j + p.g j * ((∑ k, p.a k * p.wa k j) + ∑ k, p.b k * p.wb k j)
def F10 (p : Parts) (j : Fin 1024) : EReal := ((∑ k, p.a k * p.wa k j) + ∑ k, p.b k * p.wb k j)
def F11 (p : Parts) (j : Fin 1024) : EReal := normed (fun j => p.x j + p.g j * ((∑ k, p.a k * p.wa k j) + ∑ k, p.b k * p.wb k j)) p.w p.sc p.sh j

section

variable (x0 : (⟨Cert.Reference10Ideal.S8192x1024, .bf16⟩ : BufTy).Contents (Elt Ideal)) (x1 : (⟨Cert.Reference10Ideal.S1024x1024, .bf16⟩ : BufTy).Contents (Elt Ideal)) (x2 : (⟨Cert.Reference10Ideal.S8192x1024, .bf16⟩ : BufTy).Contents (Elt Ideal)) (x3 : (⟨Cert.Reference10Ideal.S1024x1024, .bf16⟩ : BufTy).Contents (Elt Ideal)) (x4 : (⟨Cert.Reference10Ideal.S8192x1024, .f32⟩ : BufTy).Contents (Elt Ideal)) (x5 : (⟨Cert.Reference10Ideal.S1x1024, .f32⟩ : BufTy).Contents (Elt Ideal)) (x6 : (⟨Cert.Reference10Ideal.S1x1024, .f32⟩ : BufTy).Contents (Elt Ideal)) (x7 : (⟨Cert.Reference10Ideal.S1x1024, .f32⟩ : BufTy).Contents (Elt Ideal)) (x8 : (⟨Cert.Reference10Ideal.S1x1024, .f32⟩ : BufTy).Contents (Elt Ideal))

/-- The parts that row `r` of the results is computed from, in whole arrays. -/
def rows (r : Fin 8192) : Parts := ⟨fun k => x0 (ix2 r k), fun k j => x1 (ix2 k j), fun k => x2 (ix2 r k), fun k j => x3 (ix2 k j), fun k => x4 (ix2 r k), fun j => x5 (ix2 (0 : Fin 1) j), fun j => x6 (ix2 (0 : Fin 1) j), fun j => x7 (ix2 (0 : Fin 1) j), fun j => x8 (ix2 (0 : Fin 1) j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) r
def g9 : Buf (Elt Ideal) ((c : Thread nD τ).loc main_v0_0) := fun i => F9 (all m c (i 0)) (i 1)
def g10 : Buf (Elt Ideal) ((c : Thread nD τ).loc main_v0_1) := fun i => F10 (all m c (i 0)) (i 1)
def g11 : Buf (Elt Ideal) ((c : Thread nD τ).loc main_v0_2) := fun i => F11 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)
theorem at_3 : ∀ (t : Fin cfg0.N) (a : Fin 2), win0_3.index t a = 0 := (by decide +kernel : ∀ (t : Fin grid0.N) (a : Fin 2), _)
theorem at_4 : ∀ t : Fin cfg0.N, win0_4.index t 0 = t.val ∧ win0_4.index t 1 = 0 := (by decide +kernel : ∀ t : Fin grid0.N, _)
theorem at_5 : ∀ (t : Fin cfg0.N) (a : Fin 2), win0_5.index t a = 0 := (by decide +kernel : ∀ (t : Fin grid0.N) (a : Fin 2), _)
theorem at_6 : ∀ (t : Fin cfg0.N) (a : Fin 2), win0_6.index t a = 0 := (by decide +kernel : ∀ (t : Fin grid0.N) (a : Fin 2), _)
theorem at_7 : ∀ (t : Fin cfg0.N) (a : Fin 2), win0_7.index t a = 0 := (by decide +kernel : ∀ (t : Fin grid0.N) (a : Fin 2), _)
theorem at_8 : ∀ (t : Fin cfg0.N) (a : Fin 2), win0_8.index t a = 0 := (by decide +kernel : ∀ (t : Fin grid0.N) (a : Fin 2), _)
theorem at_9 : ∀ t : Fin cfg0.N, win0_9.index t 0 = t.val ∧ win0_9.index t 1 = 0 := (by decide +kernel : ∀ t : Fin grid0.N, _)
theorem at_10 : ∀ t : Fin cfg0.N, win0_10.index t 0 = t.val ∧ win0_10.index t 1 = 0 := (by decide +kernel : ∀ t : Fin grid0.N, _)
theorem at_11 : ∀ t : Fin cfg0.N, win0_11.index t 0 = t.val ∧ win0_11.index t 1 = 0 := (by decide +kernel : ∀ t : Fin grid0.N, _)

/-! The body at an index. -/

section

variable (x0 : Vec Ideal S512x1024 .bf16) (x1 : Vec Ideal S1024x1024 .bf16) (x2 : Vec Ideal S512x1024 .bf16) (x3 : Vec Ideal S1024x1024 .bf16) (x4 : Vec Ideal S512x1024 .f32) (x5 : Vec Ideal S1x1024 .f32) (x6 : Vec Ideal S1x1024 .f32) (x7 : Vec Ideal S1x1024 .f32) (x8 : Vec Ideal S1x1024 .f32)

/-- The same in one block. -/
def part (r : Fin 512) : Parts := ⟨fun k => x0 (ix2 r k), fun k j => x1 (ix2 k j), fun k => x2 (ix2 r k), fun k j => x3 (ix2 k j), fun k => x4 (ix2 r k), fun j => x5 (ix2 (0 : Fin 1) j), fun j => x6 (ix2 (0 : Fin 1) j), fun j => x7 (ix2 (0 : Fin 1) j), fun j => x8 (ix2 (0 : Fin 1) j)⟩

theorem out_9 (r : Fin 512) (j : Fin 1024) : out0_9 (F := Ideal) x0 x1 x2 x3 x4 x5 x6 x7 x8 (ix2 r j) = F9 (part x0 x1 x2 x3 x4 x5 x6 x7 x8 r) j := by
  unfold out0_9
  rw [View.canon_unit_zero hz2, View.ld_unit_zero (S := S512x1024) hz2, View.ld_unit_zero (S := S1024x1024) hz2, View.ld_unit_zero (S := S512x1024) hz2, View.ld_unit_zero (S := S1024x1024) hz2, View.ld_unit_zero (S := S512x1024) hz2, View.ld_unit_zero (S := S1x1024) hz2]
  dsimp only [F9, part]
  pointwise [k0_pay3, k0_pay2]

theorem out_10 (r : Fin 512) (j : Fin 1024) : out0_10 (F := Ideal) x0 x1 x2 x3 x4 x5 x6 x7 x8 (ix2 r j) = F10 (part x0 x1 x2 x3 x4 x5 x6 x7 x8 r) j := by
  unfold out0_10
  rw [View.canon_unit_zero hz2, View.ld_unit_zero (S := S512x1024) hz2, View.ld_unit_zero (S := S1024x1024) hz2, View.ld_unit_zero (S := S512x1024) hz2, View.ld_unit_zero (S := S1024x1024) hz2]
  dsimp only [F10, part]
  pointwise [k0_pay4, k0_pay2]

theorem out_11 (r : Fin 512) (j : Fin 1024) : out0_11 (F := Ideal) x0 x1 x2 x3 x4 x5 x6 x7 x8 (ix2 r j) = F11 (part x0 x1 x2 x3 x4 x5 x6 x7 x8 r) j := by
  unfold out0_11
  rw [View.canon_unit_zero hz2, View.ld_unit_zero (S := S512x1024) hz2, View.ld_unit_zero (S := S1024x1024) hz2, View.ld_unit_zero (S := S512x1024) hz2, View.ld_unit_zero (S := S1024x1024) hz2, View.ld_unit_zero (S := S512x1024) hz2, View.ld_unit_zero (S := S1x1024) hz2, View.ld_unit_zero (S := S1x1024) hz2, View.ld_unit_zero (S := S1x1024) hz2, View.ld_unit_zero (S := S1x1024) hz2]
  dsimp only [F11, part]
  unfold normed
  pointwise [k0_pay1, k0_pay5, k0_pay6, k0_pay3, k0_pay2]

end

/-- A block has the array's parts. -/
theorem part_eq (t : Fin cfg0.N) (r : Fin 512) (R : Fin 8192) (hR : R.val = t.val * 512 + r.val) :
    part (iblk m c 0 t) (iblk m c 1 t) (iblk m c 2 t) (iblk m c 3 t) (iblk m c 4 t) (iblk m c 5 t) (iblk m c 6 t) (iblk m c 7 t) (iblk m c 8 t) r = all m c R := by
  simp only [part, all, rows, Parts.mk.injEq]
  refine ⟨?_, ?_, ?_, ?_, ?_, ?_, ?_, ?_, ?_⟩ <;> funext k <;> (try funext j) <;>
    blk_ext [iblk, V, at_0, at_1, at_2, at_3, at_4, at_5, at_6, at_7, at_8, hR]

theorem final_9 : (dats m 0 c).arrAt 9 cfg0.N = g9 m c := by
  refine (dats m 0 c).arrAt_eq_of_covers 9 _ (by decide +kernel) fun t _ y => ?_
  obtain ⟨r, j, rfl⟩ : ∃ (r : Fin 512) (j : Fin 1024), y = ix2 r j := ⟨y 0, y 1, eq_ix2 y⟩
  blk_simp
  rw [after0_9, out_9, part_eq m c t r _ (by blk_simp [at_9] : (((win0_9.blk t).view.emb (ix2 r j)) 0).val = _)]
  exact congrArg (F9 _) (Fin.ext (by blk_simp [at_9]))

theorem final_10 : (dats m 0 c).arrAt 10 cfg0.N = g10 m c := by
  refine (dats m 0 c).arrAt_eq_of_covers 10 _ (by decide +kernel) fun t _ y => ?_
  obtain ⟨r, j, rfl⟩ : ∃ (r : Fin 512) (j : Fin 1024), y = ix2 r j := ⟨y 0, y 1, eq_ix2 y⟩
  blk_simp
  rw [after0_10, out_10, part_eq m c t r _ (by blk_simp [at_10] : (((win0_10.blk t).view.emb (ix2 r j)) 0).val = _)]
  exact congrArg (F10 _) (Fin.ext (by blk_simp [at_10]))

theorem final_11 : (dats m 0 c).arrAt 11 cfg0.N = g11 m c := by
  refine (dats m 0 c).arrAt_eq_of_covers 11 _ (by decide +kernel) fun t _ y => ?_
  obtain ⟨r, j, rfl⟩ : ∃ (r : Fin 512) (j : Fin 1024), y = ix2 r j := ⟨y 0, y 1, eq_ix2 y⟩
  blk_simp
  rw [after0_11, out_11, part_eq m c t r _ (by blk_simp [at_11] : (((win0_11.blk t).view.emb (ix2 r j)) 0).val = _)]
  exact congrArg (F11 _) (Fin.ext (by blk_simp [at_11]))

/-! ## The reference -/

section

variable (x0 : (⟨Cert.Reference10Ideal.S8192x1024, .bf16⟩ : BufTy).Contents (Elt Ideal)) (x1 : (⟨Cert.Reference10Ideal.S1024x1024, .bf16⟩ : BufTy).Contents (Elt Ideal)) (x2 : (⟨Cert.Reference10Ideal.S8192x1024, .bf16⟩ : BufTy).Contents (Elt Ideal)) (x3 : (⟨Cert.Reference10Ideal.S1024x1024, .bf16⟩ : BufTy).Contents (Elt Ideal)) (x4 : (⟨Cert.Reference10Ideal.S8192x1024, .f32⟩ : BufTy).Contents (Elt Ideal)) (x5 : (⟨Cert.Reference10Ideal.S1x1024, .f32⟩ : BufTy).Contents (Elt Ideal)) (x6 : (⟨Cert.Reference10Ideal.S1x1024, .f32⟩ : BufTy).Contents (Elt Ideal)) (x7 : (⟨Cert.Reference10Ideal.S1x1024, .f32⟩ : BufTy).Contents (Elt Ideal)) (x8 : (⟨Cert.Reference10Ideal.S1x1024, .f32⟩ : BufTy).Contents (Elt Ideal))

theorem ref_9 (r : Fin 8192) (j : Fin 1024) : val_main_v9 (F := Ideal) x0 x1 x2 x3 x4 x5 (ix2 r j) = F9 (rows x0 x1 x2 x3 x4 x5 x6 x7 x8 r) j := by
  dsimp only [F9, rows]
  pointwise [val_main_v9, val_main_v8, val_main_v7, val_main_v6, val_main_v2, val_main_v5, val_main_v0, val_main_v1, val_main_v3, val_main_v4]

theorem ref_10 (r : Fin 8192) (j : Fin 1024) : val_main_v10 (F := Ideal) x0 x1 x2 x3 (ix2 r j) = F10 (rows x0 x1 x2 x3 x4 x5 x6 x7 x8 r) j := by
  dsimp only [F10, rows]
  pointwise [val_main_v10, val_main_v6, val_main_v2, val_main_v5, val_main_v0, val_main_v1, val_main_v3, val_main_v4]

theorem ref_11 (r : Fin 8192) (j : Fin 1024) : val_main_v29 (F := Ideal) x0 x1 x2 x3 x4 x5 x6 x7 x8 (ix2 r j) = F11 (rows x0 x1 x2 x3 x4 x5 x6 x7 x8 r) j := by
  dsimp only [F11, rows]
  unfold normed
  pointwise [val_main_v29, val_main_v28, val_main_v26, val_main_v27, val_main_v22, val_main_v25, val_main_v20, val_main_v21, val_main_v24, val_main_v9, val_main_v19, val_main_v23, val_main_v8, val_main_v18, val_main_cst_2, val_main_v7, val_main_v6, val_main_v17, val_main_v2, val_main_v5, val_main_v15, val_main_v16, val_main_v0, val_main_v1, val_main_v3, val_main_v4, val_main_v13, val_main_v14, val_main_cst_1, val_main_v12, val_main_cst_0, val_main_v11, val_main_cst]

end

theorem eq_9 : g9 m c = val_main_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := funext fun x => by
  obtain ⟨i, j, rfl⟩ : ∃ (i : Fin 8192) (j : Fin 1024), x = ix2 i j := ⟨x 0, x 1, eq_ix2 x⟩
  exact (ref_9 _ _ _ _ _ _ _ _ _ i j).symm

theorem eq_10 : g10 m c = val_main_v10 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, j, rfl⟩ : ∃ (i : Fin 8192) (j : Fin 1024), x = ix2 i j := ⟨x 0, x 1, eq_ix2 x⟩
  exact (ref_10 _ _ _ _ _ _ _ _ _ i j).symm

theorem eq_11 : g11 m c = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := funext fun x => by
  obtain ⟨i, j, rfl⟩ : ∃ (i : Fin 8192) (j : Fin 1024), x = ix2 i j := ⟨x 0, x 1, eq_ix2 x⟩
  exact (ref_11 _ _ _ _ _ _ _ _ _ i j).symm

/-! ## The claim -/

theorem algebraic : Cert.algebraic_Kernel10Ideal_Reference10Ideal (hKernel10Ideal := Cert.Kernel10Ideal.Gen.facts) (hReference10Ideal := Cert.Reference10Ideal.Gen.facts) := by
  intro m ρ m' ρ' _ hargs
  refine ⟨fun c => g9 m c, fun c => g10 m c, fun c => g11 m c, ?_, ?_⟩
  · refine (θ_run defs _ _).mono (fun _ h c => ?_) (run_blocks m ρ)
    exact ⟨(h c).1.trans (final_9 m c), (h c).2.1.trans (final_10 m c), (h c).2.2.1.trans (final_11 m c), (h c).2.2.2⟩
  refine (θ_run Cert.Reference10Ideal.defs _ _).mono (fun _ h c => ?_) (Cert.Reference10Ideal.Value.run (F := Ideal) m' ρ')
  obtain ⟨k0, k1, k2, k3, k4, k5, k6, k7, k8⟩ := hargs c
  obtain ⟨e0, e1, e2, a⟩ := h c
  refine ⟨e0.trans ((val_main_v9_eq _ _ _ _ _ _).trans ?_), e1.trans ((val_main_v10_eq _ _ _ _).trans ?_), e2.trans ((val_main_v29_eq _ _ _ _ _ _ _ _ _).trans ?_), a⟩
  · refine Eq.trans ?_ (eq_9 m c).symm
    rw [← k0, ← k1, ← k2, ← k3, ← k4, ← k5]
  · refine Eq.trans ?_ (eq_10 m c).symm
    rw [← k0, ← k1, ← k2, ← k3]
  · refine Eq.trans ?_ (eq_11 m c).symm
    rw [← k0, ← k1, ← k2, ← k3, ← k4, ← k5, ← k6, ← k7, ← k8]

/-- The reference: its arguments unchanged; it has no counters. -/
theorem frame_ri : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run (F := Ideal) m ρ)

end Cert.Kernel10Ideal.Mix

end
-- ==== Proof.Proj11.lean ====
/- The attention layer's last projection: a product and a bias, the residual with the gated sum added, and that normed and
   modulated, one block of 512 rows at a time. -/
module

public import proofs.«01_k».proof.Defs
public import proofs.«01_k».proof.Proof.Blocks
public import proofs.«01_k».proof.Proof.Gen.Kernel11Ideal
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel11Ideal.Proj

open Idealize.ShloMosaic Idealize.ShloMosaic.TcCoe
open Cert.Kernel11Ideal Cert.Kernel11Ideal.Gen Cert.Kernel11Ideal.Value Cert.Blocks
open Cert.Reference11Ideal.Read

/-- The parts of the arguments that an entry of the results is computed from. -/
structure Parts where
  a : Fin 1024 → EReal
  wo : Fin 1024 → Fin 1024 → EReal
  b : Fin 1024 → EReal
  x : Fin 1024 → EReal
  g : Fin 1024 → EReal
  w : Fin 1024 → EReal
  sc : Fin 1024 → EReal
  sh : Fin 1024 → EReal

/-- The results at an index. -/
def F8 (p : Parts) (j : Fin 1024) : EReal := p.x j + p.g j * ((∑ k, p.a k * p.wo k j) + p.b j)
def F9 (p : Parts) (j : Fin 1024) : EReal := ((∑ k, p.a k * p.wo k j) + p.b j)
def F10 (p : Parts) (j : Fin 1024) : EReal := normed (fun j => p.x j + p.g j * ((∑ k, p.a k * p.wo k j) + p.b j)) p.w p.sc p.sh j

section

variable (x0 : (⟨Cert.Reference11Ideal.S8192x1024, .bf16⟩ : BufTy).Contents (Elt Ideal)) (x1 : (⟨Cert.Reference11Ideal.S1024x1024, .bf16⟩ : BufTy).Contents (Elt Ideal)) (x2 : (⟨Cert.Reference11Ideal.S1x1024, .f32⟩ : BufTy).Contents (Elt Ideal)) (x3 : (⟨Cert.Reference11Ideal.S8192x1024, .f32⟩ : BufTy).Contents (Elt Ideal)) (x4 : (⟨Cert.Reference11Ideal.S1x1024, .f32⟩ : BufTy).Contents (Elt Ideal)) (x5 : (⟨Cert.Reference11Ideal.S1x1024, .f32⟩ : BufTy).Contents (Elt Ideal)) (x6 : (⟨Cert.Reference11Ideal.S1x1024, .f32⟩ : BufTy).Contents (Elt Ideal)) (x7 : (⟨Cert.Reference11Ideal.S1x1024, .f32⟩ : BufTy).Contents (Elt Ideal))

/-- The parts that row `r` of the results is computed from, in whole arrays. -/
def rows (r : Fin 8192) : Parts := ⟨fun k => x0 (ix2 r k), fun k j => x1 (ix2 k j), fun j => x2 (ix2 (0 : Fin 1) j), fun k => x3 (ix2 r k), fun j => x4 (ix2 (0 : Fin 1) j), fun j => x5 (ix2 (0 : Fin 1) j), fun j => x6 (ix2 (0 : Fin 1) j), fun j => x7 (ix2 (0 : Fin 1) j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r
def g8 : Buf (Elt Ideal) ((c : Thread nD τ).loc main_v0_0) := fun i => F8 (all m c (i 0)) (i 1)
def g9 : Buf (Elt Ideal) ((c : Thread nD τ).loc main_v0_1) := fun i => F9 (all m c (i 0)) (i 1)
def g10 : Buf (Elt Ideal) ((c : Thread nD τ).loc main_v0_2) := fun i => F10 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ (t : Fin cfg0.N) (a : Fin 2), win0_2.index t a = 0 := (by decide +kernel : ∀ (t : Fin grid0.N) (a : Fin 2), _)
theorem at_3 : ∀ t : Fin cfg0.N, win0_3.index t 0 = t.val ∧ win0_3.index t 1 = 0 := (by decide +kernel : ∀ t : Fin grid0.N, _)
theorem at_4 : ∀ (t : Fin cfg0.N) (a : Fin 2), win0_4.index t a = 0 := (by decide +kernel : ∀ (t : Fin grid0.N) (a : Fin 2), _)
theorem at_5 : ∀ (t : Fin cfg0.N) (a : Fin 2), win0_5.index t a = 0 := (by decide +kernel : ∀ (t : Fin grid0.N) (a : Fin 2), _)
theorem at_6 : ∀ (t : Fin cfg0.N) (a : Fin 2), win0_6.index t a = 0 := (by decide +kernel : ∀ (t : Fin grid0.N) (a : Fin 2), _)
theorem at_7 : ∀ (t : Fin cfg0.N) (a : Fin 2), win0_7.index t a = 0 := (by decide +kernel : ∀ (t : Fin grid0.N) (a : Fin 2), _)
theorem at_8 : ∀ t : Fin cfg0.N, win0_8.index t 0 = t.val ∧ win0_8.index t 1 = 0 := (by decide +kernel : ∀ t : Fin grid0.N, _)
theorem at_9 : ∀ t : Fin cfg0.N, win0_9.index t 0 = t.val ∧ win0_9.index t 1 = 0 := (by decide +kernel : ∀ t : Fin grid0.N, _)
theorem at_10 : ∀ t : Fin cfg0.N, win0_10.index t 0 = t.val ∧ win0_10.index t 1 = 0 := (by decide +kernel : ∀ t : Fin grid0.N, _)

/-! The body at an index. -/

section

variable (x0 : Vec Ideal S512x1024 .bf16) (x1 : Vec Ideal S1024x1024 .bf16) (x2 : Vec Ideal S1x1024 .f32) (x3 : Vec Ideal S512x1024 .f32) (x4 : Vec Ideal S1x1024 .f32) (x5 : Vec Ideal S1x1024 .f32) (x6 : Vec Ideal S1x1024 .f32) (x7 : Vec Ideal S1x1024 .f32)

/-- The same in one block. -/
def part (r : Fin 512) : Parts := ⟨fun k => x0 (ix2 r k), fun k j => x1 (ix2 k j), fun j => x2 (ix2 (0 : Fin 1) j), fun k => x3 (ix2 r k), fun j => x4 (ix2 (0 : Fin 1) j), fun j => x5 (ix2 (0 : Fin 1) j), fun j => x6 (ix2 (0 : Fin 1) j), fun j => x7 (ix2 (0 : Fin 1) j)⟩

theorem out_8 (r : Fin 512) (j : Fin 1024) : out0_8 (F := Ideal) x0 x1 x2 x3 x4 x5 x6 x7 (ix2 r j) = F8 (part x0 x1 x2 x3 x4 x5 x6 x7 r) j := by
  unfold out0_8
  rw [View.canon_unit_zero hz2, View.ld_unit_zero (S := S512x1024) hz2, View.ld_unit_zero (S := S1024x1024) hz2, View.ld_unit_zero (S := S1x1024) hz2, View.ld_unit_zero (S := S512x1024) hz2, View.ld_unit_zero (S := S1x1024) hz2]
  dsimp only [F8, part]
  pointwise [k0_pay3, k0_pay2]

theorem out_9 (r : Fin 512) (j : Fin 1024) : out0_9 (F := Ideal) x0 x1 x2 x3 x4 x5 x6 x7 (ix2 r j) = F9 (part x0 x1 x2 x3 x4 x5 x6 x7 r) j := by
  unfold out0_9
  rw [View.canon_unit_zero hz2, View.ld_unit_zero (S := S512x1024) hz2, View.ld_unit_zero (S := S1024x1024) hz2, View.ld_unit_zero (S := S1x1024) hz2]
  dsimp only [F9, part]
  pointwise [k0_pay4, k0_pay2]

theorem out_10 (r : Fin 512) (j : Fin 1024) : out0_10 (F := Ideal) x0 x1 x2 x3 x4 x5 x6 x7 (ix2 r j) = F10 (part x0 x1 x2 x3 x4 x5 x6 x7 r) j := by
  unfold out0_10
  rw [View.canon_unit_zero hz2, View.ld_unit_zero (S := S512x1024) hz2, View.ld_unit_zero (S := S1024x1024) hz2, View.ld_unit_zero (S := S1x1024) hz2, View.ld_unit_zero (S := S512x1024) hz2, View.ld_unit_zero (S := S1x1024) hz2, View.ld_unit_zero (S := S1x1024) hz2, View.ld_unit_zero (S := S1x1024) hz2, View.ld_unit_zero (S := S1x1024) hz2]
  dsimp only [F10, part]
  unfold normed
  pointwise [k0_pay1, k0_pay5, k0_pay3, k0_pay2]

end

/-- A block has the array's parts. -/
theorem part_eq (t : Fin cfg0.N) (r : Fin 512) (R : Fin 8192) (hR : R.val = t.val * 512 + r.val) :
    part (iblk m c 0 t) (iblk m c 1 t) (iblk m c 2 t) (iblk m c 3 t) (iblk m c 4 t) (iblk m c 5 t) (iblk m c 6 t) (iblk m c 7 t) r = all m c R := by
  simp only [part, all, rows, Parts.mk.injEq]
  refine ⟨?_, ?_, ?_, ?_, ?_, ?_, ?_, ?_⟩ <;> funext k <;> (try funext j) <;>
    blk_ext [iblk, V, at_0, at_1, at_2, at_3, at_4, at_5, at_6, at_7, hR]

theorem final_8 : (dats m 0 c).arrAt 8 cfg0.N = g8 m c := by
  refine (dats m 0 c).arrAt_eq_of_covers 8 _ (by decide +kernel) fun t _ y => ?_
  obtain ⟨r, j, rfl⟩ : ∃ (r : Fin 512) (j : Fin 1024), y = ix2 r j := ⟨y 0, y 1, eq_ix2 y⟩
  blk_simp
  rw [after0_8, out_8, part_eq m c t r _ (by blk_simp [at_8] : (((win0_8.blk t).view.emb (ix2 r j)) 0).val = _)]
  exact congrArg (F8 _) (Fin.ext (by blk_simp [at_8]))

theorem final_9 : (dats m 0 c).arrAt 9 cfg0.N = g9 m c := by
  refine (dats m 0 c).arrAt_eq_of_covers 9 _ (by decide +kernel) fun t _ y => ?_
  obtain ⟨r, j, rfl⟩ : ∃ (r : Fin 512) (j : Fin 1024), y = ix2 r j := ⟨y 0, y 1, eq_ix2 y⟩
  blk_simp
  rw [after0_9, out_9, part_eq m c t r _ (by blk_simp [at_9] : (((win0_9.blk t).view.emb (ix2 r j)) 0).val = _)]
  exact congrArg (F9 _) (Fin.ext (by blk_simp [at_9]))

theorem final_10 : (dats m 0 c).arrAt 10 cfg0.N = g10 m c := by
  refine (dats m 0 c).arrAt_eq_of_covers 10 _ (by decide +kernel) fun t _ y => ?_
  obtain ⟨r, j, rfl⟩ : ∃ (r : Fin 512) (j : Fin 1024), y = ix2 r j := ⟨y 0, y 1, eq_ix2 y⟩
  blk_simp
  rw [after0_10, out_10, part_eq m c t r _ (by blk_simp [at_10] : (((win0_10.blk t).view.emb (ix2 r j)) 0).val = _)]
  exact congrArg (F10 _) (Fin.ext (by blk_simp [at_10]))

/-! ## The reference -/

section

variable (x0 : (⟨Cert.Reference11Ideal.S8192x1024, .bf16⟩ : BufTy).Contents (Elt Ideal)) (x1 : (⟨Cert.Reference11Ideal.S1024x1024, .bf16⟩ : BufTy).Contents (Elt Ideal)) (x2 : (⟨Cert.Reference11Ideal.S1x1024, .f32⟩ : BufTy).Contents (Elt Ideal)) (x3 : (⟨Cert.Reference11Ideal.S8192x1024, .f32⟩ : BufTy).Contents (Elt Ideal)) (x4 : (⟨Cert.Reference11Ideal.S1x1024, .f32⟩ : BufTy).Contents (Elt Ideal)) (x5 : (⟨Cert.Reference11Ideal.S1x1024, .f32⟩ : BufTy).Contents (Elt Ideal)) (x6 : (⟨Cert.Reference11Ideal.S1x1024, .f32⟩ : BufTy).Contents (Elt Ideal)) (x7 : (⟨Cert.Reference11Ideal.S1x1024, .f32⟩ : BufTy).Contents (Elt Ideal))

theorem ref_8 (r : Fin 8192) (j : Fin 1024) : val_main_v7 (F := Ideal) x0 x1 x2 x3 x4 (ix2 r j) = F8 (rows x0 x1 x2 x3 x4 x5 x6 x7 r) j := by
  dsimp only [F8, rows]
  pointwise [val_main_v7, val_main_v6, val_main_v5, val_main_v4, val_main_v2, val_main_v3, val_main_v0, val_main_v1]

theorem ref_9 (r : Fin 8192) (j : Fin 1024) : val_main_v8 (F := Ideal) x0 x1 x2 (ix2 r j) = F9 (rows x0 x1 x2 x3 x4 x5 x6 x7 r) j := by
  dsimp only [F9, rows]
  pointwise [val_main_v8, val_main_v4, val_main_v2, val_main_v3, val_main_v0, val_main_v1]

theorem ref_10 (r : Fin 8192) (j : Fin 1024) : val_main_v27 (F := Ideal) x0 x1 x2 x3 x4 x5 x6 x7 (ix2 r j) = F10 (rows x0 x1 x2 x3 x4 x5 x6 x7 r) j := by
  dsimp only [F10, rows]
  unfold normed
  pointwise [val_main_v27, val_main_v26, val_main_v24, val_main_v25, val_main_v20, val_main_v23, val_main_v18, val_main_v19, val_main_v22, val_main_v7, val_main_v17, val_main_v21, val_main_v6, val_main_v16, val_main_cst_2, val_main_v5, val_main_v4, val_main_v15, val_main_v2, val_main_v3, val_main_v13, val_main_v14, val_main_v0, val_main_v1, val_main_v11, val_main_v12, val_main_cst_1, val_main_v10, val_main_cst_0, val_main_v9, val_main_cst]

end

theorem eq_8 : g8 m c = val_main_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun x => by
  obtain ⟨i, j, rfl⟩ : ∃ (i : Fin 8192) (j : Fin 1024), x = ix2 i j := ⟨x 0, x 1, eq_ix2 x⟩
  exact (ref_8 _ _ _ _ _ _ _ _ i j).symm

theorem eq_9 : g9 m c = val_main_v8 (F := Ideal) (m ((c.tc : Thread nD τ).loc main_arg0)) (m ((c.tc : Thread nD τ).loc main_arg1)) (m ((c.tc : Thread nD τ).loc main_arg2)) := funext fun x => by
  obtain ⟨i, j, rfl⟩ : ∃ (i : Fin 8192) (j : Fin 1024), x = ix2 i j := ⟨x 0, x 1, eq_ix2 x⟩
  exact (ref_9 _ _ _ _ _ _ _ _ i j).symm

theorem eq_10 : g10 m c = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := funext fun x => by
  obtain ⟨i, j, rfl⟩ : ∃ (i : Fin 8192) (j : Fin 1024), x = ix2 i j := ⟨x 0, x 1, eq_ix2 x⟩
  exact (ref_10 _ _ _ _ _ _ _ _ i j).symm

/-! ## The claim -/

theorem algebraic : Cert.algebraic_Kernel11Ideal_Reference11Ideal (hKernel11Ideal := Cert.Kernel11Ideal.Gen.facts) (hReference11Ideal := Cert.Reference11Ideal.Gen.facts) := by
  intro m ρ m' ρ' _ hargs
  refine ⟨fun c => g8 m c, fun c => g9 m c, fun c => g10 m c, ?_, ?_⟩
  · refine (θ_run defs _ _).mono (fun _ h c => ?_) (run_blocks m ρ)
    exact ⟨(h c).1.trans (final_8 m c), (h c).2.1.trans (final_9 m c), (h c).2.2.1.trans (final_10 m c), (h c).2.2.2⟩
  refine (θ_run Cert.Reference11Ideal.defs _ _).mono (fun _ h c => ?_) (Cert.Reference11Ideal.Value.run (F := Ideal) m' ρ')
  obtain ⟨k0, k1, k2, k3, k4, k5, k6, k7⟩ := hargs c
  obtain ⟨e0, e1, e2, a⟩ := h c
  refine ⟨e0.trans ((val_main_v7_eq _ _ _ _ _).trans ?_), e1.trans ((val_main_v8_eq _ _ _).trans ?_), e2.trans ((val_main_v27_eq _ _ _ _ _ _ _ _).trans ?_), a⟩
  · refine Eq.trans ?_ (eq_8 m c).symm
    rw [← k0, ← k1, ← k2, ← k3, ← k4]
  · refine Eq.trans ?_ (eq_9 m c).symm
    rw [← k0, ← k1, ← k2]
  · refine Eq.trans ?_ (eq_10 m c).symm
    rw [← k0, ← k1, ← k2, ← k3, ← k4, ← k5, ← k6, ← k7]

/-- The reference: its arguments unchanged; it has no counters. -/
theorem frame_ri : Cert.quiescent_Reference11Ideal (hReference11Ideal := Cert.Reference11Ideal.Gen.facts) := fun m ρ _ =>
  (θ_run Cert.Reference11Ideal.defs _ _).mono (fun r h => ⟨fun c => (h c).2.2.2, sem_eq_zero_of_no_sems (by decide) r.2⟩)
    (Cert.Reference11Ideal.Value.run (F := Ideal) m ρ)

end Cert.Kernel11Ideal.Proj

end
-- ==== Proof.Back12.lean ====
/- The gradient of a projection in its input: the product of the gradient of its output and the transposed weights,
   one block of 512 rows at a time. -/
module

public import proofs.«01_k».proof.Defs
public import proofs.«01_k».proof.Proof.Blocks
public import proofs.«01_k».proof.Proof.Gen.Kernel12Ideal
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel12Ideal.Rows

open Idealize.ShloMosaic Idealize.ShloMosaic.TcCoe
open Cert.Kernel12Ideal Cert.Kernel12Ideal.Gen Cert.Kernel12Ideal.Value Cert.Blocks
open Cert.Reference12Ideal.Read

/-- The parts of the arguments that an entry of the results is computed from. -/
structure Parts where
  dy : Fin 1024 → EReal
  w : Fin 1024 → Fin 1024 → EReal

/-- The results at an index. -/
def F2 (p : Parts) (j : Fin 1024) : EReal := ∑ k, p.dy k * p.w j k

section

variable (x0 : (⟨Cert.Reference12Ideal.S8192x1024, .bf16⟩ : BufTy).Contents (Elt Ideal)) (x1 : (⟨Cert.Reference12Ideal.S1024x1024, .bf16⟩ : BufTy).Contents (Elt Ideal))

/-- The parts that row `r` of the results is computed from, in whole arrays. -/
def rows (r : Fin 8192) : Parts := ⟨fun k => x0 (ix2 r k), fun k j => x1 (ix2 k j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) r
def g2 : Buf (Elt Ideal) ((c : Thread nD τ).loc main_v0) := fun i => F2 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)

/-! The body at an index. -/

section

variable (x0 : Vec Ideal S512x1024 .bf16) (x1 : Vec Ideal S1024x1024 .bf16)

/-- The same in one block. -/
def part (r : Fin 512) : Parts := ⟨fun k => x0 (ix2 r k), fun k j => x1 (ix2 k j)⟩

theorem out_2 (r : Fin 512) (j : Fin 1024) : out0_2 (F := Ideal) x0 x1 (ix2 r j) = F2 (part x0 x1 r) j := by
  unfold out0_2
  rw [View.canon_unit_zero hz2, View.ld_unit_zero (S := S512x1024) hz2, View.ld_unit_zero (S := S1024x1024) hz2]
  dsimp only [F2, part]
  pointwise [k0_pay1]

end

/-- A block has the array's parts. -/
theorem part_eq (t : Fin cfg0.N) (r : Fin 512) (R : Fin 8192) (hR : R.val = t.val * 512 + r.val) :
    part (iblk m c 0 t) (iblk m c 1 t) r = all m c R := by
  simp only [part, all, rows, Parts.mk.injEq]
  refine ⟨?_, ?_⟩ <;> funext k <;> (try funext j) <;>
    blk_ext [iblk, V, at_0, at_1, hR]

theorem final_2 : (dats m 0 c).arrAt 2 cfg0.N = g2 m c := by
  refine (dats m 0 c).arrAt_eq_of_covers 2 _ (by decide +kernel) fun t _ y => ?_
  obtain ⟨r, j, rfl⟩ : ∃ (r : Fin 512) (j : Fin 1024), y = ix2 r j := ⟨y 0, y 1, eq_ix2 y⟩
  blk_simp
  rw [after0_2, out_2, part_eq m c t r _ (by blk_simp [at_2] : (((win0_2.blk t).view.emb (ix2 r j)) 0).val = _)]
  exact congrArg (F2 _) (Fin.ext (by blk_simp [at_2]))

/-! ## The reference -/

section

variable (x0 : (⟨Cert.Reference12Ideal.S8192x1024, .bf16⟩ : BufTy).Contents (Elt Ideal)) (x1 : (⟨Cert.Reference12Ideal.S1024x1024, .bf16⟩ : BufTy).Contents (Elt Ideal))

theorem ref_2 (r : Fin 8192) (j : Fin 1024) : val_main_v4 (F := Ideal) x0 x1 (ix2 r j) = F2 (rows x0 x1 r) j := by
  dsimp only [F2, rows]
  pointwise [val_main_v4, val_main_v3, val_main_v1]

end

theorem eq_2 : g2 m c = val_main_v4 (F := Ideal) (m ((c.tc : Thread nD τ).loc main_arg0)) (m ((c.tc : Thread nD τ).loc main_arg1)) := funext fun x => by
  obtain ⟨i, j, rfl⟩ : ∃ (i : Fin 8192) (j : Fin 1024), x = ix2 i j := ⟨x 0, x 1, eq_ix2 x⟩
  exact (ref_2 _ _ i j).symm

/-! ## The claim -/

theorem algebraic : Cert.algebraic_Kernel12Ideal_Reference12Ideal (hKernel12Ideal := Cert.Kernel12Ideal.Gen.facts) (hReference12Ideal := Cert.Reference12Ideal.Gen.facts) := by
  intro m ρ m' ρ' _ hargs
  refine ⟨fun c => g2 m c, ?_, ?_⟩
  · refine (θ_run defs _ _).mono (fun _ h c => ?_) (run_blocks m ρ)
    exact ⟨(h c).1.trans (final_2 m c), (h c).2⟩
  refine (θ_run Cert.Reference12Ideal.defs _ _).mono (fun _ h c => ?_) (Cert.Reference12Ideal.Value.run (F := Ideal) m' ρ')
  obtain ⟨k0, k1⟩ := hargs c
  obtain ⟨e0, a⟩ := h c
  refine ⟨e0.trans ((val_main_v4_eq _ _).trans ?_), a⟩
  · refine Eq.trans ?_ (eq_2 m c).symm
    rw [← k0, ← k1]

/-- The reference: its arguments unchanged; it has no counters. -/
theorem frame_ri : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Kernel12Ideal.Rows

end
-- ==== Proof.Back13.lean ====
/- The gradient of the attention layer's last projection in its input: the product of the gradient of its output and the
   transposed weights, one block of 512 rows at a time. -/
module

public import proofs.«01_k».proof.Defs
public import proofs.«01_k».proof.Proof.Blocks
public import proofs.«01_k».proof.Proof.Gen.Kernel13Ideal
public import proofs.«01_k».proof.Proof.Gen.Kernel13Ideal.Value
public import proofs.«01_k».proof.Proof.Gen.Reference13Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel13Ideal.Rows

open Idealize.ShloMosaic Idealize.ShloMosaic.TcCoe
open Cert.Kernel13Ideal Cert.Kernel13Ideal.Gen Cert.Kernel13Ideal.Value Cert.Blocks
open Cert.Reference13Ideal.Read

/-- The parts of the arguments that an entry of the results is computed from. -/
structure Parts where
  dy : Fin 1024 → EReal
  w : Fin 1024 → Fin 1024 → EReal

/-- The results at an index. -/
def F2 (p : Parts) (j : Fin 1024) : EReal := ∑ k, p.dy k * p.w j k

section

variable (x0 : (⟨Cert.Reference13Ideal.S8192x1024, .bf16⟩ : BufTy).Contents (Elt Ideal)) (x1 : (⟨Cert.Reference13Ideal.S1024x1024, .bf16⟩ : BufTy).Contents (Elt Ideal))

/-- The parts that row `r` of the results is computed from, in whole arrays. -/
def rows (r : Fin 8192) : Parts := ⟨fun k => x0 (ix2 r k), fun k j => x1 (ix2 k j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) r
def g2 : Buf (Elt Ideal) ((c : Thread nD τ).loc main_v0) := fun i => F2 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)

/-! The body at an index. -/

section

variable (x0 : Vec Ideal S512x1024 .bf16) (x1 : Vec Ideal S1024x1024 .bf16)

/-- The same in one block. -/
def part (r : Fin 512) : Parts := ⟨fun k => x0 (ix2 r k), fun k j => x1 (ix2 k j)⟩

theorem out_2 (r : Fin 512) (j : Fin 1024) : out0_2 (F := Ideal) x0 x1 (ix2 r j) = F2 (part x0 x1 r) j := by
  unfold out0_2
  rw [View.canon_unit_zero hz2, View.ld_unit_zero (S := S512x1024) hz2, View.ld_unit_zero (S := S1024x1024) hz2]
  dsimp only [F2, part]
  pointwise [k0_pay1]

end

/-- A block has the array's parts. -/
theorem part_eq (t : Fin cfg0.N) (r : Fin 512) (R : Fin 8192) (hR : R.val = t.val * 512 + r.val) :
    part (iblk m c 0 t) (iblk m c 1 t) r = all m c R := by
  simp only [part, all, rows, Parts.mk.injEq]
  refine ⟨?_, ?_⟩ <;> funext k <;> (try funext j) <;>
    blk_ext [iblk, V, at_0, at_1, hR]

theorem final_2 : (dats m 0 c).arrAt 2 cfg0.N = g2 m c := by
  refine (dats m 0 c).arrAt_eq_of_covers 2 _ (by decide +kernel) fun t _ y => ?_
  obtain ⟨r, j, rfl⟩ : ∃ (r : Fin 512) (j : Fin 1024), y = ix2 r j := ⟨y 0, y 1, eq_ix2 y⟩
  blk_simp
  rw [after0_2, out_2, part_eq m c t r _ (by blk_simp [at_2] : (((win0_2.blk t).view.emb (ix2 r j)) 0).val = _)]
  exact congrArg (F2 _) (Fin.ext (by blk_simp [at_2]))

/-! ## The reference -/

section

variable (x0 : (⟨Cert.Reference13Ideal.S8192x1024, .bf16⟩ : BufTy).Contents (Elt Ideal)) (x1 : (⟨Cert.Reference13Ideal.S1024x1024, .bf16⟩ : BufTy).Contents (Elt Ideal))

theorem ref_2 (r : Fin 8192) (j : Fin 1024) : val_main_v5 (F := Ideal) x0 x1 (ix2 r j) = F2 (rows x0 x1 r) j := by
  dsimp only [F2, rows]
  pointwise [val_main_v5, val_main_v4, val_main_v3, val_main_v1]

end

theorem eq_2 : g2 m c = val_main_v5 (F := Ideal) (m ((c.tc : Thread nD τ).loc main_arg0)) (m ((c.tc : Thread nD τ).loc main_arg1)) := funext fun x => by
  obtain ⟨i, j, rfl⟩ : ∃ (i : Fin 8192) (j : Fin 1024), x = ix2 i j := ⟨x 0, x 1, eq_ix2 x⟩
  exact (ref_2 _ _ i j).symm

/-! ## The claim -/

theorem algebraic : Cert.algebraic_Kernel13Ideal_Reference13Ideal (hKernel13Ideal := Cert.Kernel13Ideal.Gen.facts) (hReference13Ideal := Cert.Reference13Ideal.Gen.facts) := by
  intro m ρ m' ρ' _ hargs
  refine ⟨fun c => g2 m c, ?_, ?_⟩
  · refine (θ_run defs _ _).mono (fun _ h c => ?_) (run_blocks m ρ)
    exact ⟨(h c).1.trans (final_2 m c), (h c).2⟩
  refine (θ_run Cert.Reference13Ideal.defs _ _).mono (fun _ h c => ?_) (Cert.Reference13Ideal.Value.run (F := Ideal) m' ρ')
  obtain ⟨k0, k1⟩ := hargs c
  obtain ⟨e0, a⟩ := h c
  refine ⟨e0.trans ((val_main_v5_eq _ _).trans ?_), a⟩
  · refine Eq.trans ?_ (eq_2 m c).symm
    rw [← k0, ← k1]

/-- The reference: its arguments unchanged; it has no counters. -/
theorem frame_ri : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Kernel13Ideal.Rows

end
-- ==== Proof.Qkv14.lean ====
/- The attention layer's first projection: a product and a bias, one block of 512 rows at a time. -/
module

public import proofs.«01_k».proof.Defs
public import proofs.«01_k».proof.Proof.Blocks
public import proofs.«01_k».proof.Proof.Gen.Kernel14Ideal
public import proofs.«01_k».proof.Proof.Gen.Kernel14Ideal.Value
public import proofs.«01_k».proof.Proof.Gen.Reference14Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel14Ideal.Rows

open Idealize.ShloMosaic Idealize.ShloMosaic.TcCoe
open Cert.Kernel14Ideal Cert.Kernel14Ideal.Gen Cert.Kernel14Ideal.Value Cert.Blocks
open Cert.Reference14Ideal.Read

/-- The parts of the arguments that an entry of the results is computed from. -/
structure Parts where
  h : Fin 1024 → EReal
  w : Fin 1280 → Fin 1024 → EReal
  b : Fin 1280 → EReal

/-- The results at an index. -/
def F3 (p : Parts) (j : Fin 1280) : EReal := (∑ k, p.h k * p.w j k) + p.b j

section

variable (x0 : (⟨Cert.Reference14Ideal.S8192x1024, .bf16⟩ : BufTy).Contents (Elt Ideal)) (x1 : (⟨Cert.Reference14Ideal.S1280x1024, .bf16⟩ : BufTy).Contents (Elt Ideal)) (x2 : (⟨Cert.Reference14Ideal.S1x1280, .f32⟩ : BufTy).Contents (Elt Ideal))

/-- The parts that row `r` of the results is computed from, in whole arrays. -/
def rows (r : Fin 8192) : Parts := ⟨fun k => x0 (ix2 r k), fun k j => x1 (ix2 k j), fun j => x2 (ix2 (0 : Fin 1) j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) r
def g3 : Buf (Elt Ideal) ((c : Thread nD τ).loc main_v0) := fun i => F3 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ (t : Fin cfg0.N) (a : Fin 2), win0_2.index t a = 0 := (by decide +kernel : ∀ (t : Fin grid0.N) (a : Fin 2), _)
theorem at_3 : ∀ t : Fin cfg0.N, win0_3.index t 0 = t.val ∧ win0_3.index t 1 = 0 := (by decide +kernel : ∀ t : Fin grid0.N, _)

/-! The body at an index. -/

section

variable (x0 : Vec Ideal S512x1024 .bf16) (x1 : Vec Ideal S1280x1024 .bf16) (x2 : Vec Ideal S1x1280 .f32)

/-- The same in one block. -/
def part (r : Fin 512) : Parts := ⟨fun k => x0 (ix2 r k), fun k j => x1 (ix2 k j), fun j => x2 (ix2 (0 : Fin 1) j)⟩

theorem out_3 (r : Fin 512) (j : Fin 1280) : out0_3 (F := Ideal) x0 x1 x2 (ix2 r j) = F3 (part x0 x1 x2 r) j := by
  unfold out0_3
  rw [View.canon_unit_zero hz2, View.ld_unit_zero (S := S512x1024) hz2, View.ld_unit_zero (S := S1280x1024) hz2, View.ld_unit_zero (S := S1x1280) hz2]
  dsimp only [F3, part]
  pointwise [k0_pay1]

end

/-- A block has the array's parts. -/
theorem part_eq (t : Fin cfg0.N) (r : Fin 512) (R : Fin 8192) (hR : R.val = t.val * 512 + r.val) :
    part (iblk m c 0 t) (iblk m c 1 t) (iblk m c 2 t) r = all m c R := by
  simp only [part, all, rows, Parts.mk.injEq]
  refine ⟨?_, ?_, ?_⟩ <;> funext k <;> (try funext j) <;>
    blk_ext [iblk, V, at_0, at_1, at_2, hR]

theorem final_3 : (dats m 0 c).arrAt 3 cfg0.N = g3 m c := by
  refine (dats m 0 c).arrAt_eq_of_covers 3 _ (by decide +kernel) fun t _ y => ?_
  obtain ⟨r, j, rfl⟩ : ∃ (r : Fin 512) (j : Fin 1280), y = ix2 r j := ⟨y 0, y 1, eq_ix2 y⟩
  blk_simp
  rw [after0_3, out_3, part_eq m c t r _ (by blk_simp [at_3] : (((win0_3.blk t).view.emb (ix2 r j)) 0).val = _)]
  exact congrArg (F3 _) (Fin.ext (by blk_simp [at_3]))

/-! ## The reference -/

section

variable (x0 : (⟨Cert.Reference14Ideal.S8192x1024, .bf16⟩ : BufTy).Contents (Elt Ideal)) (x1 : (⟨Cert.Reference14Ideal.S1280x1024, .bf16⟩ : BufTy).Contents (Elt Ideal)) (x2 : (⟨Cert.Reference14Ideal.S1x1280, .f32⟩ : BufTy).Contents (Elt Ideal))

theorem ref_3 (r : Fin 8192) (j : Fin 1280) : val_main_v6 (F := Ideal) x0 x1 x2 (ix2 r j) = F3 (rows x0 x1 x2 r) j := by
  dsimp only [F3, rows]
  pointwise [val_main_v6, val_main_v5, val_main_v3, val_main_v4, val_main_v0, val_main_v2, val_main_v1]

end

theorem eq_3 : g3 m c = val_main_v6 (F := Ideal) (m ((c.tc : Thread nD τ).loc main_arg0)) (m ((c.tc : Thread nD τ).loc main_arg1)) (m ((c.tc : Thread nD τ).loc main_arg2)) := funext fun x => by
  obtain ⟨i, j, rfl⟩ : ∃ (i : Fin 8192) (j : Fin 1280), x = ix2 i j := ⟨x 0, x 1, eq_ix2 x⟩
  exact (ref_3 _ _ _ i j).symm

/-! ## The claim -/

theorem algebraic : Cert.algebraic_Kernel14Ideal_Reference14Ideal (hKernel14Ideal := Cert.Kernel14Ideal.Gen.facts) (hReference14Ideal := Cert.Reference14Ideal.Gen.facts) := by
  intro m ρ m' ρ' _ hargs
  refine ⟨fun c => g3 m c, ?_, ?_⟩
  · refine (θ_run defs _ _).mono (fun _ h c => ?_) (run_blocks m ρ)
    exact ⟨(h c).1.trans (final_3 m c), (h c).2⟩
  refine (θ_run Cert.Reference14Ideal.defs _ _).mono (fun _ h c => ?_) (Cert.Reference14Ideal.Value.run (F := Ideal) m' ρ')
  obtain ⟨k0, k1, k2⟩ := hargs c
  obtain ⟨e0, a⟩ := h c
  refine ⟨e0.trans ((val_main_v6_eq _ _ _).trans ?_), a⟩
  · refine Eq.trans ?_ (eq_3 m c).symm
    rw [← k0, ← k1, ← k2]

/-- The reference: its arguments unchanged; it has no counters. -/
theorem frame_ri : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

end Cert.Kernel14Ideal.Rows

end
-- ==== Proof.Norm15.lean ====
/- The norm before the mixing layer: every row over its root mean square, times the norm's weights, modulated; one block of 512
   rows at a time. -/
module

public import proofs.«01_k».proof.Defs
public import proofs.«01_k».proof.Proof.Blocks
public import proofs.«01_k».proof.Proof.Gen.Kernel15Ideal
public import proofs.«01_k».proof.Proof.Gen.Kernel15Ideal.Value
public import proofs.«01_k».proof.Proof.Gen.Reference15Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel15Ideal.Norm

open Idealize.ShloMosaic Idealize.ShloMosaic.TcCoe
open Cert.Kernel15Ideal Cert.Kernel15Ideal.Gen Cert.Kernel15Ideal.Value Cert.Blocks
open Cert.Reference15Ideal.Read

/-- The parts of the arguments that an entry of the results is computed from. -/
structure Parts where
  x : Fin 1024 → EReal
  w : Fin 1024 → EReal
  sc : Fin 1024 → EReal
  sh : Fin 1024 → EReal

/-- The results at an index. -/
def F4 (p : Parts) (j : Fin 1024) : EReal := normed p.x p.w p.sc p.sh j

section

variable (x0 : (⟨Cert.Reference15Ideal.S8192x1024, .f32⟩ : BufTy).Contents (Elt Ideal)) (x1 : (⟨Cert.Reference15Ideal.S1x1024, .f32⟩ : BufTy).Contents (Elt Ideal)) (x2 : (⟨Cert.Reference15Ideal.S1x1024, .f32⟩ : BufTy).Contents (Elt Ideal)) (x3 : (⟨Cert.Reference15Ideal.S1x1024, .f32⟩ : BufTy).Contents (Elt Ideal))

/-- The parts that row `r` of the results is computed from, in whole arrays. -/
def rows (r : Fin 8192) : Parts := ⟨fun k => x0 (ix2 r k), fun j => x1 (ix2 (0 : Fin 1) j), fun j => x2 (ix2 (0 : Fin 1) j), fun j => x3 (ix2 (0 : Fin 1) j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) (m ((c.tc : Thread nD τ).loc main_arg2)) (m ((c.tc : Thread nD τ).loc main_arg3)) r
def g4 : Buf (Elt Ideal) ((c : Thread nD τ).loc main_v0) := fun i => F4 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ (t : Fin cfg0.N) (a : Fin 2), win0_2.index t a = 0 := (by decide +kernel : ∀ (t : Fin grid0.N) (a : Fin 2), _)
theorem at_3 : ∀ (t : Fin cfg0.N) (a : Fin 2), win0_3.index t a = 0 := (by decide +kernel : ∀ (t : Fin grid0.N) (a : Fin 2), _)
theorem at_4 : ∀ t : Fin cfg0.N, win0_4.index t 0 = t.val ∧ win0_4.index t 1 = 0 := (by decide +kernel : ∀ t : Fin grid0.N, _)

/-! The body at an index. -/

section

variable (x0 : Vec Ideal S512x1024 .f32) (x1 : Vec Ideal S1x1024 .f32) (x2 : Vec Ideal S1x1024 .f32) (x3 : Vec Ideal S1x1024 .f32)

/-- The same in one block. -/
def part (r : Fin 512) : Parts := ⟨fun k => x0 (ix2 r k), fun j => x1 (ix2 (0 : Fin 1) j), fun j => x2 (ix2 (0 : Fin 1) j), fun j => x3 (ix2 (0 : Fin 1) j)⟩

theorem out_4 (r : Fin 512) (j : Fin 1024) : out0_4 (F := Ideal) x0 x1 x2 x3 (ix2 r j) = F4 (part x0 x1 x2 x3 r) j := by
  unfold out0_4
  rw [View.canon_unit_zero hz2, View.ld_unit_zero (S := S512x1024) hz2, View.ld_unit_zero (S := S1x1024) hz2, View.ld_unit_zero (S := S1x1024) hz2, View.ld_unit_zero (S := S1x1024) hz2]
  dsimp only [F4, part]
  unfold normed
  pointwise [k0_pay1]

end

/-- A block has the array's parts. -/
theorem part_eq (t : Fin cfg0.N) (r : Fin 512) (R : Fin 8192) (hR : R.val = t.val * 512 + r.val) :
    part (iblk m c 0 t) (iblk m c 1 t) (iblk m c 2 t) (iblk m c 3 t) r = all m c R := by
  simp only [part, all, rows, Parts.mk.injEq]
  refine ⟨?_, ?_, ?_, ?_⟩ <;> funext k <;>
    blk_ext [iblk, V, at_0, at_1, at_2, at_3, hR]

theorem final_4 : (dats m 0 c).arrAt 4 cfg0.N = g4 m c := by
  refine (dats m 0 c).arrAt_eq_of_covers 4 _ (by decide +kernel) fun t _ y => ?_
  obtain ⟨r, j, rfl⟩ : ∃ (r : Fin 512) (j : Fin 1024), y = ix2 r j := ⟨y 0, y 1, eq_ix2 y⟩
  blk_simp
  rw [after0_4, out_4, part_eq m c t r _ (by blk_simp [at_4] : (((win0_4.blk t).view.emb (ix2 r j)) 0).val = _)]
  exact congrArg (F4 _) (Fin.ext (by blk_simp [at_4]))

/-! ## The reference -/

section

variable (x0 : (⟨Cert.Reference15Ideal.S8192x1024, .f32⟩ : BufTy).Contents (Elt Ideal)) (x1 : (⟨Cert.Reference15Ideal.S1x1024, .f32⟩ : BufTy).Contents (Elt Ideal)) (x2 : (⟨Cert.Reference15Ideal.S1x1024, .f32⟩ : BufTy).Contents (Elt Ideal)) (x3 : (⟨Cert.Reference15Ideal.S1x1024, .f32⟩ : BufTy).Contents (Elt Ideal))

theorem ref_4 (r : Fin 8192) (j : Fin 1024) : val_main_v18 (F := Ideal) x0 x1 x2 x3 (ix2 r j) = F4 (rows x0 x1 x2 x3 r) j := by
  dsimp only [F4, rows]
  unfold normed
  pointwise [val_main_v18, val_main_v17, val_main_v15, val_main_v16, val_main_v11, val_main_v14, val_main_v9, val_main_v10, val_main_v13, val_main_v8, val_main_v12, val_main_v7, val_main_cst_2, val_main_v6, val_main_v4, val_main_v5, val_main_v2, val_main_v3, val_main_cst_1, val_main_v1, val_main_cst_0, val_main_v0, val_main_cst]

end

theorem eq_4 : g4 m c = val_main_v18 (F := Ideal) (m ((c.tc : Thread nD τ).loc main_arg0)) (m ((c.tc : Thread nD τ).loc main_arg1)) (m ((c.tc : Thread nD τ).loc main_arg2)) (m ((c.tc : Thread nD τ).loc main_arg3)) := funext fun x => by
  obtain ⟨i, j, rfl⟩ : ∃ (i : Fin 8192) (j : Fin 1024), x = ix2 i j := ⟨x 0, x 1, eq_ix2 x⟩
  exact (ref_4 _ _ _ _ i j).symm

/-! ## The claim -/

theorem algebraic : Cert.algebraic_Kernel15Ideal_Reference15Ideal (hKernel15Ideal := Cert.Kernel15Ideal.Gen.facts) (hReference15Ideal := Cert.Reference15Ideal.Gen.facts) := by
  intro m ρ m' ρ' _ hargs
  refine ⟨fun c => g4 m c, ?_, ?_⟩
  · refine (θ_run defs _ _).mono (fun _ h c => ?_) (run_blocks m ρ)
    exact ⟨(h c).1.trans (final_4 m c), (h c).2⟩
  refine (θ_run Cert.Reference15Ideal.defs _ _).mono (fun _ h c => ?_) (Cert.Reference15Ideal.Value.run (F := Ideal) m' ρ')
  obtain ⟨k0, k1, k2, k3⟩ := hargs c
  obtain ⟨e0, a⟩ := h c
  refine ⟨e0.trans ((val_main_v18_eq _ _ _ _).trans ?_), a⟩
  · refine Eq.trans ?_ (eq_4 m c).symm
    rw [← k0, ← k1, ← k2, ← k3]

/-- The reference: its arguments unchanged; it has no counters. -/
theorem frame_ri : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.Kernel15Ideal.Norm

end
-- ==== Proof.Weights16.lean ====
/- The gradient of the attention's first projection in its keys' (or values') weights: the product of two arrays over their
   rows, in blocks of 1024 rows added up in the result, is the product over all rows. -/
module

public import proofs.«01_k».proof.Defs
public import proofs.«01_k».proof.Proof.Blocks
public import proofs.«01_k».proof.Proof.Gen.Kernel16Ideal
public import proofs.«01_k».proof.Proof.Gen.Kernel16Ideal.Value
public import proofs.«01_k».proof.Proof.Gen.Reference16Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel16Ideal.Weights

open Idealize.ShloMosaic Idealize.ShloMosaic.TcCoe
open Cert.Kernel16Ideal Cert.Kernel16Ideal.Gen Cert.Kernel16Ideal.Value Cert.Blocks
open Cert.Reference16Ideal.Read

variable (m : (ℓ : Loc nD τ sig) → Buf (Elt Ideal) ℓ) (c : Dev nD)

/-- The left factor and the right one, row by row. -/
abbrev A (r : Fin 8192) (i : Fin 128) : EReal := m ((c.tc : Thread nD τ).loc main_arg0) (ix2 r i)
abbrev B (r : Fin 8192) (j : Fin 1024) : EReal := m ((c.tc : Thread nD τ).loc main_arg1) (ix2 r j)

/-- Which blocks point `t` reads: block `t % 8` of the rows, and of the left factor's columns block `t / 8`. -/
theorem at_0 : ∀ t : Fin cfg0.N, win0_0.index t 0 = t.val % 8 ∧ win0_0.index t 1 = t.val / 8 := (by decide +kernel : ∀ t : Fin grid0.N, _)
theorem at_1 : ∀ t : Fin cfg0.N, win0_1.index t 0 = t.val % 8 ∧ win0_1.index t 1 = 0 := (by decide +kernel : ∀ t : Fin grid0.N, _)

theorem read_0 (t : Fin cfg0.N) (r : Fin 1024) (y : Fin 128) (R : Fin 8192) (i : Fin 128) (hR : R.val = t.val % 8 * 1024 + r.val) (hi : i.val = t.val / 8 * 128 + y.val) :
    iblk m c 0 t (ix2 r y) = A m c R i := by
  blk_ext [iblk, V, at_0, hR, hi]

theorem read_1 (t : Fin cfg0.N) (r : Fin 1024) (y : Fin 1024) (R : Fin 8192) (hR : R.val = t.val % 8 * 1024 + r.val) :
    iblk m c 1 t (ix2 r y) = B m c R y := by
  blk_ext [iblk, V, at_1, hR]

/-- One point's step: what was there, and the product of the two blocks over their rows. -/
theorem step (v : Vec Ideal S128x1024 .f32) (x : Vec Ideal S1024x128 .bf16) (y : Vec Ideal S1024x1024 .bf16) (i : Fin 128) (j : Fin 1024) :
    k0_pay2 (F := Ideal) v x y (ix2 i j) = v (ix2 i j) + ∑ r : Fin 1024, x (ix2 r i) * y (ix2 r j) := by
  pointwise [k0_pay2]

theorem start (i : Fin 128) (j : Fin 1024) : k0_pay1 (F := Ideal) (ix2 i j) = 0 := by
  pointwise [k0_pay1]

/-- What point `n` adds at an index of its block. -/
def part (n : ℕ) (x : S128x1024.Idx) : EReal := added 128 (A m c) (B m c) n (x 0).val (x 1)

theorem add_eq (n : ℕ) (h : n < cfg0.N) (v : Vec Ideal S128x1024 .f32) (i : Fin 128) (j : Fin 1024) :
    k0_pay2 (F := Ideal) v (iblk m c 0 ⟨n, h⟩) (iblk m c 1 ⟨n, h⟩) (ix2 i j) = v (ix2 i j) + part m c n (ix2 i j) := by
  have hn : n < 8 := lt_of_lt_of_eq h (show cfg0.N = 8 from N_0)
  rw [step]
  refine congrArg (v (ix2 i j) + ·) (Eq.trans ?_ (dif_pos (show n / 8 * 128 + i.val < 128 by omega)).symm)
  exact Finset.sum_congr rfl fun r _ => congrArg₂ (· * ·) (read_0 m c _ r i _ _ rfl rfl) (read_1 m c _ r j _ rfl)

theorem folded (b j : ℕ) (hj : j ≤ 7) (h : b + j < cfg0.N) (x : S128x1024.Idx) :
    Pipeline.accAt (reset2 m c) (step2 m c) b j h x = 0 + ∑ s ∈ Finset.range (j + 1), part m c (b + s) x := by
  refine Pipeline.accAt_add_apply (reset2 m c) (step2 m c) (fun _ => (0 : EReal)) (part m c) b 7 ?_ ?_ j hj h x
  · intro h x
    rw [eq_ix2 x]
    exact (add_eq m c b h _ _ _).trans (congrArg (· + _) (start _ _))
  · intro n h v x _ _
    rw [eq_ix2 x]
    exact add_eq m c n h v _ _

/-- The array that the kernel leaves is the product over all rows. -/
theorem whole (i : Fin 128) (j : Fin 1024) : G2 m c (ix2 i j) = ∑ r : Fin 8192, A m c r i * B m c r j := by
  have hrun : run2Of (ix2 i j) = i.val / 128 := by
    show 1 * (i.val / 128 - 0) + 1 * (j.val / 1024 - 0) = _
    omega
  have hb : 8 * run2Of (ix2 i j) + 7 < cfg0.N := by
    rw [show cfg0.N = 8 from N_0, hrun]; omega
  have e : G2 m c (ix2 i j) = Pipeline.accAt (reset2 m c) (step2 m c) (8 * run2Of (ix2 i j)) 7 hb (loc2Of (ix2 i j)) := dif_pos hb
  refine e.trans ((folded m c _ 7 (le_refl 7) hb _).trans ?_)
  rw [zero_add]
  refine (added_total 128 (A m c) (B m c) _ _ _ (by rw [hrun]; show i.val / 128 * 128 + i.val % 128 < 128; omega)).trans ?_
  refine Finset.sum_congr rfl fun r _ => congrArg₂ (· * ·) (congrArg (A m c r) (Fin.ext ?_)) (congrArg (B m c r) (Fin.ext ?_))
  · show run2Of (ix2 i j) * 128 + i.val % 128 = i.val; rw [hrun]; omega
  · show j.val % 1024 = j.val; omega

theorem ref_at (x0 : (⟨Cert.Reference16Ideal.S8192x128, .bf16⟩ : BufTy).Contents (Elt Ideal)) (x1 : (⟨Cert.Reference16Ideal.S8192x1024, .bf16⟩ : BufTy).Contents (Elt Ideal)) (i : Fin 128) (j : Fin 1024) :
    val_main_v5 (F := Ideal) x0 x1 (ix2 i j) = ∑ r : Fin 8192, x1 (ix2 r j) * x0 (ix2 r i) := by
  pointwise [val_main_v5, val_main_v4, val_main_v3, val_main_v1]

theorem eq_ref : G2 m c = val_main_v5 (F := Ideal) (m ((c.tc : Thread nD τ).loc main_arg0)) (m ((c.tc : Thread nD τ).loc main_arg1)) := funext fun x => by
  obtain ⟨i, j, rfl⟩ : ∃ (i : Fin 128) (j : Fin 1024), x = ix2 i j := ⟨x 0, x 1, eq_ix2 x⟩
  rw [whole]
  exact (Finset.sum_congr rfl fun r _ => mul_comm _ _).trans (ref_at _ _ i j).symm

theorem algebraic : Cert.algebraic_Kernel16Ideal_Reference16Ideal (hKernel16Ideal := Cert.Kernel16Ideal.Gen.facts) (hReference16Ideal := Cert.Reference16Ideal.Gen.facts) := by
  intro m ρ m' ρ' _ hargs
  refine ⟨fun c => G2 m c, run m ρ, ?_⟩
  refine (θ_run Cert.Reference16Ideal.defs _ _).mono (fun _ h c => ?_) (Cert.Reference16Ideal.Value.run (F := Ideal) m' ρ')
  obtain ⟨k0, k1⟩ := hargs c
  obtain ⟨e, a0, a1⟩ := h c
  refine ⟨e.trans ((val_main_v5_eq _ _).trans ?_), a0, a1⟩
  refine Eq.trans ?_ (eq_ref m c).symm
  rw [← k0, ← k1]

/-- The reference: its arguments unchanged; it has no counters. -/
theorem frame_ri : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

end Cert.Kernel16Ideal.Weights

end
-- ==== Proof.Dt17.lean ====
/- The mixing layer's first projection, the time steps' part: a product, one block of 512 rows at a time. -/
module

public import proofs.«01_k».proof.Defs
public import proofs.«01_k».proof.Proof.Blocks
public import proofs.«01_k».proof.Proof.Gen.Kernel17Ideal
public import proofs.«01_k».proof.Proof.Gen.Kernel17Ideal.Value
public import proofs.«01_k».proof.Proof.Gen.Reference17Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel17Ideal.Rows

open Idealize.ShloMosaic Idealize.ShloMosaic.TcCoe
open Cert.Kernel17Ideal Cert.Kernel17Ideal.Gen Cert.Kernel17Ideal.Value Cert.Blocks
open Cert.Reference17Ideal.Read

/-- The parts of the arguments that an entry of the results is computed from. -/
structure Parts where
  h : Fin 1024 → EReal
  w : Fin 128 → Fin 1024 → EReal

/-- The results at an index. -/
def F2 (p : Parts) (j : Fin 128) : EReal := ∑ k, p.h k * p.w j k

section

variable (x0 : (⟨Cert.Reference17Ideal.S8192x1024, .bf16⟩ : BufTy).Contents (Elt Ideal)) (x1 : (⟨Cert.Reference17Ideal.S128x1024, .bf16⟩ : BufTy).Contents (Elt Ideal))

/-- The parts that row `r` of the results is computed from, in whole arrays. -/
def rows (r : Fin 8192) : Parts := ⟨fun k => x0 (ix2 r k), fun k j => x1 (ix2 k j)⟩

end

variable (m : (ℓ : Loc nD τ sig) → Buf (Elt Ideal) ℓ) (c : Dev nD)

/-- The results. -/
def all (r : Fin 8192) : Parts := rows (m ((c.tc : Thread nD τ).loc main_arg0)) (m ((c.tc : Thread nD τ).loc main_arg1)) r
def g2 : Buf (Elt Ideal) ((c : Thread nD τ).loc main_v0) := fun i => F2 (all m c (i 0)) (i 1)

/-- Which blocks point `t` reads and writes. -/
theorem at_0 : ∀ t : Fin cfg0.N, win0_0.index t 0 = t.val ∧ win0_0.index t 1 = 0 := (by decide +kernel : ∀ t : Fin grid0.N, _)
theorem at_1 : ∀ (t : Fin cfg0.N) (a : Fin 2), win0_1.index t a = 0 := (by decide +kernel : ∀ (t : Fin grid0.N) (a : Fin 2), _)
theorem at_2 : ∀ t : Fin cfg0.N, win0_2.index t 0 = t.val ∧ win0_2.index t 1 = 0 := (by decide +kernel : ∀ t : Fin grid0.N, _)

/-! The body at an index. -/

section

variable (x0 : Vec Ideal S512x1024 .bf16) (x1 : Vec Ideal S128x1024 .bf16)

/-- The same in one block. -/
def part (r : Fin 512) : Parts := ⟨fun k => x0 (ix2 r k), fun k j => x1 (ix2 k j)⟩

theorem out_2 (r : Fin 512) (j : Fin 128) : out0_2 (F := Ideal) x0 x1 (ix2 r j) = F2 (part x0 x1 r) j := by
  unfold out0_2
  rw [View.canon_unit_zero hz2, View.ld_unit_zero (S := S512x1024) hz2, View.ld_unit_zero (S := S128x1024) hz2]
  dsimp only [F2, part]
  pointwise [k0_pay1]

end

/-- A block has the array's parts. -/
theorem part_eq (t : Fin cfg0.N) (r : Fin 512) (R : Fin 8192) (hR : R.val = t.val * 512 + r.val) :
    part (iblk m c 0 t) (iblk m c 1 t) r = all m c R := by
  simp only [part, all, rows, Parts.mk.injEq]
  refine ⟨?_, ?_⟩ <;> funext k <;> (try funext j) <;>
    blk_ext [iblk, V, at_0, at_1, hR]

theorem final_2 : (dats m 0 c).arrAt 2 cfg0.N = g2 m c := by
  refine (dats m 0 c).arrAt_eq_of_covers 2 _ (by decide +kernel) fun t _ y => ?_
  obtain ⟨r, j, rfl⟩ : ∃ (r : Fin 512) (j : Fin 128), y = ix2 r j := ⟨y 0, y 1, eq_ix2 y⟩
  blk_simp
  rw [after0_2, out_2, part_eq m c t r _ (by blk_simp [at_2] : (((win0_2.blk t).view.emb (ix2 r j)) 0).val = _)]
  exact congrArg (F2 _) (Fin.ext (by blk_simp [at_2]))

/-! ## The reference -/

section

variable (x0 : (⟨Cert.Reference17Ideal.S8192x1024, .bf16⟩ : BufTy).Contents (Elt Ideal)) (x1 : (⟨Cert.Reference17Ideal.S128x1024, .bf16⟩ : BufTy).Contents (Elt Ideal))

theorem ref_2 (r : Fin 8192) (j : Fin 128) : val_main_v3 (F := Ideal) x0 x1 (ix2 r j) = F2 (rows x0 x1 r) j := by
  dsimp only [F2, rows]
  pointwise [val_main_v3, val_main_v0, val_main_v2, val_main_v1]

end

theorem eq_2 : g2 m c = val_main_v3 (F := Ideal) (m ((c.tc : Thread nD τ).loc main_arg0)) (m ((c.tc : Thread nD τ).loc main_arg1)) := funext fun x => by
  obtain ⟨i, j, rfl⟩ : ∃ (i : Fin 8192) (j : Fin 128), x = ix2 i j := ⟨x 0, x 1, eq_ix2 x⟩
  exact (ref_2 _ _ i j).symm

/-! ## The claim -/

theorem algebraic : Cert.algebraic_Kernel17Ideal_Reference17Ideal (hKernel17Ideal := Cert.Kernel17Ideal.Gen.facts) (hReference17Ideal := Cert.Reference17Ideal.Gen.facts) := by
  intro m ρ m' ρ' _ hargs
  refine ⟨fun c => g2 m c, ?_, ?_⟩
  · refine (θ_run defs _ _).mono (fun _ h c => ?_) (run_blocks m ρ)
    exact ⟨(h c).1.trans (final_2 m c), (h c).2⟩
  refine (θ_run Cert.Reference17Ideal.defs _ _).mono (fun _ h c => ?_) (Cert.Reference17Ideal.Value.run (F := Ideal) m' ρ')
  obtain ⟨k0, k1⟩ := hargs c
  obtain ⟨e0, a⟩ := h c
  refine ⟨e0.trans ((val_main_v3_eq _ _).trans ?_), a⟩
  · refine Eq.trans ?_ (eq_2 m c).symm
    rw [← k0, ← k1]

/-- The reference: its arguments unchanged; it has no counters. -/
theorem frame_ri : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

end Cert.Kernel17Ideal.Rows

end
-- ==== Proof.Weights18.lean ====
/- The gradient of the mixing layer's first projection in its time steps' weights: the product of two arrays over their
   rows, in blocks of 1024 rows added up in the result, is the product over all rows. -/
module

public import proofs.«01_k».proof.Defs
public import proofs.«01_k».proof.Proof.Blocks
public import proofs.«01_k».proof.Proof.Gen.Kernel18Ideal
public import proofs.«01_k».proof.Proof.Gen.Kernel18Ideal.Value
public import proofs.«01_k».proof.Proof.Gen.Reference18Ideal.Read
public import Idealize.ShloMosaic.Lib.Pointwise
public import Idealize.ShloMosaic.Lib.Pipeline.ValueKit.Geometry
public import Idealize.ShloMosaic.Lib.Claim

@[expose] public section

set_option maxRecDepth 16384

noncomputable section

namespace Cert.Kernel18Ideal.Weights

open Idealize.ShloMosaic Idealize.ShloMosaic.TcCoe
open Cert.Kernel18Ideal Cert.Kernel18Ideal.Gen Cert.Kernel18Ideal.Value Cert.Blocks
open Cert.Reference18Ideal.Read

variable (m : (ℓ : Loc nD τ sig) → Buf (Elt Ideal) ℓ) (c : Dev nD)

/-- The left factor and the right one, row by row. -/
abbrev A (r : Fin 8192) (i : Fin 128) : EReal := m ((c.tc : Thread nD τ).loc main_arg0) (ix2 r i)
abbrev B (r : Fin 8192) (j : Fin 1024) : EReal := m ((c.tc : Thread nD τ).loc main_arg1) (ix2 r j)

/-- Which blocks point `t` reads: block `t % 8` of the rows, and of the left factor's columns block `t / 8`. -/
theorem at_0 : ∀ t : Fin cfg0.N, win0_0.index t 0 = t.val % 8 ∧ win0_0.index t 1 = t.val / 8 := (by decide +kernel : ∀ t : Fin grid0.N, _)
theorem at_1 : ∀ t : Fin cfg0.N, win0_1.index t 0 = t.val % 8 ∧ win0_1.index t 1 = 0 := (by decide +kernel : ∀ t : Fin grid0.N, _)

theorem read_0 (t : Fin cfg0.N) (r : Fin 1024) (y : Fin 128) (R : Fin 8192) (i : Fin 128) (hR : R.val = t.val % 8 * 1024 + r.val) (hi : i.val = t.val / 8 * 128 + y.val) :
    iblk m c 0 t (ix2 r y) = A m c R i := by
  blk_ext [iblk, V, at_0, hR, hi]

theorem read_1 (t : Fin cfg0.N) (r : Fin 1024) (y : Fin 1024) (R : Fin 8192) (hR : R.val = t.val % 8 * 1024 + r.val) :
    iblk m c 1 t (ix2 r y) = B m c R y := by
  blk_ext [iblk, V, at_1, hR]

/-- One point's step: what was there, and the product of the two blocks over their rows. -/
theorem step (v : Vec Ideal S128x1024 .f32) (x : Vec Ideal S1024x128 .f32) (y : Vec Ideal S1024x1024 .bf16) (i : Fin 128) (j : Fin 1024) :
    k0_pay2 (F := Ideal) v x y (ix2 i j) = v (ix2 i j) + ∑ r : Fin 1024, x (ix2 r i) * y (ix2 r j) := by
  pointwise [k0_pay2]

theorem start (i : Fin 128) (j : Fin 1024) : k0_pay1 (F := Ideal) (ix2 i j) = 0 := by
  pointwise [k0_pay1]

/-- What point `n` adds at an index of its block. -/
def part (n : ℕ) (x : S128x1024.Idx) : EReal := added 128 (A m c) (B m c) n (x 0).val (x 1)

theorem add_eq (n : ℕ) (h : n < cfg0.N) (v : Vec Ideal S128x1024 .f32) (i : Fin 128) (j : Fin 1024) :
    k0_pay2 (F := Ideal) v (iblk m c 0 ⟨n, h⟩) (iblk m c 1 ⟨n, h⟩) (ix2 i j) = v (ix2 i j) + part m c n (ix2 i j) := by
  have hn : n < 8 := lt_of_lt_of_eq h (show cfg0.N = 8 from N_0)
  rw [step]
  refine congrArg (v (ix2 i j) + ·) (Eq.trans ?_ (dif_pos (show n / 8 * 128 + i.val < 128 by omega)).symm)
  exact Finset.sum_congr rfl fun r _ => congrArg₂ (· * ·) (read_0 m c _ r i _ _ rfl rfl) (read_1 m c _ r j _ rfl)

theorem folded (b j : ℕ) (hj : j ≤ 7) (h : b + j < cfg0.N) (x : S128x1024.Idx) :
    Pipeline.accAt (reset2 m c) (step2 m c) b j h x = 0 + ∑ s ∈ Finset.range (j + 1), part m c (b + s) x := by
  refine Pipeline.accAt_add_apply (reset2 m c) (step2 m c) (fun _ => (0 : EReal)) (part m c) b 7 ?_ ?_ j hj h x
  · intro h x
    rw [eq_ix2 x]
    exact (add_eq m c b h _ _ _).trans (congrArg (· + _) (start _ _))
  · intro n h v x _ _
    rw [eq_ix2 x]
    exact add_eq m c n h v _ _

/-- The array that the kernel leaves is the product over all rows. -/
theorem whole (i : Fin 128) (j : Fin 1024) : G2 m c (ix2 i j) = ∑ r : Fin 8192, A m c r i * B m c r j := by
  have hrun : run2Of (ix2 i j) = i.val / 128 := by
    show 1 * (i.val / 128 - 0) + 1 * (j.val / 1024 - 0) = _
    omega
  have hb : 8 * run2Of (ix2 i j) + 7 < cfg0.N := by
    rw [show cfg0.N = 8 from N_0, hrun]; omega
  have e : G2 m c (ix2 i j) = Pipeline.accAt (reset2 m c) (step2 m c) (8 * run2Of (ix2 i j)) 7 hb (loc2Of (ix2 i j)) := dif_pos hb
  refine e.trans ((folded m c _ 7 (le_refl 7) hb _).trans ?_)
  rw [zero_add]
  refine (added_total 128 (A m c) (B m c) _ _ _ (by rw [hrun]; show i.val / 128 * 128 + i.val % 128 < 128; omega)).trans ?_
  refine Finset.sum_congr rfl fun r _ => congrArg₂ (· * ·) (congrArg (A m c r) (Fin.ext ?_)) (congrArg (B m c r) (Fin.ext ?_))
  · show run2Of (ix2 i j) * 128 + i.val % 128 = i.val; rw [hrun]; omega
  · show j.val % 1024 = j.val; omega

theorem ref_at (x0 : (⟨Cert.Reference18Ideal.S8192x128, .f32⟩ : BufTy).Contents (Elt Ideal)) (x1 : (⟨Cert.Reference18Ideal.S8192x1024, .bf16⟩ : BufTy).Contents (Elt Ideal)) (i : Fin 128) (j : Fin 1024) :
    val_main_v4 (F := Ideal) x0 x1 (ix2 i j) = ∑ r : Fin 8192, x1 (ix2 r j) * x0 (ix2 r i) := by
  pointwise [val_main_v4, val_main_v3, val_main_v2]

theorem eq_ref : G2 m c = val_main_v4 (F := Ideal) (m ((c.tc : Thread nD τ).loc main_arg0)) (m ((c.tc : Thread nD τ).loc main_arg1)) := funext fun x => by
  obtain ⟨i, j, rfl⟩ : ∃ (i : Fin 128) (j : Fin 1024), x = ix2 i j := ⟨x 0, x 1, eq_ix2 x⟩
  rw [whole]
  exact (Finset.sum_congr rfl fun r _ => mul_comm _ _).trans (ref_at _ _ i j).symm

theorem algebraic : Cert.algebraic_Kernel18Ideal_Reference18Ideal (hKernel18Ideal := Cert.Kernel18Ideal.Gen.facts) (hReference18Ideal := Cert.Reference18Ideal.Gen.facts) := by
  intro m ρ m' ρ' _ hargs
  refine ⟨fun c => G2 m c, run m ρ, ?_⟩
  refine (θ_run Cert.Reference18Ideal.defs _ _).mono (fun _ h c => ?_) (Cert.Reference18Ideal.Value.run (F := Ideal) m' ρ')
  obtain ⟨k0, k1⟩ := hargs c
  obtain ⟨e, a0, a1⟩ := h c
  refine ⟨e.trans ((val_main_v4_eq _ _).trans ?_), a0, a1⟩
  refine Eq.trans ?_ (eq_ref m c).symm
  rw [← k0, ← k1]

/-- The reference: its arguments unchanged; it has no counters. -/
theorem frame_ri : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

end Cert.Kernel18Ideal.Weights

end
-- ==== Proof.Ada19.lean ====
/- The gradient of the modulation's projection in its weights, one layer at a time. -/
module

public import proofs.«01_k».proof.Defs
public import proofs.«01_k».proof.Proof.Blocks
public import proofs.«01_k».proof.Proof.Gen.Kernel19Ideal.Value
public import proofs.«01_k».proof.Proof.Gen.Reference19Ideal.Read
public import Idealize.ShloMosaic.Lib.Claim

@[expose] public section

set_option maxRecDepth 16384

noncomputable section

namespace Cert.Kernel19Ideal.Ada

open Idealize.ShloMosaic Idealize.ShloMosaic.TcCoe
open Cert.Kernel19Ideal Cert.Kernel19Ideal.Gen Cert.Kernel19Ideal.Value Cert.Blocks
open Cert.Reference19Ideal.Read

/-- Which blocks point `t` reads and writes. -/
theorem at_0 : ∀ (t : Fin cfg0.N) (a : Fin 2), win0_0.index t a = 0 := (by decide +kernel : ∀ (t : Fin grid0.N) (a : Fin 2), _)
theorem at_1 : ∀ t : Fin cfg0.N, win0_1.index t 0 = t.val ∧ win0_1.index t 1 = 0 ∧ win0_1.index t 2 = 0 := (by decide +kernel : ∀ t : Fin grid0.N, _)
theorem at_2 : ∀ t : Fin cfg0.N, win0_2.index t 0 = t.val ∧ win0_2.index t 1 = 0 ∧ win0_2.index t 2 = 0 := (by decide +kernel : ∀ t : Fin grid0.N, _)

theorem out_2 (x0 : Vec Ideal S8x1024 .f32) (x1 : Vec Ideal S1x8x768 .f32) (d : Fin 1024) (j : Fin 768) :
    out0_2 (F := Ideal) x0 x1 (ix3 (0 : Fin 1) d j) = ∑ b : Fin 8, x0 (ix2 b d) * x1 (ix3 (0 : Fin 1) b j) := by
  unfold out0_2
  rw [View.canon_unit_zero hz3, View.ld_unit_zero (S := S8x1024) hz2, View.ld_unit_zero (S := S1x8x768) hz3]
  pointwise [k0_pay1]

theorem ref_2 (x0 : (⟨Cert.Reference19Ideal.S8x1024, .f32⟩ : BufTy).Contents (Elt Ideal)) (x1 : (⟨Cert.Reference19Ideal.S2x8x768, .f32⟩ : BufTy).Contents (Elt Ideal)) (l : Fin 2) (d : Fin 1024) (j : Fin 768) :
    val_main_v5 (F := Ideal) x0 x1 (ix3 l d j) = ∑ b : Fin 8, x1 (ix3 l b j) * x0 (ix2 b d) := by
  pointwise [val_main_v5, val_main_v4, val_main_v3]

variable (m : (ℓ : Loc nD τ sig) → Buf (Elt Ideal) ℓ) (c : Dev nD)

theorem read_0 (t : Fin cfg0.N) (b : Fin 8) (d : Fin 1024) : iblk m c 0 t (ix2 b d) = m ((c.tc : Thread nD τ).loc main_arg0) (ix2 b d) := by
  blk_ext [iblk, V, at_0]

theorem read_1 (t : Fin cfg0.N) (b : Fin 8) (j : Fin 768) (l : Fin 2) (hl : l.val = t.val) :
    iblk m c 1 t (ix3 (0 : Fin 1) b j) = m ((c.tc : Thread nD τ).loc main_arg1) (ix3 l b j) := by
  blk_ext [iblk, V, at_1, hl]

theorem final_2 : (dats m 0 c).arrAt 2 cfg0.N = val_main_v5 (F := Ideal) (m ((c.tc : Thread nD τ).loc main_arg0)) (m ((c.tc : Thread nD τ).loc main_arg1)) := by
  refine (dats m 0 c).arrAt_eq_of_covers 2 _ (by decide +kernel) fun t _ y => ?_
  obtain ⟨z, d, j, rfl⟩ : ∃ (z : Fin 1) (d : Fin 1024) (j : Fin 768), y = ix3 z d j := ⟨y 0, y 1, y 2, eq_ix3 y⟩
  obtain rfl : z = 0 := Subsingleton.elim _ _
  have ht : t.val < 2 := lt_of_lt_of_eq t.isLt (show cfg0.N = 2 from N_0)
  have hy : ((win0_2.blk t).view.emb (ix3 (0 : Fin 1) d j)) = ix3 (⟨t.val, ht⟩ : Fin 2) d j := by
    funext a; fin_cases a <;> exact Fin.ext (by blk_simp [at_2]; rfl)
  blk_simp
  rw [after0_2, out_2]
  refine Eq.trans ?_ ((congrArg _ hy).trans (ref_2 _ _ _ d j)).symm
  exact Finset.sum_congr (M := EReal) rfl fun b _ => (congrArg₂ (· * · : EReal → EReal → EReal) (read_0 m c t b d) (read_1 m c t b j ⟨t.val, ht⟩ rfl)).trans (mul_comm _ _)

theorem algebraic : Cert.algebraic_Kernel19Ideal_Reference19Ideal (hKernel19Ideal := Cert.Kernel19Ideal.Gen.facts) (hReference19Ideal := Cert.Reference19Ideal.Gen.facts) := by
  intro m ρ m' ρ' _ hargs
  refine ⟨fun c => val_main_v5 (F := Ideal) (m ((c.tc : Thread nD τ).loc main_arg0)) (m ((c.tc : Thread nD τ).loc main_arg1)), ?_, ?_⟩
  · refine (θ_run defs _ _).mono (fun _ h c => ?_) (run_blocks m ρ)
    exact ⟨(h c).1.trans (final_2 m c), (h c).2⟩
  refine (θ_run Cert.Reference19Ideal.defs _ _).mono (fun _ h c => ?_) (Cert.Reference19Ideal.Value.run (F := Ideal) m' ρ')
  obtain ⟨k0, k1⟩ := hargs c
  obtain ⟨e0, a⟩ := h c
  exact ⟨e0.trans ((val_main_v5_eq _ _).trans (by rw [k0, k1])), a⟩

/-- The reference: its arguments unchanged; it has no counters. -/
theorem frame_ri : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

end Cert.Kernel19Ideal.Ada

end
-- ==== Proof.Adam20.lean ====
/- One step of the optimiser, at the modulation's weights: every entry by itself, one block of 256 rows at a time. -/
module

public import proofs.«01_k».proof.Defs
public import proofs.«01_k».proof.Proof.Blocks
public import proofs.«01_k».proof.Proof.Gen.Kernel20Ideal.Value
public import proofs.«01_k».proof.Proof.Gen.Reference20Ideal.Read
public import Idealize.ShloMosaic.Lib.Claim

@[expose] public section

set_option maxRecDepth 16384

noncomputable section

namespace Cert.Kernel20Ideal.Adam

open Idealize.ShloMosaic Idealize.ShloMosaic.TcCoe
open Cert.Kernel20Ideal Cert.Kernel20Ideal.Gen Cert.Kernel20Ideal.Value Cert.Blocks
open Cert.Reference20Ideal.Read

/-- Which blocks point `t` reads and writes. -/
theorem at_0 : ∀ t : Fin cfg0.N, win0_0.index t 0 = 0 ∧ win0_0.index t 1 = t.val ∧ win0_0.index t 2 = 0 := (by decide +kernel : ∀ t : Fin grid0.N, _)
theorem at_1 : ∀ t : Fin cfg0.N, win0_1.index t 0 = t.val ∧ win0_1.index t 1 = 0 := (by decide +kernel : ∀ t : Fin grid0.N, _)
theorem at_2 : ∀ t : Fin cfg0.N, win0_2.index t 0 = t.val ∧ win0_2.index t 1 = 0 := (by decide +kernel : ∀ t : Fin grid0.N, _)
theorem at_3 : ∀ t : Fin cfg0.N, win0_3.index t 0 = t.val ∧ win0_3.index t 1 = 0 := (by decide +kernel : ∀ t : Fin grid0.N, _)
theorem at_4 : ∀ t : Fin cfg0.N, win0_4.index t 0 = t.val ∧ win0_4.index t 1 = 0 := (by decide +kernel : ∀ t : Fin grid0.N, _)
theorem at_5 : ∀ t : Fin cfg0.N, win0_5.index t 0 = t.val ∧ win0_5.index t 1 = 0 := (by decide +kernel : ∀ t : Fin grid0.N, _)
theorem at_6 : ∀ t : Fin cfg0.N, win0_6.index t 0 = t.val ∧ win0_6.index t 1 = 0 := (by decide +kernel : ∀ t : Fin grid0.N, _)
theorem at_7 : ∀ t : Fin cfg0.N, win0_7.index t 0 = t.val ∧ win0_7.index t 1 = 0 := (by decide +kernel : ∀ t : Fin grid0.N, _)

section

/- An index `(r, j)` of the blocks, and the index `(s, j)` of the arrays that has the same entries. -/
variable (x0 : Vec Ideal S1x256x768 .f32) (x1 x2 x3 : Vec Ideal S256x768 .f32) (X0 : (⟨Cert.Reference20Ideal.S1x2048x768, .f32⟩ : BufTy).Contents (Elt Ideal)) (X1 X2 X3 : (⟨Cert.Reference20Ideal.S2048x768, .f32⟩ : BufTy).Contents (Elt Ideal))
  (r : Fin 256) (j : Fin 768) (s : Fin 2048) (h0 : x0 (ix3 (0 : Fin 1) r j) = X0 (ix3 (0 : Fin 1) s j))
  (h1 : x1 (ix2 r j) = X1 (ix2 s j))
  (h2 : x2 (ix2 r j) = X2 (ix2 s j))
  (h3 : x3 (ix2 r j) = X3 (ix2 s j))

include h0 in
theorem out_4 : out0_4 (F := Ideal) x0 x1 x2 x3 (ix2 r j) = val_main_v0 (F := Ideal) X0 (ix2 s j) := by
  unfold out0_4
  rw [View.canon_unit_zero hz2, View.ld_unit_zero (S := S1x256x768) hz3]
  pointwise [k0_pay1, val_main_v0, h0]

include h0 h1 h2 h3 in
theorem out_5 : out0_5 (F := Ideal) x0 x1 x2 x3 (ix2 r j) = val_main_v24 (F := Ideal) X0 X1 X2 X3 (ix2 s j) := by
  unfold out0_5
  rw [View.canon_unit_zero hz2, View.ld_unit_zero (S := S1x256x768) hz3, View.ld_unit_zero (S := S256x768) hz2]
  pointwise [k0_pay4, k0_pay3, k0_pay2, k0_pay1, val_main_v24, val_main_v23, val_main_v22, val_main_cst_7, val_main_v19, val_main_v21, val_main_v13, val_main_v18, val_main_v20, val_main_v5, val_main_v12, val_main_v16, val_main_v17, val_main_cst_6, val_main_v2, val_main_v4, val_main_cst_3, val_main_v15, val_main_cst_5, val_main_v1, val_main_v3, val_main_v0, val_main_v11, val_main_v14, val_main_cst, val_main_cst_0, val_main_v7, val_main_v10, val_main_cst_4, val_main_v6, val_main_v9, val_main_v8, val_main_cst_1, val_main_cst_2, h0, h1, h2, h3]

include h0 h2 in
theorem out_6 : out0_6 (F := Ideal) x0 x1 x2 x3 (ix2 r j) = val_main_v5 (F := Ideal) X0 X2 (ix2 s j) := by
  unfold out0_6
  rw [View.canon_unit_zero hz2, View.ld_unit_zero (S := S1x256x768) hz3, View.ld_unit_zero (S := S256x768) hz2]
  pointwise [k0_pay2, k0_pay1, val_main_v5, val_main_v2, val_main_v4, val_main_v1, val_main_v3, val_main_v0, val_main_cst, val_main_cst_0, h0, h2]

include h0 h3 in
theorem out_7 : out0_7 (F := Ideal) x0 x1 x2 x3 (ix2 r j) = val_main_v11 (F := Ideal) X0 X3 (ix2 s j) := by
  unfold out0_7
  rw [View.canon_unit_zero hz2, View.ld_unit_zero (S := S1x256x768) hz3, View.ld_unit_zero (S := S256x768) hz2]
  pointwise [k0_pay3, k0_pay1, val_main_v11, val_main_v7, val_main_v10, val_main_v6, val_main_v9, val_main_v8, val_main_cst_1, val_main_cst_2, val_main_v0, h0, h3]

end

variable (m : (ℓ : Loc nD τ sig) → Buf (Elt Ideal) ℓ) (c : Dev nD)

theorem read_0 (t : Fin cfg0.N) (r : Fin 256) (j : Fin 768) (s : Fin 2048) (hs : s.val = t.val * 256 + r.val) :
    iblk m c 0 t (ix3 (0 : Fin 1) r j) = m ((c.tc : Thread nD τ).loc main_arg0) (ix3 (0 : Fin 1) s j) := by
  blk_ext [iblk, V, at_0, hs]
theorem read_1 (t : Fin cfg0.N) (r : Fin 256) (j : Fin 768) (s : Fin 2048) (hs : s.val = t.val * 256 + r.val) :
    iblk m c 1 t (ix2 r j) = m ((c.tc : Thread nD τ).loc main_arg1) (ix2 s j) := by
  blk_ext [iblk, V, at_1, hs]
theorem read_2 (t : Fin cfg0.N) (r : Fin 256) (j : Fin 768) (s : Fin 2048) (hs : s.val = t.val * 256 + r.val) :
    iblk m c 2 t (ix2 r j) = m ((c.tc : Thread nD τ).loc main_arg2) (ix2 s j) := by
  blk_ext [iblk, V, at_2, hs]
theorem read_3 (t : Fin cfg0.N) (r : Fin 256) (j : Fin 768) (s : Fin 2048) (hs : s.val = t.val * 256 + r.val) :
    iblk m c 3 t (ix2 r j) = m ((c.tc : Thread nD τ).loc main_arg3) (ix2 s j) := by
  blk_ext [iblk, V, at_3, hs]

theorem final_4 : (dats m 0 c).arrAt 4 cfg0.N = val_main_v0 (F := Ideal) (m ((c.tc : Thread nD τ).loc main_arg0)) := by
  refine (dats m 0 c).arrAt_eq_of_covers 4 _ (by decide +kernel) fun t _ y => ?_
  obtain ⟨r, j, rfl⟩ : ∃ (r : Fin 256) (j : Fin 768), y = ix2 r j := ⟨y 0, y 1, eq_ix2 y⟩
  have ht : t.val < 8 := lt_of_lt_of_eq t.isLt (show cfg0.N = 8 from N_0)
  have hy : (win0_4.blk t).view.emb (ix2 r j) = ix2 (⟨t.val * 256 + r.val, by omega⟩ : Fin 2048) j := by
    funext a; fin_cases a <;> exact Fin.ext (by blk_simp [at_4]; rfl)
  blk_simp
  rw [after0_4]
  exact (out_4 _ _ _ _ _ r j _ (read_0 m c t r j _ rfl)).trans (congrArg _ hy).symm

theorem final_5 : (dats m 0 c).arrAt 5 cfg0.N = val_main_v24 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  obtain ⟨r, j, rfl⟩ : ∃ (r : Fin 256) (j : Fin 768), y = ix2 r j := ⟨y 0, y 1, eq_ix2 y⟩
  have ht : t.val < 8 := lt_of_lt_of_eq t.isLt (show cfg0.N = 8 from N_0)
  have hy : (win0_5.blk t).view.emb (ix2 r j) = ix2 (⟨t.val * 256 + r.val, by omega⟩ : Fin 2048) j := by
    funext a; fin_cases a <;> exact Fin.ext (by blk_simp [at_5]; rfl)
  blk_simp
  rw [after0_5]
  exact (out_5 _ _ _ _ _ _ _ _ r j _ (read_0 m c t r j _ rfl) (read_1 m c t r j _ rfl) (read_2 m c t r j _ rfl) (read_3 m c t r j _ rfl)).trans (congrArg _ hy).symm

theorem final_6 : (dats m 0 c).arrAt 6 cfg0.N = val_main_v5 (F := Ideal) (m ((c.tc : Thread nD τ).loc main_arg0)) (m ((c.tc : Thread nD τ).loc main_arg2)) := by
  refine (dats m 0 c).arrAt_eq_of_covers 6 _ (by decide +kernel) fun t _ y => ?_
  obtain ⟨r, j, rfl⟩ : ∃ (r : Fin 256) (j : Fin 768), y = ix2 r j := ⟨y 0, y 1, eq_ix2 y⟩
  have ht : t.val < 8 := lt_of_lt_of_eq t.isLt (show cfg0.N = 8 from N_0)
  have hy : (win0_6.blk t).view.emb (ix2 r j) = ix2 (⟨t.val * 256 + r.val, by omega⟩ : Fin 2048) j := by
    funext a; fin_cases a <;> exact Fin.ext (by blk_simp [at_6]; rfl)
  blk_simp
  rw [after0_6]
  exact (out_6 _ _ _ _ _ _ r j _ (read_0 m c t r j _ rfl) (read_2 m c t r j _ rfl)).trans (congrArg _ hy).symm

theorem final_7 : (dats m 0 c).arrAt 7 cfg0.N = val_main_v11 (F := Ideal) (m ((c.tc : Thread nD τ).loc main_arg0)) (m ((c.tc : Thread nD τ).loc main_arg3)) := by
  refine (dats m 0 c).arrAt_eq_of_covers 7 _ (by decide +kernel) fun t _ y => ?_
  obtain ⟨r, j, rfl⟩ : ∃ (r : Fin 256) (j : Fin 768), y = ix2 r j := ⟨y 0, y 1, eq_ix2 y⟩
  have ht : t.val < 8 := lt_of_lt_of_eq t.isLt (show cfg0.N = 8 from N_0)
  have hy : (win0_7.blk t).view.emb (ix2 r j) = ix2 (⟨t.val * 256 + r.val, by omega⟩ : Fin 2048) j := by
    funext a; fin_cases a <;> exact Fin.ext (by blk_simp [at_7]; rfl)
  blk_simp
  rw [after0_7]
  exact (out_7 _ _ _ _ _ _ r j _ (read_0 m c t r j _ rfl) (read_3 m c t r j _ rfl)).trans (congrArg _ hy).symm

theorem algebraic : Cert.algebraic_Kernel20Ideal_Reference20Ideal (hKernel20Ideal := Cert.Kernel20Ideal.Gen.facts) (hReference20Ideal := Cert.Reference20Ideal.Gen.facts) := by
  intro m ρ m' ρ' _ hargs
  refine ⟨fun c => val_main_v0 (F := Ideal) (m ((c.tc : Thread nD τ).loc main_arg0)), fun c => val_main_v24 (F := Ideal) (m ((c.tc : Thread nD τ).loc main_arg0)) (m ((c.tc : Thread nD τ).loc main_arg1)) (m ((c.tc : Thread nD τ).loc main_arg2)) (m ((c.tc : Thread nD τ).loc main_arg3)), fun c => val_main_v5 (F := Ideal) (m ((c.tc : Thread nD τ).loc main_arg0)) (m ((c.tc : Thread nD τ).loc main_arg2)), fun c => val_main_v11 (F := Ideal) (m ((c.tc : Thread nD τ).loc main_arg0)) (m ((c.tc : Thread nD τ).loc main_arg3)), ?_, ?_⟩
  · refine (θ_run defs _ _).mono (fun _ h c => ?_) (run_blocks m ρ)
    exact ⟨(h c).1.trans (final_4 m c), (h c).2.1.trans (final_5 m c), (h c).2.2.1.trans (final_6 m c), (h c).2.2.2.1.trans (final_7 m c), (h c).2.2.2.2⟩
  refine (θ_run Cert.Reference20Ideal.defs _ _).mono (fun _ h c => ?_) (Cert.Reference20Ideal.Value.run (F := Ideal) m' ρ')
  obtain ⟨k0, k1, k2, k3⟩ := hargs c
  obtain ⟨e0, e1, e2, e3, a⟩ := h c
  exact ⟨e0.trans ((val_main_v0_eq _).trans (by rw [k0])), e1.trans ((val_main_v24_eq _ _ _ _).trans (by rw [k0, k1, k2, k3])), e2.trans ((val_main_v5_eq _ _).trans (by rw [k0, k2])), e3.trans ((val_main_v11_eq _ _).trans (by rw [k0, k3])), a⟩

/-- The reference: its arguments unchanged; it has no counters. -/
theorem frame_ri : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

end Cert.Kernel20Ideal.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Read
public import proofs.«01_k».proof.Proof.BitsFrame
public import proofs.«01_k».proof.Proof.Value
public import proofs.«01_k».proof.Proof.Gate2
public import proofs.«01_k».proof.Proof.Weights3
public import proofs.«01_k».proof.Proof.Rows4
public import proofs.«01_k».proof.Proof.Weights5
public import proofs.«01_k».proof.Proof.Weights6
public import proofs.«01_k».proof.Proof.Up7
public import proofs.«01_k».proof.Proof.Down8
public import proofs.«01_k».proof.Proof.Down9
public import proofs.«01_k».proof.Proof.Mix10
public import proofs.«01_k».proof.Proof.Proj11
public import proofs.«01_k».proof.Proof.Back12
public import proofs.«01_k».proof.Proof.Back13
public import proofs.«01_k».proof.Proof.Qkv14
public import proofs.«01_k».proof.Proof.Norm15
public import proofs.«01_k».proof.Proof.Weights16
public import proofs.«01_k».proof.Proof.Dt17
public import proofs.«01_k».proof.Proof.Weights18
public import proofs.«01_k».proof.Proof.Ada19
public import proofs.«01_k».proof.Proof.Adam20
public import Idealize.ShloMosaic.Adequacy
public import Idealize.ShloMosaic.Init

@[expose] public section

noncomputable section

namespace Cert.Proof

open Idealize.ShloMosaic Idealize.ShloMosaic.TcCoe Idealize.SL.Sem

/-- The kernel as it is compiled: its arguments unchanged, its counters at zero. -/
theorem frame_p : Cert.quiescent_Kernel (hKernel := Cert.Kernel.Gen.facts) :=
  fun m ρ _ => Cert.Kernel.Attn.frame_all (F := Bits) m ρ

/-- The kernel over the extended reals: the same. -/
theorem frame_pi : Cert.quiescent_KernelIdeal (hKernelIdeal := Cert.KernelIdeal.Gen.facts) := fun m ρ _ =>
  θ_run_and (Cert.KernelIdeal.Attn.args_kept m ρ) ((θ_run Cert.KernelIdeal.defs _ _).mono (fun _ h => h.2) (Cert.KernelIdeal.Attn.run_all m ρ))

/-- The reference: its arguments unchanged; it has no counters. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem frame_p2 : Cert.quiescent_Kernel2 (hKernel2 := Cert.Kernel2.Gen.facts) := fun m ρ _ => Cert.Kernel2.Gen.frame m ρ
theorem frame_pi2 : Cert.quiescent_Kernel2Ideal (hKernel2Ideal := Cert.Kernel2Ideal.Gen.facts) := fun m ρ _ => Cert.Kernel2Ideal.Gen.frame m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite_inputs.Attn.facts, Cert.Pre_finite_factors.Gate.facts,
    frame_p, frame_pi, fun m ρ _ => frame_pi m ρ trivial, frame_ri, fun m ρ _ => frame_ri m ρ trivial,
    frame_p2, frame_pi2, fun m ρ _ => frame_pi2 m ρ trivial, Cert.Kernel2Ideal.Gate.frame_ri, fun m ρ _ => Cert.Kernel2Ideal.Gate.frame_ri m ρ trivial,
    fun m ρ _ => Cert.Kernel3.Gen.frame m ρ, fun m ρ _ => Cert.Kernel3Ideal.Gen.frame m ρ, Cert.Kernel3Ideal.Weights.frame_ri,
    fun m ρ _ => Cert.Kernel4.Gen.frame m ρ, fun m ρ _ => Cert.Kernel4Ideal.Gen.frame m ρ, Cert.Kernel4Ideal.Rows.frame_ri,
    fun m ρ _ => Cert.Kernel5.Gen.frame m ρ, fun m ρ _ => Cert.Kernel5Ideal.Gen.frame m ρ, Cert.Kernel5Ideal.Weights.frame_ri,
    fun m ρ _ => Cert.Kernel6.Gen.frame m ρ, fun m ρ _ => Cert.Kernel6Ideal.Gen.frame m ρ, Cert.Kernel6Ideal.Weights.frame_ri,
    fun m ρ _ => Cert.Kernel7.Gen.frame m ρ, fun m ρ _ => Cert.Kernel7Ideal.Gen.frame m ρ, Cert.Kernel7Ideal.Up.frame_ri,
    fun m ρ _ => Cert.Kernel8.Gen.frame m ρ, fun m ρ _ => Cert.Kernel8Ideal.Gen.frame m ρ, Cert.Kernel8Ideal.Down.frame_ri,
    fun m ρ _ => Cert.Kernel9.Gen.frame m ρ, fun m ρ _ => Cert.Kernel9Ideal.Gen.frame m ρ, Cert.Kernel9Ideal.Down.frame_ri,
    fun m ρ _ => Cert.Kernel10.Gen.frame m ρ, fun m ρ _ => Cert.Kernel10Ideal.Gen.frame m ρ, Cert.Kernel10Ideal.Mix.frame_ri,
    fun m ρ _ => Cert.Kernel11.Gen.frame m ρ, fun m ρ _ => Cert.Kernel11Ideal.Gen.frame m ρ, Cert.Kernel11Ideal.Proj.frame_ri,
    fun m ρ _ => Cert.Kernel12.Gen.frame m ρ, fun m ρ _ => Cert.Kernel12Ideal.Gen.frame m ρ, Cert.Kernel12Ideal.Rows.frame_ri,
    fun m ρ _ => Cert.Kernel13.Gen.frame m ρ, fun m ρ _ => Cert.Kernel13Ideal.Gen.frame m ρ, Cert.Kernel13Ideal.Rows.frame_ri,
    fun m ρ _ => Cert.Kernel14.Gen.frame m ρ, fun m ρ _ => Cert.Kernel14Ideal.Gen.frame m ρ, Cert.Kernel14Ideal.Rows.frame_ri,
    fun m ρ _ => Cert.Kernel15.Gen.frame m ρ, fun m ρ _ => Cert.Kernel15Ideal.Gen.frame m ρ, Cert.Kernel15Ideal.Norm.frame_ri,
    fun m ρ _ => Cert.Kernel16.Gen.frame m ρ, fun m ρ _ => Cert.Kernel16Ideal.Gen.frame m ρ, Cert.Kernel16Ideal.Weights.frame_ri,
    fun m ρ _ => Cert.Kernel17.Gen.frame m ρ, fun m ρ _ => Cert.Kernel17Ideal.Gen.frame m ρ, Cert.Kernel17Ideal.Rows.frame_ri,
    fun m ρ _ => Cert.Kernel18.Gen.frame m ρ, fun m ρ _ => Cert.Kernel18Ideal.Gen.frame m ρ, Cert.Kernel18Ideal.Weights.frame_ri,
    fun m ρ _ => Cert.Kernel19.Gen.frame m ρ, fun m ρ _ => Cert.Kernel19Ideal.Gen.frame m ρ, Cert.Kernel19Ideal.Ada.frame_ri,
    fun m ρ _ => Cert.Kernel20.Gen.frame m ρ, fun m ρ _ => Cert.Kernel20Ideal.Gen.frame m ρ, Cert.Kernel20Ideal.Adam.frame_ri,
    IdealRules.named_const.statement Cert.KernelIdeal.κ "mask" .f32 0xF149F2CA#32 ⊥ rfl,
    Cert.KernelIdeal.Attn.algebraic,
    trivial, Cert.Kernel2Ideal.Gate.algebraic,
    trivial, Cert.Kernel3Ideal.Weights.algebraic,
    trivial, Cert.Kernel4Ideal.Rows.algebraic,
    trivial, Cert.Kernel5Ideal.Weights.algebraic,
    trivial, Cert.Kernel6Ideal.Weights.algebraic,
    trivial, Cert.Kernel7Ideal.Up.algebraic,
    trivial, Cert.Kernel8Ideal.Down.algebraic,
    trivial, Cert.Kernel9Ideal.Down.algebraic,
    trivial, Cert.Kernel10Ideal.Mix.algebraic,
    trivial, Cert.Kernel11Ideal.Proj.algebraic,
    trivial, Cert.Kernel12Ideal.Rows.algebraic,
    trivial, Cert.Kernel13Ideal.Rows.algebraic,
    trivial, Cert.Kernel14Ideal.Rows.algebraic,
    trivial, Cert.Kernel15Ideal.Norm.algebraic,
    trivial, Cert.Kernel16Ideal.Weights.algebraic,
    trivial, Cert.Kernel17Ideal.Rows.algebraic,
    trivial, Cert.Kernel18Ideal.Weights.algebraic,
    trivial, Cert.Kernel19Ideal.Ada.algebraic,
    trivial, Cert.Kernel20Ideal.Adam.algebraic⟩

end Cert.Proof

end
